-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite8 [hPre_finite8 : Cert.Pre_finite8.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite8 [hPre_finite8 : Cert.Pre_finite8.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5))) = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Kernel13Ideal_finite13 [hPre_finite13 : Cert.Pre_finite13.Facts] (m : (ℓ : Loc Cert.Kernel13Ideal.nD Cert.Kernel13Ideal.τ Cert.Kernel13Ideal.sig) → Buf (Elt Ideal) ℓ) : Prop :=
  ∀ c : Dev Cert.Kernel13Ideal.nD,
    (Cert.Pre_finite13.fn (F := Ideal) (m ((c.tc : Thread Cert.Kernel13Ideal.nD Cert.Kernel13Ideal.τ).loc Cert.Kernel13Ideal.main_arg0))) = (fun _ => 1#1)

def Pre_Reference13Ideal (m : (ℓ : Loc Cert.Reference13Ideal.nD Cert.Reference13Ideal.τ Cert.Reference13Ideal.sig) → Buf (Elt Ideal) ℓ) : Prop :=
  True

def Pre_Reference13Ideal_finite13 [hPre_finite13 : Cert.Pre_finite13.Facts] (m : (ℓ : Loc Cert.Reference13Ideal.nD Cert.Reference13Ideal.τ Cert.Reference13Ideal.sig) → Buf (Elt Ideal) ℓ) : Prop :=
  ∀ c : Dev Cert.Reference13Ideal.nD,
    (Cert.Pre_finite13.fn (F := Ideal) (m ((c.tc : Thread Cert.Reference13Ideal.nD Cert.Reference13Ideal.τ).loc Cert.Reference13Ideal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Kernel8Ideal_pre_finite8 [hKernel8Ideal : Cert.Kernel8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite8 m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Reference8Ideal_pre_finite8 [hReference8Ideal : Cert.Reference8Ideal.Facts] [hPre_finite8 : Cert.Pre_finite8.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite8 m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0))
      ∧ r.2.sem = fun _ => 0)

def quiescent_Kernel13Ideal_pre_finite13 [hKernel13Ideal : Cert.Kernel13Ideal.Facts] [hPre_finite13 : Cert.Pre_finite13.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal_finite13 m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0))
      ∧ r.2.sem = fun _ => 0)

def quiescent_Reference13Ideal_pre_finite13 [hReference13Ideal : Cert.Reference13Ideal.Facts] [hPre_finite13 : Cert.Pre_finite13.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal_finite13 m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v24) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v2_0)) (v1 : (c : Dev Cert.Kernel3Ideal.nD) → Buf (Elt Ideal) ((c.tc : Thread Cert.Kernel3Ideal.nD Cert.Kernel3Ideal.τ).loc Cert.Kernel3Ideal.main_v2_1)) (v2 : (c : Dev Cert.Kernel3Ideal.nD) → Buf (Elt Ideal) ((c.tc : Thread Cert.Kernel3Ideal.nD Cert.Kernel3Ideal.τ).loc Cert.Kernel3Ideal.main_v2_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2_0) = v0 c
          ∧ r.2.mem ((c.tc : Thread Cert.Kernel3Ideal.nD Cert.Kernel3Ideal.τ).loc Cert.Kernel3Ideal.main_v2_1) = v1 c
          ∧ r.2.mem ((c.tc : Thread Cert.Kernel3Ideal.nD Cert.Kernel3Ideal.τ).loc Cert.Kernel3Ideal.main_v2_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v13) = v0 c
          ∧ r.2.mem ((c.tc : Thread Cert.Reference3Ideal.nD Cert.Reference3Ideal.τ).loc Cert.Reference3Ideal.main_v31) = v1 c
          ∧ r.2.mem ((c.tc : Thread Cert.Reference3Ideal.nD Cert.Reference3Ideal.τ).loc Cert.Reference3Ideal.main_v30) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v22) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v28) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v2_0)) (v1 : (c : Dev Cert.Kernel6Ideal.nD) → Buf (Elt Ideal) ((c.tc : Thread Cert.Kernel6Ideal.nD Cert.Kernel6Ideal.τ).loc Cert.Kernel6Ideal.main_v2_1)) (v2 : (c : Dev Cert.Kernel6Ideal.nD) → Buf (Elt Ideal) ((c.tc : Thread Cert.Kernel6Ideal.nD Cert.Kernel6Ideal.τ).loc Cert.Kernel6Ideal.main_v2_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2_0) = v0 c
          ∧ r.2.mem ((c.tc : Thread Cert.Kernel6Ideal.nD Cert.Kernel6Ideal.τ).loc Cert.Kernel6Ideal.main_v2_1) = v1 c
          ∧ r.2.mem ((c.tc : Thread Cert.Kernel6Ideal.nD Cert.Kernel6Ideal.τ).loc Cert.Kernel6Ideal.main_v2_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v12) = v0 c
          ∧ r.2.mem ((c.tc : Thread Cert.Reference6Ideal.nD Cert.Reference6Ideal.τ).loc Cert.Reference6Ideal.main_v30) = v1 c
          ∧ r.2.mem ((c.tc : Thread Cert.Reference6Ideal.nD Cert.Reference6Ideal.τ).loc Cert.Reference6Ideal.main_v29) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v2_0)) (v1 : (c : Dev Cert.Kernel7Ideal.nD) → Buf (Elt Ideal) ((c.tc : Thread Cert.Kernel7Ideal.nD Cert.Kernel7Ideal.τ).loc Cert.Kernel7Ideal.main_v2_1)) (v2 : (c : Dev Cert.Kernel7Ideal.nD) → Buf (Elt Ideal) ((c.tc : Thread Cert.Kernel7Ideal.nD Cert.Kernel7Ideal.τ).loc Cert.Kernel7Ideal.main_v2_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2_0) = v0 c
          ∧ r.2.mem ((c.tc : Thread Cert.Kernel7Ideal.nD Cert.Kernel7Ideal.τ).loc Cert.Kernel7Ideal.main_v2_1) = v1 c
          ∧ r.2.mem ((c.tc : Thread Cert.Kernel7Ideal.nD Cert.Kernel7Ideal.τ).loc Cert.Kernel7Ideal.main_v2_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v35) = v0 c
          ∧ r.2.mem ((c.tc : Thread Cert.Reference7Ideal.nD Cert.Reference7Ideal.τ).loc Cert.Reference7Ideal.main_v38) = v1 c
          ∧ r.2.mem ((c.tc : Thread Cert.Reference7Ideal.nD Cert.Reference7Ideal.τ).loc Cert.Reference7Ideal.main_v40) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def preserves_Kernel8_Kernel8Ideal : Prop :=
  True

def algebraic_Kernel8Ideal_Reference8Ideal_pre_finite8 [hKernel8Ideal : Cert.Kernel8Ideal.Facts] [hReference8Ideal : Cert.Reference8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite8 m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v15)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v15) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v75) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)) →
    ∃ (v0 : (c : Dev Cert.Kernel9Ideal.nD) → Buf (Elt Ideal) ((c.tc : Thread Cert.Kernel9Ideal.nD Cert.Kernel9Ideal.τ).loc Cert.Kernel9Ideal.main_v2_0)) (v1 : (c : Dev Cert.Kernel9Ideal.nD) → Buf (Elt Ideal) ((c.tc : Thread Cert.Kernel9Ideal.nD Cert.Kernel9Ideal.τ).loc Cert.Kernel9Ideal.main_v2_1)) (v2 : (c : Dev Cert.Kernel9Ideal.nD) → Buf (Elt Ideal) ((c.tc : Thread Cert.Kernel9Ideal.nD Cert.Kernel9Ideal.τ).loc Cert.Kernel9Ideal.main_v2_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2_0) = v0 c
          ∧ r.2.mem ((c.tc : Thread Cert.Kernel9Ideal.nD Cert.Kernel9Ideal.τ).loc Cert.Kernel9Ideal.main_v2_1) = v1 c
          ∧ r.2.mem ((c.tc : Thread Cert.Kernel9Ideal.nD Cert.Kernel9Ideal.τ).loc Cert.Kernel9Ideal.main_v2_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v35) = v0 c
          ∧ r.2.mem ((c.tc : Thread Cert.Reference9Ideal.nD Cert.Reference9Ideal.τ).loc Cert.Reference9Ideal.main_v38) = v1 c
          ∧ r.2.mem ((c.tc : Thread Cert.Reference9Ideal.nD Cert.Reference9Ideal.τ).loc Cert.Reference9Ideal.main_v40) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v13) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v4)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v4) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v36) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v5) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal_pre_finite13 [hKernel13Ideal : Cert.Kernel13Ideal.Facts] [hReference13Ideal : Cert.Reference13Ideal.Facts] [hPre_finite13 : Cert.Pre_finite13.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal_finite13 m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)) →
    ∃ (v0 : (c : Dev Cert.Kernel13Ideal.nD) → Buf (Elt Ideal) ((c.tc : Thread Cert.Kernel13Ideal.nD Cert.Kernel13Ideal.τ).loc Cert.Kernel13Ideal.main_v10)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v10) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v25) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hPre_finite : Cert.Pre_finite.Facts) (hPre_finite2 : Cert.Pre_finite2.Facts) (hPre_finite4 : Cert.Pre_finite4.Facts) (hPre_finite5 : Cert.Pre_finite5.Facts) (hPre_finite8 : Cert.Pre_finite8.Facts) (hPre_finite13 : Cert.Pre_finite13.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite8 (hKernel8Ideal := hKernel8Ideal) (hPre_finite8 := hPre_finite8)
    ∧ quiescent_Reference8Ideal (hReference8Ideal := hReference8Ideal)
    ∧ quiescent_Reference8Ideal_pre_finite8 (hReference8Ideal := hReference8Ideal) (hPre_finite8 := hPre_finite8)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Kernel13Ideal_pre_finite13 (hKernel13Ideal := hKernel13Ideal) (hPre_finite13 := hPre_finite13)
    ∧ quiescent_Reference13Ideal (hReference13Ideal := hReference13Ideal)
    ∧ quiescent_Reference13Ideal_pre_finite13 (hReference13Ideal := hReference13Ideal) (hPre_finite13 := hPre_finite13)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_finite8 (hKernel8Ideal := hKernel8Ideal) (hReference8Ideal := hReference8Ideal) (hPre_finite8 := hPre_finite8)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal_pre_finite13 (hKernel13Ideal := hKernel13Ideal) (hReference13Ideal := hReference13Ideal) (hPre_finite13 := hPre_finite13)
-- ==== Pre_finite.lean ====
abbrev S9216x6144 : Shape := ⟨2, ![9216, 6144]⟩
abbrev S4x128 : Shape := ⟨2, ![4, 128]⟩
abbrev S256 : Shape := ⟨1, ![256]⟩
abbrev S9216x4096 : Shape := ⟨2, ![9216, 4096]⟩
abbrev S_ : Shape := ⟨0, ![]⟩

class Facts : Prop where
  slices_S9216x6144_S9216x4096_0_0 : S9216x6144.Slices ![0, 0] S9216x4096
  bcast_S_S9216x4096 : S_.BroadcastsInDim S9216x4096 (![] : Fin 0 → Fin S9216x4096.rank)
  reducesTo_S9216x4096_S_d0_1 : S9216x4096.ReducesTo [0, 1] S_
  h_S_ : 0 < S_.numel

variable [Facts]

def fn {F : FTy → Type} [FloatOps F] (main_arg0 : FVec F S9216x6144 .f32) (main_arg1 : FVec F S4x128 .f32) (main_arg2 : FVec F S256 .f32) : IVec S_ 1 :=
  let main_v0 : FVec F S9216x4096 .f32 := (extractStridedSlice S9216x4096 ![0, 0] · slices_S9216x6144_S9216x4096_0_0) main_arg0
  let main_v1 : FVec F S9216x4096 .f32 := Host.absf main_v0
  let main_cst : FVec F S_ .f32 := constant S_ .f32 0x7F800000#32
  let main_v2 : FVec F S9216x4096 .f32 := broadcastInDim S9216x4096 ![] bcast_S_S9216x4096 main_cst
  let main_v3 : IVec S9216x4096 1 := cmpf .olt main_v1 main_v2
  let main_c : IVec S_ 1 := constantI S_ 1 1#1
  let main_v4 : IVec S_ 1 := (fun x v => Host.reduce IntOp.andi x v reducesTo_S9216x4096_S_d0_1 h_S_) main_v3 main_c
  main_v4
-- ==== Pre_finite13.lean ====
abbrev S9216x6144 : Shape := ⟨2, ![9216, 6144]⟩
abbrev S1024x4096 : Shape := ⟨2, ![1024, 4096]⟩
abbrev S_ : Shape := ⟨0, ![]⟩

class Facts : Prop where
  slices_S9216x6144_S1024x4096_8192_0 : S9216x6144.Slices ![8192, 0] S1024x4096
  bcast_S_S1024x4096 : S_.BroadcastsInDim S1024x4096 (![] : Fin 0 → Fin S1024x4096.rank)
  reducesTo_S1024x4096_S_d0_1 : S1024x4096.ReducesTo [0, 1] S_
  h_S_ : 0 < S_.numel

variable [Facts]

def fn {F : FTy → Type} [FloatOps F] (main_arg0 : FVec F S9216x6144 .f32) : IVec S_ 1 :=
  let main_v0 : FVec F S1024x4096 .f32 := (extractStridedSlice S1024x4096 ![8192, 0] · slices_S9216x6144_S1024x4096_8192_0) main_arg0
  let main_v1 : FVec F S1024x4096 .f32 := Host.absf main_v0
  let main_cst : FVec F S_ .f32 := constant S_ .f32 0x7F800000#32
  let main_v2 : FVec F S1024x4096 .f32 := broadcastInDim S1024x4096 ![] bcast_S_S1024x4096 main_cst
  let main_v3 : IVec S1024x4096 1 := cmpf .olt main_v1 main_v2
  let main_c : IVec S_ 1 := constantI S_ 1 1#1
  let main_v4 : IVec S_ 1 := (fun x v => Host.reduce IntOp.andi x v reducesTo_S1024x4096_S_d0_1 h_S_) main_v3 main_c
  main_v4
-- ==== Pre_finite2.lean ====
abbrev S9216x2048 : Shape := ⟨2, ![9216, 2048]⟩
abbrev S9216x128 : Shape := ⟨2, ![9216, 128]⟩
abbrev S8x12288 : Shape := ⟨2, ![8, 12288]⟩
abbrev S4x2048x8192 : Shape := ⟨3, ![4, 2048, 8192]⟩
abbrev S_ : Shape := ⟨0, ![]⟩
abbrev S5x2048 : Shape := ⟨2, ![5, 2048]⟩
abbrev S1x2048x8192 : Shape := ⟨3, ![1, 2048, 8192]⟩
abbrev S2048x8192 : Shape := ⟨2, ![2048, 8192]⟩

class Facts : Prop where
  bcast_S_S9216x128 : S_.BroadcastsInDim S9216x128 (![] : Fin 0 → Fin S9216x128.rank)
  reducesTo_S9216x128_S_d0_1 : S9216x128.ReducesTo [0, 1] S_
  h_S_ : 0 < S_.numel
  slices_S8x12288_S5x2048_0_6144 : S8x12288.Slices ![0, 6144] S5x2048
  bcast_S_S5x2048 : S_.BroadcastsInDim S5x2048 (![] : Fin 0 → Fin S5x2048.rank)
  reducesTo_S5x2048_S_d0_1 : S5x2048.ReducesTo [0, 1] S_
  slices_S4x2048x8192_S1x2048x8192_0_0_0 : S4x2048x8192.Slices ![0, 0, 0] S1x2048x8192
  shapeCasts_S1x2048x8192_S2048x8192 : S1x2048x8192.ShapeCasts S2048x8192
  bcast_S_S2048x8192 : S_.BroadcastsInDim S2048x8192 (![] : Fin 0 → Fin S2048x8192.rank)
  reducesTo_S2048x8192_S_d0_1 : S2048x8192.ReducesTo [0, 1] S_

variable [Facts]

def fn {F : FTy → Type} [FloatOps F] (main_arg0 : FVec F S9216x2048 .bf16) (main_arg1 : FVec F S9216x128 .f32) (main_arg2 : FVec F S8x12288 .f32) (main_arg3 : FVec F S4x2048x8192 .f32) : IVec S_ 1 :=
  let main_cst : FVec F S_ .f32 := constant S_ .f32 0x00000000#32
  let main_v0 : FVec F S9216x128 .f32 := broadcastInDim S9216x128 ![] bcast_S_S9216x128 main_cst
  let main_v1 : IVec S9216x128 1 := cmpf .oge main_arg1 main_v0
  let main_c : IVec S_ 1 := constantI S_ 1 1#1
  let main_v2 : IVec S_ 1 := (fun x v => Host.reduce IntOp.andi x v reducesTo_S9216x128_S_d0_1 h_S_) main_v1 main_c
  let main_v3 : FVec F S5x2048 .f32 := (extractStridedSlice S5x2048 ![0, 6144] · slices_S8x12288_S5x2048_0_6144) main_arg2
  let main_v4 : FVec F S5x2048 .f32 := Host.absf main_v3
  let main_cst_0 : FVec F S_ .f32 := constant S_ .f32 0x7F800000#32
  let main_v5 : FVec F S5x2048 .f32 := broadcastInDim S5x2048 ![] bcast_S_S5x2048 main_cst_0
  let main_v6 : IVec S5x2048 1 := cmpf .olt main_v4 main_v5
  let main_c_1 : IVec S_ 1 := constantI S_ 1 1#1
  let main_v7 : IVec S_ 1 := (fun x v => Host.reduce IntOp.andi x v reducesTo_S5x2048_S_d0_1 h_S_) main_v6 main_c_1
  let main_v8 : IVec S_ 1 := andi main_v2 main_v7
  let main_v9 : FVec F S1x2048x8192 .f32 := (extractStridedSlice S1x2048x8192 ![0, 0, 0] · slices_S4x2048x8192_S1x2048x8192_0_0_0) main_arg3
  let main_v10 : FVec F S2048x8192 .f32 := shapeCast S2048x8192 main_v9 shapeCasts_S1x2048x8192_S2048x8192
  let main_v11 : FVec F S2048x8192 .f32 := Host.absf main_v10
  let main_cst_2 : FVec F S_ .f32 := constant S_ .f32 0x7F800000#32
  let main_v12 : FVec F S2048x8192 .f32 := broadcastInDim S2048x8192 ![] bcast_S_S2048x8192 main_cst_2
  let main_v13 : IVec S2048x8192 1 := cmpf .olt main_v11 main_v12
  let main_c_3 : IVec S_ 1 := constantI S_ 1 1#1
  let main_v14 : IVec S_ 1 := (fun x v => Host.reduce IntOp.andi x v reducesTo_S2048x8192_S_d0_1 h_S_) main_v13 main_c_3
  let main_v15 : IVec S_ 1 := andi main_v8 main_v14
  main_v15
-- ==== Pre_finite4.lean ====
abbrev S9216x2048 : Shape := ⟨2, ![9216, 2048]⟩
abbrev S9216x128 : Shape := ⟨2, ![9216, 128]⟩
abbrev S8x12288 : Shape := ⟨2, ![8, 12288]⟩
abbrev S1x2048x10368 : Shape := ⟨3, ![1, 2048, 10368]⟩
abbrev S_ : Shape := ⟨0, ![]⟩
abbrev S5x2048 : Shape := ⟨2, ![5, 2048]⟩
abbrev S1x2048x10240 : Shape := ⟨3, ![1, 2048, 10240]⟩
abbrev S2048x10240 : Shape := ⟨2, ![2048, 10240]⟩

class Facts : Prop where
  bcast_S_S9216x128 : S_.BroadcastsInDim S9216x128 (![] : Fin 0 → Fin S9216x128.rank)
  reducesTo_S9216x128_S_d0_1 : S9216x128.ReducesTo [0, 1] S_
  h_S_ : 0 < S_.numel
  slices_S8x12288_S5x2048_0_0 : S8x12288.Slices ![0, 0] S5x2048
  bcast_S_S5x2048 : S_.BroadcastsInDim S5x2048 (![] : Fin 0 → Fin S5x2048.rank)
  reducesTo_S5x2048_S_d0_1 : S5x2048.ReducesTo [0, 1] S_
  slices_S1x2048x10368_S1x2048x10240_0_0_0 : S1x2048x10368.Slices ![0, 0, 0] S1x2048x10240
  shapeCasts_S1x2048x10240_S2048x10240 : S1x2048x10240.ShapeCasts S2048x10240
  bcast_S_S2048x10240 : S_.BroadcastsInDim S2048x10240 (![] : Fin 0 → Fin S2048x10240.rank)
  reducesTo_S2048x10240_S_d0_1 : S2048x10240.ReducesTo [0, 1] S_

variable [Facts]

def fn {F : FTy → Type} [FloatOps F] (main_arg0 : FVec F S9216x2048 .bf16) (main_arg1 : FVec F S9216x128 .f32) (main_arg2 : FVec F S8x12288 .f32) (main_arg3 : FVec F S1x2048x10368 .f32) : IVec S_ 1 :=
  let main_cst : FVec F S_ .f32 := constant S_ .f32 0x00000000#32
  let main_v0 : FVec F S9216x128 .f32 := broadcastInDim S9216x128 ![] bcast_S_S9216x128 main_cst
  let main_v1 : IVec S9216x128 1 := cmpf .oge main_arg1 main_v0
  let main_c : IVec S_ 1 := constantI S_ 1 1#1
  let main_v2 : IVec S_ 1 := (fun x v => Host.reduce IntOp.andi x v reducesTo_S9216x128_S_d0_1 h_S_) main_v1 main_c
  let main_v3 : FVec F S5x2048 .f32 := (extractStridedSlice S5x2048 ![0, 0] · slices_S8x12288_S5x2048_0_0) main_arg2
  let main_v4 : FVec F S5x2048 .f32 := Host.absf main_v3
  let main_cst_0 : FVec F S_ .f32 := constant S_ .f32 0x7F800000#32
  let main_v5 : FVec F S5x2048 .f32 := broadcastInDim S5x2048 ![] bcast_S_S5x2048 main_cst_0
  let main_v6 : IVec S5x2048 1 := cmpf .olt main_v4 main_v5
  let main_c_1 : IVec S_ 1 := constantI S_ 1 1#1
  let main_v7 : IVec S_ 1 := (fun x v => Host.reduce IntOp.andi x v reducesTo_S5x2048_S_d0_1 h_S_) main_v6 main_c_1
  let main_v8 : IVec S_ 1 := andi main_v2 main_v7
  let main_v9 : FVec F S1x2048x10240 .f32 := (extractStridedSlice S1x2048x10240 ![0, 0, 0] · slices_S1x2048x10368_S1x2048x10240_0_0_0) main_arg3
  let main_v10 : FVec F S2048x10240 .f32 := shapeCast S2048x10240 main_v9 shapeCasts_S1x2048x10240_S2048x10240
  let main_v11 : FVec F S2048x10240 .f32 := Host.absf main_v10
  let main_cst_2 : FVec F S_ .f32 := constant S_ .f32 0x7F800000#32
  let main_v12 : FVec F S2048x10240 .f32 := broadcastInDim S2048x10240 ![] bcast_S_S2048x10240 main_cst_2
  let main_v13 : IVec S2048x10240 1 := cmpf .olt main_v11 main_v12
  let main_c_3 : IVec S_ 1 := constantI S_ 1 1#1
  let main_v14 : IVec S_ 1 := (fun x v => Host.reduce IntOp.andi x v reducesTo_S2048x10240_S_d0_1 h_S_) main_v13 main_c_3
  let main_v15 : IVec S_ 1 := andi main_v8 main_v14
  main_v15
-- ==== Pre_finite5.lean ====
abbrev S9216x2048 : Shape := ⟨2, ![9216, 2048]⟩
abbrev S9216x128 : Shape := ⟨2, ![9216, 128]⟩
abbrev S8x12288 : Shape := ⟨2, ![8, 12288]⟩
abbrev S2x2048x6144 : Shape := ⟨3, ![2, 2048, 6144]⟩
abbrev S_ : Shape := ⟨0, ![]⟩
abbrev S5x2048 : Shape := ⟨2, ![5, 2048]⟩
abbrev S1x2048x6144 : Shape := ⟨3, ![1, 2048, 6144]⟩
abbrev S2048x6144 : Shape := ⟨2, ![2048, 6144]⟩

class Facts : Prop where
  bcast_S_S9216x128 : S_.BroadcastsInDim S9216x128 (![] : Fin 0 → Fin S9216x128.rank)
  reducesTo_S9216x128_S_d0_1 : S9216x128.ReducesTo [0, 1] S_
  h_S_ : 0 < S_.numel
  slices_S8x12288_S5x2048_0_0 : S8x12288.Slices ![0, 0] S5x2048
  bcast_S_S5x2048 : S_.BroadcastsInDim S5x2048 (![] : Fin 0 → Fin S5x2048.rank)
  reducesTo_S5x2048_S_d0_1 : S5x2048.ReducesTo [0, 1] S_
  slices_S2x2048x6144_S1x2048x6144_0_0_0 : S2x2048x6144.Slices ![0, 0, 0] S1x2048x6144
  shapeCasts_S1x2048x6144_S2048x6144 : S1x2048x6144.ShapeCasts S2048x6144
  bcast_S_S2048x6144 : S_.BroadcastsInDim S2048x6144 (![] : Fin 0 → Fin S2048x6144.rank)
  reducesTo_S2048x6144_S_d0_1 : S2048x6144.ReducesTo [0, 1] S_

variable [Facts]

def fn {F : FTy → Type} [FloatOps F] (main_arg0 : FVec F S9216x2048 .bf16) (main_arg1 : FVec F S9216x128 .f32) (main_arg2 : FVec F S8x12288 .f32) (main_arg3 : FVec F S2x2048x6144 .f32) : IVec S_ 1 :=
  let main_cst : FVec F S_ .f32 := constant S_ .f32 0x00000000#32
  let main_v0 : FVec F S9216x128 .f32 := broadcastInDim S9216x128 ![] bcast_S_S9216x128 main_cst
  let main_v1 : IVec S9216x128 1 := cmpf .oge main_arg1 main_v0
  let main_c : IVec S_ 1 := constantI S_ 1 1#1
  let main_v2 : IVec S_ 1 := (fun x v => Host.reduce IntOp.andi x v reducesTo_S9216x128_S_d0_1 h_S_) main_v1 main_c
  let main_v3 : FVec F S5x2048 .f32 := (extractStridedSlice S5x2048 ![0, 0] · slices_S8x12288_S5x2048_0_0) main_arg2
  let main_v4 : FVec F S5x2048 .f32 := Host.absf main_v3
  let main_cst_0 : FVec F S_ .f32 := constant S_ .f32 0x7F800000#32
  let main_v5 : FVec F S5x2048 .f32 := broadcastInDim S5x2048 ![] bcast_S_S5x2048 main_cst_0
  let main_v6 : IVec S5x2048 1 := cmpf .olt main_v4 main_v5
  let main_c_1 : IVec S_ 1 := constantI S_ 1 1#1
  let main_v7 : IVec S_ 1 := (fun x v => Host.reduce IntOp.andi x v reducesTo_S5x2048_S_d0_1 h_S_) main_v6 main_c_1
  let main_v8 : IVec S_ 1 := andi main_v2 main_v7
  let main_v9 : FVec F S1x2048x6144 .f32 := (extractStridedSlice S1x2048x6144 ![0, 0, 0] · slices_S2x2048x6144_S1x2048x6144_0_0_0) main_arg3
  let main_v10 : FVec F S2048x6144 .f32 := shapeCast S2048x6144 main_v9 shapeCasts_S1x2048x6144_S2048x6144
  let main_v11 : FVec F S2048x6144 .f32 := Host.absf main_v10
  let main_cst_2 : FVec F S_ .f32 := constant S_ .f32 0x7F800000#32
  let main_v12 : FVec F S2048x6144 .f32 := broadcastInDim S2048x6144 ![] bcast_S_S2048x6144 main_cst_2
  let main_v13 : IVec S2048x6144 1 := cmpf .olt main_v11 main_v12
  let main_c_3 : IVec S_ 1 := constantI S_ 1 1#1
  let main_v14 : IVec S_ 1 := (fun x v => Host.reduce IntOp.andi x v reducesTo_S2048x6144_S_d0_1 h_S_) main_v13 main_c_3
  let main_v15 : IVec S_ 1 := andi main_v8 main_v14
  main_v15
-- ==== Pre_finite8.lean ====
abbrev S9216x2048 : Shape := ⟨2, ![9216, 2048]⟩
abbrev S9216x128 : Shape := ⟨2, ![9216, 128]⟩
abbrev S8x12288 : Shape := ⟨2, ![8, 12288]⟩
abbrev S1x2048x6144 : Shape := ⟨3, ![1, 2048, 6144]⟩
abbrev S2048x2x32 : Shape := ⟨3, ![2048, 2, 32]⟩
abbrev S_ : Shape := ⟨0, ![]⟩
abbrev S5x2048 : Shape := ⟨2, ![5, 2048]⟩
abbrev S2048x6144 : Shape := ⟨2, ![2048, 6144]⟩

class Facts : Prop where
  bcast_S_S9216x128 : S_.BroadcastsInDim S9216x128 (![] : Fin 0 → Fin S9216x128.rank)
  reducesTo_S9216x128_S_d0_1 : S9216x128.ReducesTo [0, 1] S_
  h_S_ : 0 < S_.numel
  slices_S8x12288_S5x2048_0_0 : S8x12288.Slices ![0, 0] S5x2048
  bcast_S_S5x2048 : S_.BroadcastsInDim S5x2048 (![] : Fin 0 → Fin S5x2048.rank)
  reducesTo_S5x2048_S_d0_1 : S5x2048.ReducesTo [0, 1] S_
  shapeCasts_S1x2048x6144_S2048x6144 : S1x2048x6144.ShapeCasts S2048x6144
  bcast_S_S2048x6144 : S_.BroadcastsInDim S2048x6144 (![] : Fin 0 → Fin S2048x6144.rank)
  reducesTo_S2048x6144_S_d0_1 : S2048x6144.ReducesTo [0, 1] S_

variable [Facts]

def fn {F : FTy → Type} [FloatOps F] (main_arg0 : FVec F S9216x2048 .bf16) (main_arg1 : FVec F S9216x128 .f32) (main_arg2 : FVec F S8x12288 .f32) (main_arg3 : FVec F S1x2048x6144 .f32) (main_arg4 : FVec F S2048x2x32 .f32) (main_arg5 : FVec F S2048x2x32 .f32) : IVec S_ 1 :=
  let main_cst : FVec F S_ .f32 := constant S_ .f32 0x00000000#32
  let main_v0 : FVec F S9216x128 .f32 := broadcastInDim S9216x128 ![] bcast_S_S9216x128 main_cst
  let main_v1 : IVec S9216x128 1 := cmpf .oge main_arg1 main_v0
  let main_c : IVec S_ 1 := constantI S_ 1 1#1
  let main_v2 : IVec S_ 1 := (fun x v => Host.reduce IntOp.andi x v reducesTo_S9216x128_S_d0_1 h_S_) main_v1 main_c
  let main_v3 : FVec F S5x2048 .f32 := (extractStridedSlice S5x2048 ![0, 0] · slices_S8x12288_S5x2048_0_0) main_arg2
  let main_v4 : FVec F S5x2048 .f32 := Host.absf main_v3
  let main_cst_0 : FVec F S_ .f32 := constant S_ .f32 0x7F800000#32
  let main_v5 : FVec F S5x2048 .f32 := broadcastInDim S5x2048 ![] bcast_S_S5x2048 main_cst_0
  let main_v6 : IVec S5x2048 1 := cmpf .olt main_v4 main_v5
  let main_c_1 : IVec S_ 1 := constantI S_ 1 1#1
  let main_v7 : IVec S_ 1 := (fun x v => Host.reduce IntOp.andi x v reducesTo_S5x2048_S_d0_1 h_S_) main_v6 main_c_1
  let main_v8 : IVec S_ 1 := andi main_v2 main_v7
  let main_v9 : FVec F S2048x6144 .f32 := shapeCast S2048x6144 main_arg3 shapeCasts_S1x2048x6144_S2048x6144
  let main_v10 : FVec F S2048x6144 .f32 := Host.absf main_v9
  let main_cst_2 : FVec F S_ .f32 := constant S_ .f32 0x7F800000#32
  let main_v11 : FVec F S2048x6144 .f32 := broadcastInDim S2048x6144 ![] bcast_S_S2048x6144 main_cst_2
  let main_v12 : IVec S2048x6144 1 := cmpf .olt main_v10 main_v11
  let main_c_3 : IVec S_ 1 := constantI S_ 1 1#1
  let main_v13 : IVec S_ 1 := (fun x v => Host.reduce IntOp.andi x v reducesTo_S2048x6144_S_d0_1 h_S_) main_v12 main_c_3
  let main_v14 : IVec S_ 1 := andi main_v8 main_v13
  main_v14
-- ==== Kernel.lean ====
abbrev S9216x6144 : Shape := ⟨2, ![9216, 6144]⟩
abbrev S4x128 : Shape := ⟨2, ![4, 128]⟩
abbrev S256 : Shape := ⟨1, ![256]⟩
abbrev S_ : Shape := ⟨0, ![]⟩
abbrev S9216x2048 : Shape := ⟨2, ![9216, 2048]⟩
abbrev S9216x4096 : Shape := ⟨2, ![9216, 4096]⟩
abbrev S1x128 : Shape := ⟨2, ![1, 128]⟩
abbrev S128 : Shape := ⟨1, ![128]⟩
abbrev S1 : Shape := ⟨1, ![1]⟩
abbrev S1x256 : Shape := ⟨2, ![1, 256]⟩
abbrev S8192x2048 : Shape := ⟨2, ![8192, 2048]⟩
abbrev S2048x256 : Shape := ⟨2, ![2048, 256]⟩
abbrev S256x256 : Shape := ⟨2, ![256, 256]⟩
abbrev S256x128 : Shape := ⟨2, ![256, 128]⟩
abbrev S2048x128 : Shape := ⟨2, ![2048, 128]⟩
abbrev S256x2048 : Shape := ⟨2, ![256, 2048]⟩
abbrev S256x1 : Shape := ⟨2, ![256, 1]⟩

abbrev nBuf : Space → Nat
  | .hbm => 38
  | .vmem => 13
  | .smem => 1
  | _ => 0

abbrev bufTy : (tb : Table) → Fin (tcTables nBuf tb) → BufTy
  | .hbm, ⟨0, _⟩ => ⟨S9216x6144, .f32⟩
  | .hbm, ⟨1, _⟩ => ⟨S4x128, .f32⟩
  | .hbm, ⟨2, _⟩ => ⟨S256, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S9216x2048, .f32⟩
  | .hbm, ⟨11, _⟩ => ⟨S9216x2048, .f32⟩
  | .hbm, ⟨12, _⟩ => ⟨S9216x2048, .f32⟩
  | .hbm, ⟨13, _⟩ => ⟨S9216x4096, .f32⟩
  | .hbm, ⟨14, _⟩ => ⟨S9216x6144, .f32⟩
  | .hbm, ⟨15, _⟩ => ⟨S9216x6144, .bf16⟩
  | .hbm, ⟨16, _⟩ => ⟨S1x128, .f32⟩
  | .hbm, ⟨17, _⟩ => ⟨S128, .f32⟩
  | .hbm, ⟨18, _⟩ => ⟨S1x128, .f32⟩
  | .hbm, ⟨19, _⟩ => ⟨S128, .f32⟩
  | .hbm, ⟨20, _⟩ => ⟨S128, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S1x128, .f32⟩
  | .hbm, ⟨25, _⟩ => ⟨S128, .f32⟩
  | .hbm, ⟨26, _⟩ => ⟨S1x128, .f32⟩
  | .hbm, ⟨27, _⟩ => ⟨S128, .f32⟩
  | .hbm, ⟨28, _⟩ => ⟨S128, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S1, .f32⟩
  | .hbm, ⟨36, _⟩ => ⟨S1x256, .f32⟩
  | .hbm, ⟨37, _⟩ => ⟨S8192x2048, .bf16⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S256x256, .bf16⟩
  | .local _ .vmem, ⟨5, _⟩ => ⟨S256x256, .bf16⟩
  | .local _ .vmem, ⟨6, _⟩ => ⟨S2048x256, .bf16⟩
  | .local _ .vmem, ⟨7, _⟩ => ⟨S2048x256, .bf16⟩
  | .local _ .vmem, ⟨8, _⟩ => ⟨S256x256, .bf16⟩
  | .local _ .vmem, ⟨9, _⟩ => ⟨S256x256, .bf16⟩
  | .local _ .vmem, ⟨10, _⟩ => ⟨S1x256, .f32⟩
  | .local _ .vmem, ⟨11, _⟩ => ⟨S2048x256, .bf16⟩
  | .local _ .vmem, ⟨12, _⟩ => ⟨S2048x256, .bf16⟩
  | .local _ .smem, ⟨0, _⟩ => ⟨S1, .f32⟩
  | _, _ => ⟨S9216x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg0
  let c8_i32 : BitVec 32 := 8#32
  let v1 : BitVec 32 := Scalar.addi c8_i32 arg1
  let c0_i32 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg0
  let c16_i32 : BitVec 32 := 16#32
  let v1 : BitVec 32 := Scalar.addi c16_i32 arg1
  let c0_i32 : BitVec 32 := 0#32
  ![v0.toNat, v1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== ReferenceIdeal.lean ====
abbrev S9216x6144 : Shape := ⟨2, ![9216, 6144]⟩
abbrev S4x128 : Shape := ⟨2, ![4, 128]⟩
abbrev S256 : Shape := ⟨1, ![256]⟩
abbrev S8192x2048 : Shape := ⟨2, ![8192, 2048]⟩
abbrev S4x2048x16x128 : Shape := ⟨4, ![4, 2048, 16, 128]⟩
abbrev S4x2048x8x256 : Shape := ⟨4, ![4, 2048, 8, 256]⟩
abbrev S1024x2048 : Shape := ⟨2, ![1024, 2048]⟩
abbrev S4x256x16x128 : Shape := ⟨4, ![4, 256, 16, 128]⟩
abbrev S4x256x8x256 : Shape := ⟨4, ![4, 256, 8, 256]⟩
abbrev S4x2304x16x128 : Shape := ⟨4, ![4, 2304, 16, 128]⟩
abbrev S4x2304x8x256 : Shape := ⟨4, ![4, 2304, 8, 256]⟩
abbrev S1x128 : Shape := ⟨2, ![1, 128]⟩
abbrev S128 : Shape := ⟨1, ![128]⟩
abbrev S_ : Shape := ⟨0, ![]⟩
abbrev S4x16x2048x2304 : Shape := ⟨4, ![4, 16, 2048, 2304]⟩
abbrev S4x16x2048 : Shape := ⟨3, ![4, 16, 2048]⟩
abbrev S4x16x2048x1 : Shape := ⟨4, ![4, 16, 2048, 1]⟩
abbrev S4x8x2x2048x2304 : Shape := ⟨5, ![4, 8, 2, 2048, 2304]⟩
abbrev S4x8x1x2048x2304 : Shape := ⟨5, ![4, 8, 1, 2048, 2304]⟩
abbrev S4x8x2048x2304 : Shape := ⟨4, ![4, 8, 2048, 2304]⟩
abbrev S4x8x256x2048 : Shape := ⟨4, ![4, 8, 256, 2048]⟩
abbrev S4x2048x8 : Shape := ⟨3, ![4, 2048, 8]⟩
abbrev S4x2048x8x1 : Shape := ⟨4, ![4, 2048, 8, 1]⟩
abbrev S1x1x1x256 : Shape := ⟨4, ![1, 1, 1, 256]⟩

abbrev nBuf : Space → Nat
  | .hbm => 86
  | .vmem => 0
  | .smem => 0
  | _ => 0

abbrev bufTy : (tb : Table) → Fin (tcTables nBuf tb) → BufTy
  | .hbm, ⟨0, _⟩ => ⟨S9216x6144, .f32⟩
  | .hbm, ⟨1, _⟩ => ⟨S4x128, .f32⟩
  | .hbm, ⟨2, _⟩ => ⟨S256, .f32⟩
  | .hbm, ⟨3, _⟩ => ⟨S8192x2048, .f32⟩
  | .hbm, ⟨4, _⟩ => ⟨S4x2048x16x128, .f32⟩
  | .hbm, ⟨5, _⟩ => ⟨S8192x2048, .f32⟩
  | .hbm, ⟨6, _⟩ => ⟨S4x2048x16x128, .f32⟩
  | .hbm, ⟨7, _⟩ => ⟨S8192x2048, .f32⟩
  | .hbm, ⟨8, _⟩ => ⟨S4x2048x8x256, .f32⟩
  | .hbm, ⟨9, _⟩ => ⟨S1024x2048, .f32⟩
  | .hbm, ⟨10, _⟩ => ⟨S4x256x16x128, .f32⟩
  | .hbm, ⟨11, _⟩ => ⟨S1024x2048, .f32⟩
  | .hbm, ⟨12, _⟩ => ⟨S4x256x8x256, .f32⟩
  | .hbm, ⟨13, _⟩ => ⟨S4x2304x16x128, .f32⟩
  | .hbm, ⟨14, _⟩ => ⟨S4x2304x8x256, .f32⟩
  | .hbm, ⟨15, _⟩ => ⟨S1x128, .f32⟩
  | .hbm, ⟨16, _⟩ => ⟨S128, .f32⟩
  | .hbm, ⟨17, _⟩ => ⟨S1x128, .f32⟩
  | .hbm, ⟨18, _⟩ => ⟨S128, .f32⟩
  | .hbm, ⟨19, _⟩ => ⟨S128, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S1x128, .f32⟩
  | .hbm, ⟨24, _⟩ => ⟨S128, .f32⟩
  | .hbm, ⟨25, _⟩ => ⟨S1x128, .f32⟩
  | .hbm, ⟨26, _⟩ => ⟨S128, .f32⟩
  | .hbm, ⟨27, _⟩ => ⟨S128, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S4x16x2048x2304, .f32⟩
  | .hbm, ⟨39, _⟩ => ⟨S4x16x2048x2304, .f32⟩
  | .hbm, ⟨40, _⟩ => ⟨S4x16x2048x2304, .f32⟩
  | .hbm, ⟨41, _⟩ => ⟨S_, .f32⟩
  | .hbm, ⟨42, _⟩ => ⟨S4x16x2048, .f32⟩
  | .hbm, ⟨43, _⟩ => ⟨S_, .f32⟩
  | .hbm, ⟨44, _⟩ => ⟨S4x16x2048, .f32⟩
  | .hbm, ⟨45, _⟩ => ⟨S4x16x2048, .f32⟩
  | .hbm, ⟨46, _⟩ => ⟨S4x16x2048x1, .f32⟩
  | .hbm, ⟨47, _⟩ => ⟨S4x16x2048x2304, .f32⟩
  | .hbm, ⟨48, _⟩ => ⟨S4x16x2048x2304, .f32⟩
  | .hbm, ⟨49, _⟩ => ⟨S4x16x2048x2304, .f32⟩
  | .hbm, ⟨50, _⟩ => ⟨S_, .f32⟩
  | .hbm, ⟨51, _⟩ => ⟨S4x16x2048, .f32⟩
  | .hbm, ⟨52, _⟩ => ⟨S4x16x2048x1, .f32⟩
  | .hbm, ⟨53, _⟩ => ⟨S4x16x2048x2304, .f32⟩
  | .hbm, ⟨54, _⟩ => ⟨S4x16x2048x2304, .f32⟩
  | .hbm, ⟨55, _⟩ => ⟨S4x8x2x2048x2304, .f32⟩
  | .hbm, ⟨56, _⟩ => ⟨S4x8x1x2048x2304, .f32⟩
  | .hbm, ⟨57, _⟩ => ⟨S4x8x2048x2304, .f32⟩
  | .hbm, ⟨58, _⟩ => ⟨S4x8x1x2048x2304, .f32⟩
  | .hbm, ⟨59, _⟩ => ⟨S4x8x2048x2304, .f32⟩
  | .hbm, ⟨60, _⟩ => ⟨S4x8x2048x2304, .f32⟩
  | .hbm, ⟨61, _⟩ => ⟨S4x8x2048x2304, .f32⟩
  | .hbm, ⟨62, _⟩ => ⟨S4x8x2048x2304, .f32⟩
  | .hbm, ⟨63, _⟩ => ⟨S4x8x256x2048, .f32⟩
  | .hbm, ⟨64, _⟩ => ⟨S4x2048x8x256, .f32⟩
  | .hbm, ⟨65, _⟩ => ⟨S4x2048x8x256, .f32⟩
  | .hbm, ⟨66, _⟩ => ⟨S_, .f32⟩
  | .hbm, ⟨67, _⟩ => ⟨S4x2048x8, .f32⟩
  | .hbm, ⟨68, _⟩ => ⟨S4x2048x8x1, .f32⟩
  | .hbm, ⟨69, _⟩ => ⟨S_, .f32⟩
  | .hbm, ⟨70, _⟩ => ⟨S4x2048x8x1, .f32⟩
  | .hbm, ⟨71, _⟩ => ⟨S4x2048x8x1, .f32⟩
  | .hbm, ⟨72, _⟩ => ⟨S_, .f32⟩
  | .hbm, ⟨73, _⟩ => ⟨S4x2048x8x1, .f32⟩
  | .hbm, ⟨74, _⟩ => ⟨S4x2048x8x1, .f32⟩
  | .hbm, ⟨75, _⟩ => ⟨S4x2048x8x1, .f32⟩
  | .hbm, ⟨76, _⟩ => ⟨S4x2048x8x256, .f32⟩
  | .hbm, ⟨77, _⟩ => ⟨S4x2048x8x256, .f32⟩
  | .hbm, ⟨78, _⟩ => ⟨S1x1x1x256, .f32⟩
  | .hbm, ⟨79, _⟩ => ⟨S4x2048x8x256, .f32⟩
  | .hbm, ⟨80, _⟩ => ⟨S4x2048x8x256, .f32⟩
  | .hbm, ⟨81, _⟩ => ⟨S_, .f32⟩
  | .hbm, ⟨82, _⟩ => ⟨S4x2048x8x256, .f32⟩
  | .hbm, ⟨83, _⟩ => ⟨S4x2048x8x256, .f32⟩
  | .hbm, ⟨84, _⟩ => ⟨S8192x2048, .f32⟩
  | .hbm, ⟨85, _⟩ => ⟨S8192x2048, .bf16⟩
  | _, _ => ⟨S9216x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_cst : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_cst_0 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_cst_1 : Ref sig .tc := ⟨.hbm, 32, rfl⟩
abbrev main_v27 : Ref sig .tc := ⟨.hbm, 33, rfl⟩
abbrev main_cst_2 : Ref sig .tc := ⟨.hbm, 34, rfl⟩
abbrev main_v28 : Ref sig .tc := ⟨.hbm, 35, rfl⟩
abbrev main_cst_3 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_4 : Ref sig .tc := ⟨.hbm, 41, rfl⟩
abbrev main_v33 : Ref sig .tc := ⟨.hbm, 42, rfl⟩
abbrev main_cst_5 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_6 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_cst_7 : Ref sig .tc := ⟨.hbm, 66, rfl⟩
abbrev main_v55 : Ref sig .tc := ⟨.hbm, 67, rfl⟩
abbrev main_v56 : Ref sig .tc := ⟨.hbm, 68, rfl⟩
abbrev main_cst_8 : Ref sig .tc := ⟨.hbm, 69, rfl⟩
abbrev main_v57 : Ref sig .tc := ⟨.hbm, 70, rfl⟩
abbrev main_v58 : Ref sig .tc := ⟨.hbm, 71, rfl⟩
abbrev main_cst_9 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_cst_10 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩

abbrev nD : Nat := 1
abbrev τ : Topo := Topo.v7x

variable {F : FTy → Type} [FloatOps F]
-- ==== Kernel2.lean ====
abbrev S9216x2048 : Shape := ⟨2, ![9216, 2048]⟩
abbrev S9216x128 : Shape := ⟨2, ![9216, 128]⟩
abbrev S8x12288 : Shape := ⟨2, ![8, 12288]⟩
abbrev S4x2048x8192 : Shape := ⟨3, ![4, 2048, 8192]⟩
abbrev S9216x8192 : Shape := ⟨2, ![9216, 8192]⟩
abbrev S1024x2048 : Shape := ⟨2, ![1024, 2048]⟩
abbrev S1024x128 : Shape := ⟨2, ![1024, 128]⟩
abbrev S1x2048x1024 : Shape := ⟨3, ![1, 2048, 1024]⟩
abbrev S1024x1024 : Shape := ⟨2, ![1024, 1024]⟩
abbrev S8x8x1024 : Shape := ⟨3, ![8, 8, 1024]⟩
abbrev S8x2048 : Shape := ⟨2, ![8, 2048]⟩
abbrev S2048x1024 : Shape := ⟨2, ![2048, 1024]⟩
abbrev S8x1024 : Shape := ⟨2, ![8, 1024]⟩
abbrev S1x8x1024 : Shape := ⟨3, ![1, 8, 1024]⟩
abbrev S1024 : Shape := ⟨1, ![1024]⟩
abbrev S1024x1 : Shape := ⟨2, ![1024, 1]⟩
abbrev S1x1x1024 : Shape := ⟨3, ![1, 1, 1024]⟩
abbrev S1x1024 : Shape := ⟨2, ![1, 1024]⟩

abbrev nBuf : Space → Nat
  | .hbm => 5
  | .vmem => 10
  | .smem => 0
  | _ => 0

abbrev bufTy : (tb : Table) → Fin (tcTables nBuf tb) → BufTy
  | .hbm, ⟨0, _⟩ => ⟨S9216x2048, .bf16⟩
  | .hbm, ⟨1, _⟩ => ⟨S9216x128, .f32⟩
  | .hbm, ⟨2, _⟩ => ⟨S8x12288, .f32⟩
  | .hbm, ⟨3, _⟩ => ⟨S4x2048x8192, .f32⟩
  | .hbm, ⟨4, _⟩ => ⟨S9216x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1024x128, .f32⟩
  | .local _ .vmem, ⟨3, _⟩ => ⟨S1024x128, .f32⟩
  | .local _ .vmem, ⟨4, _⟩ => ⟨S8x12288, .f32⟩
  | .local _ .vmem, ⟨5, _⟩ => ⟨S1x2048x1024, .f32⟩
  | .local _ .vmem, ⟨6, _⟩ => ⟨S1x2048x1024, .f32⟩
  | .local _ .vmem, ⟨7, _⟩ => ⟨S1024x1024, .bf16⟩
  | .local _ .vmem, ⟨8, _⟩ => ⟨S1024x1024, .bf16⟩
  | .local _ .vmem, ⟨9, _⟩ => ⟨S8x8x1024, .f32⟩
  | _, _ => ⟨S9216x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![9, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (i : grid0.Coords) : Fin 3 → Nat :=
  let arg1 : BitVec 32 := BitVec.ofNat 32 (i 1).val
  let v59 : Index := Scalar.indexCast arg1
  let c0_26 : Index := 0#32
  let c0_27 : Index := 0#32
  ![v59.toNat, 0, 0]
def k0_off2 (i : grid0.Coords) : Fin 3 → Nat :=
  let arg1 : BitVec 32 := BitVec.ofNat 32 (i 1).val
  let v40 : Index := Scalar.indexCast arg1
  let arg0 : BitVec 32 := BitVec.ofNat 32 (i 0).val
  let c1024_i32 : BitVec 32 := 1024#32
  let v3 : BitVec 32 := Scalar.muli arg0 c1024_i32
  let c8192_i32 : BitVec 32 := 8192#32
  let v4 : BitVec 1 := Scalar.cmpi .slt v3 c8192_i32
  let c0_i32_1 : BitVec 32 := 0#32
  let v6 : BitVec 1 := Scalar.cmpi .sgt v3 c0_i32_1
  let v7 : BitVec 32 := Scalar.extui v6
  let c0_i32_2 : BitVec 32 := 0#32
  let v8 : BitVec 1 := Scalar.cmpi .slt v3 c0_i32_2
  let v9 : BitVec 32 := Scalar.extui v8
  let v10 : BitVec 32 := Scalar.subi v7 v9
  let c2048_i32 : BitVec 32 := 2048#32
  let c0_i32_3 : BitVec 32 := 0#32
  let v11 : BitVec 1 := Scalar.cmpi .sgt c2048_i32 c0_i32_3
  let v12 : BitVec 32 := Scalar.extui v11
  let c0_i32_4 : BitVec 32 := 0#32
  let v13 : BitVec 1 := Scalar.cmpi .slt c2048_i32 c0_i32_4
  let v14 : BitVec 32 := Scalar.extui v13
  let v15 : BitVec 32 := Scalar.subi v12 v14
  let v16 : BitVec 1 := Scalar.cmpi .ne v10 v15
  let v17 : BitVec 32 := Scalar.remsi v3 c2048_i32
  let c0_i32_5 : BitVec 32 := 0#32
  let v18 : BitVec 1 := Scalar.cmpi .ne v17 c0_i32_5
  let v19 : BitVec 1 := Scalar.andi v16 v18
  let v5 : BitVec 32 := Scalar.divsi v3 c2048_i32
  let c1_i32 : BitVec 32 := 1#32
  let v20 : BitVec 32 := Scalar.subi v5 c1_i32
  let v21 : BitVec 32 := Scalar.select v19 v20 v5
  let c4_i32 : BitVec 32 := 4#32
  let v22 : BitVec 32 := Scalar.select v4 v21 c4_i32
  let v41 : Index := Scalar.indexCast v22
  let c0_16 : Index := 0#32
  ![v40.toNat, v41.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S8x12288 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference2Ideal.lean ====
abbrev S9216x2048 : Shape := ⟨2, ![9216, 2048]⟩
abbrev S9216x128 : Shape := ⟨2, ![9216, 128]⟩
abbrev S8x12288 : Shape := ⟨2, ![8, 12288]⟩
abbrev S4x2048x8192 : Shape := ⟨3, ![4, 2048, 8192]⟩
abbrev S_ : Shape := ⟨0, ![]⟩
abbrev S9216 : Shape := ⟨1, ![9216]⟩
abbrev S9216x1 : Shape := ⟨2, ![9216, 1]⟩
abbrev S8x2048 : Shape := ⟨2, ![8, 2048]⟩
abbrev S4x2048 : Shape := ⟨2, ![4, 2048]⟩
abbrev S4x1x2048 : Shape := ⟨3, ![4, 1, 2048]⟩
abbrev S4x2048x2048 : Shape := ⟨3, ![4, 2048, 2048]⟩
abbrev S8192x2048 : Shape := ⟨2, ![8192, 2048]⟩
abbrev S1x2048 : Shape := ⟨2, ![1, 2048]⟩
abbrev S1024x2048 : Shape := ⟨2, ![1024, 2048]⟩
abbrev S1x2048x8192 : Shape := ⟨3, ![1, 2048, 8192]⟩
abbrev S2048x8192 : Shape := ⟨2, ![2048, 8192]⟩
abbrev S9216x8192 : Shape := ⟨2, ![9216, 8192]⟩

abbrev nBuf : Space → Nat
  | .hbm => 34
  | .vmem => 0
  | .smem => 0
  | _ => 0

abbrev bufTy : (tb : Table) → Fin (tcTables nBuf tb) → BufTy
  | .hbm, ⟨0, _⟩ => ⟨S9216x2048, .bf16⟩
  | .hbm, ⟨1, _⟩ => ⟨S9216x128, .f32⟩
  | .hbm, ⟨2, _⟩ => ⟨S8x12288, .f32⟩
  | .hbm, ⟨3, _⟩ => ⟨S4x2048x8192, .f32⟩
  | .hbm, ⟨4, _⟩ => ⟨S9216x2048, .f32⟩
  | .hbm, ⟨5, _⟩ => ⟨S_, .f32⟩
  | .hbm, ⟨6, _⟩ => ⟨S9216, .f32⟩
  | .hbm, ⟨7, _⟩ => ⟨S9216x1, .f32⟩
  | .hbm, ⟨8, _⟩ => ⟨S_, .f32⟩
  | .hbm, ⟨9, _⟩ => ⟨S9216x1, .f32⟩
  | .hbm, ⟨10, _⟩ => ⟨S9216x1, .f32⟩
  | .hbm, ⟨11, _⟩ => ⟨S_, .f32⟩
  | .hbm, ⟨12, _⟩ => ⟨S9216x1, .f32⟩
  | .hbm, ⟨13, _⟩ => ⟨S9216x1, .f32⟩
  | .hbm, ⟨14, _⟩ => ⟨S9216x1, .f32⟩
  | .hbm, ⟨15, _⟩ => ⟨S9216x2048, .f32⟩
  | .hbm, ⟨16, _⟩ => ⟨S9216x2048, .f32⟩
  | .hbm, ⟨17, _⟩ => ⟨S8x2048, .f32⟩
  | .hbm, ⟨18, _⟩ => ⟨S4x2048, .f32⟩
  | .hbm, ⟨19, _⟩ => ⟨S4x1x2048, .f32⟩
  | .hbm, ⟨20, _⟩ => ⟨S4x2048x2048, .f32⟩
  | .hbm, ⟨21, _⟩ => ⟨S8192x2048, .f32⟩
  | .hbm, ⟨22, _⟩ => ⟨S1x2048, .f32⟩
  | .hbm, ⟨23, _⟩ => ⟨S1024x2048, .f32⟩
  | .hbm, ⟨24, _⟩ => ⟨S9216x2048, .f32⟩
  | .hbm, ⟨25, _⟩ => ⟨S9216x2048, .f32⟩
  | .hbm, ⟨26, _⟩ => ⟨S1x2048x8192, .f32⟩
  | .hbm, ⟨27, _⟩ => ⟨S2048x8192, .f32⟩
  | .hbm, ⟨28, _⟩ => ⟨S9216x8192, .f32⟩
  | .hbm, ⟨29, _⟩ => ⟨S_, .f32⟩
  | .hbm, ⟨30, _⟩ => ⟨S9216x8192, .f32⟩
  | .hbm, ⟨31, _⟩ => ⟨S9216x8192, .f32⟩
  | .hbm, ⟨32, _⟩ => ⟨S9216x8192, .f32⟩
  | .hbm, ⟨33, _⟩ => ⟨S9216x8192, .bf16⟩
  | _, _ => ⟨S9216x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_call0_cst : Ref sig .tc := ⟨.hbm, 29, rfl⟩
abbrev main_call0_v0 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== Kernel3.lean ====
abbrev S9216x8192 : Shape := ⟨2, ![9216, 8192]⟩
abbrev S4x8192x2048 : Shape := ⟨3, ![4, 8192, 2048]⟩
abbrev S9216x2048 : Shape := ⟨2, ![9216, 2048]⟩
abbrev S8x12288 : Shape := ⟨2, ![8, 12288]⟩
abbrev S2048 : Shape := ⟨1, ![2048]⟩
abbrev S9216x128 : Shape := ⟨2, ![9216, 128]⟩
abbrev S1x2048 : Shape := ⟨2, ![1, 2048]⟩
abbrev S1024x4096 : Shape := ⟨2, ![1024, 4096]⟩
abbrev S1x4096x512 : Shape := ⟨3, ![1, 4096, 512]⟩
abbrev S1024x512 : Shape := ⟨2, ![1024, 512]⟩
abbrev S8x512 : Shape := ⟨2, ![8, 512]⟩
abbrev S1x512 : Shape := ⟨2, ![1, 512]⟩
abbrev S1024x128 : Shape := ⟨2, ![1024, 128]⟩
abbrev S4x1024x512 : Shape := ⟨3, ![4, 1024, 512]⟩
abbrev S4096x512 : Shape := ⟨2, ![4096, 512]⟩
abbrev S1x1024x512 : Shape := ⟨3, ![1, 1024, 512]⟩

abbrev nBuf : Space → Nat
  | .hbm => 13
  | .vmem => 19
  | .smem => 0
  | _ => 0

abbrev bufTy : (tb : Table) → Fin (tcTables nBuf tb) → BufTy
  | .hbm, ⟨0, _⟩ => ⟨S9216x8192, .bf16⟩
  | .hbm, ⟨1, _⟩ => ⟨S4x8192x2048, .f32⟩
  | .hbm, ⟨2, _⟩ => ⟨S9216x2048, .f32⟩
  | .hbm, ⟨3, _⟩ => ⟨S8x12288, .f32⟩
  | .hbm, ⟨4, _⟩ => ⟨S2048, .f32⟩
  | .hbm, ⟨5, _⟩ => ⟨S8x12288, .f32⟩
  | .hbm, ⟨6, _⟩ => ⟨S9216x2048, .bf16⟩
  | .hbm, ⟨7, _⟩ => ⟨S9216x128, .f32⟩
  | .hbm, ⟨8, _⟩ => ⟨S4x8192x2048, .bf16⟩
  | .hbm, ⟨9, _⟩ => ⟨S1x2048, .f32⟩
  | .hbm, ⟨10, _⟩ => ⟨S9216x2048, .f32⟩
  | .hbm, ⟨11, _⟩ => ⟨S9216x2048, .bf16⟩
  | .hbm, ⟨12, _⟩ => ⟨S9216x128, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1024x512, .f32⟩
  | .local _ .vmem, ⟨5, _⟩ => ⟨S1024x512, .f32⟩
  | .local _ .vmem, ⟨6, _⟩ => ⟨S8x512, .f32⟩
  | .local _ .vmem, ⟨7, _⟩ => ⟨S8x512, .f32⟩
  | .local _ .vmem, ⟨8, _⟩ => ⟨S1x512, .f32⟩
  | .local _ .vmem, ⟨9, _⟩ => ⟨S1x512, .f32⟩
  | .local _ .vmem, ⟨10, _⟩ => ⟨S8x512, .f32⟩
  | .local _ .vmem, ⟨11, _⟩ => ⟨S8x512, .f32⟩
  | .local _ .vmem, ⟨12, _⟩ => ⟨S1024x512, .f32⟩
  | .local _ .vmem, ⟨13, _⟩ => ⟨S1024x512, .f32⟩
  | .local _ .vmem, ⟨14, _⟩ => ⟨S1024x512, .bf16⟩
  | .local _ .vmem, ⟨15, _⟩ => ⟨S1024x512, .bf16⟩
  | .local _ .vmem, ⟨16, _⟩ => ⟨S1024x128, .f32⟩
  | .local _ .vmem, ⟨17, _⟩ => ⟨S1024x128, .f32⟩
  | .local _ .vmem, ⟨18, _⟩ => ⟨S4x1024x512, .f32⟩
  | _, _ => ⟨S9216x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![9, 2, 4], ![false, false, false]⟩

def k0_cond1 (i : grid0.Coords) : BitVec 1 :=
  let arg1 : BitVec 32 := BitVec.ofNat 32 (i 1).val
  let c0_i32_9 : BitVec 32 := 0#32
  let v25 : BitVec 1 := Scalar.cmpi .eq arg1 c0_i32_9
  let v26 : BitVec 32 := Scalar.extui v25
  let c0_i32_10 : BitVec 32 := 0#32
  let v27 : BitVec 1 := Scalar.cmpi .ne v26 c0_i32_10
  v27

def k0_off1 (i : grid0.Coords) : Fin 3 → Nat :=
  let arg2 : BitVec 32 := BitVec.ofNat 32 (i 2).val
  let c0_i32_16 : BitVec 32 := 0#32
  let c0_i32_17 : BitVec 32 := 0#32
  ![arg2.toNat, 0, 0]
def k0_cond2 (i : grid0.Coords) : BitVec 1 :=
  let arg1 : BitVec 32 := BitVec.ofNat 32 (i 1).val
  let c0_i32_11 : BitVec 32 := 0#32
  let v28 : BitVec 1 := Scalar.cmpi .sgt arg1 c0_i32_11
  let c1_i32_12 : BitVec 32 := 1#32
  let v29 : BitVec 1 := Scalar.cmpi .slt arg1 c1_i32_12
  let v30 : BitVec 1 := Scalar.andi v28 v29
  let v31 : BitVec 32 := Scalar.extui v30
  let c0_i32_13 : BitVec 32 := 0#32
  let v32 : BitVec 1 := Scalar.cmpi .ne v31 c0_i32_13
  v32

def k0_off2 (i : grid0.Coords) : Fin 3 → Nat :=
  let arg2 : BitVec 32 := BitVec.ofNat 32 (i 2).val
  let c0_i32_16 : BitVec 32 := 0#32
  let c0_i32_17 : BitVec 32 := 0#32
  ![arg2.toNat, 0, 0]
def k0_cond3 (i : grid0.Coords) : BitVec 1 :=
  let arg1 : BitVec 32 := BitVec.ofNat 32 (i 1).val
  let c1_i32_14 : BitVec 32 := 1#32
  let v33 : BitVec 1 := Scalar.cmpi .eq arg1 c1_i32_14
  let v34 : BitVec 32 := Scalar.extui v33
  let c0_i32_15 : BitVec 32 := 0#32
  let v35 : BitVec 1 := Scalar.cmpi .ne v34 c0_i32_15
  v35

def k0_off3 (i : grid0.Coords) : Fin 3 → Nat :=
  let arg2 : BitVec 32 := BitVec.ofNat 32 (i 2).val
  let c0_i32_16 : BitVec 32 := 0#32
  let c0_i32_17 : BitVec 32 := 0#32
  ![arg2.toNat, 0, 0]
def k0_off4 (i : grid0.Coords) : Fin 2 → Nat :=
  let c0_i32 : BitVec 32 := 0#32
  let arg0 : BitVec 32 := BitVec.ofNat 32 (i 0).val
  let c1024_i32 : BitVec 32 := 1024#32
  let v0 : BitVec 32 := Scalar.muli arg0 c1024_i32
  let v1 : BitVec 32 := Scalar.addi c0_i32 v0
  let c8192_i32 : BitVec 32 := 8192#32
  let v2 : BitVec 1 := Scalar.cmpi .slt v1 c8192_i32
  let c0_i32_0 : BitVec 32 := 0#32
  let v4 : BitVec 1 := Scalar.cmpi .sgt v1 c0_i32_0
  let v5 : BitVec 32 := Scalar.extui v4
  let c0_i32_1 : BitVec 32 := 0#32
  let v6 : BitVec 1 := Scalar.cmpi .slt v1 c0_i32_1
  let v7 : BitVec 32 := Scalar.extui v6
  let v8 : BitVec 32 := Scalar.subi v5 v7
  let c2048_i32 : BitVec 32 := 2048#32
  let c0_i32_2 : BitVec 32 := 0#32
  let v9 : BitVec 1 := Scalar.cmpi .sgt c2048_i32 c0_i32_2
  let v10 : BitVec 32 := Scalar.extui v9
  let c0_i32_3 : BitVec 32 := 0#32
  let v11 : BitVec 1 := Scalar.cmpi .slt c2048_i32 c0_i32_3
  let v12 : BitVec 32 := Scalar.extui v11
  let v13 : BitVec 32 := Scalar.subi v10 v12
  let v14 : BitVec 1 := Scalar.cmpi .ne v8 v13
  let v15 : BitVec 32 := Scalar.remsi v1 c2048_i32
  let c0_i32_4 : BitVec 32 := 0#32
  let v16 : BitVec 1 := Scalar.cmpi .ne v15 c0_i32_4
  let v17 : BitVec 1 := Scalar.andi v14 v16
  let v3 : BitVec 32 := Scalar.divsi v1 c2048_i32
  let c1_i32 : BitVec 32 := 1#32
  let v18 : BitVec 32 := Scalar.subi v3 c1_i32
  let v19 : BitVec 32 := Scalar.select v17 v18 v3
  let c4_i32 : BitVec 32 := 4#32
  let v20 : BitVec 32 := Scalar.select v2 v19 c4_i32
  let v41 : Index := Scalar.indexCast v20
  let c0_22 : Index := 0#32
  ![v41.toNat, 0]
def k0_cond4 (i : grid0.Coords) : BitVec 1 :=
  let arg2 : BitVec 32 := BitVec.ofNat 32 (i 2).val
  let c0_i32_31 : BitVec 32 := 0#32
  let v66 : BitVec 1 := Scalar.cmpi .eq arg2 c0_i32_31
  let v67 : BitVec 32 := Scalar.extui v66
  let c0_i32_32 : BitVec 32 := 0#32
  let v68 : BitVec 1 := Scalar.cmpi .ne v67 c0_i32_32
  v68

def k0_cond5 (i : grid0.Coords) : BitVec 1 :=
  let arg2 : BitVec 32 := BitVec.ofNat 32 (i 2).val
  let c0_i32_33 : BitVec 32 := 0#32
  let v69 : BitVec 1 := Scalar.cmpi .sgt arg2 c0_i32_33
  let v70 : BitVec 32 := Scalar.extui v69
  let c0_i32_34 : BitVec 32 := 0#32
  let v71 : BitVec 1 := Scalar.cmpi .ne v70 c0_i32_34
  v71

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c1_i32 : BitVec 32 := 1#32
  let v1 : BitVec 1 := Scalar.cmpi .eq arg1 c1_i32
  let c0_i32_0 : BitVec 32 := 0#32
  let v2 : BitVec 32 := Scalar.select v1 arg2 c0_i32_0
  let c0_i32_1 : BitVec 32 := 0#32
  ![v0.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.addi c20_i32 arg2
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg2
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c1_i32 : BitVec 32 := 1#32
  let v1 : BitVec 1 := Scalar.cmpi .eq arg1 c1_i32
  let c0_i32_0 : BitVec 32 := 0#32
  let v2 : BitVec 32 := Scalar.select v1 arg2 c0_i32_0
  let c0_i32_1 : BitVec 32 := 0#32
  ![v0.toNat, v2.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c1_i32 : BitVec 32 := 1#32
  let v1 : BitVec 1 := Scalar.cmpi .eq arg1 c1_i32
  let c0_i32_0 : BitVec 32 := 0#32
  let v2 : BitVec 32 := Scalar.select v1 arg2 c0_i32_0
  let c0_i32_1 : BitVec 32 := 0#32
  ![v0.toNat, v2.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]
-- ==== Reference3Ideal.lean ====
abbrev S9216x8192 : Shape := ⟨2, ![9216, 8192]⟩
abbrev S4x8192x2048 : Shape := ⟨3, ![4, 8192, 2048]⟩
abbrev S9216x2048 : Shape := ⟨2, ![9216, 2048]⟩
abbrev S8x12288 : Shape := ⟨2, ![8, 12288]⟩
abbrev S2048 : Shape := ⟨1, ![2048]⟩
abbrev S9216x128 : Shape := ⟨2, ![9216, 128]⟩
abbrev S1x8192x2048 : Shape := ⟨3, ![1, 8192, 2048]⟩
abbrev S8192x2048 : Shape := ⟨2, ![8192, 2048]⟩
abbrev S8x2048 : Shape := ⟨2, ![8, 2048]⟩
abbrev S4x2048 : Shape := ⟨2, ![4, 2048]⟩
abbrev S4x1x2048 : Shape := ⟨3, ![4, 1, 2048]⟩
abbrev S4x2048x2048 : Shape := ⟨3, ![4, 2048, 2048]⟩
abbrev S1x2048 : Shape := ⟨2, ![1, 2048]⟩
abbrev S1024x2048 : Shape := ⟨2, ![1024, 2048]⟩
abbrev S_ : Shape := ⟨0, ![]⟩
abbrev S9216x16x128 : Shape := ⟨3, ![9216, 16, 128]⟩

abbrev nBuf : Space → Nat
  | .hbm => 42
  | .vmem => 0
  | .smem => 0
  | _ => 0

abbrev bufTy : (tb : Table) → Fin (tcTables nBuf tb) → BufTy
  | .hbm, ⟨0, _⟩ => ⟨S9216x8192, .bf16⟩
  | .hbm, ⟨1, _⟩ => ⟨S4x8192x2048, .f32⟩
  | .hbm, ⟨2, _⟩ => ⟨S9216x2048, .f32⟩
  | .hbm, ⟨3, _⟩ => ⟨S8x12288, .f32⟩
  | .hbm, ⟨4, _⟩ => ⟨S2048, .f32⟩
  | .hbm, ⟨5, _⟩ => ⟨S8x12288, .f32⟩
  | .hbm, ⟨6, _⟩ => ⟨S9216x2048, .bf16⟩
  | .hbm, ⟨7, _⟩ => ⟨S9216x128, .f32⟩
  | .hbm, ⟨8, _⟩ => ⟨S9216x8192, .f32⟩
  | .hbm, ⟨9, _⟩ => ⟨S1x8192x2048, .f32⟩
  | .hbm, ⟨10, _⟩ => ⟨S8192x2048, .f32⟩
  | .hbm, ⟨11, _⟩ => ⟨S9216x2048, .f32⟩
  | .hbm, ⟨12, _⟩ => ⟨S8x2048, .f32⟩
  | .hbm, ⟨13, _⟩ => ⟨S4x2048, .f32⟩
  | .hbm, ⟨14, _⟩ => ⟨S4x1x2048, .f32⟩
  | .hbm, ⟨15, _⟩ => ⟨S4x2048x2048, .f32⟩
  | .hbm, ⟨16, _⟩ => ⟨S8192x2048, .f32⟩
  | .hbm, ⟨17, _⟩ => ⟨S1x2048, .f32⟩
  | .hbm, ⟨18, _⟩ => ⟨S1024x2048, .f32⟩
  | .hbm, ⟨19, _⟩ => ⟨S9216x2048, .f32⟩
  | .hbm, ⟨20, _⟩ => ⟨S9216x2048, .f32⟩
  | .hbm, ⟨21, _⟩ => ⟨S9216x2048, .f32⟩
  | .hbm, ⟨22, _⟩ => ⟨S8x2048, .f32⟩
  | .hbm, ⟨23, _⟩ => ⟨S4x2048, .f32⟩
  | .hbm, ⟨24, _⟩ => ⟨S4x1x2048, .f32⟩
  | .hbm, ⟨25, _⟩ => ⟨S4x2048x2048, .f32⟩
  | .hbm, ⟨26, _⟩ => ⟨S8192x2048, .f32⟩
  | .hbm, ⟨27, _⟩ => ⟨S1x2048, .f32⟩
  | .hbm, ⟨28, _⟩ => ⟨S1024x2048, .f32⟩
  | .hbm, ⟨29, _⟩ => ⟨S9216x2048, .f32⟩
  | .hbm, ⟨30, _⟩ => ⟨S_, .f32⟩
  | .hbm, ⟨31, _⟩ => ⟨S9216x2048, .f32⟩
  | .hbm, ⟨32, _⟩ => ⟨S9216x2048, .f32⟩
  | .hbm, ⟨33, _⟩ => ⟨S1x2048, .f32⟩
  | .hbm, ⟨34, _⟩ => ⟨S9216x2048, .f32⟩
  | .hbm, ⟨35, _⟩ => ⟨S9216x2048, .f32⟩
  | .hbm, ⟨36, _⟩ => ⟨S9216x2048, .f32⟩
  | .hbm, ⟨37, _⟩ => ⟨S9216x2048, .f32⟩
  | .hbm, ⟨38, _⟩ => ⟨S9216x16x128, .f32⟩
  | .hbm, ⟨39, _⟩ => ⟨S_, .f32⟩
  | .hbm, ⟨40, _⟩ => ⟨S9216x128, .f32⟩
  | .hbm, ⟨41, _⟩ => ⟨S9216x2048, .bf16⟩
  | _, _ => ⟨S9216x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_0 : Ref sig .tc := ⟨.hbm, 39, rfl⟩
abbrev main_v30 : Ref sig .tc := ⟨.hbm, 40, rfl⟩
abbrev main_v31 : Ref sig .tc := ⟨.hbm, 41, rfl⟩

abbrev nD : Nat := 1
abbrev τ : Topo := Topo.v7x

variable {F : FTy → Type} [FloatOps F]
-- ==== Kernel4.lean ====
abbrev S9216x2048 : Shape := ⟨2, ![9216, 2048]⟩
abbrev S9216x128 : Shape := ⟨2, ![9216, 128]⟩
abbrev S8x12288 : Shape := ⟨2, ![8, 12288]⟩
abbrev S1x2048x10368 : Shape := ⟨3, ![1, 2048, 10368]⟩
abbrev S9216x10240 : Shape := ⟨2, ![9216, 10240]⟩
abbrev S1024x2048 : Shape := ⟨2, ![1024, 2048]⟩
abbrev S1024x128 : Shape := ⟨2, ![1024, 128]⟩
abbrev S1x2048x1024 : Shape := ⟨3, ![1, 2048, 1024]⟩
abbrev S1024x1024 : Shape := ⟨2, ![1024, 1024]⟩
abbrev S10x8x1024 : Shape := ⟨3, ![10, 8, 1024]⟩
abbrev S8x2048 : Shape := ⟨2, ![8, 2048]⟩
abbrev S2048x1024 : Shape := ⟨2, ![2048, 1024]⟩
abbrev S8x1024 : Shape := ⟨2, ![8, 1024]⟩
abbrev S1x8x1024 : Shape := ⟨3, ![1, 8, 1024]⟩
abbrev S1024 : Shape := ⟨1, ![1024]⟩
abbrev S1024x1 : Shape := ⟨2, ![1024, 1]⟩
abbrev S1x1x1024 : Shape := ⟨3, ![1, 1, 1024]⟩
abbrev S1x1024 : Shape := ⟨2, ![1, 1024]⟩

abbrev nBuf : Space → Nat
  | .hbm => 5
  | .vmem => 10
  | .smem => 0
  | _ => 0

abbrev bufTy : (tb : Table) → Fin (tcTables nBuf tb) → BufTy
  | .hbm, ⟨0, _⟩ => ⟨S9216x2048, .bf16⟩
  | .hbm, ⟨1, _⟩ => ⟨S9216x128, .f32⟩
  | .hbm, ⟨2, _⟩ => ⟨S8x12288, .f32⟩
  | .hbm, ⟨3, _⟩ => ⟨S1x2048x10368, .f32⟩
  | .hbm, ⟨4, _⟩ => ⟨S9216x10240, .bf16⟩
  | .local _ .vmem, ⟨0, _⟩ => ⟨S1024x2048, .bf16⟩
  | .local _ .vmem, ⟨1, _⟩ => ⟨S1024x2048, .bf16⟩
  | .local _ .vmem, ⟨2, _⟩ => ⟨S1024x128, .f32⟩
  | .local _ .vmem, ⟨3, _⟩ => ⟨S1024x128, .f32⟩
  | .local _ .vmem, ⟨4, _⟩ => ⟨S8x12288, .f32⟩
  | .local _ .vmem, ⟨5, _⟩ => ⟨S1x2048x1024, .f32⟩
  | .local _ .vmem, ⟨6, _⟩ => ⟨S1x2048x1024, .f32⟩
  | .local _ .vmem, ⟨7, _⟩ => ⟨S1024x1024, .bf16⟩
  | .local _ .vmem, ⟨8, _⟩ => ⟨S1024x1024, .bf16⟩
  | .local _ .vmem, ⟨9, _⟩ => ⟨S10x8x1024, .f32⟩
  | _, _ => ⟨S9216x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![9, 10], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (i : grid0.Coords) : Fin 3 → Nat :=
  let arg1 : BitVec 32 := BitVec.ofNat 32 (i 1).val
  let v56 : Index := Scalar.indexCast arg1
  let c0_26 : Index := 0#32
  let c0_27 : Index := 0#32
  ![v56.toNat, 0, 0]
def k0_off2 (i : grid0.Coords) : Fin 3 → Nat :=
  let arg1 : BitVec 32 := BitVec.ofNat 32 (i 1).val
  let v40 : Index := Scalar.indexCast arg1
  let arg0 : BitVec 32 := BitVec.ofNat 32 (i 0).val
  let c1024_i32 : BitVec 32 := 1024#32
  let v3 : BitVec 32 := Scalar.muli arg0 c1024_i32
  let c8192_i32 : BitVec 32 := 8192#32
  let v4 : BitVec 1 := Scalar.cmpi .slt v3 c8192_i32
  let c0_i32_1 : BitVec 32 := 0#32
  let v6 : BitVec 1 := Scalar.cmpi .sgt v3 c0_i32_1
  let v7 : BitVec 32 := Scalar.extui v6
  let c0_i32_2 : BitVec 32 := 0#32
  let v8 : BitVec 1 := Scalar.cmpi .slt v3 c0_i32_2
  let v9 : BitVec 32 := Scalar.extui v8
  let v10 : BitVec 32 := Scalar.subi v7 v9
  let c2048_i32 : BitVec 32 := 2048#32
  let c0_i32_3 : BitVec 32 := 0#32
  let v11 : BitVec 1 := Scalar.cmpi .sgt c2048_i32 c0_i32_3
  let v12 : BitVec 32 := Scalar.extui v11
  let c0_i32_4 : BitVec 32 := 0#32
  let v13 : BitVec 1 := Scalar.cmpi .slt c2048_i32 c0_i32_4
  let v14 : BitVec 32 := Scalar.extui v13
  let v15 : BitVec 32 := Scalar.subi v12 v14
  let v16 : BitVec 1 := Scalar.cmpi .ne v10 v15
  let v17 : BitVec 32 := Scalar.remsi v3 c2048_i32
  let c0_i32_5 : BitVec 32 := 0#32
  let v18 : BitVec 1 := Scalar.cmpi .ne v17 c0_i32_5
  let v19 : BitVec 1 := Scalar.andi v16 v18
  let v5 : BitVec 32 := Scalar.divsi v3 c2048_i32
  let c1_i32 : BitVec 32 := 1#32
  let v20 : BitVec 32 := Scalar.subi v5 c1_i32
  let v21 : BitVec 32 := Scalar.select v19 v20 v5
  let c4_i32 : BitVec 32 := 4#32
  let v22 : BitVec 32 := Scalar.select v4 v21 c4_i32
  let v41 : Index := Scalar.indexCast v22
  let c0_16 : Index := 0#32
  ![v40.toNat, v41.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S8x12288 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference4Ideal.lean ====
abbrev S9216x2048 : Shape := ⟨2, ![9216, 2048]⟩
abbrev S9216x128 : Shape := ⟨2, ![9216, 128]⟩
abbrev S8x12288 : Shape := ⟨2, ![8, 12288]⟩
abbrev S1x2048x10368 : Shape := ⟨3, ![1, 2048, 10368]⟩
abbrev S_ : Shape := ⟨0, ![]⟩
abbrev S9216 : Shape := ⟨1, ![9216]⟩
abbrev S9216x1 : Shape := ⟨2, ![9216, 1]⟩
abbrev S8x2048 : Shape := ⟨2, ![8, 2048]⟩
abbrev S4x2048 : Shape := ⟨2, ![4, 2048]⟩
abbrev S4x1x2048 : Shape := ⟨3, ![4, 1, 2048]⟩
abbrev S4x2048x2048 : Shape := ⟨3, ![4, 2048, 2048]⟩
abbrev S8192x2048 : Shape := ⟨2, ![8192, 2048]⟩
abbrev S1x2048 : Shape := ⟨2, ![1, 2048]⟩
abbrev S1024x2048 : Shape := ⟨2, ![1024, 2048]⟩
abbrev S1x2048x10240 : Shape := ⟨3, ![1, 2048, 10240]⟩
abbrev S2048x10240 : Shape := ⟨2, ![2048, 10240]⟩
abbrev S9216x10240 : Shape := ⟨2, ![9216, 10240]⟩

abbrev nBuf : Space → Nat
  | .hbm => 30
  | .vmem => 0
  | .smem => 0
  | _ => 0

abbrev bufTy : (tb : Table) → Fin (tcTables nBuf tb) → BufTy
  | .hbm, ⟨0, _⟩ => ⟨S9216x2048, .bf16⟩
  | .hbm, ⟨1, _⟩ => ⟨S9216x128, .f32⟩
  | .hbm, ⟨2, _⟩ => ⟨S8x12288, .f32⟩
  | .hbm, ⟨3, _⟩ => ⟨S1x2048x10368, .f32⟩
  | .hbm, ⟨4, _⟩ => ⟨S9216x2048, .f32⟩
  | .hbm, ⟨5, _⟩ => ⟨S_, .f32⟩
  | .hbm, ⟨6, _⟩ => ⟨S9216, .f32⟩
  | .hbm, ⟨7, _⟩ => ⟨S9216x1, .f32⟩
  | .hbm, ⟨8, _⟩ => ⟨S_, .f32⟩
  | .hbm, ⟨9, _⟩ => ⟨S9216x1, .f32⟩
  | .hbm, ⟨10, _⟩ => ⟨S9216x1, .f32⟩
  | .hbm, ⟨11, _⟩ => ⟨S_, .f32⟩
  | .hbm, ⟨12, _⟩ => ⟨S9216x1, .f32⟩
  | .hbm, ⟨13, _⟩ => ⟨S9216x1, .f32⟩
  | .hbm, ⟨14, _⟩ => ⟨S9216x1, .f32⟩
  | .hbm, ⟨15, _⟩ => ⟨S9216x2048, .f32⟩
  | .hbm, ⟨16, _⟩ => ⟨S9216x2048, .f32⟩
  | .hbm, ⟨17, _⟩ => ⟨S8x2048, .f32⟩
  | .hbm, ⟨18, _⟩ => ⟨S4x2048, .f32⟩
  | .hbm, ⟨19, _⟩ => ⟨S4x1x2048, .f32⟩
  | .hbm, ⟨20, _⟩ => ⟨S4x2048x2048, .f32⟩
  | .hbm, ⟨21, _⟩ => ⟨S8192x2048, .f32⟩
  | .hbm, ⟨22, _⟩ => ⟨S1x2048, .f32⟩
  | .hbm, ⟨23, _⟩ => ⟨S1024x2048, .f32⟩
  | .hbm, ⟨24, _⟩ => ⟨S9216x2048, .f32⟩
  | .hbm, ⟨25, _⟩ => ⟨S9216x2048, .f32⟩
  | .hbm, ⟨26, _⟩ => ⟨S1x2048x10240, .f32⟩
  | .hbm, ⟨27, _⟩ => ⟨S2048x10240, .f32⟩
  | .hbm, ⟨28, _⟩ => ⟨S9216x10240, .f32⟩
  | .hbm, ⟨29, _⟩ => ⟨S9216x10240, .bf16⟩
  | _, _ => ⟨S9216x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== Kernel5.lean ====
abbrev S9216x2048 : Shape := ⟨2, ![9216, 2048]⟩
abbrev S9216x128 : Shape := ⟨2, ![9216, 128]⟩
abbrev S8x12288 : Shape := ⟨2, ![8, 12288]⟩
abbrev S2x2048x6144 : Shape := ⟨3, ![2, 2048, 6144]⟩
abbrev S9216x6144 : Shape := ⟨2, ![9216, 6144]⟩
abbrev S1024x2048 : Shape := ⟨2, ![1024, 2048]⟩
abbrev S1024x128 : Shape := ⟨2, ![1024, 128]⟩
abbrev S1x2048x1024 : Shape := ⟨3, ![1, 2048, 1024]⟩
abbrev S1024x1024 : Shape := ⟨2, ![1024, 1024]⟩
abbrev S6x8x1024 : Shape := ⟨3, ![6, 8, 1024]⟩
abbrev S8x2048 : Shape := ⟨2, ![8, 2048]⟩
abbrev S2048x1024 : Shape := ⟨2, ![2048, 1024]⟩
abbrev S8x1024 : Shape := ⟨2, ![8, 1024]⟩
abbrev S1x8x1024 : Shape := ⟨3, ![1, 8, 1024]⟩
abbrev S1024 : Shape := ⟨1, ![1024]⟩
abbrev S1024x1 : Shape := ⟨2, ![1024, 1]⟩
abbrev S1x1x1024 : Shape := ⟨3, ![1, 1, 1024]⟩
abbrev S1x1024 : Shape := ⟨2, ![1, 1024]⟩

abbrev nBuf : Space → Nat
  | .hbm => 5
  | .vmem => 10
  | .smem => 0
  | _ => 0

abbrev bufTy : (tb : Table) → Fin (tcTables nBuf tb) → BufTy
  | .hbm, ⟨0, _⟩ => ⟨S9216x2048, .bf16⟩
  | .hbm, ⟨1, _⟩ => ⟨S9216x128, .f32⟩
  | .hbm, ⟨2, _⟩ => ⟨S8x12288, .f32⟩
  | .hbm, ⟨3, _⟩ => ⟨S2x2048x6144, .f32⟩
  | .hbm, ⟨4, _⟩ => ⟨S9216x6144, .bf16⟩
  | .local _ .vmem, ⟨0, _⟩ => ⟨S1024x2048, .bf16⟩
  | .local _ .vmem, ⟨1, _⟩ => ⟨S1024x2048, .bf16⟩
  | .local _ .vmem, ⟨2, _⟩ => ⟨S1024x128, .f32⟩
  | .local _ .vmem, ⟨3, _⟩ => ⟨S1024x128, .f32⟩
  | .local _ .vmem, ⟨4, _⟩ => ⟨S8x12288, .f32⟩
  | .local _ .vmem, ⟨5, _⟩ => ⟨S1x2048x1024, .f32⟩
  | .local _ .vmem, ⟨6, _⟩ => ⟨S1x2048x1024, .f32⟩
  | .local _ .vmem, ⟨7, _⟩ => ⟨S1024x1024, .bf16⟩
  | .local _ .vmem, ⟨8, _⟩ => ⟨S1024x1024, .bf16⟩
  | .local _ .vmem, ⟨9, _⟩ => ⟨S6x8x1024, .f32⟩
  | _, _ => ⟨S9216x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![9, 6], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (i : grid0.Coords) : Fin 3 → Nat :=
  let arg1 : BitVec 32 := BitVec.ofNat 32 (i 1).val
  let v58 : Index := Scalar.indexCast arg1
  let c0_26 : Index := 0#32
  let c0_27 : Index := 0#32
  ![v58.toNat, 0, 0]
def k0_off2 (i : grid0.Coords) : Fin 3 → Nat :=
  let arg1 : BitVec 32 := BitVec.ofNat 32 (i 1).val
  let v42 : Index := Scalar.indexCast arg1
  let arg0 : BitVec 32 := BitVec.ofNat 32 (i 0).val
  let c1024_i32 : BitVec 32 := 1024#32
  let v3 : BitVec 32 := Scalar.muli arg0 c1024_i32
  let c8192_i32 : BitVec 32 := 8192#32
  let v4 : BitVec 1 := Scalar.cmpi .slt v3 c8192_i32
  let c0_i32_1 : BitVec 32 := 0#32
  let v6 : BitVec 1 := Scalar.cmpi .sgt v3 c0_i32_1
  let v7 : BitVec 32 := Scalar.extui v6
  let c0_i32_2 : BitVec 32 := 0#32
  let v8 : BitVec 1 := Scalar.cmpi .slt v3 c0_i32_2
  let v9 : BitVec 32 := Scalar.extui v8
  let v10 : BitVec 32 := Scalar.subi v7 v9
  let c2048_i32 : BitVec 32 := 2048#32
  let c0_i32_3 : BitVec 32 := 0#32
  let v11 : BitVec 1 := Scalar.cmpi .sgt c2048_i32 c0_i32_3
  let v12 : BitVec 32 := Scalar.extui v11
  let c0_i32_4 : BitVec 32 := 0#32
  let v13 : BitVec 1 := Scalar.cmpi .slt c2048_i32 c0_i32_4
  let v14 : BitVec 32 := Scalar.extui v13
  let v15 : BitVec 32 := Scalar.subi v12 v14
  let v16 : BitVec 1 := Scalar.cmpi .ne v10 v15
  let v17 : BitVec 32 := Scalar.remsi v3 c2048_i32
  let c0_i32_5 : BitVec 32 := 0#32
  let v18 : BitVec 1 := Scalar.cmpi .ne v17 c0_i32_5
  let v19 : BitVec 1 := Scalar.andi v16 v18
  let v5 : BitVec 32 := Scalar.divsi v3 c2048_i32
  let c1_i32 : BitVec 32 := 1#32
  let v20 : BitVec 32 := Scalar.subi v5 c1_i32
  let v21 : BitVec 32 := Scalar.select v19 v20 v5
  let c4_i32 : BitVec 32 := 4#32
  let v22 : BitVec 32 := Scalar.select v4 v21 c4_i32
  let v43 : Index := Scalar.indexCast v22
  let c0_17 : Index := 0#32
  ![v42.toNat, v43.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S8x12288 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference5Ideal.lean ====
abbrev S9216x2048 : Shape := ⟨2, ![9216, 2048]⟩
abbrev S9216x128 : Shape := ⟨2, ![9216, 128]⟩
abbrev S8x12288 : Shape := ⟨2, ![8, 12288]⟩
abbrev S2x2048x6144 : Shape := ⟨3, ![2, 2048, 6144]⟩
abbrev S_ : Shape := ⟨0, ![]⟩
abbrev S9216 : Shape := ⟨1, ![9216]⟩
abbrev S9216x1 : Shape := ⟨2, ![9216, 1]⟩
abbrev S8x2048 : Shape := ⟨2, ![8, 2048]⟩
abbrev S4x2048 : Shape := ⟨2, ![4, 2048]⟩
abbrev S4x1x2048 : Shape := ⟨3, ![4, 1, 2048]⟩
abbrev S4x2048x2048 : Shape := ⟨3, ![4, 2048, 2048]⟩
abbrev S8192x2048 : Shape := ⟨2, ![8192, 2048]⟩
abbrev S1x2048 : Shape := ⟨2, ![1, 2048]⟩
abbrev S1024x2048 : Shape := ⟨2, ![1024, 2048]⟩
abbrev S1x2048x6144 : Shape := ⟨3, ![1, 2048, 6144]⟩
abbrev S2048x6144 : Shape := ⟨2, ![2048, 6144]⟩
abbrev S9216x6144 : Shape := ⟨2, ![9216, 6144]⟩

abbrev nBuf : Space → Nat
  | .hbm => 37
  | .vmem => 0
  | .smem => 0
  | _ => 0

abbrev bufTy : (tb : Table) → Fin (tcTables nBuf tb) → BufTy
  | .hbm, ⟨0, _⟩ => ⟨S9216x2048, .bf16⟩
  | .hbm, ⟨1, _⟩ => ⟨S9216x128, .f32⟩
  | .hbm, ⟨2, _⟩ => ⟨S8x12288, .f32⟩
  | .hbm, ⟨3, _⟩ => ⟨S2x2048x6144, .f32⟩
  | .hbm, ⟨4, _⟩ => ⟨S9216x2048, .f32⟩
  | .hbm, ⟨5, _⟩ => ⟨S_, .f32⟩
  | .hbm, ⟨6, _⟩ => ⟨S9216, .f32⟩
  | .hbm, ⟨7, _⟩ => ⟨S9216x1, .f32⟩
  | .hbm, ⟨8, _⟩ => ⟨S_, .f32⟩
  | .hbm, ⟨9, _⟩ => ⟨S9216x1, .f32⟩
  | .hbm, ⟨10, _⟩ => ⟨S9216x1, .f32⟩
  | .hbm, ⟨11, _⟩ => ⟨S_, .f32⟩
  | .hbm, ⟨12, _⟩ => ⟨S9216x1, .f32⟩
  | .hbm, ⟨13, _⟩ => ⟨S9216x1, .f32⟩
  | .hbm, ⟨14, _⟩ => ⟨S9216x1, .f32⟩
  | .hbm, ⟨15, _⟩ => ⟨S9216x2048, .f32⟩
  | .hbm, ⟨16, _⟩ => ⟨S9216x2048, .f32⟩
  | .hbm, ⟨17, _⟩ => ⟨S8x2048, .f32⟩
  | .hbm, ⟨18, _⟩ => ⟨S4x2048, .f32⟩
  | .hbm, ⟨19, _⟩ => ⟨S4x1x2048, .f32⟩
  | .hbm, ⟨20, _⟩ => ⟨S4x2048x2048, .f32⟩
  | .hbm, ⟨21, _⟩ => ⟨S8192x2048, .f32⟩
  | .hbm, ⟨22, _⟩ => ⟨S1x2048, .f32⟩
  | .hbm, ⟨23, _⟩ => ⟨S1024x2048, .f32⟩
  | .hbm, ⟨24, _⟩ => ⟨S9216x2048, .f32⟩
  | .hbm, ⟨25, _⟩ => ⟨S9216x2048, .f32⟩
  | .hbm, ⟨26, _⟩ => ⟨S1x2048x6144, .f32⟩
  | .hbm, ⟨27, _⟩ => ⟨S2048x6144, .f32⟩
  | .hbm, ⟨28, _⟩ => ⟨S9216x6144, .f32⟩
  | .hbm, ⟨29, _⟩ => ⟨S9216x2048, .f32⟩
  | .hbm, ⟨30, _⟩ => ⟨S9216x2048, .f32⟩
  | .hbm, ⟨31, _⟩ => ⟨S9216x2048, .f32⟩
  | .hbm, ⟨32, _⟩ => ⟨S_, .f32⟩
  | .hbm, ⟨33, _⟩ => ⟨S9216x2048, .f32⟩
  | .hbm, ⟨34, _⟩ => ⟨S9216x2048, .f32⟩
  | .hbm, ⟨35, _⟩ => ⟨S9216x6144, .f32⟩
  | .hbm, ⟨36, _⟩ => ⟨S9216x6144, .bf16⟩
  | _, _ => ⟨S9216x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩

abbrev nD : Nat := 1
abbrev τ : Topo := Topo.v7x

variable {F : FTy → Type} [FloatOps F]
-- ==== Kernel6.lean ====
abbrev S9216x4096 : Shape := ⟨2, ![9216, 4096]⟩
abbrev S1x4096x2048 : Shape := ⟨3, ![1, 4096, 2048]⟩
abbrev S9216x2048 : Shape := ⟨2, ![9216, 2048]⟩
abbrev S8x12288 : Shape := ⟨2, ![8, 12288]⟩
abbrev S2048 : Shape := ⟨1, ![2048]⟩
abbrev S9216x128 : Shape := ⟨2, ![9216, 128]⟩
abbrev S1x2048 : Shape := ⟨2, ![1, 2048]⟩
abbrev S1024x4096 : Shape := ⟨2, ![1024, 4096]⟩
abbrev S1x4096x512 : Shape := ⟨3, ![1, 4096, 512]⟩
abbrev S1024x512 : Shape := ⟨2, ![1024, 512]⟩
abbrev S8x512 : Shape := ⟨2, ![8, 512]⟩
abbrev S1x512 : Shape := ⟨2, ![1, 512]⟩
abbrev S1024x128 : Shape := ⟨2, ![1024, 128]⟩
abbrev S4096x512 : Shape := ⟨2, ![4096, 512]⟩

abbrev nBuf : Space → Nat
  | .hbm => 12
  | .vmem => 18
  | .smem => 0
  | _ => 0

abbrev bufTy : (tb : Table) → Fin (tcTables nBuf tb) → BufTy
  | .hbm, ⟨0, _⟩ => ⟨S9216x4096, .bf16⟩
  | .hbm, ⟨1, _⟩ => ⟨S1x4096x2048, .f32⟩
  | .hbm, ⟨2, _⟩ => ⟨S9216x2048, .f32⟩
  | .hbm, ⟨3, _⟩ => ⟨S8x12288, .f32⟩
  | .hbm, ⟨4, _⟩ => ⟨S2048, .f32⟩
  | .hbm, ⟨5, _⟩ => ⟨S9216x2048, .bf16⟩
  | .hbm, ⟨6, _⟩ => ⟨S9216x128, .f32⟩
  | .hbm, ⟨7, _⟩ => ⟨S1x4096x2048, .bf16⟩
  | .hbm, ⟨8, _⟩ => ⟨S1x2048, .f32⟩
  | .hbm, ⟨9, _⟩ => ⟨S9216x2048, .f32⟩
  | .hbm, ⟨10, _⟩ => ⟨S9216x2048, .bf16⟩
  | .hbm, ⟨11, _⟩ => ⟨S9216x128, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1024x512, .f32⟩
  | .local _ .vmem, ⟨5, _⟩ => ⟨S1024x512, .f32⟩
  | .local _ .vmem, ⟨6, _⟩ => ⟨S8x512, .f32⟩
  | .local _ .vmem, ⟨7, _⟩ => ⟨S8x512, .f32⟩
  | .local _ .vmem, ⟨8, _⟩ => ⟨S1x512, .f32⟩
  | .local _ .vmem, ⟨9, _⟩ => ⟨S1x512, .f32⟩
  | .local _ .vmem, ⟨10, _⟩ => ⟨S8x512, .f32⟩
  | .local _ .vmem, ⟨11, _⟩ => ⟨S8x512, .f32⟩
  | .local _ .vmem, ⟨12, _⟩ => ⟨S1024x512, .f32⟩
  | .local _ .vmem, ⟨13, _⟩ => ⟨S1024x512, .f32⟩
  | .local _ .vmem, ⟨14, _⟩ => ⟨S1024x512, .bf16⟩
  | .local _ .vmem, ⟨15, _⟩ => ⟨S1024x512, .bf16⟩
  | .local _ .vmem, ⟨16, _⟩ => ⟨S1024x128, .f32⟩
  | .local _ .vmem, ⟨17, _⟩ => ⟨S1024x128, .f32⟩
  | _, _ => ⟨S9216x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![9, 1, 4], ![false, false, false]⟩

def k0_off1 (i : grid0.Coords) : Fin 2 → Nat :=
  let c0_i32 : BitVec 32 := 0#32
  let arg0 : BitVec 32 := BitVec.ofNat 32 (i 0).val
  let c1024_i32 : BitVec 32 := 1024#32
  let v0 : BitVec 32 := Scalar.muli arg0 c1024_i32
  let v1 : BitVec 32 := Scalar.addi c0_i32 v0
  let c8192_i32 : BitVec 32 := 8192#32
  let v2 : BitVec 1 := Scalar.cmpi .slt v1 c8192_i32
  let c0_i32_0 : BitVec 32 := 0#32
  let v4 : BitVec 1 := Scalar.cmpi .sgt v1 c0_i32_0
  let v5 : BitVec 32 := Scalar.extui v4
  let c0_i32_1 : BitVec 32 := 0#32
  let v6 : BitVec 1 := Scalar.cmpi .slt v1 c0_i32_1
  let v7 : BitVec 32 := Scalar.extui v6
  let v8 : BitVec 32 := Scalar.subi v5 v7
  let c2048_i32 : BitVec 32 := 2048#32
  let c0_i32_2 : BitVec 32 := 0#32
  let v9 : BitVec 1 := Scalar.cmpi .sgt c2048_i32 c0_i32_2
  let v10 : BitVec 32 := Scalar.extui v9
  let c0_i32_3 : BitVec 32 := 0#32
  let v11 : BitVec 1 := Scalar.cmpi .slt c2048_i32 c0_i32_3
  let v12 : BitVec 32 := Scalar.extui v11
  let v13 : BitVec 32 := Scalar.subi v10 v12
  let v14 : BitVec 1 := Scalar.cmpi .ne v8 v13
  let v15 : BitVec 32 := Scalar.remsi v1 c2048_i32
  let c0_i32_4 : BitVec 32 := 0#32
  let v16 : BitVec 1 := Scalar.cmpi .ne v15 c0_i32_4
  let v17 : BitVec 1 := Scalar.andi v14 v16
  let v3 : BitVec 32 := Scalar.divsi v1 c2048_i32
  let c1_i32 : BitVec 32 := 1#32
  let v18 : BitVec 32 := Scalar.subi v3 c1_i32
  let v19 : BitVec 32 := Scalar.select v17 v18 v3
  let c4_i32 : BitVec 32 := 4#32
  let v20 : BitVec 32 := Scalar.select v2 v19 c4_i32
  let v26 : Index := Scalar.indexCast v20
  let c0_11 : Index := 0#32
  ![v26.toNat, 0]
def k0_cond1 (i : grid0.Coords) : BitVec 1 :=
  let arg2 : BitVec 32 := BitVec.ofNat 32 (i 2).val
  let c0_i32_20 : BitVec 32 := 0#32
  let v51 : BitVec 1 := Scalar.cmpi .eq arg2 c0_i32_20
  let v52 : BitVec 32 := Scalar.extui v51
  let c0_i32_21 : BitVec 32 := 0#32
  let v53 : BitVec 1 := Scalar.cmpi .ne v52 c0_i32_21
  v53

def k0_cond2 (i : grid0.Coords) : BitVec 1 :=
  let arg2 : BitVec 32 := BitVec.ofNat 32 (i 2).val
  let c0_i32_22 : BitVec 32 := 0#32
  let v54 : BitVec 1 := Scalar.cmpi .sgt arg2 c0_i32_22
  let v55 : BitVec 32 := Scalar.extui v54
  let c0_i32_23 : BitVec 32 := 0#32
  let v56 : BitVec 1 := Scalar.cmpi .ne v55 c0_i32_23
  v56

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 1 := Scalar.cmpi .eq arg1 c0_i32_0
  let c0_i32_1 : BitVec 32 := 0#32
  let v2 : BitVec 32 := Scalar.select v1 arg2 c0_i32_1
  let c0_i32_2 : BitVec 32 := 0#32
  ![v0.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg2
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg2
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 1 := Scalar.cmpi .eq arg1 c0_i32_0
  let c0_i32_1 : BitVec 32 := 0#32
  let v2 : BitVec 32 := Scalar.select v1 arg2 c0_i32_1
  let c0_i32_2 : BitVec 32 := 0#32
  ![v0.toNat, v2.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 1 := Scalar.cmpi .eq arg1 c0_i32_0
  let c0_i32_1 : BitVec 32 := 0#32
  let v2 : BitVec 32 := Scalar.select v1 arg2 c0_i32_1
  let c0_i32_2 : BitVec 32 := 0#32
  ![v0.toNat, v2.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]
-- ==== Reference6Ideal.lean ====
abbrev S9216x4096 : Shape := ⟨2, ![9216, 4096]⟩
abbrev S1x4096x2048 : Shape := ⟨3, ![1, 4096, 2048]⟩
abbrev S9216x2048 : Shape := ⟨2, ![9216, 2048]⟩
abbrev S8x12288 : Shape := ⟨2, ![8, 12288]⟩
abbrev S2048 : Shape := ⟨1, ![2048]⟩
abbrev S9216x128 : Shape := ⟨2, ![9216, 128]⟩
abbrev S8x2048 : Shape := ⟨2, ![8, 2048]⟩
abbrev S4x2048 : Shape := ⟨2, ![4, 2048]⟩
abbrev S4x1x2048 : Shape := ⟨3, ![4, 1, 2048]⟩
abbrev S4x2048x2048 : Shape := ⟨3, ![4, 2048, 2048]⟩
abbrev S8192x2048 : Shape := ⟨2, ![8192, 2048]⟩
abbrev S1x2048 : Shape := ⟨2, ![1, 2048]⟩
abbrev S1024x2048 : Shape := ⟨2, ![1024, 2048]⟩
abbrev S4096x2048 : Shape := ⟨2, ![4096, 2048]⟩
abbrev S_ : Shape := ⟨0, ![]⟩
abbrev S9216x16x128 : Shape := ⟨3, ![9216, 16, 128]⟩

abbrev nBuf : Space → Nat
  | .hbm => 40
  | .vmem => 0
  | .smem => 0
  | _ => 0

abbrev bufTy : (tb : Table) → Fin (tcTables nBuf tb) → BufTy
  | .hbm, ⟨0, _⟩ => ⟨S9216x4096, .bf16⟩
  | .hbm, ⟨1, _⟩ => ⟨S1x4096x2048, .f32⟩
  | .hbm, ⟨2, _⟩ => ⟨S9216x2048, .f32⟩
  | .hbm, ⟨3, _⟩ => ⟨S8x12288, .f32⟩
  | .hbm, ⟨4, _⟩ => ⟨S2048, .f32⟩
  | .hbm, ⟨5, _⟩ => ⟨S9216x2048, .bf16⟩
  | .hbm, ⟨6, _⟩ => ⟨S9216x128, .f32⟩
  | .hbm, ⟨7, _⟩ => ⟨S8x2048, .f32⟩
  | .hbm, ⟨8, _⟩ => ⟨S4x2048, .f32⟩
  | .hbm, ⟨9, _⟩ => ⟨S4x1x2048, .f32⟩
  | .hbm, ⟨10, _⟩ => ⟨S4x2048x2048, .f32⟩
  | .hbm, ⟨11, _⟩ => ⟨S8192x2048, .f32⟩
  | .hbm, ⟨12, _⟩ => ⟨S1x2048, .f32⟩
  | .hbm, ⟨13, _⟩ => ⟨S1024x2048, .f32⟩
  | .hbm, ⟨14, _⟩ => ⟨S9216x2048, .f32⟩
  | .hbm, ⟨15, _⟩ => ⟨S9216x4096, .f32⟩
  | .hbm, ⟨16, _⟩ => ⟨S4096x2048, .f32⟩
  | .hbm, ⟨17, _⟩ => ⟨S9216x2048, .f32⟩
  | .hbm, ⟨18, _⟩ => ⟨S9216x2048, .f32⟩
  | .hbm, ⟨19, _⟩ => ⟨S9216x2048, .f32⟩
  | .hbm, ⟨20, _⟩ => ⟨S8x2048, .f32⟩
  | .hbm, ⟨21, _⟩ => ⟨S4x2048, .f32⟩
  | .hbm, ⟨22, _⟩ => ⟨S4x1x2048, .f32⟩
  | .hbm, ⟨23, _⟩ => ⟨S4x2048x2048, .f32⟩
  | .hbm, ⟨24, _⟩ => ⟨S8192x2048, .f32⟩
  | .hbm, ⟨25, _⟩ => ⟨S1x2048, .f32⟩
  | .hbm, ⟨26, _⟩ => ⟨S1024x2048, .f32⟩
  | .hbm, ⟨27, _⟩ => ⟨S9216x2048, .f32⟩
  | .hbm, ⟨28, _⟩ => ⟨S_, .f32⟩
  | .hbm, ⟨29, _⟩ => ⟨S9216x2048, .f32⟩
  | .hbm, ⟨30, _⟩ => ⟨S9216x2048, .f32⟩
  | .hbm, ⟨31, _⟩ => ⟨S1x2048, .f32⟩
  | .hbm, ⟨32, _⟩ => ⟨S9216x2048, .f32⟩
  | .hbm, ⟨33, _⟩ => ⟨S9216x2048, .f32⟩
  | .hbm, ⟨34, _⟩ => ⟨S9216x2048, .f32⟩
  | .hbm, ⟨35, _⟩ => ⟨S9216x2048, .f32⟩
  | .hbm, ⟨36, _⟩ => ⟨S9216x16x128, .f32⟩
  | .hbm, ⟨37, _⟩ => ⟨S_, .f32⟩
  | .hbm, ⟨38, _⟩ => ⟨S9216x128, .f32⟩
  | .hbm, ⟨39, _⟩ => ⟨S9216x2048, .bf16⟩
  | _, _ => ⟨S9216x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_0 : Ref sig .tc := ⟨.hbm, 37, rfl⟩
abbrev main_v29 : Ref sig .tc := ⟨.hbm, 38, rfl⟩
abbrev main_v30 : Ref sig .tc := ⟨.hbm, 39, rfl⟩

abbrev nD : Nat := 1
abbrev τ : Topo := Topo.v7x

variable {F : FTy → Type} [FloatOps F]
-- ==== Kernel7.lean ====
abbrev S8192x2048 : Shape := ⟨2, ![8192, 2048]⟩
abbrev S2x2048x2048 : Shape := ⟨3, ![2, 2048, 2048]⟩
abbrev S9216x2048 : Shape := ⟨2, ![9216, 2048]⟩
abbrev S8x12288 : Shape := ⟨2, ![8, 12288]⟩
abbrev S2048 : Shape := ⟨1, ![2048]⟩
abbrev S9216x128 : Shape := ⟨2, ![9216, 128]⟩
abbrev S1x2048 : Shape := ⟨2, ![1, 2048]⟩
abbrev S1024x2048 : Shape := ⟨2, ![1024, 2048]⟩
abbrev S1x2048x1024 : Shape := ⟨3, ![1, 2048, 1024]⟩
abbrev S1024x1024 : Shape := ⟨2, ![1024, 1024]⟩
abbrev S8x1024 : Shape := ⟨2, ![8, 1024]⟩
abbrev S1x1024 : Shape := ⟨2, ![1, 1024]⟩
abbrev S1024x128 : Shape := ⟨2, ![1024, 128]⟩
abbrev S1x2048x512 : Shape := ⟨3, ![1, 2048, 512]⟩
abbrev S2048x512 : Shape := ⟨2, ![2048, 512]⟩
abbrev S1024x512 : Shape := ⟨2, ![1024, 512]⟩
abbrev S1x512 : Shape := ⟨2, ![1, 512]⟩

abbrev nBuf : Space → Nat
  | .hbm => 12
  | .vmem => 18
  | .smem => 0
  | _ => 0

abbrev bufTy : (tb : Table) → Fin (tcTables nBuf tb) → BufTy
  | .hbm, ⟨0, _⟩ => ⟨S8192x2048, .bf16⟩
  | .hbm, ⟨1, _⟩ => ⟨S2x2048x2048, .f32⟩
  | .hbm, ⟨2, _⟩ => ⟨S9216x2048, .f32⟩
  | .hbm, ⟨3, _⟩ => ⟨S8x12288, .f32⟩
  | .hbm, ⟨4, _⟩ => ⟨S2048, .f32⟩
  | .hbm, ⟨5, _⟩ => ⟨S9216x2048, .bf16⟩
  | .hbm, ⟨6, _⟩ => ⟨S9216x128, .f32⟩
  | .hbm, ⟨7, _⟩ => ⟨S2x2048x2048, .bf16⟩
  | .hbm, ⟨8, _⟩ => ⟨S1x2048, .f32⟩
  | .hbm, ⟨9, _⟩ => ⟨S9216x2048, .f32⟩
  | .hbm, ⟨10, _⟩ => ⟨S9216x2048, .bf16⟩
  | .hbm, ⟨11, _⟩ => ⟨S9216x128, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S8x1024, .f32⟩
  | .local _ .vmem, ⟨7, _⟩ => ⟨S8x1024, .f32⟩
  | .local _ .vmem, ⟨8, _⟩ => ⟨S1x1024, .f32⟩
  | .local _ .vmem, ⟨9, _⟩ => ⟨S1x1024, .f32⟩
  | .local _ .vmem, ⟨10, _⟩ => ⟨S8x1024, .f32⟩
  | .local _ .vmem, ⟨11, _⟩ => ⟨S8x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .bf16⟩
  | .local _ .vmem, ⟨15, _⟩ => ⟨S1024x1024, .bf16⟩
  | .local _ .vmem, ⟨16, _⟩ => ⟨S1024x128, .f32⟩
  | .local _ .vmem, ⟨17, _⟩ => ⟨S1024x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![8, 1, 2], ![false, false, false]⟩

def k0_off1 (i : grid0.Coords) : Fin 2 → Nat :=
  let c0_i32 : BitVec 32 := 0#32
  let arg0 : BitVec 32 := BitVec.ofNat 32 (i 0).val
  let c1024_i32 : BitVec 32 := 1024#32
  let v0 : BitVec 32 := Scalar.muli arg0 c1024_i32
  let v1 : BitVec 32 := Scalar.addi c0_i32 v0
  let c8192_i32 : BitVec 32 := 8192#32
  let v2 : BitVec 1 := Scalar.cmpi .slt v1 c8192_i32
  let c0_i32_0 : BitVec 32 := 0#32
  let v4 : BitVec 1 := Scalar.cmpi .sgt v1 c0_i32_0
  let v5 : BitVec 32 := Scalar.extui v4
  let c0_i32_1 : BitVec 32 := 0#32
  let v6 : BitVec 1 := Scalar.cmpi .slt v1 c0_i32_1
  let v7 : BitVec 32 := Scalar.extui v6
  let v8 : BitVec 32 := Scalar.subi v5 v7
  let c2048_i32 : BitVec 32 := 2048#32
  let c0_i32_2 : BitVec 32 := 0#32
  let v9 : BitVec 1 := Scalar.cmpi .sgt c2048_i32 c0_i32_2
  let v10 : BitVec 32 := Scalar.extui v9
  let c0_i32_3 : BitVec 32 := 0#32
  let v11 : BitVec 1 := Scalar.cmpi .slt c2048_i32 c0_i32_3
  let v12 : BitVec 32 := Scalar.extui v11
  let v13 : BitVec 32 := Scalar.subi v10 v12
  let v14 : BitVec 1 := Scalar.cmpi .ne v8 v13
  let v15 : BitVec 32 := Scalar.remsi v1 c2048_i32
  let c0_i32_4 : BitVec 32 := 0#32
  let v16 : BitVec 1 := Scalar.cmpi .ne v15 c0_i32_4
  let v17 : BitVec 1 := Scalar.andi v14 v16
  let v3 : BitVec 32 := Scalar.divsi v1 c2048_i32
  let c1_i32 : BitVec 32 := 1#32
  let v18 : BitVec 32 := Scalar.subi v3 c1_i32
  let v19 : BitVec 32 := Scalar.select v17 v18 v3
  let c4_i32 : BitVec 32 := 4#32
  let v20 : BitVec 32 := Scalar.select v2 v19 c4_i32
  let v30 : Index := Scalar.indexCast v20
  let c0_16 : Index := 0#32
  ![v30.toNat, 0]
def k0_off2 (i : grid0.Coords) : Fin 2 → Nat :=
  let c0_i32 : BitVec 32 := 0#32
  let arg0 : BitVec 32 := BitVec.ofNat 32 (i 0).val
  let c1024_i32 : BitVec 32 := 1024#32
  let v0 : BitVec 32 := Scalar.muli arg0 c1024_i32
  let v1 : BitVec 32 := Scalar.addi c0_i32 v0
  let c8192_i32 : BitVec 32 := 8192#32
  let v2 : BitVec 1 := Scalar.cmpi .slt v1 c8192_i32
  let c0_i32_0 : BitVec 32 := 0#32
  let v4 : BitVec 1 := Scalar.cmpi .sgt v1 c0_i32_0
  let v5 : BitVec 32 := Scalar.extui v4
  let c0_i32_1 : BitVec 32 := 0#32
  let v6 : BitVec 1 := Scalar.cmpi .slt v1 c0_i32_1
  let v7 : BitVec 32 := Scalar.extui v6
  let v8 : BitVec 32 := Scalar.subi v5 v7
  let c2048_i32 : BitVec 32 := 2048#32
  let c0_i32_2 : BitVec 32 := 0#32
  let v9 : BitVec 1 := Scalar.cmpi .sgt c2048_i32 c0_i32_2
  let v10 : BitVec 32 := Scalar.extui v9
  let c0_i32_3 : BitVec 32 := 0#32
  let v11 : BitVec 1 := Scalar.cmpi .slt c2048_i32 c0_i32_3
  let v12 : BitVec 32 := Scalar.extui v11
  let v13 : BitVec 32 := Scalar.subi v10 v12
  let v14 : BitVec 1 := Scalar.cmpi .ne v8 v13
  let v15 : BitVec 32 := Scalar.remsi v1 c2048_i32
  let c0_i32_4 : BitVec 32 := 0#32
  let v16 : BitVec 1 := Scalar.cmpi .ne v15 c0_i32_4
  let v17 : BitVec 1 := Scalar.andi v14 v16
  let v3 : BitVec 32 := Scalar.divsi v1 c2048_i32
  let c1_i32 : BitVec 32 := 1#32
  let v18 : BitVec 32 := Scalar.subi v3 c1_i32
  let v19 : BitVec 32 := Scalar.select v17 v18 v3
  let c4_i32 : BitVec 32 := 4#32
  let v20 : BitVec 32 := Scalar.select v2 v19 c4_i32
  let v56 : Index := Scalar.indexCast v20
  let c512_27 : Index := 512#32
  ![v56.toNat, 512]
def k0_cond1 (i : grid0.Coords) : BitVec 1 :=
  let arg2 : BitVec 32 := BitVec.ofNat 32 (i 2).val
  let c0_i32_36 : BitVec 32 := 0#32
  let v82 : BitVec 1 := Scalar.cmpi .eq arg2 c0_i32_36
  let v83 : BitVec 32 := Scalar.extui v82
  let c0_i32_37 : BitVec 32 := 0#32
  let v84 : BitVec 1 := Scalar.cmpi .ne v83 c0_i32_37
  v84

def k0_cond2 (i : grid0.Coords) : BitVec 1 :=
  let arg2 : BitVec 32 := BitVec.ofNat 32 (i 2).val
  let c0_i32_38 : BitVec 32 := 0#32
  let v85 : BitVec 1 := Scalar.cmpi .sgt arg2 c0_i32_38
  let v86 : BitVec 32 := Scalar.extui v85
  let c0_i32_39 : BitVec 32 := 0#32
  let v87 : BitVec 1 := Scalar.cmpi .ne v86 c0_i32_39
  v87

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 1 := Scalar.cmpi .eq arg1 c0_i32_0
  let c0_i32_1 : BitVec 32 := 0#32
  let v2 : BitVec 32 := Scalar.select v1 arg2 c0_i32_1
  let c0_i32_2 : BitVec 32 := 0#32
  ![v0.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg2
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg2
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 1 := Scalar.cmpi .eq arg1 c0_i32_0
  let c0_i32_1 : BitVec 32 := 0#32
  let v2 : BitVec 32 := Scalar.select v1 arg2 c0_i32_1
  let c0_i32_2 : BitVec 32 := 0#32
  ![v0.toNat, v2.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 1 := Scalar.cmpi .eq arg1 c0_i32_0
  let c0_i32_1 : BitVec 32 := 0#32
  let v2 : BitVec 32 := Scalar.select v1 arg2 c0_i32_1
  let c0_i32_2 : BitVec 32 := 0#32
  ![v0.toNat, v2.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]
-- ==== Reference7Ideal.lean ====
abbrev S8192x2048 : Shape := ⟨2, ![8192, 2048]⟩
abbrev S2x2048x2048 : Shape := ⟨3, ![2, 2048, 2048]⟩
abbrev S9216x2048 : Shape := ⟨2, ![9216, 2048]⟩
abbrev S8x12288 : Shape := ⟨2, ![8, 12288]⟩
abbrev S2048 : Shape := ⟨1, ![2048]⟩
abbrev S9216x128 : Shape := ⟨2, ![9216, 128]⟩
abbrev S8x2048 : Shape := ⟨2, ![8, 2048]⟩
abbrev S4x2048 : Shape := ⟨2, ![4, 2048]⟩
abbrev S4x1x2048 : Shape := ⟨3, ![4, 1, 2048]⟩
abbrev S4x2048x2048 : Shape := ⟨3, ![4, 2048, 2048]⟩
abbrev S1x2048 : Shape := ⟨2, ![1, 2048]⟩
abbrev S1024x2048 : Shape := ⟨2, ![1024, 2048]⟩
abbrev S1x2048x2048 : Shape := ⟨3, ![1, 2048, 2048]⟩
abbrev S2048x2048 : Shape := ⟨2, ![2048, 2048]⟩
abbrev S_ : Shape := ⟨0, ![]⟩
abbrev S8192x16x128 : Shape := ⟨3, ![8192, 16, 128]⟩
abbrev S8192x128 : Shape := ⟨2, ![8192, 128]⟩
abbrev S1024x128 : Shape := ⟨2, ![1024, 128]⟩

abbrev nBuf : Space → Nat
  | .hbm => 50
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x2048, .f32⟩
  | .hbm, ⟨2, _⟩ => ⟨S9216x2048, .f32⟩
  | .hbm, ⟨3, _⟩ => ⟨S8x12288, .f32⟩
  | .hbm, ⟨4, _⟩ => ⟨S2048, .f32⟩
  | .hbm, ⟨5, _⟩ => ⟨S9216x2048, .bf16⟩
  | .hbm, ⟨6, _⟩ => ⟨S9216x128, .f32⟩
  | .hbm, ⟨7, _⟩ => ⟨S8192x2048, .f32⟩
  | .hbm, ⟨8, _⟩ => ⟨S8x2048, .f32⟩
  | .hbm, ⟨9, _⟩ => ⟨S4x2048, .f32⟩
  | .hbm, ⟨10, _⟩ => ⟨S4x1x2048, .f32⟩
  | .hbm, ⟨11, _⟩ => ⟨S4x2048x2048, .f32⟩
  | .hbm, ⟨12, _⟩ => ⟨S8192x2048, .f32⟩
  | .hbm, ⟨13, _⟩ => ⟨S1x2048, .f32⟩
  | .hbm, ⟨14, _⟩ => ⟨S1024x2048, .f32⟩
  | .hbm, ⟨15, _⟩ => ⟨S9216x2048, .f32⟩
  | .hbm, ⟨16, _⟩ => ⟨S8192x2048, .f32⟩
  | .hbm, ⟨17, _⟩ => ⟨S8192x2048, .f32⟩
  | .hbm, ⟨18, _⟩ => ⟨S1x2048x2048, .f32⟩
  | .hbm, ⟨19, _⟩ => ⟨S2048x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8x2048, .f32⟩
  | .hbm, ⟨24, _⟩ => ⟨S4x2048, .f32⟩
  | .hbm, ⟨25, _⟩ => ⟨S4x1x2048, .f32⟩
  | .hbm, ⟨26, _⟩ => ⟨S4x2048x2048, .f32⟩
  | .hbm, ⟨27, _⟩ => ⟨S8192x2048, .f32⟩
  | .hbm, ⟨28, _⟩ => ⟨S1x2048, .f32⟩
  | .hbm, ⟨29, _⟩ => ⟨S1024x2048, .f32⟩
  | .hbm, ⟨30, _⟩ => ⟨S9216x2048, .f32⟩
  | .hbm, ⟨31, _⟩ => ⟨S8192x2048, .f32⟩
  | .hbm, ⟨32, _⟩ => ⟨S_, .f32⟩
  | .hbm, ⟨33, _⟩ => ⟨S8192x2048, .f32⟩
  | .hbm, ⟨34, _⟩ => ⟨S8192x2048, .f32⟩
  | .hbm, ⟨35, _⟩ => ⟨S1x2048, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S8192x16x128, .f32⟩
  | .hbm, ⟨41, _⟩ => ⟨S_, .f32⟩
  | .hbm, ⟨42, _⟩ => ⟨S8192x128, .f32⟩
  | .hbm, ⟨43, _⟩ => ⟨S1024x2048, .f32⟩
  | .hbm, ⟨44, _⟩ => ⟨S9216x2048, .f32⟩
  | .hbm, ⟨45, _⟩ => ⟨S8192x2048, .bf16⟩
  | .hbm, ⟨46, _⟩ => ⟨S1024x2048, .bf16⟩
  | .hbm, ⟨47, _⟩ => ⟨S9216x2048, .bf16⟩
  | .hbm, ⟨48, _⟩ => ⟨S1024x128, .f32⟩
  | .hbm, ⟨49, _⟩ => ⟨S9216x128, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_0 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩

abbrev nD : Nat := 1
abbrev τ : Topo := Topo.v7x

variable {F : FTy → Type} [FloatOps F]
-- ==== Kernel8.lean ====
abbrev S9216x2048 : Shape := ⟨2, ![9216, 2048]⟩
abbrev S9216x128 : Shape := ⟨2, ![9216, 128]⟩
abbrev S8x12288 : Shape := ⟨2, ![8, 12288]⟩
abbrev S1x2048x6144 : Shape := ⟨3, ![1, 2048, 6144]⟩
abbrev S2048x2x32 : Shape := ⟨3, ![2048, 2, 32]⟩
abbrev S2 : Shape := ⟨1, ![2]⟩
abbrev S2048x2x1x32 : Shape := ⟨4, ![2048, 2, 1, 32]⟩
abbrev S2048x2x2x32 : Shape := ⟨4, ![2048, 2, 2, 32]⟩
abbrev S2048x128 : Shape := ⟨2, ![2048, 128]⟩
abbrev S1x1x2x1 : Shape := ⟨4, ![1, 1, 2, 1]⟩
abbrev S1x2048x1x128 : Shape := ⟨4, ![1, 2048, 1, 128]⟩
abbrev S9216x6144 : Shape := ⟨2, ![9216, 6144]⟩
abbrev S1024x2048 : Shape := ⟨2, ![1024, 2048]⟩
abbrev S1024x128 : Shape := ⟨2, ![1024, 128]⟩
abbrev S1x2048x1024 : Shape := ⟨3, ![1, 2048, 1024]⟩
abbrev S1024x1024 : Shape := ⟨2, ![1024, 1024]⟩
abbrev S6x8x1024 : Shape := ⟨3, ![6, 8, 1024]⟩
abbrev S8x2048 : Shape := ⟨2, ![8, 2048]⟩
abbrev S2048x1024 : Shape := ⟨2, ![2048, 1024]⟩
abbrev S8x1024 : Shape := ⟨2, ![8, 1024]⟩
abbrev S1x8x1024 : Shape := ⟨3, ![1, 8, 1024]⟩
abbrev S1024 : Shape := ⟨1, ![1024]⟩
abbrev S1024x1 : Shape := ⟨2, ![1024, 1]⟩
abbrev S1x1x1024 : Shape := ⟨3, ![1, 1, 1024]⟩
abbrev S1x1024 : Shape := ⟨2, ![1, 1024]⟩

abbrev nBuf : Space → Nat
  | .hbm => 23
  | .vmem => 14
  | .smem => 0
  | _ => 0

abbrev bufTy : (tb : Table) → Fin (tcTables nBuf tb) → BufTy
  | .hbm, ⟨0, _⟩ => ⟨S9216x2048, .bf16⟩
  | .hbm, ⟨1, _⟩ => ⟨S9216x128, .f32⟩
  | .hbm, ⟨2, _⟩ => ⟨S8x12288, .f32⟩
  | .hbm, ⟨3, _⟩ => ⟨S1x2048x6144, .f32⟩
  | .hbm, ⟨4, _⟩ => ⟨S2048x2x32, .f32⟩
  | .hbm, ⟨5, _⟩ => ⟨S2048x2x32, .f32⟩
  | .hbm, ⟨6, _⟩ => ⟨S2, .f32⟩
  | .hbm, ⟨7, _⟩ => ⟨S2048x2x1x32, .f32⟩
  | .hbm, ⟨8, _⟩ => ⟨S2048x2x2x32, .f32⟩
  | .hbm, ⟨9, _⟩ => ⟨S2048x128, .f32⟩
  | .hbm, ⟨10, _⟩ => ⟨S1x1x2x1, .f32⟩
  | .hbm, ⟨11, _⟩ => ⟨S2048x2x1x32, .f32⟩
  | .hbm, ⟨12, _⟩ => ⟨S2048x2x2x32, .f32⟩
  | .hbm, ⟨13, _⟩ => ⟨S2048x2x2x32, .f32⟩
  | .hbm, ⟨14, _⟩ => ⟨S2048x2x2x32, .f32⟩
  | .hbm, ⟨15, _⟩ => ⟨S2048x128, .f32⟩
  | .hbm, ⟨16, _⟩ => ⟨S1x2048x1x128, .f32⟩
  | .hbm, ⟨17, _⟩ => ⟨S1x2048x1x128, .f32⟩
  | .hbm, ⟨18, _⟩ => ⟨S2048x128, .f32⟩
  | .hbm, ⟨19, _⟩ => ⟨S1x2048x1x128, .f32⟩
  | .hbm, ⟨20, _⟩ => ⟨S1x2048x1x128, .f32⟩
  | .hbm, ⟨21, _⟩ => ⟨S2048x128, .f32⟩
  | .hbm, ⟨22, _⟩ => ⟨S9216x6144, .bf16⟩
  | .local _ .vmem, ⟨0, _⟩ => ⟨S1024x2048, .bf16⟩
  | .local _ .vmem, ⟨1, _⟩ => ⟨S1024x2048, .bf16⟩
  | .local _ .vmem, ⟨2, _⟩ => ⟨S1024x128, .f32⟩
  | .local _ .vmem, ⟨3, _⟩ => ⟨S1024x128, .f32⟩
  | .local _ .vmem, ⟨4, _⟩ => ⟨S8x12288, .f32⟩
  | .local _ .vmem, ⟨5, _⟩ => ⟨S1x2048x1024, .f32⟩
  | .local _ .vmem, ⟨6, _⟩ => ⟨S1x2048x1024, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x1024, .bf16⟩
  | .local _ .vmem, ⟨12, _⟩ => ⟨S1024x1024, .bf16⟩
  | .local _ .vmem, ⟨13, _⟩ => ⟨S6x8x1024, .f32⟩
  | _, _ => ⟨S9216x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![9, 6], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (i : grid0.Coords) : Fin 3 → Nat :=
  let arg1 : BitVec 32 := BitVec.ofNat 32 (i 1).val
  let v64 : Index := Scalar.indexCast arg1
  let c0_27 : Index := 0#32
  let c0_28 : Index := 0#32
  ![v64.toNat, 0, 0]
def k0_off2 (i : grid0.Coords) : Fin 3 → Nat :=
  let arg1 : BitVec 32 := BitVec.ofNat 32 (i 1).val
  let v45 : Index := Scalar.indexCast arg1
  let arg0 : BitVec 32 := BitVec.ofNat 32 (i 0).val
  let c1024_i32 : BitVec 32 := 1024#32
  let v3 : BitVec 32 := Scalar.muli arg0 c1024_i32
  let c8192_i32 : BitVec 32 := 8192#32
  let v4 : BitVec 1 := Scalar.cmpi .slt v3 c8192_i32
  let c0_i32_1 : BitVec 32 := 0#32
  let v6 : BitVec 1 := Scalar.cmpi .sgt v3 c0_i32_1
  let v7 : BitVec 32 := Scalar.extui v6
  let c0_i32_2 : BitVec 32 := 0#32
  let v8 : BitVec 1 := Scalar.cmpi .slt v3 c0_i32_2
  let v9 : BitVec 32 := Scalar.extui v8
  let v10 : BitVec 32 := Scalar.subi v7 v9
  let c2048_i32 : BitVec 32 := 2048#32
  let c0_i32_3 : BitVec 32 := 0#32
  let v11 : BitVec 1 := Scalar.cmpi .sgt c2048_i32 c0_i32_3
  let v12 : BitVec 32 := Scalar.extui v11
  let c0_i32_4 : BitVec 32 := 0#32
  let v13 : BitVec 1 := Scalar.cmpi .slt c2048_i32 c0_i32_4
  let v14 : BitVec 32 := Scalar.extui v13
  let v15 : BitVec 32 := Scalar.subi v12 v14
  let v16 : BitVec 1 := Scalar.cmpi .ne v10 v15
  let v17 : BitVec 32 := Scalar.remsi v3 c2048_i32
  let c0_i32_5 : BitVec 32 := 0#32
  let v18 : BitVec 1 := Scalar.cmpi .ne v17 c0_i32_5
  let v19 : BitVec 1 := Scalar.andi v16 v18
  let v5 : BitVec 32 := Scalar.divsi v3 c2048_i32
  let c1_i32 : BitVec 32 := 1#32
  let v20 : BitVec 32 := Scalar.subi v5 c1_i32
  let v21 : BitVec 32 := Scalar.select v19 v20 v5
  let c4_i32 : BitVec 32 := 4#32
  let v22 : BitVec 32 := Scalar.select v4 v21 c4_i32
  let v46 : Index := Scalar.indexCast v22
  let c0_18 : Index := 0#32
  ![v45.toNat, v46.toNat, 0]
def k0_cond2 (i : grid0.Coords) : BitVec 1 :=
  let arg0 : BitVec 32 := BitVec.ofNat 32 (i 0).val
  let c8_i32 : BitVec 32 := 8#32
  let v35 : BitVec 1 := Scalar.cmpi .slt arg0 c8_i32
  let arg1 : BitVec 32 := BitVec.ofNat 32 (i 1).val
  let c4_i32_11 : BitVec 32 := 4#32
  let v36 : BitVec 1 := Scalar.cmpi .slt arg1 c4_i32_11
  let v37 : BitVec 1 := Scalar.andi v35 v36
  let v53 : BitVec 32 := Scalar.extui v37
  let c0_i32_19 : BitVec 32 := 0#32
  let v54 : BitVec 1 := Scalar.cmpi .ne v53 c0_i32_19
  v54

def k0_cond3 (i : grid0.Coords) : BitVec 1 :=
  let arg0 : BitVec 32 := BitVec.ofNat 32 (i 0).val
  let c8_i32 : BitVec 32 := 8#32
  let v35 : BitVec 1 := Scalar.cmpi .slt arg0 c8_i32
  let arg1 : BitVec 32 := BitVec.ofNat 32 (i 1).val
  let c4_i32_11 : BitVec 32 := 4#32
  let v36 : BitVec 1 := Scalar.cmpi .slt arg1 c4_i32_11
  let v37 : BitVec 1 := Scalar.andi v35 v36
  let v_true : BitVec 1 := 1#1
  let v55 : BitVec 1 := Scalar.xori v37 v_true
  let v56 : BitVec 32 := Scalar.extui v55
  let c0_i32_20 : BitVec 32 := 0#32
  let v57 : BitVec 1 := Scalar.cmpi .ne v56 c0_i32_20
  v57

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S8x12288 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference8Ideal.lean ====
abbrev S9216x2048 : Shape := ⟨2, ![9216, 2048]⟩
abbrev S9216x128 : Shape := ⟨2, ![9216, 128]⟩
abbrev S8x12288 : Shape := ⟨2, ![8, 12288]⟩
abbrev S1x2048x6144 : Shape := ⟨3, ![1, 2048, 6144]⟩
abbrev S2048x2x32 : Shape := ⟨3, ![2048, 2, 32]⟩
abbrev S_ : Shape := ⟨0, ![]⟩
abbrev S9216 : Shape := ⟨1, ![9216]⟩
abbrev S9216x1 : Shape := ⟨2, ![9216, 1]⟩
abbrev S8x2048 : Shape := ⟨2, ![8, 2048]⟩
abbrev S4x2048 : Shape := ⟨2, ![4, 2048]⟩
abbrev S4x1x2048 : Shape := ⟨3, ![4, 1, 2048]⟩
abbrev S4x2048x2048 : Shape := ⟨3, ![4, 2048, 2048]⟩
abbrev S8192x2048 : Shape := ⟨2, ![8192, 2048]⟩
abbrev S1x2048 : Shape := ⟨2, ![1, 2048]⟩
abbrev S1024x2048 : Shape := ⟨2, ![1024, 2048]⟩
abbrev S2048x6144 : Shape := ⟨2, ![2048, 6144]⟩
abbrev S9216x6144 : Shape := ⟨2, ![9216, 6144]⟩
abbrev S4x2048x16x2x2x32 : Shape := ⟨6, ![4, 2048, 16, 2, 2, 32]⟩
abbrev S4x2048x16x2x1x32 : Shape := ⟨6, ![4, 2048, 16, 2, 1, 32]⟩
abbrev S4x2048x16x2x32 : Shape := ⟨5, ![4, 2048, 16, 2, 32]⟩
abbrev S1x2048x1x2x32 : Shape := ⟨5, ![1, 2048, 1, 2, 32]⟩

abbrev nBuf : Space → Nat
  | .hbm => 86
  | .vmem => 0
  | .smem => 0
  | _ => 0

abbrev bufTy : (tb : Table) → Fin (tcTables nBuf tb) → BufTy
  | .hbm, ⟨0, _⟩ => ⟨S9216x2048, .bf16⟩
  | .hbm, ⟨1, _⟩ => ⟨S9216x128, .f32⟩
  | .hbm, ⟨2, _⟩ => ⟨S8x12288, .f32⟩
  | .hbm, ⟨3, _⟩ => ⟨S1x2048x6144, .f32⟩
  | .hbm, ⟨4, _⟩ => ⟨S2048x2x32, .f32⟩
  | .hbm, ⟨5, _⟩ => ⟨S2048x2x32, .f32⟩
  | .hbm, ⟨6, _⟩ => ⟨S9216x2048, .f32⟩
  | .hbm, ⟨7, _⟩ => ⟨S_, .f32⟩
  | .hbm, ⟨8, _⟩ => ⟨S9216, .f32⟩
  | .hbm, ⟨9, _⟩ => ⟨S9216x1, .f32⟩
  | .hbm, ⟨10, _⟩ => ⟨S_, .f32⟩
  | .hbm, ⟨11, _⟩ => ⟨S9216x1, .f32⟩
  | .hbm, ⟨12, _⟩ => ⟨S9216x1, .f32⟩
  | .hbm, ⟨13, _⟩ => ⟨S_, .f32⟩
  | .hbm, ⟨14, _⟩ => ⟨S9216x1, .f32⟩
  | .hbm, ⟨15, _⟩ => ⟨S9216x1, .f32⟩
  | .hbm, ⟨16, _⟩ => ⟨S9216x1, .f32⟩
  | .hbm, ⟨17, _⟩ => ⟨S9216x2048, .f32⟩
  | .hbm, ⟨18, _⟩ => ⟨S9216x2048, .f32⟩
  | .hbm, ⟨19, _⟩ => ⟨S8x2048, .f32⟩
  | .hbm, ⟨20, _⟩ => ⟨S4x2048, .f32⟩
  | .hbm, ⟨21, _⟩ => ⟨S4x1x2048, .f32⟩
  | .hbm, ⟨22, _⟩ => ⟨S4x2048x2048, .f32⟩
  | .hbm, ⟨23, _⟩ => ⟨S8192x2048, .f32⟩
  | .hbm, ⟨24, _⟩ => ⟨S1x2048, .f32⟩
  | .hbm, ⟨25, _⟩ => ⟨S1024x2048, .f32⟩
  | .hbm, ⟨26, _⟩ => ⟨S9216x2048, .f32⟩
  | .hbm, ⟨27, _⟩ => ⟨S9216x2048, .f32⟩
  | .hbm, ⟨28, _⟩ => ⟨S2048x6144, .f32⟩
  | .hbm, ⟨29, _⟩ => ⟨S9216x6144, .f32⟩
  | .hbm, ⟨30, _⟩ => ⟨S9216x2048, .f32⟩
  | .hbm, ⟨31, _⟩ => ⟨S9216x2048, .f32⟩
  | .hbm, ⟨32, _⟩ => ⟨S9216x2048, .f32⟩
  | .hbm, ⟨33, _⟩ => ⟨S8192x2048, .f32⟩
  | .hbm, ⟨34, _⟩ => ⟨S4x2048x16x2x2x32, .f32⟩
  | .hbm, ⟨35, _⟩ => ⟨S4x2048x16x2x1x32, .f32⟩
  | .hbm, ⟨36, _⟩ => ⟨S4x2048x16x2x32, .f32⟩
  | .hbm, ⟨37, _⟩ => ⟨S4x2048x16x2x1x32, .f32⟩
  | .hbm, ⟨38, _⟩ => ⟨S4x2048x16x2x32, .f32⟩
  | .hbm, ⟨39, _⟩ => ⟨S1x2048x1x2x32, .f32⟩
  | .hbm, ⟨40, _⟩ => ⟨S1x2048x1x2x32, .f32⟩
  | .hbm, ⟨41, _⟩ => ⟨S4x2048x16x2x32, .f32⟩
  | .hbm, ⟨42, _⟩ => ⟨S4x2048x16x2x32, .f32⟩
  | .hbm, ⟨43, _⟩ => ⟨S4x2048x16x2x32, .f32⟩
  | .hbm, ⟨44, _⟩ => ⟨S4x2048x16x2x32, .f32⟩
  | .hbm, ⟨45, _⟩ => ⟨S4x2048x16x2x32, .f32⟩
  | .hbm, ⟨46, _⟩ => ⟨S4x2048x16x2x32, .f32⟩
  | .hbm, ⟨47, _⟩ => ⟨S4x2048x16x2x32, .f32⟩
  | .hbm, ⟨48, _⟩ => ⟨S4x2048x16x2x32, .f32⟩
  | .hbm, ⟨49, _⟩ => ⟨S4x2048x16x2x32, .f32⟩
  | .hbm, ⟨50, _⟩ => ⟨S4x2048x16x2x32, .f32⟩
  | .hbm, ⟨51, _⟩ => ⟨S4x2048x16x2x1x32, .f32⟩
  | .hbm, ⟨52, _⟩ => ⟨S4x2048x16x2x1x32, .f32⟩
  | .hbm, ⟨53, _⟩ => ⟨S4x2048x16x2x2x32, .f32⟩
  | .hbm, ⟨54, _⟩ => ⟨S8192x2048, .f32⟩
  | .hbm, ⟨55, _⟩ => ⟨S1024x2048, .f32⟩
  | .hbm, ⟨56, _⟩ => ⟨S9216x2048, .f32⟩
  | .hbm, ⟨57, _⟩ => ⟨S_, .f32⟩
  | .hbm, ⟨58, _⟩ => ⟨S9216x2048, .f32⟩
  | .hbm, ⟨59, _⟩ => ⟨S9216x2048, .f32⟩
  | .hbm, ⟨60, _⟩ => ⟨S8192x2048, .f32⟩
  | .hbm, ⟨61, _⟩ => ⟨S4x2048x16x2x2x32, .f32⟩
  | .hbm, ⟨62, _⟩ => ⟨S4x2048x16x2x1x32, .f32⟩
  | .hbm, ⟨63, _⟩ => ⟨S4x2048x16x2x32, .f32⟩
  | .hbm, ⟨64, _⟩ => ⟨S4x2048x16x2x1x32, .f32⟩
  | .hbm, ⟨65, _⟩ => ⟨S4x2048x16x2x32, .f32⟩
  | .hbm, ⟨66, _⟩ => ⟨S1x2048x1x2x32, .f32⟩
  | .hbm, ⟨67, _⟩ => ⟨S1x2048x1x2x32, .f32⟩
  | .hbm, ⟨68, _⟩ => ⟨S4x2048x16x2x32, .f32⟩
  | .hbm, ⟨69, _⟩ => ⟨S4x2048x16x2x32, .f32⟩
  | .hbm, ⟨70, _⟩ => ⟨S4x2048x16x2x32, .f32⟩
  | .hbm, ⟨71, _⟩ => ⟨S4x2048x16x2x32, .f32⟩
  | .hbm, ⟨72, _⟩ => ⟨S4x2048x16x2x32, .f32⟩
  | .hbm, ⟨73, _⟩ => ⟨S4x2048x16x2x32, .f32⟩
  | .hbm, ⟨74, _⟩ => ⟨S4x2048x16x2x32, .f32⟩
  | .hbm, ⟨75, _⟩ => ⟨S4x2048x16x2x32, .f32⟩
  | .hbm, ⟨76, _⟩ => ⟨S4x2048x16x2x32, .f32⟩
  | .hbm, ⟨77, _⟩ => ⟨S4x2048x16x2x32, .f32⟩
  | .hbm, ⟨78, _⟩ => ⟨S4x2048x16x2x1x32, .f32⟩
  | .hbm, ⟨79, _⟩ => ⟨S4x2048x16x2x1x32, .f32⟩
  | .hbm, ⟨80, _⟩ => ⟨S4x2048x16x2x2x32, .f32⟩
  | .hbm, ⟨81, _⟩ => ⟨S8192x2048, .f32⟩
  | .hbm, ⟨82, _⟩ => ⟨S1024x2048, .f32⟩
  | .hbm, ⟨83, _⟩ => ⟨S9216x2048, .f32⟩
  | .hbm, ⟨84, _⟩ => ⟨S9216x6144, .f32⟩
  | .hbm, ⟨85, _⟩ => ⟨S9216x6144, .bf16⟩
  | _, _ => ⟨S9216x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_cst_2 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩

abbrev nD : Nat := 1
abbrev τ : Topo := Topo.v7x

variable {F : FTy → Type} [FloatOps F]
-- ==== Kernel9.lean ====
abbrev S1024x2048 : Shape := ⟨2, ![1024, 2048]⟩
abbrev S2x2048x2048 : Shape := ⟨3, ![2, 2048, 2048]⟩
abbrev S9216x2048 : Shape := ⟨2, ![9216, 2048]⟩
abbrev S8x12288 : Shape := ⟨2, ![8, 12288]⟩
abbrev S2048 : Shape := ⟨1, ![2048]⟩
abbrev S9216x128 : Shape := ⟨2, ![9216, 128]⟩
abbrev S1x2048 : Shape := ⟨2, ![1, 2048]⟩
abbrev S1x2048x1024 : Shape := ⟨3, ![1, 2048, 1024]⟩
abbrev S1024x1024 : Shape := ⟨2, ![1024, 1024]⟩
abbrev S8x1024 : Shape := ⟨2, ![8, 1024]⟩
abbrev S1x1024 : Shape := ⟨2, ![1, 1024]⟩
abbrev S1024x128 : Shape := ⟨2, ![1024, 128]⟩
abbrev S1x2048x512 : Shape := ⟨3, ![1, 2048, 512]⟩
abbrev S2048x512 : Shape := ⟨2, ![2048, 512]⟩
abbrev S1024x512 : Shape := ⟨2, ![1024, 512]⟩
abbrev S1x512 : Shape := ⟨2, ![1, 512]⟩

abbrev nBuf : Space → Nat
  | .hbm => 12
  | .vmem => 16
  | .smem => 0
  | _ => 0

abbrev bufTy : (tb : Table) → Fin (tcTables nBuf tb) → BufTy
  | .hbm, ⟨0, _⟩ => ⟨S1024x2048, .bf16⟩
  | .hbm, ⟨1, _⟩ => ⟨S2x2048x2048, .f32⟩
  | .hbm, ⟨2, _⟩ => ⟨S9216x2048, .f32⟩
  | .hbm, ⟨3, _⟩ => ⟨S8x12288, .f32⟩
  | .hbm, ⟨4, _⟩ => ⟨S2048, .f32⟩
  | .hbm, ⟨5, _⟩ => ⟨S9216x2048, .bf16⟩
  | .hbm, ⟨6, _⟩ => ⟨S9216x128, .f32⟩
  | .hbm, ⟨7, _⟩ => ⟨S2x2048x2048, .bf16⟩
  | .hbm, ⟨8, _⟩ => ⟨S1x2048, .f32⟩
  | .hbm, ⟨9, _⟩ => ⟨S9216x2048, .f32⟩
  | .hbm, ⟨10, _⟩ => ⟨S9216x2048, .bf16⟩
  | .hbm, ⟨11, _⟩ => ⟨S9216x128, .f32⟩
  | .local _ .vmem, ⟨0, _⟩ => ⟨S1024x2048, .bf16⟩
  | .local _ .vmem, ⟨1, _⟩ => ⟨S1x2048x1024, .bf16⟩
  | .local _ .vmem, ⟨2, _⟩ => ⟨S1x2048x1024, .bf16⟩
  | .local _ .vmem, ⟨3, _⟩ => ⟨S1024x1024, .f32⟩
  | .local _ .vmem, ⟨4, _⟩ => ⟨S1024x1024, .f32⟩
  | .local _ .vmem, ⟨5, _⟩ => ⟨S8x1024, .f32⟩
  | .local _ .vmem, ⟨6, _⟩ => ⟨S8x1024, .f32⟩
  | .local _ .vmem, ⟨7, _⟩ => ⟨S1x1024, .f32⟩
  | .local _ .vmem, ⟨8, _⟩ => ⟨S1x1024, .f32⟩
  | .local _ .vmem, ⟨9, _⟩ => ⟨S8x1024, .f32⟩
  | .local _ .vmem, ⟨10, _⟩ => ⟨S8x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .bf16⟩
  | .local _ .vmem, ⟨14, _⟩ => ⟨S1024x1024, .bf16⟩
  | .local _ .vmem, ⟨15, _⟩ => ⟨S1024x128, .f32⟩
  | _, _ => ⟨S1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨3, ![1, 1, 2], ![false, false, false]⟩

def k0_off1 (i : grid0.Coords) : Fin 2 → Nat :=
  let c8192_i32 : BitVec 32 := 8192#32
  let arg0 : BitVec 32 := BitVec.ofNat 32 (i 0).val
  let c1024_i32 : BitVec 32 := 1024#32
  let v0 : BitVec 32 := Scalar.muli arg0 c1024_i32
  let v1 : BitVec 32 := Scalar.addi c8192_i32 v0
  let c8192_i32_0 : BitVec 32 := 8192#32
  let v2 : BitVec 1 := Scalar.cmpi .slt v1 c8192_i32_0
  let c0_i32 : BitVec 32 := 0#32
  let v4 : BitVec 1 := Scalar.cmpi .sgt v1 c0_i32
  let v5 : BitVec 32 := Scalar.extui v4
  let c0_i32_1 : BitVec 32 := 0#32
  let v6 : BitVec 1 := Scalar.cmpi .slt v1 c0_i32_1
  let v7 : BitVec 32 := Scalar.extui v6
  let v8 : BitVec 32 := Scalar.subi v5 v7
  let c2048_i32 : BitVec 32 := 2048#32
  let c0_i32_2 : BitVec 32 := 0#32
  let v9 : BitVec 1 := Scalar.cmpi .sgt c2048_i32 c0_i32_2
  let v10 : BitVec 32 := Scalar.extui v9
  let c0_i32_3 : BitVec 32 := 0#32
  let v11 : BitVec 1 := Scalar.cmpi .slt c2048_i32 c0_i32_3
  let v12 : BitVec 32 := Scalar.extui v11
  let v13 : BitVec 32 := Scalar.subi v10 v12
  let v14 : BitVec 1 := Scalar.cmpi .ne v8 v13
  let v15 : BitVec 32 := Scalar.remsi v1 c2048_i32
  let c0_i32_4 : BitVec 32 := 0#32
  let v16 : BitVec 1 := Scalar.cmpi .ne v15 c0_i32_4
  let v17 : BitVec 1 := Scalar.andi v14 v16
  let v3 : BitVec 32 := Scalar.divsi v1 c2048_i32
  let c1_i32 : BitVec 32 := 1#32
  let v18 : BitVec 32 := Scalar.subi v3 c1_i32
  let v19 : BitVec 32 := Scalar.select v17 v18 v3
  let c4_i32 : BitVec 32 := 4#32
  let v20 : BitVec 32 := Scalar.select v2 v19 c4_i32
  let v30 : Index := Scalar.indexCast v20
  let c0_16 : Index := 0#32
  ![v30.toNat, 0]
def k0_off2 (i : grid0.Coords) : Fin 2 → Nat :=
  let c8192_i32 : BitVec 32 := 8192#32
  let arg0 : BitVec 32 := BitVec.ofNat 32 (i 0).val
  let c1024_i32 : BitVec 32 := 1024#32
  let v0 : BitVec 32 := Scalar.muli arg0 c1024_i32
  let v1 : BitVec 32 := Scalar.addi c8192_i32 v0
  let c8192_i32_0 : BitVec 32 := 8192#32
  let v2 : BitVec 1 := Scalar.cmpi .slt v1 c8192_i32_0
  let c0_i32 : BitVec 32 := 0#32
  let v4 : BitVec 1 := Scalar.cmpi .sgt v1 c0_i32
  let v5 : BitVec 32 := Scalar.extui v4
  let c0_i32_1 : BitVec 32 := 0#32
  let v6 : BitVec 1 := Scalar.cmpi .slt v1 c0_i32_1
  let v7 : BitVec 32 := Scalar.extui v6
  let v8 : BitVec 32 := Scalar.subi v5 v7
  let c2048_i32 : BitVec 32 := 2048#32
  let c0_i32_2 : BitVec 32 := 0#32
  let v9 : BitVec 1 := Scalar.cmpi .sgt c2048_i32 c0_i32_2
  let v10 : BitVec 32 := Scalar.extui v9
  let c0_i32_3 : BitVec 32 := 0#32
  let v11 : BitVec 1 := Scalar.cmpi .slt c2048_i32 c0_i32_3
  let v12 : BitVec 32 := Scalar.extui v11
  let v13 : BitVec 32 := Scalar.subi v10 v12
  let v14 : BitVec 1 := Scalar.cmpi .ne v8 v13
  let v15 : BitVec 32 := Scalar.remsi v1 c2048_i32
  let c0_i32_4 : BitVec 32 := 0#32
  let v16 : BitVec 1 := Scalar.cmpi .ne v15 c0_i32_4
  let v17 : BitVec 1 := Scalar.andi v14 v16
  let v3 : BitVec 32 := Scalar.divsi v1 c2048_i32
  let c1_i32 : BitVec 32 := 1#32
  let v18 : BitVec 32 := Scalar.subi v3 c1_i32
  let v19 : BitVec 32 := Scalar.select v17 v18 v3
  let c4_i32 : BitVec 32 := 4#32
  let v20 : BitVec 32 := Scalar.select v2 v19 c4_i32
  let v56 : Index := Scalar.indexCast v20
  let c512_27 : Index := 512#32
  ![v56.toNat, 512]
def k0_cond1 (i : grid0.Coords) : BitVec 1 :=
  let arg2 : BitVec 32 := BitVec.ofNat 32 (i 2).val
  let c0_i32_36 : BitVec 32 := 0#32
  let v82 : BitVec 1 := Scalar.cmpi .eq arg2 c0_i32_36
  let v83 : BitVec 32 := Scalar.extui v82
  let c0_i32_37 : BitVec 32 := 0#32
  let v84 : BitVec 1 := Scalar.cmpi .ne v83 c0_i32_37
  v84

def k0_cond2 (i : grid0.Coords) : BitVec 1 :=
  let arg2 : BitVec 32 := BitVec.ofNat 32 (i 2).val
  let c0_i32_38 : BitVec 32 := 0#32
  let v85 : BitVec 1 := Scalar.cmpi .sgt arg2 c0_i32_38
  let v86 : BitVec 32 := Scalar.extui v85
  let c0_i32_39 : BitVec 32 := 0#32
  let v87 : BitVec 1 := Scalar.cmpi .ne v86 c0_i32_39
  v87

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg0
  let c0_i32 : BitVec 32 := 0#32
  let v1 : BitVec 1 := Scalar.cmpi .eq arg1 c0_i32
  let c0_i32_0 : BitVec 32 := 0#32
  let v2 : BitVec 32 := Scalar.select v1 arg2 c0_i32_0
  let c0_i32_1 : BitVec 32 := 0#32
  ![v0.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg2
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg2
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg0
  let c0_i32 : BitVec 32 := 0#32
  let v1 : BitVec 1 := Scalar.cmpi .eq arg1 c0_i32
  let c0_i32_0 : BitVec 32 := 0#32
  let v2 : BitVec 32 := Scalar.select v1 arg2 c0_i32_0
  let c0_i32_1 : BitVec 32 := 0#32
  ![v0.toNat, v2.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg0
  let c0_i32 : BitVec 32 := 0#32
  let v1 : BitVec 1 := Scalar.cmpi .eq arg1 c0_i32
  let c0_i32_0 : BitVec 32 := 0#32
  let v2 : BitVec 32 := Scalar.select v1 arg2 c0_i32_0
  let c0_i32_1 : BitVec 32 := 0#32
  ![v0.toNat, v2.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg0
  let c0_i32 : BitVec 32 := 0#32
  let c0_i32_0 : BitVec 32 := 0#32
  ![v0.toNat, c0_i32.toNat]

abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 1 → Memref sig .tc .vmem S1024x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false, false]
-- ==== Reference9Ideal.lean ====
abbrev S1024x2048 : Shape := ⟨2, ![1024, 2048]⟩
abbrev S2x2048x2048 : Shape := ⟨3, ![2, 2048, 2048]⟩
abbrev S9216x2048 : Shape := ⟨2, ![9216, 2048]⟩
abbrev S8x12288 : Shape := ⟨2, ![8, 12288]⟩
abbrev S2048 : Shape := ⟨1, ![2048]⟩
abbrev S9216x128 : Shape := ⟨2, ![9216, 128]⟩
abbrev S8x2048 : Shape := ⟨2, ![8, 2048]⟩
abbrev S4x2048 : Shape := ⟨2, ![4, 2048]⟩
abbrev S4x1x2048 : Shape := ⟨3, ![4, 1, 2048]⟩
abbrev S4x2048x2048 : Shape := ⟨3, ![4, 2048, 2048]⟩
abbrev S8192x2048 : Shape := ⟨2, ![8192, 2048]⟩
abbrev S1x2048 : Shape := ⟨2, ![1, 2048]⟩
abbrev S1x2048x2048 : Shape := ⟨3, ![1, 2048, 2048]⟩
abbrev S2048x2048 : Shape := ⟨2, ![2048, 2048]⟩
abbrev S_ : Shape := ⟨0, ![]⟩
abbrev S1024x16x128 : Shape := ⟨3, ![1024, 16, 128]⟩
abbrev S1024x128 : Shape := ⟨2, ![1024, 128]⟩
abbrev S8192x128 : Shape := ⟨2, ![8192, 128]⟩

abbrev nBuf : Space → Nat
  | .hbm => 50
  | .vmem => 0
  | .smem => 0
  | _ => 0

abbrev bufTy : (tb : Table) → Fin (tcTables nBuf tb) → BufTy
  | .hbm, ⟨0, _⟩ => ⟨S1024x2048, .bf16⟩
  | .hbm, ⟨1, _⟩ => ⟨S2x2048x2048, .f32⟩
  | .hbm, ⟨2, _⟩ => ⟨S9216x2048, .f32⟩
  | .hbm, ⟨3, _⟩ => ⟨S8x12288, .f32⟩
  | .hbm, ⟨4, _⟩ => ⟨S2048, .f32⟩
  | .hbm, ⟨5, _⟩ => ⟨S9216x2048, .bf16⟩
  | .hbm, ⟨6, _⟩ => ⟨S9216x128, .f32⟩
  | .hbm, ⟨7, _⟩ => ⟨S1024x2048, .f32⟩
  | .hbm, ⟨8, _⟩ => ⟨S8x2048, .f32⟩
  | .hbm, ⟨9, _⟩ => ⟨S4x2048, .f32⟩
  | .hbm, ⟨10, _⟩ => ⟨S4x1x2048, .f32⟩
  | .hbm, ⟨11, _⟩ => ⟨S4x2048x2048, .f32⟩
  | .hbm, ⟨12, _⟩ => ⟨S8192x2048, .f32⟩
  | .hbm, ⟨13, _⟩ => ⟨S1x2048, .f32⟩
  | .hbm, ⟨14, _⟩ => ⟨S1024x2048, .f32⟩
  | .hbm, ⟨15, _⟩ => ⟨S9216x2048, .f32⟩
  | .hbm, ⟨16, _⟩ => ⟨S1024x2048, .f32⟩
  | .hbm, ⟨17, _⟩ => ⟨S1024x2048, .f32⟩
  | .hbm, ⟨18, _⟩ => ⟨S1x2048x2048, .f32⟩
  | .hbm, ⟨19, _⟩ => ⟨S2048x2048, .f32⟩
  | .hbm, ⟨20, _⟩ => ⟨S1024x2048, .f32⟩
  | .hbm, ⟨21, _⟩ => ⟨S1024x2048, .f32⟩
  | .hbm, ⟨22, _⟩ => ⟨S1024x2048, .f32⟩
  | .hbm, ⟨23, _⟩ => ⟨S8x2048, .f32⟩
  | .hbm, ⟨24, _⟩ => ⟨S4x2048, .f32⟩
  | .hbm, ⟨25, _⟩ => ⟨S4x1x2048, .f32⟩
  | .hbm, ⟨26, _⟩ => ⟨S4x2048x2048, .f32⟩
  | .hbm, ⟨27, _⟩ => ⟨S8192x2048, .f32⟩
  | .hbm, ⟨28, _⟩ => ⟨S1x2048, .f32⟩
  | .hbm, ⟨29, _⟩ => ⟨S1024x2048, .f32⟩
  | .hbm, ⟨30, _⟩ => ⟨S9216x2048, .f32⟩
  | .hbm, ⟨31, _⟩ => ⟨S1024x2048, .f32⟩
  | .hbm, ⟨32, _⟩ => ⟨S_, .f32⟩
  | .hbm, ⟨33, _⟩ => ⟨S1024x2048, .f32⟩
  | .hbm, ⟨34, _⟩ => ⟨S1024x2048, .f32⟩
  | .hbm, ⟨35, _⟩ => ⟨S1x2048, .f32⟩
  | .hbm, ⟨36, _⟩ => ⟨S1024x2048, .f32⟩
  | .hbm, ⟨37, _⟩ => ⟨S1024x2048, .f32⟩
  | .hbm, ⟨38, _⟩ => ⟨S1024x2048, .f32⟩
  | .hbm, ⟨39, _⟩ => ⟨S1024x2048, .f32⟩
  | .hbm, ⟨40, _⟩ => ⟨S1024x16x128, .f32⟩
  | .hbm, ⟨41, _⟩ => ⟨S_, .f32⟩
  | .hbm, ⟨42, _⟩ => ⟨S1024x128, .f32⟩
  | .hbm, ⟨43, _⟩ => ⟨S8192x2048, .f32⟩
  | .hbm, ⟨44, _⟩ => ⟨S9216x2048, .f32⟩
  | .hbm, ⟨45, _⟩ => ⟨S8192x2048, .bf16⟩
  | .hbm, ⟨46, _⟩ => ⟨S1024x2048, .bf16⟩
  | .hbm, ⟨47, _⟩ => ⟨S9216x2048, .bf16⟩
  | .hbm, ⟨48, _⟩ => ⟨S8192x128, .f32⟩
  | .hbm, ⟨49, _⟩ => ⟨S9216x128, .f32⟩
  | _, _ => ⟨S1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_0 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩

abbrev nD : Nat := 1
abbrev τ : Topo := Topo.v7x

variable {F : FTy → Type} [FloatOps F]
-- ==== Kernel10.lean ====
abbrev S9216x2048 : Shape := ⟨2, ![9216, 2048]⟩
abbrev S2048 : Shape := ⟨1, ![2048]⟩
abbrev S1x2048 : Shape := ⟨2, ![1, 2048]⟩
abbrev S8192x2048 : Shape := ⟨2, ![8192, 2048]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S9216x2048, .f32⟩
  | .hbm, ⟨1, _⟩ => ⟨S2048, .f32⟩
  | .hbm, ⟨2, _⟩ => ⟨S1x2048, .f32⟩
  | .hbm, ⟨3, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | _, _ => ⟨S9216x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference10Ideal.lean ====
abbrev S9216x2048 : Shape := ⟨2, ![9216, 2048]⟩
abbrev S2048 : Shape := ⟨1, ![2048]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S9216x2048, .f32⟩
  | .hbm, ⟨1, _⟩ => ⟨S2048, .f32⟩
  | .hbm, ⟨2, _⟩ => ⟨S8192x2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | _, _ => ⟨S9216x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel11.lean ====
abbrev S2x9216x4096 : Shape := ⟨3, ![2, 9216, 4096]⟩
abbrev S9216x6144 : Shape := ⟨2, ![9216, 6144]⟩
abbrev S9216x10240 : Shape := ⟨2, ![9216, 10240]⟩
abbrev S64 : Shape := ⟨1, ![64]⟩
abbrev S4096 : Shape := ⟨1, ![4096]⟩
abbrev S64x64 : Shape := ⟨2, ![64, 64]⟩
abbrev S1x4096 : Shape := ⟨2, ![1, 4096]⟩
abbrev S9216x4096 : Shape := ⟨2, ![9216, 4096]⟩
abbrev S1x256x4096 : Shape := ⟨3, ![1, 256, 4096]⟩
abbrev S256x4096 : Shape := ⟨2, ![256, 4096]⟩
abbrev S256x512 : Shape := ⟨2, ![256, 512]⟩
abbrev S256 : Shape := ⟨1, ![256]⟩
abbrev S256x1 : Shape := ⟨2, ![256, 1]⟩
abbrev S1x512 : Shape := ⟨2, ![1, 512]⟩

abbrev nBuf : Space → Nat
  | .hbm => 10
  | .vmem => 12
  | .smem => 0
  | _ => 0

abbrev bufTy : (tb : Table) → Fin (tcTables nBuf tb) → BufTy
  | .hbm, ⟨0, _⟩ => ⟨S2x9216x4096, .bf16⟩
  | .hbm, ⟨1, _⟩ => ⟨S9216x6144, .bf16⟩
  | .hbm, ⟨2, _⟩ => ⟨S9216x10240, .bf16⟩
  | .hbm, ⟨3, _⟩ => ⟨S64, .f32⟩
  | .hbm, ⟨4, _⟩ => ⟨S4096, .f32⟩
  | .hbm, ⟨5, _⟩ => ⟨S64x64, .f32⟩
  | .hbm, ⟨6, _⟩ => ⟨S4096, .f32⟩
  | .hbm, ⟨7, _⟩ => ⟨S1x4096, .f32⟩
  | .hbm, ⟨8, _⟩ => ⟨S1x4096, .f32⟩
  | .hbm, ⟨9, _⟩ => ⟨S9216x4096, .bf16⟩
  | .local _ .vmem, ⟨0, _⟩ => ⟨S1x256x4096, .bf16⟩
  | .local _ .vmem, ⟨1, _⟩ => ⟨S1x256x4096, .bf16⟩
  | .local _ .vmem, ⟨2, _⟩ => ⟨S1x256x4096, .bf16⟩
  | .local _ .vmem, ⟨3, _⟩ => ⟨S1x256x4096, .bf16⟩
  | .local _ .vmem, ⟨4, _⟩ => ⟨S256x4096, .bf16⟩
  | .local _ .vmem, ⟨5, _⟩ => ⟨S256x4096, .bf16⟩
  | .local _ .vmem, ⟨6, _⟩ => ⟨S256x4096, .bf16⟩
  | .local _ .vmem, ⟨7, _⟩ => ⟨S256x4096, .bf16⟩
  | .local _ .vmem, ⟨8, _⟩ => ⟨S1x4096, .f32⟩
  | .local _ .vmem, ⟨9, _⟩ => ⟨S1x4096, .f32⟩
  | .local _ .vmem, ⟨10, _⟩ => ⟨S256x4096, .bf16⟩
  | .local _ .vmem, ⟨11, _⟩ => ⟨S256x4096, .bf16⟩
  | _, _ => ⟨S2x9216x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![36], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference11Ideal.lean ====
abbrev S2x9216x4096 : Shape := ⟨3, ![2, 9216, 4096]⟩
abbrev S9216x6144 : Shape := ⟨2, ![9216, 6144]⟩
abbrev S9216x10240 : Shape := ⟨2, ![9216, 10240]⟩
abbrev S64 : Shape := ⟨1, ![64]⟩
abbrev S4096 : Shape := ⟨1, ![4096]⟩
abbrev S9216x4096 : Shape := ⟨2, ![9216, 4096]⟩
abbrev S1x9216x4096 : Shape := ⟨3, ![1, 9216, 4096]⟩
abbrev S9216x64x64 : Shape := ⟨3, ![9216, 64, 64]⟩
abbrev S64x1 : Shape := ⟨2, ![64, 1]⟩
abbrev S1x64x1 : Shape := ⟨3, ![1, 64, 1]⟩
abbrev S_ : Shape := ⟨0, ![]⟩
abbrev S9216x8x512 : Shape := ⟨3, ![9216, 8, 512]⟩
abbrev S8x512 : Shape := ⟨2, ![8, 512]⟩
abbrev S9216x8 : Shape := ⟨2, ![9216, 8]⟩
abbrev S9216x8x1 : Shape := ⟨3, ![9216, 8, 1]⟩
abbrev S1x8x512 : Shape := ⟨3, ![1, 8, 512]⟩

abbrev nBuf : Space → Nat
  | .hbm => 53
  | .vmem => 0
  | .smem => 0
  | _ => 0

abbrev bufTy : (tb : Table) → Fin (tcTables nBuf tb) → BufTy
  | .hbm, ⟨0, _⟩ => ⟨S2x9216x4096, .bf16⟩
  | .hbm, ⟨1, _⟩ => ⟨S9216x6144, .bf16⟩
  | .hbm, ⟨2, _⟩ => ⟨S9216x10240, .bf16⟩
  | .hbm, ⟨3, _⟩ => ⟨S64, .f32⟩
  | .hbm, ⟨4, _⟩ => ⟨S4096, .f32⟩
  | .hbm, ⟨5, _⟩ => ⟨S2x9216x4096, .f32⟩
  | .hbm, ⟨6, _⟩ => ⟨S9216x4096, .bf16⟩
  | .hbm, ⟨7, _⟩ => ⟨S9216x4096, .f32⟩
  | .hbm, ⟨8, _⟩ => ⟨S9216x4096, .bf16⟩
  | .hbm, ⟨9, _⟩ => ⟨S9216x4096, .f32⟩
  | .hbm, ⟨10, _⟩ => ⟨S1x9216x4096, .f32⟩
  | .hbm, ⟨11, _⟩ => ⟨S9216x4096, .f32⟩
  | .hbm, ⟨12, _⟩ => ⟨S1x9216x4096, .f32⟩
  | .hbm, ⟨13, _⟩ => ⟨S9216x4096, .f32⟩
  | .hbm, ⟨14, _⟩ => ⟨S9216x4096, .f32⟩
  | .hbm, ⟨15, _⟩ => ⟨S9216x64x64, .f32⟩
  | .hbm, ⟨16, _⟩ => ⟨S9216x64x64, .f32⟩
  | .hbm, ⟨17, _⟩ => ⟨S64x1, .f32⟩
  | .hbm, ⟨18, _⟩ => ⟨S1x64x1, .f32⟩
  | .hbm, ⟨19, _⟩ => ⟨S9216x64x64, .f32⟩
  | .hbm, ⟨20, _⟩ => ⟨S9216x64x64, .f32⟩
  | .hbm, ⟨21, _⟩ => ⟨S9216x64x64, .f32⟩
  | .hbm, ⟨22, _⟩ => ⟨S9216x4096, .f32⟩
  | .hbm, ⟨23, _⟩ => ⟨S9216x4096, .f32⟩
  | .hbm, ⟨24, _⟩ => ⟨S9216x4096, .f32⟩
  | .hbm, ⟨25, _⟩ => ⟨S_, .f32⟩
  | .hbm, ⟨26, _⟩ => ⟨S9216x4096, .f32⟩
  | .hbm, ⟨27, _⟩ => ⟨S9216x4096, .f32⟩
  | .hbm, ⟨28, _⟩ => ⟨S_, .f32⟩
  | .hbm, ⟨29, _⟩ => ⟨S9216x4096, .f32⟩
  | .hbm, ⟨30, _⟩ => ⟨S9216x4096, .f32⟩
  | .hbm, ⟨31, _⟩ => ⟨S9216x4096, .f32⟩
  | .hbm, ⟨32, _⟩ => ⟨S9216x4096, .f32⟩
  | .hbm, ⟨33, _⟩ => ⟨S9216x8x512, .f32⟩
  | .hbm, ⟨34, _⟩ => ⟨S8x512, .f32⟩
  | .hbm, ⟨35, _⟩ => ⟨S9216x8x512, .f32⟩
  | .hbm, ⟨36, _⟩ => ⟨S_, .f32⟩
  | .hbm, ⟨37, _⟩ => ⟨S9216x8, .f32⟩
  | .hbm, ⟨38, _⟩ => ⟨S9216x8x1, .f32⟩
  | .hbm, ⟨39, _⟩ => ⟨S_, .f32⟩
  | .hbm, ⟨40, _⟩ => ⟨S9216x8x1, .f32⟩
  | .hbm, ⟨41, _⟩ => ⟨S9216x8x1, .f32⟩
  | .hbm, ⟨42, _⟩ => ⟨S_, .f32⟩
  | .hbm, ⟨43, _⟩ => ⟨S9216x8x1, .f32⟩
  | .hbm, ⟨44, _⟩ => ⟨S9216x8x1, .f32⟩
  | .hbm, ⟨45, _⟩ => ⟨S9216x8x1, .f32⟩
  | .hbm, ⟨46, _⟩ => ⟨S9216x8x512, .f32⟩
  | .hbm, ⟨47, _⟩ => ⟨S9216x8x512, .f32⟩
  | .hbm, ⟨48, _⟩ => ⟨S1x8x512, .f32⟩
  | .hbm, ⟨49, _⟩ => ⟨S9216x8x512, .f32⟩
  | .hbm, ⟨50, _⟩ => ⟨S9216x8x512, .f32⟩
  | .hbm, ⟨51, _⟩ => ⟨S9216x4096, .f32⟩
  | .hbm, ⟨52, _⟩ => ⟨S9216x4096, .bf16⟩
  | _, _ => ⟨S2x9216x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst : Ref sig .tc := ⟨.hbm, 36, rfl⟩
abbrev main_v23 : Ref sig .tc := ⟨.hbm, 37, rfl⟩
abbrev main_v24 : Ref sig .tc := ⟨.hbm, 38, rfl⟩
abbrev main_cst_0 : Ref sig .tc := ⟨.hbm, 39, rfl⟩
abbrev main_v25 : Ref sig .tc := ⟨.hbm, 40, rfl⟩
abbrev main_v26 : Ref sig .tc := ⟨.hbm, 41, rfl⟩
abbrev main_cst_1 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩

abbrev nD : Nat := 1
abbrev τ : Topo := Topo.v7x

variable {F : FTy → Type} [FloatOps F]
-- ==== Kernel12.lean ====
abbrev S8x2048 : Shape := ⟨2, ![8, 2048]⟩
abbrev S4x2048x12288 : Shape := ⟨3, ![4, 2048, 12288]⟩
abbrev S4x12288 : Shape := ⟨2, ![4, 12288]⟩
abbrev S4x1x12288 : Shape := ⟨3, ![4, 1, 12288]⟩
abbrev S4x8x12288 : Shape := ⟨3, ![4, 8, 12288]⟩
abbrev S1x2048x1024 : Shape := ⟨3, ![1, 2048, 1024]⟩
abbrev S1x1x1024 : Shape := ⟨3, ![1, 1, 1024]⟩
abbrev S1x8x1024 : Shape := ⟨3, ![1, 8, 1024]⟩
abbrev S2048x1024 : Shape := ⟨2, ![2048, 1024]⟩
abbrev S8x1024 : Shape := ⟨2, ![8, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S4x2048x12288, .f32⟩
  | .hbm, ⟨2, _⟩ => ⟨S4x12288, .f32⟩
  | .hbm, ⟨3, _⟩ => ⟨S4x1x12288, .f32⟩
  | .hbm, ⟨4, _⟩ => ⟨S4x8x12288, .f32⟩
  | .local _ .vmem, ⟨0, _⟩ => ⟨S8x2048, .f32⟩
  | .local _ .vmem, ⟨1, _⟩ => ⟨S1x2048x1024, .f32⟩
  | .local _ .vmem, ⟨2, _⟩ => ⟨S1x2048x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference12Ideal.lean ====
abbrev S8x2048 : Shape := ⟨2, ![8, 2048]⟩
abbrev S4x2048x12288 : Shape := ⟨3, ![4, 2048, 12288]⟩
abbrev S4x12288 : Shape := ⟨2, ![4, 12288]⟩
abbrev S_ : Shape := ⟨0, ![]⟩
abbrev S4x12288x8 : Shape := ⟨3, ![4, 12288, 8]⟩
abbrev S4x8x12288 : Shape := ⟨3, ![4, 8, 12288]⟩
abbrev S4x1x12288 : Shape := ⟨3, ![4, 1, 12288]⟩

abbrev nBuf : Space → Nat
  | .hbm => 17
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S4x2048x12288, .f32⟩
  | .hbm, ⟨2, _⟩ => ⟨S4x12288, .f32⟩
  | .hbm, ⟨3, _⟩ => ⟨S8x2048, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S4x12288x8, .f32⟩
  | .hbm, ⟨13, _⟩ => ⟨S4x8x12288, .f32⟩
  | .hbm, ⟨14, _⟩ => ⟨S4x1x12288, .f32⟩
  | .hbm, ⟨15, _⟩ => ⟨S4x8x12288, .f32⟩
  | .hbm, ⟨16, _⟩ => ⟨S4x8x12288, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Kernel13.lean ====
abbrev S9216x6144 : Shape := ⟨2, ![9216, 6144]⟩
abbrev S_ : Shape := ⟨0, ![]⟩
abbrev S9216x2048 : Shape := ⟨2, ![9216, 2048]⟩
abbrev S9216x4096 : Shape := ⟨2, ![9216, 4096]⟩
abbrev S1024x2048 : Shape := ⟨2, ![1024, 2048]⟩
abbrev S256x1024 : Shape := ⟨2, ![256, 1024]⟩
abbrev S256x128 : Shape := ⟨2, ![256, 128]⟩
abbrev S256x256 : Shape := ⟨2, ![256, 256]⟩
abbrev S256 : Shape := ⟨1, ![256]⟩
abbrev S256x1 : Shape := ⟨2, ![256, 1]⟩

abbrev nBuf : Space → Nat
  | .hbm => 15
  | .vmem => 8
  | .smem => 0
  | _ => 0

abbrev bufTy : (tb : Table) → Fin (tcTables nBuf tb) → BufTy
  | .hbm, ⟨0, _⟩ => ⟨S9216x6144, .f32⟩
  | .hbm, ⟨1, _⟩ => ⟨S_, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S9216x2048, .f32⟩
  | .hbm, ⟨9, _⟩ => ⟨S9216x2048, .f32⟩
  | .hbm, ⟨10, _⟩ => ⟨S9216x2048, .f32⟩
  | .hbm, ⟨11, _⟩ => ⟨S9216x4096, .f32⟩
  | .hbm, ⟨12, _⟩ => ⟨S9216x6144, .f32⟩
  | .hbm, ⟨13, _⟩ => ⟨S9216x6144, .bf16⟩
  | .hbm, ⟨14, _⟩ => ⟨S1024x2048, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | _, _ => ⟨S9216x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_cst_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c2_i32 : BitVec 32 := 2#32
  let v1 : BitVec 32 := Scalar.addi c2_i32 arg0
  let c0_i32 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c4_i32 : BitVec 32 := 4#32
  let v1 : BitVec 32 := Scalar.addi c4_i32 arg0
  let c0_i32 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference13Ideal.lean ====
abbrev S9216x6144 : Shape := ⟨2, ![9216, 6144]⟩
abbrev S1024x2048 : Shape := ⟨2, ![1024, 2048]⟩
abbrev S4x256x16x128 : Shape := ⟨4, ![4, 256, 16, 128]⟩
abbrev S4x16x256x256 : Shape := ⟨4, ![4, 16, 256, 256]⟩
abbrev S_ : Shape := ⟨0, ![]⟩
abbrev S4x16x256 : Shape := ⟨3, ![4, 16, 256]⟩
abbrev S4x16x256x1 : Shape := ⟨4, ![4, 16, 256, 1]⟩
abbrev S4x16x128x256 : Shape := ⟨4, ![4, 16, 128, 256]⟩

abbrev nBuf : Space → Nat
  | .hbm => 32
  | .vmem => 0
  | .smem => 0
  | _ => 0

abbrev bufTy : (tb : Table) → Fin (tcTables nBuf tb) → BufTy
  | .hbm, ⟨0, _⟩ => ⟨S9216x6144, .f32⟩
  | .hbm, ⟨1, _⟩ => ⟨S1024x2048, .f32⟩
  | .hbm, ⟨2, _⟩ => ⟨S4x256x16x128, .f32⟩
  | .hbm, ⟨3, _⟩ => ⟨S1024x2048, .f32⟩
  | .hbm, ⟨4, _⟩ => ⟨S4x256x16x128, .f32⟩
  | .hbm, ⟨5, _⟩ => ⟨S1024x2048, .f32⟩
  | .hbm, ⟨6, _⟩ => ⟨S4x256x16x128, .f32⟩
  | .hbm, ⟨7, _⟩ => ⟨S4x16x256x256, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S4x16x256x256, .f32⟩
  | .hbm, ⟨13, _⟩ => ⟨S4x16x256x256, .f32⟩
  | .hbm, ⟨14, _⟩ => ⟨S_, .f32⟩
  | .hbm, ⟨15, _⟩ => ⟨S4x16x256, .f32⟩
  | .hbm, ⟨16, _⟩ => ⟨S_, .f32⟩
  | .hbm, ⟨17, _⟩ => ⟨S4x16x256, .f32⟩
  | .hbm, ⟨18, _⟩ => ⟨S4x16x256, .f32⟩
  | .hbm, ⟨19, _⟩ => ⟨S4x16x256x1, .f32⟩
  | .hbm, ⟨20, _⟩ => ⟨S4x16x256x256, .f32⟩
  | .hbm, ⟨21, _⟩ => ⟨S4x16x256x256, .f32⟩
  | .hbm, ⟨22, _⟩ => ⟨S4x16x256x256, .f32⟩
  | .hbm, ⟨23, _⟩ => ⟨S_, .f32⟩
  | .hbm, ⟨24, _⟩ => ⟨S4x16x256, .f32⟩
  | .hbm, ⟨25, _⟩ => ⟨S4x16x256x1, .f32⟩
  | .hbm, ⟨26, _⟩ => ⟨S4x16x256x256, .f32⟩
  | .hbm, ⟨27, _⟩ => ⟨S4x16x256x256, .f32⟩
  | .hbm, ⟨28, _⟩ => ⟨S4x16x128x256, .f32⟩
  | .hbm, ⟨29, _⟩ => ⟨S4x256x16x128, .f32⟩
  | .hbm, ⟨30, _⟩ => ⟨S1024x2048, .f32⟩
  | .hbm, ⟨31, _⟩ => ⟨S1024x2048, .bf16⟩
  | _, _ => ⟨S9216x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_cst : Ref sig .tc := ⟨.hbm, 8, rfl⟩
abbrev main_v7 : Ref sig .tc := ⟨.hbm, 9, rfl⟩
abbrev main_cst_0 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_1 : Ref sig .tc := ⟨.hbm, 14, rfl⟩
abbrev main_v11 : Ref sig .tc := ⟨.hbm, 15, rfl⟩
abbrev main_cst_2 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_3 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩

abbrev nD : Nat := 1
abbrev τ : Topo := Topo.v7x

variable {F : FTy → Type} [FloatOps F]
-- ==== Proof.RopeBodyI.lean ====
module

public import proofs.«01_k».proof.Proof.Gen.Kernel8Ideal.Frame
public import proofs.«01_k».proof.Proof.Gen.Kernel8Ideal.Skeleton
public import Idealize.ShloMosaic.Lib.Claim
public import Idealize.ShloMosaic.Lib.Pipeline.FrameBody
public import Idealize.ShloMosaic.Lib.VecWindow
public import Idealize.ShloMosaic.Lib.WritesUnit

@[expose] public section

set_option maxRecDepth 16384

noncomputable section

namespace Cert.Kernel8Ideal.Rope

open Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The shift columns of the modulation table: columns 0 to 2047 of its eight rows. -/
def shiftCols (x : Vec F S8x12288 .f32) : Vec F S8x2048 .f32 :=
  VecWindow.window x ![0, 0] S8x2048.size inb_S8x12288_S8x2048_0_0

/-- The row of the carried table a point adds: its column block and its batch row. -/
def rowOf (i : grid0.Coords) (xs : Vec F S6x8x1024 .f32) : Vec F S1x1x1024 .f32 :=
  VecWindow.window xs (k0_off2 i) S1x1x1024.size (k0_off2_inb i)

theorem off1_eq (i : grid0.Coords) : k0_off1 i = ![(i 1).val, 0, 0] := by
  revert i; decide +kernel

theorem off2_first (i : grid0.Coords) (hc : k0_cond1 i = 1#1) : k0_off2 i = ![(i 1).val, 0, 0] := by
  revert i; decide +kernel

theorem cond3_iff (i : grid0.Coords) : k0_cond3 i = 1#1 ↔ ¬ k0_cond2 i = 1#1 := by
  revert i; decide +kernel

/-- The carried table with a column block's products put into its slot. -/
def tabPut (i : grid0.Coords) (x2 : Vec F S8x12288 .f32) (x3 : Vec F S1x2048x1024 .f32) (xs : Vec F S6x8x1024 .f32) : Vec F S6x8x1024 .f32 :=
  VecWindow.put xs (k0_off1 i) S1x8x1024.size (k0_pay17 (shiftCols x2) x3)

/-- The scaled product with the shift row added, before any rotation. -/
def accOf (i : grid0.Coords) (x0 : Vec F S1024x2048 .bf16) (x1 : Vec F S1024x128 .f32) (x3 : Vec F S1x2048x1024 .f32) (r : Vec F S1x1x1024 .f32) : FVec F S1024x1024 .f32 :=
  k0_pay1 (k0_pay18 i) (k0_pay19 i x1) x0 x3 r

/-- A block of eight groups of 128 columns, from the pieces, the last first. -/
def eight (p0 p1 p2 p3 p4 p5 p6 p7 : FVec F S1024x128 .bf16) : Vec F S1024x1024 .bf16 :=
  View.canon [(⟨Rect.unit (s := S1024x1024) ![0, 896] S1024x128.size inb_S1024x1024_S1024x128_0_896, p7⟩ : View.Piece (Elt F) S1024x1024 .bf16),
    ⟨Rect.unit (s := S1024x1024) ![0, 768] S1024x128.size inb_S1024x1024_S1024x128_0_768, p6⟩,
    ⟨Rect.unit (s := S1024x1024) ![0, 640] S1024x128.size inb_S1024x1024_S1024x128_0_640, p5⟩,
    ⟨Rect.unit (s := S1024x1024) ![0, 512] S1024x128.size inb_S1024x1024_S1024x128_0_512, p4⟩,
    ⟨Rect.unit (s := S1024x1024) ![0, 384] S1024x128.size inb_S1024x1024_S1024x128_0_384, p3⟩,
    ⟨Rect.unit (s := S1024x1024) ![0, 256] S1024x128.size inb_S1024x1024_S1024x128_0_256, p2⟩,
    ⟨Rect.unit (s := S1024x1024) ![0, 128] S1024x128.size inb_S1024x1024_S1024x128_0_128, p1⟩,
    ⟨Rect.unit (s := S1024x1024) ![0, 0] S1024x128.size inb_S1024x1024_S1024x128_0_0, p0⟩]

/-- The rotated block: each group of 128 columns of the product rotated by its table rows. -/
def rotated (i : grid0.Coords) (x0 : Vec F S1024x2048 .bf16) (x1 : Vec F S1024x128 .f32) (x3 : Vec F S1x2048x1024 .f32) (r : Vec F S1x1x1024 .f32)
    (x4 x5 : Vec F S1024x128 .f32) : Vec F S1024x1024 .bf16 :=
  eight (k0_pay5 (accOf i x0 x1 x3 r) x4 x5)
    (k0_pay9 (k0_pay7 (accOf i x0 x1 x3 r)) (k0_pay8 (accOf i x0 x1 x3 r) x4) x5)
    (k0_pay10 (accOf i x0 x1 x3 r) k0_pay4 x4 x5)
    (k0_pay11 (accOf i x0 x1 x3 r) k0_pay4 x4 x5)
    (k0_pay14 (k0_pay12 (accOf i x0 x1 x3 r)) (k0_pay13 (accOf i x0 x1 x3 r) k0_pay4) x4 x5)
    (k0_pay15 (accOf i x0 x1 x3 r) k0_pay4 x4 x5)
    (k0_pay16 (accOf i x0 x1 x3 r) k0_pay4 x4 x5)
    (k0_pay2 (k0_pay18 i) (k0_pay19 i x1) x0 x3 r k0_pay4 x4 x5)

/-- The block left as it is. -/
def plain (i : grid0.Coords) (x0 : Vec F S1024x2048 .bf16) (x1 : Vec F S1024x128 .f32) (x3 : Vec F S1x2048x1024 .f32) (r : Vec F S1x1x1024 .f32) : Vec F S1024x1024 .bf16 :=
  k0_pay3 (k0_pay18 i) (k0_pay19 i x1) x0 x3 r

theorem rotated_congr (i : grid0.Coords) {x0 x0' : Vec F S1024x2048 .bf16} {x1 x1' : Vec F S1024x128 .f32} {x3 x3' : Vec F S1x2048x1024 .f32} {r r' : Vec F S1x1x1024 .f32}
    {x4 x4' x5 x5' : Vec F S1024x128 .f32} (e0 : x0 = x0') (e1 : x1 = x1') (e3 : x3 = x3') (er : r = r') (e4 : x4 = x4') (e5 : x5 = x5') :
    rotated i x0 x1 x3 r x4 x5 = rotated i x0' x1' x3' r' x4' x5' := by
  rw [e0, e1, e3, er, e4, e5]

theorem plain_congr (i : grid0.Coords) {x0 x0' : Vec F S1024x2048 .bf16} {x1 x1' : Vec F S1024x128 .f32} {x3 x3' : Vec F S1x2048x1024 .f32} {r r' : Vec F S1x1x1024 .f32}
    (e0 : x0 = x0') (e1 : x1 = x1') (e3 : x3 = x3') (er : r = r') : plain i x0 x1 x3 r = plain i x0' x1' x3' r' := by
  rw [e0, e1, e3, er]

/-- On the first row of blocks the row a point adds lies in the slot it has just put. -/
theorem window_slot (i : grid0.Coords) (hc : k0_cond1 i = 1#1) (w : Vec F S1x8x1024 .f32) (xs xs' : Vec F S6x8x1024 .f32) :
    VecWindow.window (VecWindow.put xs (k0_off1 i) S1x8x1024.size w) (k0_off2 i) S1x1x1024.size (k0_off2_inb i)
      = rowOf i (VecWindow.put xs' (k0_off1 i) S1x8x1024.size w) := by
  funext y
  unfold rowOf VecWindow.window VecWindow.put
  have h : ∀ a, k0_off1 i a ≤ ((Rect.unit (s := S6x8x1024) (k0_off2 i) S1x1x1024.size (k0_off2_inb i)).emb y a).val
      ∧ ((Rect.unit (s := S6x8x1024) (k0_off2 i) S1x1x1024.size (k0_off2_inb i)).emb y a).val < k0_off1 i a + S1x8x1024.size a := by
    intro a
    have e : ((Rect.unit (s := S6x8x1024) (k0_off2 i) S1x1x1024.size (k0_off2_inb i)).emb y a).val = k0_off2 i a + 1 * (y a).val := rfl
    have hy : (y a).val < S1x1x1024.size a := (y a).isLt
    have h1 : k0_off1 i a = (![(i 1).val, 0, 0] : Fin 3 → ℕ) a := congrFun (off1_eq i) a
    have h2 : k0_off2 i a = (![(i 1).val, 0, 0] : Fin 3 → ℕ) a := congrFun (off2_first i hc) a
    have h3 : S1x1x1024.size a ≤ S1x8x1024.size a := (by decide : ∀ a : Fin 3, S1x1x1024.size a ≤ S1x8x1024.size a) a
    omega
  rw [dif_pos h, dif_pos h]

set_option maxHeartbeats 2000000 in
/-- The body past the first row of blocks, on a block it leaves as it is. -/
theorem run_later (c : Dev nD) (i : grid0.Coords) (hc : ¬ k0_cond1 i = 1#1) (hr : ¬ k0_cond2 i = 1#1)
    (arg2 : Memref sig .tc .vmem S1024x2048 .bf16) (harg2 : arg2.IsWhole) (arg3 : Memref sig .tc .vmem S1024x128 .f32) (harg3 : arg3.IsWhole)
    (arg4 : Memref sig .tc .vmem S8x12288 .f32) (harg4 : arg4.IsWhole) (arg5 : Memref sig .tc .vmem S1x2048x1024 .f32) (harg5 : arg5.IsWhole)
    (arg6 : Memref sig .tc .vmem S1024x128 .f32) (harg6 : arg6.IsWhole) (arg7 : Memref sig .tc .vmem S1024x128 .f32) (harg7 : arg7.IsWhole)
    (arg8 : Memref sig .tc .vmem S1024x1024 .bf16) (harg8 : arg8.IsWhole) (arg9 : Memref sig .tc .vmem S6x8x1024 .f32) (harg9 : arg9.IsWhole)
    (x0 : Vec F S1024x2048 .bf16) (x1 : Vec F S1024x128 .f32) (x2 : Vec F S8x12288 .f32) (x3 : Vec F S1x2048x1024 .f32) (x4 x5 : Vec F S1024x128 .f32) (xs : Vec F S6x8x1024 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ (∃ d, owns (c : Thread nD τ) arg8 fullShare d) ∗ owns (c : Thread nD τ) arg9 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare (plain i x0 x1 x3 (rowOf i xs))
            ∗ owns (c : Thread nD τ) arg9 fullShare xs) -∗ K ⟨⟩))
      ⊢ wp frame (wpE (defs₀ (F := F)) Variants.none c none) E (cc0_mm_pre_rope i arg2 harg2 arg3 harg3 arg4 harg4 arg5 harg5 arg6 harg6 arg7 harg7 arg8 harg8 arg9 harg9) K := by
  simp only [cc0_mm_pre_rope_eq_skeleton]; unfold cc0_mm_pre_rope_skel
  simp only [k0_part1_eq_skeleton, k0_part2_eq_skeleton, k0_part3_eq_skeleton, k0_part4_eq_skeleton]
  unfold k0_part1_skel k0_part2_skel k0_part3_skel k0_part4_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
  subst hf0 hf1 hf2 hf3 hf4 hf5 hf7
  rw [dif_neg hc]
  simp only [dif_neg hr, dif_pos ((cond3_iff i).mpr hr)]
  sl_exec
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; swap; · iexact H6
    ipureintro
    have e0 := View.readAt_full arg2.view f0 inb_S1024x2048_S1024x2048_0_0
    have e1 := View.readAt_full arg3.view f1 inb_S1024x128_S1024x128_0_0
    have e3 : View.readAt (Elt F) arg5.view (Rect.unit ![0, 0, 0] ![1, 2048, 1024] inb_S1x2048x1024_S1x2048x1024_0_0_0).toLoadRect f3 = arg5.view.read (Elt F) f3 :=
      View.readAt_full arg5.view f3 inb_S1x2048x1024_S1x2048x1024_0_0_0
    have e4 := View.readAt_full arg6.view f4 inb_S1024x128_S1024x128_0_0
    have e5 := View.readAt_full arg7.view f5 inb_S1024x128_S1024x128_0_0
    refine (View.read_writes_full arg8.view f6 inb_S1024x1024_S1024x1024_0_0 _ _).trans ?_
    refine plain_congr i e0 e1 e3 rfl
  · iexists _; isplitr; · ipureintro; rfl
    iexact H7

set_option maxHeartbeats 2000000 in
/-- The body past the first row of blocks, on a block it rotates. -/
theorem run_later_rot (c : Dev nD) (i : grid0.Coords) (hc : ¬ k0_cond1 i = 1#1) (hr : k0_cond2 i = 1#1)
    (arg2 : Memref sig .tc .vmem S1024x2048 .bf16) (harg2 : arg2.IsWhole) (arg3 : Memref sig .tc .vmem S1024x128 .f32) (harg3 : arg3.IsWhole)
    (arg4 : Memref sig .tc .vmem S8x12288 .f32) (harg4 : arg4.IsWhole) (arg5 : Memref sig .tc .vmem S1x2048x1024 .f32) (harg5 : arg5.IsWhole)
    (arg6 : Memref sig .tc .vmem S1024x128 .f32) (harg6 : arg6.IsWhole) (arg7 : Memref sig .tc .vmem S1024x128 .f32) (harg7 : arg7.IsWhole)
    (arg8 : Memref sig .tc .vmem S1024x1024 .bf16) (harg8 : arg8.IsWhole) (arg9 : Memref sig .tc .vmem S6x8x1024 .f32) (harg9 : arg9.IsWhole)
    (x0 : Vec F S1024x2048 .bf16) (x1 : Vec F S1024x128 .f32) (x2 : Vec F S8x12288 .f32) (x3 : Vec F S1x2048x1024 .f32) (x4 x5 : Vec F S1024x128 .f32) (xs : Vec F S6x8x1024 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ (∃ d, owns (c : Thread nD τ) arg8 fullShare d) ∗ owns (c : Thread nD τ) arg9 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare (rotated i x0 x1 x3 (rowOf i xs) x4 x5)
            ∗ owns (c : Thread nD τ) arg9 fullShare xs) -∗ K ⟨⟩))
      ⊢ wp frame (wpE (defs₀ (F := F)) Variants.none c none) E (cc0_mm_pre_rope i arg2 harg2 arg3 harg3 arg4 harg4 arg5 harg5 arg6 harg6 arg7 harg7 arg8 harg8 arg9 harg9) K := by
  simp only [cc0_mm_pre_rope_eq_skeleton]; unfold cc0_mm_pre_rope_skel
  simp only [k0_part1_eq_skeleton, k0_part2_eq_skeleton, k0_part3_eq_skeleton, k0_part4_eq_skeleton]
  unfold k0_part1_skel k0_part2_skel k0_part3_skel k0_part4_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
  subst hf0 hf1 hf2 hf3 hf4 hf5 hf7
  rw [dif_neg hc]
  simp only [dif_pos hr, dif_neg (fun h => (cond3_iff i).mp h hr)]
  sl_exec
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; swap; · iexact H6
    ipureintro
    have e0 := View.readAt_full arg2.view f0 inb_S1024x2048_S1024x2048_0_0
    have e1 := View.readAt_full arg3.view f1 inb_S1024x128_S1024x128_0_0
    have e3 : View.readAt (Elt F) arg5.view (Rect.unit ![0, 0, 0] ![1, 2048, 1024] inb_S1x2048x1024_S1x2048x1024_0_0_0).toLoadRect f3 = arg5.view.read (Elt F) f3 :=
      View.readAt_full arg5.view f3 inb_S1x2048x1024_S1x2048x1024_0_0_0
    have e4 := View.readAt_full arg6.view f4 inb_S1024x128_S1024x128_0_0
    have e5 := View.readAt_full arg7.view f5 inb_S1024x128_S1024x128_0_0
    refine (View.read_writes_eq_canon arg8.view f6 _ (View.cover_of_tiledL _ S1024x128.size (by rfl))).trans ?_
    refine rotated_congr i e0 e1 e3 rfl e4 e5
  · iexists _; isplitr; · ipureintro; rfl
    iexact H7

set_option maxHeartbeats 2000000 in
/-- The body on the first row of blocks, where it fills its slot of the carried table, on a block it leaves as it is. -/
theorem run_first (c : Dev nD) (i : grid0.Coords) (hc : k0_cond1 i = 1#1) (hr : ¬ k0_cond2 i = 1#1)
    (arg2 : Memref sig .tc .vmem S1024x2048 .bf16) (harg2 : arg2.IsWhole) (arg3 : Memref sig .tc .vmem S1024x128 .f32) (harg3 : arg3.IsWhole)
    (arg4 : Memref sig .tc .vmem S8x12288 .f32) (harg4 : arg4.IsWhole) (arg5 : Memref sig .tc .vmem S1x2048x1024 .f32) (harg5 : arg5.IsWhole)
    (arg6 : Memref sig .tc .vmem S1024x128 .f32) (harg6 : arg6.IsWhole) (arg7 : Memref sig .tc .vmem S1024x128 .f32) (harg7 : arg7.IsWhole)
    (arg8 : Memref sig .tc .vmem S1024x1024 .bf16) (harg8 : arg8.IsWhole) (arg9 : Memref sig .tc .vmem S6x8x1024 .f32) (harg9 : arg9.IsWhole)
    (x0 : Vec F S1024x2048 .bf16) (x1 : Vec F S1024x128 .f32) (x2 : Vec F S8x12288 .f32) (x3 : Vec F S1x2048x1024 .f32) (x4 x5 : Vec F S1024x128 .f32) (xs : Vec F S6x8x1024 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ (∃ d, owns (c : Thread nD τ) arg8 fullShare d) ∗ owns (c : Thread nD τ) arg9 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare (plain i x0 x1 x3 (rowOf i (tabPut i x2 x3 xs)))
            ∗ owns (c : Thread nD τ) arg9 fullShare (tabPut i x2 x3 xs)) -∗ K ⟨⟩))
      ⊢ wp frame (wpE (defs₀ (F := F)) Variants.none c none) E (cc0_mm_pre_rope i arg2 harg2 arg3 harg3 arg4 harg4 arg5 harg5 arg6 harg6 arg7 harg7 arg8 harg8 arg9 harg9) K := by
  simp only [cc0_mm_pre_rope_eq_skeleton]; unfold cc0_mm_pre_rope_skel
  simp only [k0_part1_eq_skeleton, k0_part2_eq_skeleton, k0_part3_eq_skeleton, k0_part4_eq_skeleton]
  unfold k0_part1_skel k0_part2_skel k0_part3_skel k0_part4_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
  subst hf0 hf1 hf2 hf3 hf4 hf5 hf7
  rw [dif_pos hc]
  simp only [dif_neg hr, dif_pos ((cond3_iff i).mpr hr)]
  letI : ClosedOff (k0_off1 i) := ⟨![(i 1).val, 0, 0], off1_eq i⟩
  letI : ClosedOff (k0_off2 i) := ⟨![(i 1).val, 0, 0], off2_first i hc⟩
  sl_exec
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; swap; · iexact H6
    ipureintro
    have e0 := View.readAt_full arg2.view f0 inb_S1024x2048_S1024x2048_0_0
    have e1 := View.readAt_full arg3.view f1 inb_S1024x128_S1024x128_0_0
    have e3 : View.readAt (Elt F) arg5.view (Rect.unit ![0, 0, 0] ![1, 2048, 1024] inb_S1x2048x1024_S1x2048x1024_0_0_0).toLoadRect f3 = arg5.view.read (Elt F) f3 :=
      View.readAt_full arg5.view f3 inb_S1x2048x1024_S1x2048x1024_0_0_0
    have e4 := View.readAt_full arg6.view f4 inb_S1024x128_S1024x128_0_0
    have e5 := View.readAt_full arg7.view f5 inb_S1024x128_S1024x128_0_0
    refine (View.read_writes_full arg8.view f6 inb_S1024x1024_S1024x1024_0_0 _ _).trans ?_
    refine plain_congr i e0 e1 e3 ?_
    unfold run_first.sl.v47 run_first.sl.H7_1
    refine (View.readAt_unit arg9.view _ (k0_off2_inb i) rfl (k0_off2_inb i)).trans ?_
    rw [View.read_writes_cons_put arg9.view _ (k0_off1_inb i hc) _ _ rfl, e3]
    exact window_slot i hc _ _ _
  · iexists _; isplitr; swap; · iexact H7
    ipureintro
    unfold run_first.sl.H7_1
    rw [View.read_writes_cons_put arg9.view _ (k0_off1_inb i hc) _ _ rfl, View.writes_nil]
    refine congrArg (fun z : Vec F S1x2048x1024 .f32 => VecWindow.put (arg9.view.read (Elt F) f7) (k0_off1 i) S1x8x1024.size (k0_pay17 (shiftCols (arg4.view.read (Elt F) f2)) z)) ?_
    exact View.readAt_full arg5.view f3 inb_S1x2048x1024_S1x2048x1024_0_0_0

set_option maxHeartbeats 2000000 in
/-- The body on the first row of blocks, where it fills its slot of the carried table, on a block it rotates. -/
theorem run_first_rot (c : Dev nD) (i : grid0.Coords) (hc : k0_cond1 i = 1#1) (hr : k0_cond2 i = 1#1)
    (arg2 : Memref sig .tc .vmem S1024x2048 .bf16) (harg2 : arg2.IsWhole) (arg3 : Memref sig .tc .vmem S1024x128 .f32) (harg3 : arg3.IsWhole)
    (arg4 : Memref sig .tc .vmem S8x12288 .f32) (harg4 : arg4.IsWhole) (arg5 : Memref sig .tc .vmem S1x2048x1024 .f32) (harg5 : arg5.IsWhole)
    (arg6 : Memref sig .tc .vmem S1024x128 .f32) (harg6 : arg6.IsWhole) (arg7 : Memref sig .tc .vmem S1024x128 .f32) (harg7 : arg7.IsWhole)
    (arg8 : Memref sig .tc .vmem S1024x1024 .bf16) (harg8 : arg8.IsWhole) (arg9 : Memref sig .tc .vmem S6x8x1024 .f32) (harg9 : arg9.IsWhole)
    (x0 : Vec F S1024x2048 .bf16) (x1 : Vec F S1024x128 .f32) (x2 : Vec F S8x12288 .f32) (x3 : Vec F S1x2048x1024 .f32) (x4 x5 : Vec F S1024x128 .f32) (xs : Vec F S6x8x1024 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ (∃ d, owns (c : Thread nD τ) arg8 fullShare d) ∗ owns (c : Thread nD τ) arg9 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare (rotated i x0 x1 x3 (rowOf i (tabPut i x2 x3 xs)) x4 x5)
            ∗ owns (c : Thread nD τ) arg9 fullShare (tabPut i x2 x3 xs)) -∗ K ⟨⟩))
      ⊢ wp frame (wpE (defs₀ (F := F)) Variants.none c none) E (cc0_mm_pre_rope i arg2 harg2 arg3 harg3 arg4 harg4 arg5 harg5 arg6 harg6 arg7 harg7 arg8 harg8 arg9 harg9) K := by
  simp only [cc0_mm_pre_rope_eq_skeleton]; unfold cc0_mm_pre_rope_skel
  simp only [k0_part1_eq_skeleton, k0_part2_eq_skeleton, k0_part3_eq_skeleton, k0_part4_eq_skeleton]
  unfold k0_part1_skel k0_part2_skel k0_part3_skel k0_part4_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
  subst hf0 hf1 hf2 hf3 hf4 hf5 hf7
  rw [dif_pos hc]
  simp only [dif_pos hr, dif_neg (fun h => (cond3_iff i).mp h hr)]
  letI : ClosedOff (k0_off1 i) := ⟨![(i 1).val, 0, 0], off1_eq i⟩
  letI : ClosedOff (k0_off2 i) := ⟨![(i 1).val, 0, 0], off2_first i hc⟩
  sl_exec
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; swap; · iexact H6
    ipureintro
    have e0 := View.readAt_full arg2.view f0 inb_S1024x2048_S1024x2048_0_0
    have e1 := View.readAt_full arg3.view f1 inb_S1024x128_S1024x128_0_0
    have e3 : View.readAt (Elt F) arg5.view (Rect.unit ![0, 0, 0] ![1, 2048, 1024] inb_S1x2048x1024_S1x2048x1024_0_0_0).toLoadRect f3 = arg5.view.read (Elt F) f3 :=
      View.readAt_full arg5.view f3 inb_S1x2048x1024_S1x2048x1024_0_0_0
    have e4 := View.readAt_full arg6.view f4 inb_S1024x128_S1024x128_0_0
    have e5 := View.readAt_full arg7.view f5 inb_S1024x128_S1024x128_0_0
    refine (View.read_writes_eq_canon arg8.view f6 _ (View.cover_of_tiledL _ S1024x128.size (by rfl))).trans ?_
    refine rotated_congr i e0 e1 e3 ?_ e4 e5
    unfold run_first_rot.sl.v47 run_first_rot.sl.H7_1
    refine (View.readAt_unit arg9.view _ (k0_off2_inb i) rfl (k0_off2_inb i)).trans ?_
    rw [View.read_writes_cons_put arg9.view _ (k0_off1_inb i hc) _ _ rfl, e3]
    exact window_slot i hc _ _ _
  · iexists _; isplitr; swap; · iexact H7
    ipureintro
    unfold run_first_rot.sl.H7_1
    rw [View.read_writes_cons_put arg9.view _ (k0_off1_inb i hc) _ _ rfl, View.writes_nil]
    refine congrArg (fun z : Vec F S1x2048x1024 .f32 => VecWindow.put (arg9.view.read (Elt F) f7) (k0_off1 i) S1x8x1024.size (k0_pay17 (shiftCols (arg4.view.read (Elt F) f2)) z)) ?_
    exact View.readAt_full arg5.view f3 inb_S1x2048x1024_S1x2048x1024_0_0_0

end Cert.Kernel8Ideal.Rope

end
-- ==== Proof.RopeFrameI.lean ====
module

public import proofs.«01_k».proof.Proof.RopeBodyI

@[expose] public section

set_option maxRecDepth 16384

noncomputable section

namespace Cert.Kernel8Ideal.Rope

open Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The grid -/

theorem cond1_iff : ∀ t : Fin grid0.N, k0_cond1 (grid0.coords t) = 1#1 ↔ t.val < 6 := by decide +kernel

theorem live_6 : ∀ t : Fin grid0.N, idle0 6 (grid0.coords t) = false := by decide +kernel

theorem off1_at : ∀ t : Fin grid0.N, k0_off1 (grid0.coords t) = ![t.val % 6, 0, 0] := by decide +kernel

theorem off1_inb : ∀ i : grid0.Coords, ∀ a, k0_off1 i a + S1x8x1024.size a ≤ S6x8x1024.size a := by decide +kernel

theorem off2_zero (i : grid0.Coords) : k0_off2 i 0 = k0_off1 i 0 := by
  revert i; decide +kernel

theorem mix_inb (i : grid0.Coords) : ∀ a, (![0, k0_off2 i 1, 0] : Fin 3 → ℕ) a + S1x1x1024.size a ≤ S1x8x1024.size a := by
  revert i; decide +kernel

/-- The point of the first row of blocks in the same column. -/
def top (t : Fin cfg0.N) : Fin cfg0.N := ⟨t.val % 6, lt_of_le_of_lt (Nat.mod_le _ _) t.isLt⟩

/-- The slot of the carried table a point reads. -/
def slotOf (i : grid0.Coords) (xs : Vec F S6x8x1024 .f32) : Vec F S1x8x1024 .f32 :=
  VecWindow.window xs (k0_off1 i) S1x8x1024.size (off1_inb i)

/-- A slot's row of the point's batch. -/
def mixRow (i : grid0.Coords) (w : Vec F S1x8x1024 .f32) : Vec F S1x1x1024 .f32 :=
  VecWindow.window w ![0, k0_off2 i 1, 0] S1x1x1024.size (mix_inb i)

theorem rowOf_eq (i : grid0.Coords) (xs : Vec F S6x8x1024 .f32) : rowOf i xs = mixRow i (slotOf i xs) := by
  funext y
  unfold rowOf mixRow slotOf VecWindow.window
  refine congrArg xs (funext fun a => Fin.ext ?_)
  have h1 := off1_eq i
  have h0 := off2_zero i
  have h2 : k0_off2 i 2 = 0 := rfl
  show k0_off2 i a + 1 * (y a).val = k0_off1 i a + 1 * ((![0, k0_off2 i 1, 0] : Fin 3 → ℕ) a + 1 * (y a).val)
  fin_cases a <;> simp [h1, h0, h2]

theorem slotOf_congr {i j : grid0.Coords} (h : k0_off1 i = k0_off1 j) (xs : Vec F S6x8x1024 .f32) : slotOf i xs = slotOf j xs := by
  have e : ∀ (o o' : Fin 3 → ℕ) (b b'), o = o' → VecWindow.window (s := S6x8x1024) xs o S1x8x1024.size b = VecWindow.window (s := S6x8x1024) xs o' S1x8x1024.size b' := by
    rintro o o' b b' rfl; rfl
  exact e _ _ _ _ h

theorem slotOf_put_same (i : grid0.Coords) (w : Vec F S1x8x1024 .f32) (xs : Vec F S6x8x1024 .f32) :
    slotOf i (VecWindow.put xs (k0_off1 i) S1x8x1024.size w) = w :=
  VecWindow.window_put_same xs (k0_off1 i) S1x8x1024.size (off1_inb i) w

theorem slotOf_put_ne {s t : Fin grid0.N} (h : s.val % 6 ≠ t.val % 6) (w : Vec F S1x8x1024 .f32) (xs : Vec F S6x8x1024 .f32) :
    slotOf (grid0.coords s) (VecWindow.put xs (k0_off1 (grid0.coords t)) S1x8x1024.size w) = slotOf (grid0.coords s) xs := by
  refine VecWindow.window_put_of_disjoint xs _ S1x8x1024.size _ S1x8x1024.size (off1_inb _) w (0 : Fin 3) ?_
  rw [off1_at, off1_at]
  show s.val % 6 + 1 ≤ t.val % 6 ∨ t.val % 6 + 1 ≤ s.val % 6
  omega

variable (m : (ℓ : Loc nD τ sig) → Buf (Elt F) ℓ) (ρ : Dev nD → PrngReg)

/-! ## What the carried table and the output hold -/

/-- What a point of the first row of blocks puts into its slot. -/
def shAt (c : Dev nD) (t : Fin cfg0.N) : Vec F S1x8x1024 .f32 := k0_pay17 (shiftCols (iblk m c 2 t)) (iblk m c 3 t)

/-- The slots of the points of the first row of blocks before position `n` hold what those points put there. -/
def Kept (c : Dev nD) (n : ℕ) (xs : Vec F S6x8x1024 .f32) : Prop :=
  ∀ s : Fin cfg0.N, s.val < n → s.val < 6 → slotOf (grid0.coords s) xs = shAt m c s

/-- What a point leaves in its output block, from the row of the carried table it adds. -/
def outOf (c : Dev nD) (t : Fin cfg0.N) (r : Vec F S1x1x1024 .f32) : Vec F S1024x1024 .bf16 :=
  if k0_cond2 (grid0.coords t) = 1#1 then rotated (grid0.coords t) (iblk m c 0 t) (iblk m c 1 t) (iblk m c 3 t) r (iblk m c 4 t) (iblk m c 5 t)
  else plain (grid0.coords t) (iblk m c 0 t) (iblk m c 1 t) (iblk m c 3 t) r

/-- What a point writes: the scaled product with the scaled row of the carried table, rotated where the point rotates. -/
def outAt (c : Dev nD) (t : Fin cfg0.N) : Vec F S1024x1024 .bf16 := outOf m c t (mixRow (grid0.coords t) (shAt m c (top t)))

theorem kept_put (c : Dev nD) (t : Fin cfg0.N) (xs : Vec F S6x8x1024 .f32) (h : Kept m c t.val xs) (ht : t.val < 6) :
    Kept m c (t.val + 1) (tabPut (grid0.coords t) (iblk m c 2 t) (iblk m c 3 t) xs) := by
  intro s hs hs8
  unfold tabPut
  rcases Nat.lt_or_ge s.val t.val with hlt | hge
  · rw [slotOf_put_ne (by omega)]
    exact h s hlt hs8
  · have e : s = t := Fin.ext (by omega)
    subst e
    exact slotOf_put_same _ _ _

theorem kept_later (c : Dev nD) (t : Fin cfg0.N) (xs : Vec F S6x8x1024 .f32) (h : Kept m c t.val xs) (ht : ¬ t.val < 6) :
    Kept m c (t.val + 1) xs := fun s hs hs8 => h s (by omega) hs8

theorem out_of_kept (c : Dev nD) (t : Fin cfg0.N) (xs : Vec F S6x8x1024 .f32) (h : Kept m c (t.val + 1) xs) :
    outOf m c t (rowOf (grid0.coords t) xs) = outAt m c t := by
  unfold outAt
  have e : k0_off1 (grid0.coords t) = k0_off1 (grid0.coords (top t)) := by
    rw [off1_at t, off1_at (top t)]
    show _ = ![t.val % 6 % 6, 0, 0]
    rw [Nat.mod_mod]
  rw [rowOf_eq, slotOf_congr e, h (top t) (by show t.val % 6 < t.val + 1; omega) (by show t.val % 6 < 6; omega)]

/-! ## The pipeline's proof data -/

/-- The invariant: the carried table with the slots put so far, and the generator register. -/
def Phi (c : Dev nD) (n : ℕ) : sProp 𝕄 :=
  iprop(∃ xs : Vec F S6x8x1024 .f32, ⌜Kept m c n xs⌝ ∗ owns (c : Thread nD τ) (Memref.whole cc0_scratch0) fullShare xs ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ t := Phi m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation -/

theorem leaves_live (c : Dev nD) (w : Fin cfg0.W) (t : Fin cfg0.N) (hi : cfg0.idle w (cfg0.grid.coords t) = false) :
    (dats (F := F) m 0 c).leavesExact w t = owns (c : Thread nD τ) ((cfg0.win w).stage (cfg0.slots t w)) fullShare ((dats m 0 c).after w t) := by
  unfold Dat.leavesExact; rw [hi]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (dats m 0 c).leavesExact 6 t)

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = Phi m c (t.val + 1) from rfl, show (dats m 0 c).Φ t.castSucc = Phi m c t.val from rfl,
    show (dats m 0 c).owesAt () t.succ = (dats m 0 c).owesAt () t.castSucc from rfl,
    leaves_live m c 6 t (live_6 t), after0_0, after0_1, after0_2, after0_3, after0_4, after0_5, after0_6]
  unfold Phi
  iintro ⟨⟨%xs, %hx, HS, Hr⟩, Ho, ⟨%d0, H0⟩, ⟨%d1, H1⟩, ⟨%d2, H2⟩, ⟨%d3, H3⟩, ⟨%d4, H4⟩, ⟨%d5, H5⟩, ⟨%d6, H6⟩⟩
  by_cases hc : k0_cond1 (grid0.coords t) = 1#1
  · have hk := kept_put m c t xs hx ((cond1_iff t).mp hc)
    rw [← out_of_kept m c t _ hk]
    unfold outOf
    by_cases hr : k0_cond2 (grid0.coords t) = 1#1
    · rw [if_pos hr]
      iapply (run_first_rot c (grid0.coords t) hc hr _ _ _ _ _ _ _ _ _ _ _ _ _ _ _ _ (iblk m c 0 t) (iblk m c 1 t) (iblk m c 2 t) (iblk m c 3 t) (iblk m c 4 t) (iblk m c 5 t) xs Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, H6, HS⟩
      isplitl [HS Hr]
      · iexists _; isplitr
        · ipureintro; exact hk
        isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [if_neg hr]
      iapply (run_first c (grid0.coords t) hc hr _ _ _ _ _ _ _ _ _ _ _ _ _ _ _ _ (iblk m c 0 t) (iblk m c 1 t) (iblk m c 2 t) (iblk m c 3 t) (iblk m c 4 t) (iblk m c 5 t) xs Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, H6, HS⟩
      isplitl [HS Hr]
      · iexists _; isplitr
        · ipureintro; exact hk
        isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
  · have hk := kept_later m c t xs hx (fun h => hc ((cond1_iff t).mpr h))
    rw [← out_of_kept m c t _ hk]
    unfold outOf
    by_cases hr : k0_cond2 (grid0.coords t) = 1#1
    · rw [if_pos hr]
      iapply (run_later_rot c (grid0.coords t) hc hr _ _ _ _ _ _ _ _ _ _ _ _ _ _ _ _ (iblk m c 0 t) (iblk m c 1 t) (iblk m c 2 t) (iblk m c 3 t) (iblk m c 4 t) (iblk m c 5 t) xs Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, H6, HS⟩
      isplitl [HS Hr]
      · iexists _; isplitr
        · ipureintro; exact hk
        isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [if_neg hr]
      iapply (run_later c (grid0.coords t) hc hr _ _ _ _ _ _ _ _ _ _ _ _ _ _ _ _ (iblk m c 0 t) (iblk m c 1 t) (iblk m c 2 t) (iblk m c 3 t) (iblk m c 4 t) (iblk m c 5 t) xs Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, H6, HS⟩
      isplitl [HS Hr]
      · iexists _; isplitr
        · ipureintro; exact hk
        isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

theorem phi_in (c : Dev nD) : (Pipeline.ΦA spec0 c : sProp 𝕄) ⊢ (dats m 0 c).Φ 0 := by
  show _ ⊢ Phi m c 0
  unfold Pipeline.ΦA Phi
  rw [scopedRest0_eq]
  iintro ⟨⟨%f, H⟩, Hr⟩
  iexists f
  isplitr
  · ipureintro; exact fun s hs => absurd hs (Nat.not_lt_zero _)
  isplitl [H]
  · rw [owns_whole]; iexact H
  iexact Hr

theorem phi_out (c : Dev nD) : (dats m 0 c).Φ (Fin.last cfg0.N) ⊢ (Pipeline.ΦA spec0 c : sProp 𝕄) := by
  show Phi m c _ ⊢ _
  unfold Pipeline.ΦA Phi
  rw [scopedRest0_eq]
  simp only [owns_whole]
  iintro ⟨%xs, %hx, H, Hr⟩
  isplitl [H]
  · iexists xs; iexact H
  iexact Hr

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := phi_in m) (hout := phi_out m)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.Kernel8Ideal.Rope

end
-- ==== Proof.RopeFrame.lean ====
module

public import proofs.«01_k».proof.Proof.RopeFrameI
public import proofs.«01_k».proof.Proof.Gen.Kernel8

/-! The frame of the rotated attention projection: its float program is, at any carrier of floats, the program of its
ideal reading, no operation having been replaced, so the frame of the one is the frame of the other. -/

@[expose] public section

set_option maxRecDepth 65536

noncomputable section

namespace Cert.Kernel8.Rope

open Cert.Kernel8.Gen Idealize.ShloMosaic Idealize.ShloMosaic.TcCoe Idealize.SL.Sem

variable {F : FTy → Type} [FloatOps F]

/-- The two tables of kernel bodies are one table. -/
theorem bodies_eq : (defs₀ : Defs nD τ sig (Elt F) Λ₀) = Cert.Kernel8Ideal.defs₀ (F := F) := by
  unfold defs₀ Cert.Kernel8Ideal.defs₀
  refine congrArg Defs.onTc ?_
  funext l x
  match l, x with
  | 0, (t, s) => rfl
  | ⟨_ + 1, h⟩, _ => exact absurd h (Nat.not_lt.2 (Nat.le_add_left _ _))

/-- So are the tables with the pipelines added. -/
theorem defs_eq : (defs : Defs nD τ sig (Elt F) (Pipeline.Sig Λ₀ (Fin 1) fun p => (pcfgs (F := F) p).Adm))
    = Cert.Kernel8Ideal.defs (F := F) :=
  congrArg (Pipeline.defs pcfgs) bodies_eq

variable (m : (ℓ : Loc nD τ sig) → Buf (Elt F) ℓ) (ρ : Dev nD → PrngReg)

/-- The arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  rw [defs_eq]
  exact Cert.Kernel8Ideal.Rope.frame m ρ

end Cert.Kernel8.Rope

end
-- ==== Proof.Attn.lean ====
/-
  The differential attention of one query row, over the extended reals: the kernel's order of operations (base-2
  exponentials, one division of the row at the end) and the reference's (natural exponentials, both softmaxes divided
  first) give the same weighted sum of the values.
-/
module

public import Idealize.ShloMosaic.Lib.Pointwise

@[expose] public section

set_option maxRecDepth 16384

noncomputable section

namespace Cert.Attn

open Idealize.ShloMosaic Idealize.SL.Sem

/-- An extended real that is a real. -/
def Rl (x : EReal) : Prop := ∃ r : ℝ, x = (r : EReal)

theorem Rl.mul {x y : EReal} (hx : Rl x) (hy : Rl y) : Rl (x * y) := by
  obtain ⟨a, rfl⟩ := hx
  obtain ⟨b, rfl⟩ := hy
  exact ⟨a * b, (EReal.coe_mul a b).symm⟩

theorem Rl.max {x y : EReal} (hx : Rl x) (hy : Rl y) : Rl (max x y) := by
  rcases max_choice x y with h | h <;> rw [h] <;> assumption

theorem Rl.of_abs_lt {x : EReal} (h : Max.max x (-x) < ⊤) : Rl x := by
  induction x with
  | bot => simp at h
  | top => simp at h
  | coe r => exact ⟨r, rfl⟩

theorem sum_coe {ι : Type} [Fintype ι] (f : ι → ℝ) : ∑ i, (f i : EReal) = ((∑ i, f i : ℝ) : EReal) := by
  classical
  induction (Finset.univ : Finset ι) using Finset.induction_on with
  | empty => simp
  | insert a s ha ih => rw [Finset.sum_insert ha, Finset.sum_insert ha, ih, EReal.coe_add]

/-- The maximum of a family of reals, folded from −∞, is −∞ or a real; over a family with a member it is a real. -/
theorem fold_real {ι : Type} (s : Finset ι) (f : ι → EReal) (hf : ∀ i, Rl (f i)) (hs : s.Nonempty) :
    Rl (s.fold Max.max ⊥ f) := by
  classical
  induction hs using Finset.Nonempty.cons_induction with
  | singleton a => simpa using hf a
  | cons a s ha hs ih => rw [Finset.fold_cons]; exact (hf a).max ih

/-- A sum times a nonnegative real is the sum of the products. -/
theorem sum_mul_coe {ι : Type} [Fintype ι] (f : ι → EReal) (r : ℝ) (hr : 0 ≤ r) :
    (∑ i, f i) * (r : EReal) = ∑ i, f i * (r : EReal) := by
  classical
  induction (Finset.univ : Finset ι) using Finset.induction_on with
  | empty => simp
  | insert a s ha ih =>
    rw [Finset.sum_insert ha, Finset.sum_insert ha,
      EReal.right_distrib_of_nonneg_of_ne_top (by exact_mod_cast hr) (EReal.coe_ne_top r), ih]

theorem div_real (x : EReal) (y : ℝ) (hy : y ≠ 0) : Ideal.div x (y : EReal) = x * ((y⁻¹ : ℝ) : EReal) := by
  rw [Ideal.div, if_neg (by exact_mod_cast hy), EReal.coe_inv]

/-- The row's weighted sum: `p1`, `p2` are the kernel's unnormalised weights, `a * p1`, `b * p2` the reference's. -/
theorem core {ι : Type} [Fintype ι] [Nonempty ι] (p1 p2 : ι → ℝ) (h1 : ∀ i, 0 < p1 i) (h2 : ∀ i, 0 < p2 i) (a b : ℝ)
    (ha : 0 < a) (hb : 0 < b) (lam : EReal) (v : ι → EReal) :
    (∑ i, ((p1 i : EReal) - Ideal.div (lam * ∑ k, (p1 k : EReal)) (∑ k, (p2 k : EReal)) * (p2 i : EReal)) * v i)
        * Ideal.div 1 (∑ k, (p1 k : EReal))
      = ∑ i, v i * (Ideal.div ((a * p1 i : ℝ) : EReal) (∑ k, ((a * p1 k : ℝ) : EReal))
          - lam * Ideal.div ((b * p2 i : ℝ) : EReal) (∑ k, ((b * p2 k : ℝ) : EReal))) := by
  have hS1 : 0 < ∑ k, p1 k := Finset.sum_pos (fun i _ => h1 i) Finset.univ_nonempty
  have hS2 : 0 < ∑ k, p2 k := Finset.sum_pos (fun i _ => h2 i) Finset.univ_nonempty
  simp only [sum_coe, ← Finset.mul_sum]
  generalize ∑ k, p1 k = S1 at *
  generalize ∑ k, p2 k = S2 at *
  have ha1 : a * S1 ≠ 0 := (mul_pos ha hS1).ne'
  have hb1 : b * S2 ≠ 0 := (mul_pos hb hS2).ne'
  simp only [div_real _ _ hS1.ne', div_real _ _ hS2.ne', div_real _ _ ha1, div_real _ _ hb1, one_mul]
  rw [sum_mul_coe _ _ (inv_pos.2 hS1).le]
  refine Finset.sum_congr rfl fun i _ => ?_
  have hi := h2 i
  rw [mul_right_comm, mul_comm (v i)]
  congr 1
  induction lam with
  | bot =>
    rw [EReal.bot_mul_coe_of_pos hS1, EReal.bot_mul_coe_of_pos (inv_pos.2 hS2), EReal.bot_mul_coe_of_pos hi, ← EReal.coe_mul (b * p2 i),
      EReal.bot_mul_coe_of_pos (mul_pos (mul_pos hb hi) (inv_pos.2 (mul_pos hb hS2))), ← EReal.coe_mul (a * p1 i), EReal.coe_sub_bot,
      EReal.coe_sub_bot, EReal.top_mul_coe_of_pos (inv_pos.2 hS1)]
  | top =>
    rw [EReal.top_mul_coe_of_pos hS1, EReal.top_mul_coe_of_pos (inv_pos.2 hS2), EReal.top_mul_coe_of_pos hi, ← EReal.coe_mul (b * p2 i),
      EReal.top_mul_coe_of_pos (mul_pos (mul_pos hb hi) (inv_pos.2 (mul_pos hb hS2))), ← EReal.coe_mul (a * p1 i), EReal.sub_top,
      EReal.sub_top, EReal.bot_mul_coe_of_pos (inv_pos.2 hS1)]
  | coe l =>
    simp only [← EReal.coe_mul, ← EReal.coe_sub]
    congr 1
    field_simp

/-- The kernel's row: base-2 exponentials of the scores `s` (2048 latent columns) and `c` (256 context columns). -/
def kOut (lam : EReal) (s1 : Fin 2048 → EReal) (c1 : Fin 256 → EReal) (s2 : Fin 2048 → EReal) (c2 : Fin 256 → EReal) (M1 M2 : EReal)
    (v : Fin 2048 → EReal) (vc : Fin 256 → EReal) : EReal :=
  ((∑ i, (Ideal.exp2 (s1 i - M1) - Ideal.div (lam * (∑ k, Ideal.exp2 (s1 k - M1) + ∑ k, Ideal.exp2 (c1 k - M1)))
          (∑ k, Ideal.exp2 (s2 k - M2) + ∑ k, Ideal.exp2 (c2 k - M2)) * Ideal.exp2 (s2 i - M2)) * v i)
    + ∑ i, (Ideal.exp2 (c1 i - M1) - Ideal.div (lam * (∑ k, Ideal.exp2 (s1 k - M1) + ∑ k, Ideal.exp2 (c1 k - M1)))
          (∑ k, Ideal.exp2 (s2 k - M2) + ∑ k, Ideal.exp2 (c2 k - M2)) * Ideal.exp2 (c2 i - M2)) * vc i)
    * Ideal.div 1 (∑ k, Ideal.exp2 (s1 k - M1) + ∑ k, Ideal.exp2 (c1 k - M1))

/-- The maximum of the two pieces of a row of scores. -/
def kMax (s : Fin 2048 → EReal) (c : Fin 256 → EReal) : EReal :=
  max (Finset.univ.fold max ⊥ s) (Finset.univ.fold max ⊥ c)

/-- One softmax weight of the reference: `t` is the score, `M` the row's maximum, the row is `s` and `c`. -/
def rProb (t M : EReal) (s : Fin 2048 → EReal) (c : Fin 256 → EReal) : EReal :=
  Ideal.div (Ideal.exp (t - M)) (∑ k, Ideal.exp (s k - M) + ∑ k, Ideal.exp (c k - M))

/-- The reference's row: the values times the difference of the two softmaxes. -/
def rOut (lam : EReal) (s1 : Fin 2048 → EReal) (c1 : Fin 256 → EReal) (s2 : Fin 2048 → EReal) (c2 : Fin 256 → EReal) (M1 M2 : EReal)
    (v : Fin 2048 → EReal) (vc : Fin 256 → EReal) : EReal :=
  (∑ i, v i * (rProb (s1 i) M1 s1 c1 - lam * rProb (s2 i) M2 s2 c2))
    + ∑ i, vc i * (rProb (c1 i) M1 s1 c1 - lam * rProb (c2 i) M2 s2 c2)

/-- `2 ^ (s - N)` in terms of the natural exponential, up to the row's factor. -/
theorem exp_exp2 (s N M : ℝ) :
    Ideal.exp (((s * Real.log 2 : ℝ) : EReal) - (M : EReal)) = ((Real.exp (N * Real.log 2 - M) * Real.rpow 2 (s - N) : ℝ) : EReal) := by
  rw [← EReal.coe_sub, Ideal.exp_coe]
  congr 1
  show _ = Real.exp _ * (2 : ℝ) ^ (s - N)
  rw [Real.rpow_def_of_pos (by norm_num), ← Real.exp_add]
  congr 1
  ring

theorem row (lam : EReal) (s1 : Fin 2048 → ℝ) (c1 : Fin 256 → ℝ) (s2 : Fin 2048 → ℝ) (c2 : Fin 256 → ℝ) (M1 M2 N1 N2 : ℝ)
    (v : Fin 2048 → EReal) (vc : Fin 256 → EReal) :
    kOut lam (fun i => s1 i) (fun i => c1 i) (fun i => s2 i) (fun i => c2 i) N1 N2 v vc
      = rOut lam (fun i => ((s1 i * Real.log 2 : ℝ) : EReal)) (fun i => ((c1 i * Real.log 2 : ℝ) : EReal))
          (fun i => ((s2 i * Real.log 2 : ℝ) : EReal)) (fun i => ((c2 i * Real.log 2 : ℝ) : EReal)) M1 M2 v vc := by
  have e2 : ∀ s N : ℝ, Ideal.exp2 ((s : EReal) - (N : EReal)) = ((Real.rpow 2 (s - N) : ℝ) : EReal) := fun s N => by
    rw [← EReal.coe_sub, Ideal.exp2_coe]
  have hp : ∀ x : ℝ, 0 < Real.rpow 2 x := fun x => Real.rpow_pos_of_pos (by norm_num) x
  have := core (ι := Fin 2048 ⊕ Fin 256) (Sum.elim (fun i => Real.rpow 2 (s1 i - N1)) fun i => Real.rpow 2 (c1 i - N1))
    (Sum.elim (fun i => Real.rpow 2 (s2 i - N2)) fun i => Real.rpow 2 (c2 i - N2))
    (by rintro (i | i) <;> exact hp _) (by rintro (i | i) <;> exact hp _)
    (Real.exp (N1 * Real.log 2 - M1)) (Real.exp (N2 * Real.log 2 - M2)) (Real.exp_pos _) (Real.exp_pos _) lam (Sum.elim v vc)
  simp only [Fintype.sum_sum_type, Sum.elim_inl, Sum.elim_inr] at this
  simp only [kOut, rOut, rProb, e2, exp_exp2 _ N1 M1, exp_exp2 _ N2 M2]
  exact this

theorem init_bot : Ideal.ofBits .f32 0xFF800000#32 = ⊥ := by simp [Ideal.ofBits, Ideal.ieee]

/-- The normalisation of a row, its weight and the last factor. -/
def fin (ov : Fin 256 → EReal) (e : Fin 256) (w : EReal) : EReal :=
  ov e * Ideal.rsqrt (Ideal.div (∑ e', ov e' * ov e') (Ideal.ofBits .f32 0x43800000#32) + Ideal.ofBits .f32 0x3727C5AC#32) * w
    * Ideal.ofBits .f32 0x3F077F5A#32

/-! ## The whole attention, from the array `X` of queries, keys and values -/

variable (X : Fin 9216 → Fin 6144 → EReal)

/-- Query row `r` of batch `b`, head pair `h`, component `p`, against latent key row `i`; the query is multiplied by `lead`. -/
def kSc (lead : EReal) (b : Fin 4) (h : Fin 8) (p : Fin 2) (r i : Fin 2048) : EReal :=
  ∑ d : Fin 128, X ⟨2048 * b.val + r.val, by omega⟩ ⟨256 * h.val + 128 * p.val + d.val, by omega⟩ * lead
    * X ⟨2048 * b.val + i.val, by omega⟩ ⟨2048 + 256 * h.val + 128 * p.val + d.val, by omega⟩

/-- The same against context key row `i`. -/
def kScC (lead : EReal) (b : Fin 4) (h : Fin 8) (p : Fin 2) (r : Fin 2048) (i : Fin 256) : EReal :=
  ∑ d : Fin 128, X ⟨2048 * b.val + r.val, by omega⟩ ⟨256 * h.val + 128 * p.val + d.val, by omega⟩ * lead
    * X ⟨8192 + 256 * b.val + i.val, by omega⟩ ⟨2048 + 256 * h.val + 128 * p.val + d.val, by omega⟩

/-- The latent value rows of head pair `h`, column `e`. -/
def vS (b : Fin 4) (h : Fin 8) (e : Fin 256) (i : Fin 2048) : EReal :=
  X ⟨2048 * b.val + i.val, by omega⟩ ⟨4096 + 256 * h.val + e.val, by omega⟩

/-- The context value rows. -/
def vC (b : Fin 4) (h : Fin 8) (e : Fin 256) (i : Fin 256) : EReal :=
  X ⟨8192 + 256 * b.val + i.val, by omega⟩ ⟨4096 + 256 * h.val + e.val, by omega⟩

/-- The kernel's row before its normalisation. -/
def kRow (lam lead : EReal) (b : Fin 4) (h : Fin 8) (r : Fin 2048) (e : Fin 256) : EReal :=
  kOut lam (kSc X lead b h 0 r) (kScC X lead b h 0 r) (kSc X lead b h 1 r) (kScC X lead b h 1 r)
    (kMax (kSc X lead b h 0 r) (kScC X lead b h 0 r)) (kMax (kSc X lead b h 1 r) (kScC X lead b h 1 r)) (vS X b h e) (vC X b h e)

/-- What the kernel computes. -/
def kAttn (lam lead : EReal) (W : Fin 256 → EReal) (b : Fin 4) (h : Fin 8) (r : Fin 2048) (e : Fin 256) : EReal :=
  fin (kRow X lam lead b h r) e (W e)

/-- The lambda of the layer, from its four vectors. -/
def lamOf (a : Fin 4 → Fin 128 → EReal) : EReal :=
  Ideal.exp (∑ d, a 0 d * a 1 d) - Ideal.exp (∑ d, a 2 d * a 3 d) + Ideal.ofBits .f32 0x3EF1014C#32

/-- A score of the reference, latent key row `i`. -/
def rSc (scale : EReal) (b : Fin 4) (h : Fin 8) (p : Fin 2) (r i : Fin 2048) : EReal :=
  (∑ d : Fin 128, X ⟨2048 * b.val + r.val, by omega⟩ ⟨256 * h.val + 128 * p.val + d.val, by omega⟩
    * X ⟨2048 * b.val + i.val, by omega⟩ ⟨2048 + 256 * h.val + 128 * p.val + d.val, by omega⟩) * scale

/-- A score of the reference, context key row `i`. -/
def rScC (scale : EReal) (b : Fin 4) (h : Fin 8) (p : Fin 2) (r : Fin 2048) (i : Fin 256) : EReal :=
  (∑ d : Fin 128, X ⟨2048 * b.val + r.val, by omega⟩ ⟨256 * h.val + 128 * p.val + d.val, by omega⟩
    * X ⟨8192 + 256 * b.val + i.val, by omega⟩ ⟨2048 + 256 * h.val + 128 * p.val + d.val, by omega⟩) * scale

/-- The reference's row before its normalisation; `M p` is the maximum subtracted in component `p`. -/
def rRow (lam scale : EReal) (M : Fin 2 → EReal) (b : Fin 4) (h : Fin 8) (r : Fin 2048) (e : Fin 256) : EReal :=
  rOut lam (rSc X scale b h 0 r) (rScC X scale b h 0 r) (rSc X scale b h 1 r) (rScC X scale b h 1 r) (M 0) (M 1) (vS X b h e) (vC X b h e)

/-- A sum over the latent and the context rows, cut in two. -/
theorem sum_rows (f : Fin 2304 → EReal) :
    ∑ k, f k = ∑ i : Fin 2048, f ⟨i.val, by omega⟩ + ∑ i : Fin 256, f ⟨2048 + i.val, by omega⟩ :=
  Fin.sum_univ_add (a := 2048) (b := 256) f

/-- The two factors the scores are multiplied by: `lead` before the product, `scale` after it. -/
def leadOf : EReal := Ideal.div 1 (Ideal.sqrt (Ideal.ofBits .f32 0x43000000#32) * Ideal.log (Ideal.ofBits .f32 0x40000000#32))
def scaleOf : EReal := Ideal.div 1 (Ideal.sqrt (Ideal.ofBits .f32 0x43000000#32))

theorem leadOf_real : leadOf = (((Real.sqrt 128 * Real.log 2)⁻¹ : ℝ) : EReal) := by
  have h1 : Ideal.ofBits .f32 0x43000000#32 = ((128 : ℝ) : EReal) := by simp [Ideal.ofBits, Ideal.ieee, -EReal.coe_mul]; norm_num
  have h2 : Ideal.ofBits .f32 0x40000000#32 = ((2 : ℝ) : EReal) := by simp [Ideal.ofBits, Ideal.ieee, -EReal.coe_mul]; norm_num
  have hs : 0 < Real.sqrt 128 := Real.sqrt_pos.2 (by norm_num)
  have hl : 0 < Real.log 2 := Real.log_pos (by norm_num)
  rw [leadOf, h1, h2, Ideal.sqrt_coe, Ideal.log_coe, if_neg (by norm_num), if_neg (by norm_num), ← EReal.coe_mul,
    div_real _ _ (mul_pos hs hl).ne', one_mul]

theorem scaleOf_real : scaleOf = (((Real.sqrt 128)⁻¹ : ℝ) : EReal) := by
  have h1 : Ideal.ofBits .f32 0x43000000#32 = ((128 : ℝ) : EReal) := by simp [Ideal.ofBits, Ideal.ieee, -EReal.coe_mul]; norm_num
  have hs : 0 < Real.sqrt 128 := Real.sqrt_pos.2 (by norm_num)
  rw [scaleOf, h1, Ideal.sqrt_coe, if_neg (by norm_num), div_real _ _ hs.ne', one_mul]

/-- One score: the reference's is the kernel's times `log 2`, both real when the entries are. -/
theorem score (q k : Fin 128 → EReal) (hq : ∀ d, Rl (q d)) (hk : ∀ d, Rl (k d)) :
    ∃ s : ℝ, ∑ d, q d * leadOf * k d = (s : EReal) ∧ (∑ d, q d * k d) * scaleOf = ((s * Real.log 2 : ℝ) : EReal) := by
  choose q' hq using hq
  choose k' hk using hk
  refine ⟨∑ d, q' d * (Real.sqrt 128 * Real.log 2)⁻¹ * k' d, ?_, ?_⟩
  · rw [← sum_coe]
    exact Finset.sum_congr rfl fun d _ => by rw [hq, hk, leadOf_real, ← EReal.coe_mul, ← EReal.coe_mul]
  · have : ∀ d, q d * k d = ((q' d * k' d : ℝ) : EReal) := fun d => by rw [hq, hk, EReal.coe_mul]
    rw [Finset.sum_congr rfl fun d _ => this d, sum_coe, scaleOf_real, ← EReal.coe_mul]
    congr 1
    rw [Finset.sum_mul, Finset.sum_mul]
    have hl : 0 < Real.log 2 := Real.log_pos (by norm_num)
    have hs : 0 < Real.sqrt 128 := Real.sqrt_pos.2 (by norm_num)
    exact Finset.sum_congr rfl fun d _ => by field_simp

/-- Over real queries and keys the kernel's row is the reference's, whatever real maxima the reference subtracts. -/
theorem rows_eq (hX : ∀ i (j : Fin 6144), j.val < 4096 → Rl (X i j)) (lam : EReal) (M : Fin 2 → EReal) (hM : ∀ p, Rl (M p))
    (b : Fin 4) (h : Fin 8) (r : Fin 2048) (e : Fin 256) : kRow X lam leadOf b h r e = rRow X lam scaleOf M b h r e := by
  have hs : ∀ p i, ∃ s : ℝ, kSc X leadOf b h p r i = (s : EReal) ∧ rSc X scaleOf b h p r i = ((s * Real.log 2 : ℝ) : EReal) := fun p i =>
    score _ _ (fun d => hX _ _ (by simp only []; omega)) fun d => hX _ _ (by simp only []; omega)
  have hc : ∀ p i, ∃ s : ℝ, kScC X leadOf b h p r i = (s : EReal) ∧ rScC X scaleOf b h p r i = ((s * Real.log 2 : ℝ) : EReal) := fun p i =>
    score _ _ (fun d => hX _ _ (by simp only []; omega)) fun d => hX _ _ (by simp only []; omega)
  choose s hs1 hs2 using hs
  choose t ht1 ht2 using hc
  have hk : ∀ p, Rl (kMax (kSc X leadOf b h p r) (kScC X leadOf b h p r)) := fun p =>
    (fold_real _ _ (fun i => ⟨_, hs1 p i⟩) Finset.univ_nonempty).max (fold_real _ _ (fun i => ⟨_, ht1 p i⟩) Finset.univ_nonempty)
  unfold kRow rRow
  obtain ⟨N0, hN0⟩ := hk 0
  obtain ⟨N1, hN1⟩ := hk 1
  obtain ⟨M0, hM0⟩ := hM 0
  obtain ⟨M1, hM1⟩ := hM 1
  rw [hN0, hN1, hM0, hM1, show kSc X leadOf b h 0 r = _ from funext (hs1 0), show kSc X leadOf b h 1 r = _ from funext (hs1 1),
    show kScC X leadOf b h 0 r = _ from funext (ht1 0), show kScC X leadOf b h 1 r = _ from funext (ht1 1),
    show rSc X scaleOf b h 0 r = _ from funext (hs2 0), show rSc X scaleOf b h 1 r = _ from funext (hs2 1),
    show rScC X scaleOf b h 0 r = _ from funext (ht2 0), show rScC X scaleOf b h 1 r = _ from funext (ht2 1)]
  exact row lam _ _ _ _ M0 M1 N0 N1 _ _

end Cert.Attn
-- ==== Proof.Up.lean ====
/-
  The up-projection over the extended reals: scaling the product and adding the shift's product, and scaling and shifting
  the row first, give the same entry when the factors are real.
-/
module

public import proofs.«01_k».proof.Proof.Attn

@[expose] public section

set_option maxRecDepth 16384

noncomputable section

namespace Cert.Up

open Idealize.ShloMosaic Idealize.SL.Sem
open Cert.Attn

theorem one_eq : Ideal.ofBits .f32 0x3F800000#32 = 1 := by
  simp [Ideal.ofBits, Ideal.ieee, -EReal.coe_mul]; norm_num

theorem zero_eq : Ideal.ofBits .f32 0x00000000#32 = 0 := by simp [Ideal.ofBits, Ideal.ieee]

theorem dim_eq : Ideal.ofBits .f32 0x45000000#32 = ((2048 : ℝ) : EReal) := by
  simp [Ideal.ofBits, Ideal.ieee, -EReal.coe_mul]; norm_num

theorem inv_eq : Ideal.ofBits .f32 0x3A000000#32 = (((2048 : ℝ)⁻¹ : ℝ) : EReal) := by
  simp [Ideal.ofBits, Ideal.ieee, -EReal.coe_mul]; norm_num

theorem eps_eq : ∃ e : ℝ, 0 < e ∧ Ideal.ofBits .f32 0x358637BD#32 = (e : EReal) := by
  refine ⟨_, ?_, by simp [Ideal.ofBits, Ideal.ieee, -EReal.coe_mul]; rfl⟩
  norm_num

/-- The row's factor from the sum of its squares. -/
def rOf (S : EReal) : EReal := Ideal.rsqrt (Ideal.div S (Ideal.ofBits .f32 0x45000000#32) + Ideal.ofBits .f32 0x358637BD#32)

theorem rOf_mul (S : EReal) : Ideal.rsqrt (S * Ideal.ofBits .f32 0x3A000000#32 + Ideal.ofBits .f32 0x358637BD#32) = rOf S := by
  rw [rOf, dim_eq, inv_eq, div_real _ _ (by norm_num)]

theorem rOf_nonneg (S : EReal) (h : 0 ≤ S) : ∃ r : ℝ, 0 ≤ r ∧ rOf S = (r : EReal) := by
  obtain ⟨e, he, hb⟩ := eps_eq
  rw [← rOf_mul, inv_eq, hb]
  induction S with
  | bot => simp at h
  | top =>
    rw [EReal.top_mul_coe_of_pos (by norm_num), EReal.top_add_coe]
    exact ⟨0, le_rfl, rfl⟩
  | coe s =>
    have hs : (0 : ℝ) ≤ s := by exact_mod_cast h
    rw [← EReal.coe_mul, ← EReal.coe_add, Ideal.rsqrt_coe]
    have hp : 0 < s * 2048⁻¹ + e := by positivity
    rw [if_neg (not_lt.2 hp.le), if_neg hp.ne']
    exact ⟨_, by positivity, rfl⟩

/-- A real nonnegative factor goes into a sum. -/
theorem sum_mul_nonneg {n : ℕ} (f : Fin n → EReal) (r : ℝ) (hr : 0 ≤ r) : (∑ k, f k) * (r : EReal) = ∑ k, f k * (r : EReal) := by
  have h0 : (0 : EReal) ≤ (r : EReal) := by exact_mod_cast hr
  induction n with
  | zero => simp
  | succ n ih =>
    rw [Fin.sum_univ_succ, Fin.sum_univ_succ, EReal.right_distrib_of_nonneg_of_ne_top h0 (EReal.coe_ne_top r), ih]

/-- A real factor goes into a sum of which one term is real. -/
theorem add_real_mul (a : EReal) (s w : ℝ) : (a + (s : EReal)) * (w : EReal) = a * (w : EReal) + (s : EReal) * (w : EReal) := by
  induction a with
  | coe a => rw [← EReal.coe_add, ← EReal.coe_mul, ← EReal.coe_mul, ← EReal.coe_mul, ← EReal.coe_add, add_mul]
  | bot =>
    rw [EReal.bot_add, ← EReal.coe_mul]
    rcases lt_trichotomy w 0 with h | rfl | h
    · rw [EReal.bot_mul_coe_of_neg h, EReal.top_add_coe]
    · simp
    · rw [EReal.bot_mul_coe_of_pos h, EReal.bot_add]
  | top =>
    rw [EReal.top_add_coe, ← EReal.coe_mul]
    rcases lt_trichotomy w 0 with h | rfl | h
    · rw [EReal.top_mul_coe_of_neg h, EReal.bot_add]
    · simp
    · rw [EReal.top_mul_coe_of_pos h, EReal.top_add_coe]

/-- The scaled product plus the shift's product is the product of the scaled and shifted row, whatever the row. -/
theorem affine_eq (x s w : Fin 2048 → EReal) (S : EReal) (hs : ∀ k, Rl (s k)) (hw : ∀ k, Rl (w k)) (hS : 0 ≤ S) :
    (∑ k, x k * w k) * rOf S + ∑ k, s k * w k = ∑ k, (x k * rOf S + s k) * w k := by
  obtain ⟨r, hr0, hr⟩ := rOf_nonneg S hS
  choose s' hs using hs
  choose w' hw using hw
  rw [hr, sum_mul_nonneg _ r hr0, ← Finset.sum_add_distrib]
  refine Finset.sum_congr rfl fun k _ => ?_
  rw [hs, hw, add_real_mul, mul_right_comm]

/-- The factor of a column of the query, key and value projection: that of the scores in base 2 for the queries. -/
def leadAt (n : ℕ) : EReal := if n < 2048 then Ideal.ofBits .f32 0x3E0293EE#32 else 1

theorem leadAt_congr {n n' : ℕ} (h : n < 2048 ↔ n' < 2048) : leadAt n = leadAt n' := by simp only [leadAt, h]

theorem leadAt_nonneg (n : ℕ) : ∃ r : ℝ, 0 ≤ r ∧ leadAt n = (r : EReal) := by
  unfold leadAt
  split
  · refine ⟨_, ?_, by simp [Ideal.ofBits, Ideal.ieee, -EReal.coe_mul]; rfl⟩
    norm_num
  · exact ⟨1, zero_le_one, rfl⟩

/-- The kernel's entry of the query, key and value projection. -/
def kLead (x s w : Fin 2048 → EReal) (S L : EReal) : EReal := (∑ k, x k * w k) * (rOf S * L) + (∑ k, s k * w k) * L

theorem lead_eq (x s w : Fin 2048 → EReal) (S : EReal) (n : ℕ) (hs : ∀ k, Rl (s k)) (hw : ∀ k, Rl (w k)) (hS : 0 ≤ S) :
    kLead x s w S (leadAt n) = (∑ k, (x k * rOf S + s k) * w k) * leadAt n := by
  obtain ⟨r, hr0, hr⟩ := leadAt_nonneg n
  have h0 : (0 : EReal) ≤ (r : EReal) := by exact_mod_cast hr0
  unfold kLead
  rw [← affine_eq x s w S hs hw hS, hr, EReal.right_distrib_of_nonneg_of_ne_top h0 (EReal.coe_ne_top r), mul_assoc]

/-- The square of the positive part. -/
def relu2 (x : EReal) : EReal := max x 0 * max x 0

/-- The kernel's entry. -/
def kUp (x s w : Fin 2048 → EReal) (S : EReal) : EReal := relu2 ((∑ k, x k * w k) * rOf S + ∑ k, s k * w k)

/-- The reference's entry. -/
def rUp (x s w : Fin 2048 → EReal) (S : EReal) : EReal := relu2 (∑ k, (x k * rOf S + s k) * w k)

theorem up_eq (x s w : Fin 2048 → EReal) (S : EReal) (hs : ∀ k, Rl (s k)) (hw : ∀ k, Rl (w k)) (hS : 0 ≤ S) :
    kUp x s w S = rUp x s w S := congrArg relu2 (affine_eq x s w S hs hw hS)

end Cert.Up

end
-- ==== Proof.RopeVal.lean ====
/-
  The output array of the projection with rotated queries and keys, from the argument arrays.
-/
module

public import proofs.«01_k».proof.Proof.RopeFrameI
public import proofs.«01_k».proof.Proof.Up
public import Idealize.ShloMosaic.Lib.Pipeline.ValueKit

@[expose] public section

set_option maxRecDepth 16384

noncomputable section

namespace Cert.Kernel8Ideal.Rope

open Cert.Kernel8Ideal Cert.Kernel8Ideal.Gen Idealize.ShloMosaic Idealize.ShloMosaic.TcCoe Idealize.SL.Sem
open Cert.Attn Cert.Up

/-- The first halves of each 64 lanes. -/
theorem mask_at (a : Fin 1024) (l : Fin 128) : k0_pay4 (ix2 a l) = if l.val % 64 < 32 then 1#1 else 0#1 := by
  pointwise [k0_pay4]
  revert l
  decide +kernel

theorem select_if (p : Prop) [Decidable p] (x y : EReal) : Scalar.select (if p then 1#1 else 0#1) x y = if p then x else y := by
  split <;> rfl

/-- A block's entry turned with its partner 32 columns away. -/
def turn (v : FVec Ideal S1024x1024 .f32) (cs sn : Vec Ideal S1024x128 .f32) (a b : Fin 1024) : EReal :=
  v (ix2 a b) * cs (ix2 a ⟨b.val % 128, by omega⟩)
    + (if b.val % 64 < 32 then v (ix2 a ⟨(b.val + 32) % 1024, by omega⟩) else v (ix2 a ⟨b.val - 32, by omega⟩)) * sn (ix2 a ⟨b.val % 128, by omega⟩)

/-- The entry of a group of 128 columns that starts at a multiple of 128, turned within the group. -/
theorem turn_group (v : FVec Ideal S1024x1024 .f32) (cs sn : Vec Ideal S1024x128 .f32) (a : Fin 1024) (l : Fin 128) (b : Fin 1024) (j1 j2 : Fin 1024)
    (hb : b.val % 128 = l.val) (h1 : j1.val = b.val - l.val + (l.val + 128 - 96) % 128) (h2 : j2.val = b.val - l.val + (l.val + 128 - 32) % 128) :
    v (ix2 a b) * cs (ix2 a l) + Scalar.select (if l.val % 64 < 32 then 1#1 else 0#1) (v (ix2 a j1)) (v (ix2 a j2)) * sn (ix2 a l) = turn v cs sn a b := by
  rw [select_if]
  unfold turn
  have el : (⟨b.val % 128, by omega⟩ : Fin 128) = l := Fin.ext hb
  rw [el]
  congr 2
  by_cases h : l.val % 64 < 32
  · rw [if_pos h, if_pos (by omega)]
    exact congrArg (fun j => v (ix2 a j)) (Fin.ext (by simp only []; omega))
  · rw [if_neg h, if_neg (by omega)]
    exact congrArg (fun j => v (ix2 a j)) (Fin.ext (by simp only []; omega))

section
variable (v : FVec Ideal S1024x1024 .f32) (cs sn : Vec Ideal S1024x128 .f32) (a : Fin 1024) (l : Fin 128) (b : Fin 1024)

theorem piece0_at (hb : b.val = 0 + l.val) : k0_pay5 (F := Ideal) v cs sn (ix2 a l) = turn v cs sn a b := by
  obtain rfl : b = ⟨0 + l.val, by clear hb; omega⟩ := Fin.ext hb
  pointwise [k0_pay5, mask_at]
  refine Eq.trans ?_ (turn_group v cs sn a l _ ⟨0 + (l.val + 128 - 96) % 128, by omega⟩ ⟨0 + (l.val + 128 - 32) % 128, by omega⟩ (by simp only []; omega) (by simp only []; omega) (by simp only []; omega))
  congr 2 <;> simp

theorem piece1_at (hb : b.val = 128 + l.val) : k0_pay9 (F := Ideal) (k0_pay7 v) (k0_pay8 v cs) sn (ix2 a l) = turn v cs sn a b := by
  obtain rfl : b = ⟨128 + l.val, by clear hb; omega⟩ := Fin.ext hb
  pointwise [k0_pay9, k0_pay7, k0_pay8, k0_pay6, mask_at]
  refine Eq.trans ?_ (turn_group v cs sn a l _ ⟨128 + (l.val + 128 - 96) % 128, by omega⟩ ⟨128 + (l.val + 128 - 32) % 128, by omega⟩ (by simp only []; omega) (by simp only []; omega) (by simp only []; omega))
  congr 2 <;> simp

theorem piece2_at (hb : b.val = 256 + l.val) : k0_pay10 (F := Ideal) v k0_pay4 cs sn (ix2 a l) = turn v cs sn a b := by
  obtain rfl : b = ⟨256 + l.val, by clear hb; omega⟩ := Fin.ext hb
  pointwise [k0_pay10, mask_at]
  refine Eq.trans ?_ (turn_group v cs sn a l _ ⟨256 + (l.val + 128 - 96) % 128, by omega⟩ ⟨256 + (l.val + 128 - 32) % 128, by omega⟩ (by simp only []; omega) (by simp only []; omega) (by simp only []; omega))
  congr 2 <;> simp

theorem piece3_at (hb : b.val = 384 + l.val) : k0_pay11 (F := Ideal) v k0_pay4 cs sn (ix2 a l) = turn v cs sn a b := by
  obtain rfl : b = ⟨384 + l.val, by clear hb; omega⟩ := Fin.ext hb
  pointwise [k0_pay11, mask_at]
  refine Eq.trans ?_ (turn_group v cs sn a l _ ⟨384 + (l.val + 128 - 96) % 128, by omega⟩ ⟨384 + (l.val + 128 - 32) % 128, by omega⟩ (by simp only []; omega) (by simp only []; omega) (by simp only []; omega))
  congr 2 <;> simp

theorem piece4_at (hb : b.val = 512 + l.val) : k0_pay14 (F := Ideal) (k0_pay12 v) (k0_pay13 v k0_pay4) cs sn (ix2 a l) = turn v cs sn a b := by
  obtain rfl : b = ⟨512 + l.val, by clear hb; omega⟩ := Fin.ext hb
  pointwise [k0_pay14, k0_pay12, k0_pay13, mask_at]
  refine Eq.trans ?_ (turn_group v cs sn a l _ ⟨512 + (l.val + 128 - 96) % 128, by omega⟩ ⟨512 + (l.val + 128 - 32) % 128, by omega⟩ (by simp only []; omega) (by simp only []; omega) (by simp only []; omega))
  congr 2 <;> simp

theorem piece5_at (hb : b.val = 640 + l.val) : k0_pay15 (F := Ideal) v k0_pay4 cs sn (ix2 a l) = turn v cs sn a b := by
  obtain rfl : b = ⟨640 + l.val, by clear hb; omega⟩ := Fin.ext hb
  pointwise [k0_pay15, mask_at]
  refine Eq.trans ?_ (turn_group v cs sn a l _ ⟨640 + (l.val + 128 - 96) % 128, by omega⟩ ⟨640 + (l.val + 128 - 32) % 128, by omega⟩ (by simp only []; omega) (by simp only []; omega) (by simp only []; omega))
  congr 2 <;> simp

theorem piece6_at (hb : b.val = 768 + l.val) : k0_pay16 (F := Ideal) v k0_pay4 cs sn (ix2 a l) = turn v cs sn a b := by
  obtain rfl : b = ⟨768 + l.val, by clear hb; omega⟩ := Fin.ext hb
  pointwise [k0_pay16, mask_at]
  refine Eq.trans ?_ (turn_group v cs sn a l _ ⟨768 + (l.val + 128 - 96) % 128, by omega⟩ ⟨768 + (l.val + 128 - 32) % 128, by omega⟩ (by simp only []; omega) (by simp only []; omega) (by simp only []; omega))
  congr 2 <;> simp

end

/-- The last group, read as the seventh is. -/
def lastOf (v : FVec Ideal S1024x1024 .f32) (cs sn : Vec Ideal S1024x128 .f32) : FVec Ideal S1024x128 .bf16 :=
  truncf .bf16 (addf (mulf (extractStridedSlice S1024x128 ![0, 896] v slices_S1024x1024_o0_896_S1024x128) (shapeCast S1024x128 cs shapeCasts_S1024x128_S1024x128))
    (mulf (select k0_pay4 (dynamicRotate 1 96#32 none (extractStridedSlice S1024x128 ![0, 896] v slices_S1024x1024_o0_896_S1024x128) rotates_S1024x128_d1)
      (dynamicRotate 1 32#32 none (extractStridedSlice S1024x128 ![0, 896] v slices_S1024x1024_o0_896_S1024x128) rotates_S1024x128_d1))
      (shapeCast S1024x128 sn shapeCasts_S1024x128_S1024x128))) bitsLt_bf16_f32

section
variable (v : FVec Ideal S1024x1024 .f32) (cs sn : Vec Ideal S1024x128 .f32) (a : Fin 1024) (l : Fin 128) (b : Fin 1024)

theorem piece7_at (hb : b.val = 896 + l.val) : lastOf v cs sn (ix2 a l) = turn v cs sn a b := by
  obtain rfl : b = ⟨896 + l.val, by clear hb; omega⟩ := Fin.ext hb
  pointwise [lastOf, mask_at]
  refine Eq.trans ?_ (turn_group v cs sn a l _ ⟨896 + (l.val + 128 - 96) % 128, by omega⟩ ⟨896 + (l.val + 128 - 32) % 128, by omega⟩ (by simp only []; omega) (by simp only []; omega) (by simp only []; omega))
  congr 2 <;> simp

end

theorem rotated_at (i : grid0.Coords) (x0 : Vec Ideal S1024x2048 .bf16) (x1 : Vec Ideal S1024x128 .f32) (x3 : Vec Ideal S1x2048x1024 .f32) (r : Vec Ideal S1x1x1024 .f32)
    (x4 x5 : Vec Ideal S1024x128 .f32) (a b : Fin 1024) : rotated (F := Ideal) i x0 x1 x3 r x4 x5 (ix2 a b) = turn (accOf i x0 x1 x3 r) x4 x5 a b := by
  have e7 : k0_pay2 (F := Ideal) (k0_pay18 i) (k0_pay19 i x1) x0 x3 r k0_pay4 x4 x5 = lastOf (accOf i x0 x1 x3 r) x4 x5 := rfl
  unfold rotated eight
  rw [e7]
  canon_tiles x h
  · idx_vars x
    obtain rfl : a = x0 := Fin.ext h0
    exact piece7_at _ _ _ _ _ _ (by have := h1; omega)
  · idx_vars x
    obtain rfl : a = x0 := Fin.ext h0
    exact piece6_at _ _ _ _ _ _ (by have := h1; omega)
  · idx_vars x
    obtain rfl : a = x0 := Fin.ext h0
    exact piece5_at _ _ _ _ _ _ (by have := h1; omega)
  · idx_vars x
    obtain rfl : a = x0 := Fin.ext h0
    exact piece4_at _ _ _ _ _ _ (by have := h1; omega)
  · idx_vars x
    obtain rfl : a = x0 := Fin.ext h0
    exact piece3_at _ _ _ _ _ _ (by have := h1; omega)
  · idx_vars x
    obtain rfl : a = x0 := Fin.ext h0
    exact piece2_at _ _ _ _ _ _ (by have := h1; omega)
  · idx_vars x
    obtain rfl : a = x0 := Fin.ext h0
    exact piece1_at _ _ _ _ _ _ (by have := h1; omega)
  · idx_vars x
    obtain rfl : a = x0 := Fin.ext h0
    exact piece0_at _ _ _ _ _ _ (by have := h1; omega)

theorem pay19_at (i : grid0.Coords) (v : Vec Ideal S1024x128 .f32) (a : Fin 1024) :
    k0_pay19 (F := Ideal) i v (ix2 a 0) = rOf (∑ l : Fin 128, v (ix2 a l)) * k0_pay18 (F := Ideal) i := by
  rw [← rOf_mul]
  pointwise [k0_pay19]

theorem pay17_at (v : Vec Ideal S8x2048 .f32) (w : Vec Ideal S1x2048x1024 .f32) (q : Fin 8) (b : Fin 1024) :
    k0_pay17 (F := Ideal) v w (ix3 0 q b) = ∑ k : Fin 2048, v (ix2 q k) * w (ix3 0 k b) := by
  pointwise [k0_pay17]

theorem pay1_at (e : EReal) (r : Vec Ideal S1024x1 .f32) (x : Vec Ideal S1024x2048 .bf16) (w : Vec Ideal S1x2048x1024 .f32) (s : Vec Ideal S1x1x1024 .f32) (a b : Fin 1024) :
    k0_pay1 (F := Ideal) e r x w s (ix2 a b) = (∑ k : Fin 2048, x (ix2 a k) * w (ix3 0 k b)) * r (ix2 a 0) + s (ix3 0 0 b) * e := by
  pointwise [k0_pay1]

theorem isQuery : ∀ t : Fin grid0.N, Scalar.cmpi .slt (BitVec.ofNat 32 (grid0.coords t 1).val) 2#32 = if t.val % 6 < 2 then 1#1 else 0#1 := by
  decide +kernel

theorem pay18_at (t : Fin grid0.N) : k0_pay18 (F := Ideal) (grid0.coords t) = leadAt (1024 * (t.val % 6)) := by
  unfold k0_pay18 leadAt
  simp only [isQuery t]
  by_cases h : t.val % 6 < 2
  · rw [if_pos h, if_pos (by omega)]; rfl
  · rw [if_neg h, if_neg (by omega)]; exact one_eq

variable (m : (ℓ : Loc nD τ sig) → Buf (Elt Ideal) ℓ)

theorem idx : ∀ t : Fin cfg0.N, win0_0.index t = ![t.val / 6, 0] ∧ win0_1.index t = ![t.val / 6, 0] ∧ win0_2.index t = ![0, 0]
    ∧ win0_3.index t = ![0, 0, t.val % 6] ∧ win0_4.index t = ![t.val / 6 % 2, 0] ∧ win0_5.index t = ![t.val / 6 % 2, 0] ∧ win0_6.index t = ![t.val / 6, t.val % 6] :=
  (by decide +kernel : ∀ t : Fin grid0.N, _)

theorem off2_mid : ∀ t : Fin grid0.N, k0_off2 (grid0.coords t) 1 = min (t.val / 12) 4 := by decide +kernel

theorem tlt (t : Fin cfg0.N) : t.val < 54 := t.isLt

def X (c : Dev nD) (i : Fin 9216) (k : Fin 2048) : EReal := m ((c : Thread nD τ).loc main_arg0) (ix2 i k)
def Q (c : Dev nD) (i : Fin 9216) (l : Fin 128) : EReal := m ((c : Thread nD τ).loc main_arg1) (ix2 i l)
def M (c : Dev nD) (q : Fin 8) (k : Fin 12288) : EReal := m ((c : Thread nD τ).loc main_arg2) (ix2 q k)
def W (c : Dev nD) (k : Fin 2048) (j : Fin 6144) : EReal := m ((c : Thread nD τ).loc main_arg3) (ix3 0 k j)

theorem b0_at (c : Dev nD) (t : Fin cfg0.N) (a : Fin 1024) (k : Fin 2048) :
    iblk m c 0 t (ix2 a k) = X m c ⟨1024 * (t.val / 6) + a.val, by have := tlt t; omega⟩ k := by
  blk_ext [iblk, V, idx t, X]

theorem b1_at (c : Dev nD) (t : Fin cfg0.N) (a : Fin 1024) (l : Fin 128) :
    iblk m c 1 t (ix2 a l) = Q m c ⟨1024 * (t.val / 6) + a.val, by have := tlt t; omega⟩ l := by
  blk_ext [iblk, V, idx t, Q]

theorem b2_at (c : Dev nD) (t : Fin cfg0.N) (q : Fin 8) (k : Fin 12288) : iblk m c 2 t (ix2 q k) = M m c q k := by
  blk_ext [iblk, V, idx t, M]

theorem b3_at (c : Dev nD) (t : Fin cfg0.N) (k : Fin 2048) (b : Fin 1024) :
    iblk m c 3 t (ix3 0 k b) = W m c k ⟨1024 * (t.val % 6) + b.val, by omega⟩ := by
  blk_ext [iblk, V, idx t, W]

theorem shift_at (x : Vec Ideal S8x12288 .f32) (q : Fin 8) (k : Fin 2048) : shiftCols x (ix2 q k) = x (ix2 q ⟨k.val, by omega⟩) := by
  refine congrArg x (funext fun a => Fin.ext ?_)
  show (![0, 0] : Fin 2 → ℕ) a + 1 * (ix2 q k a).val = _
  fin_cases a
  · show 0 + 1 * q.val = q.val; omega
  · show 0 + 1 * k.val = k.val; omega

theorem mix_at (i : grid0.Coords) (w : Vec Ideal S1x8x1024 .f32) (q : Fin 8) (hq : k0_off2 i 1 = q.val) (b : Fin 1024) :
    mixRow i w (ix3 0 0 b) = w (ix3 0 q b) := by
  refine congrArg w (funext fun a => Fin.ext ?_)
  show (![0, k0_off2 i 1, 0] : Fin 3 → ℕ) a + 1 * (ix3 (0 : Fin 1) (0 : Fin 1) b a).val = _
  fin_cases a
  · rfl
  · show k0_off2 i 1 + 1 * 0 = q.val; omega
  · show 0 + 1 * b.val = b.val; omega

/-- The modulation row of a row of the array. -/
def mrow (R : Fin 9216) : Fin 8 := ⟨min (R.val / 2048) 4, by omega⟩

/-- The entry of the result. -/
def entry (c : Dev nD) (R : Fin 9216) (C : Fin 6144) : EReal :=
  kLead (X m c R) (fun k => M m c (mrow R) ⟨k.val, by omega⟩) (fun k => W m c k C) (∑ l, Q m c R l) (leadAt C.val)

/-- The cosines and sines of a position, an axis and a frequency. -/
def CS (c : Dev nD) (s : Fin 2048) (x : Fin 2) (f : Fin 32) : EReal := m ((c : Thread nD τ).loc main_arg4) (ix3 s x f)
def SN (c : Dev nD) (s : Fin 2048) (x : Fin 2) (f : Fin 32) : EReal := m ((c : Thread nD τ).loc main_arg5) (ix3 s x f)

theorem b4_at (c : Dev nD) (t : Fin cfg0.N) (a : Fin 1024) (l : Fin 128) :
    iblk m c 4 t (ix2 a l) = CS m c ⟨(1024 * (t.val / 6) + a.val) % 2048, by omega⟩ ⟨l.val / 64, by omega⟩ ⟨l.val % 32, by omega⟩ := by
  have h : ∀ (s : Fin 2048) (l : Fin 128), V m c main_v11 (ix2 s l) = CS m c s ⟨l.val / 64, by omega⟩ ⟨l.val % 32, by omega⟩ := fun s l => by
    entry_read
    pointwise [CS]
  refine Eq.trans ?_ (h ⟨(1024 * (t.val / 6) + a.val) % 2048, by omega⟩ l)
  blk_ext [iblk, V, idx t]

/-- The sign the sine table carries in each half. -/
theorem sign_at (l : Fin 128) : Ideal.ofBits FTy.f32 (lit0 (S2.rowMajor (ix1 (⟨l.val / 32 % 2, by omega⟩ : Fin 2)))) = if l.val % 64 < 32 then -1 else 1 := by
  have h : ∀ z : Fin 2, Ideal.ofBits FTy.f32 (lit0 (S2.rowMajor (ix1 z))) = if z.val = 0 then -1 else 1 := by
    intro z
    fin_cases z
    · show Ideal.ofBits .f32 0xBF800000#32 = -1
      simp [Ideal.ofBits, Ideal.ieee, -EReal.coe_mul]; norm_num
    · exact one_eq
  rw [h]
  by_cases e : l.val % 64 < 32
  · rw [if_pos e, if_pos (by show l.val / 32 % 2 = 0; omega)]
  · rw [if_neg e, if_neg (by show ¬ l.val / 32 % 2 = 0; omega)]

theorem b5_at (c : Dev nD) (t : Fin cfg0.N) (a : Fin 1024) (l : Fin 128) :
    iblk m c 5 t (ix2 a l) = SN m c ⟨(1024 * (t.val / 6) + a.val) % 2048, by omega⟩ ⟨l.val / 64, by omega⟩ ⟨l.val % 32, by omega⟩ * (if l.val % 64 < 32 then -1 else 1) := by
  have h : ∀ (s : Fin 2048) (l : Fin 128), V m c main_v14 (ix2 s l) = SN m c s ⟨l.val / 64, by omega⟩ ⟨l.val % 32, by omega⟩ * (if l.val % 64 < 32 then -1 else 1) := fun s l => by
    entry_read
    pointwise
    refine congrArg (fun z : EReal => SN m c s ⟨l.val / 64, by omega⟩ ⟨l.val % 32, by omega⟩ * z) ?_
    exact sign_at l
  refine Eq.trans ?_ (h ⟨(1024 * (t.val / 6) + a.val) % 2048, by omega⟩ l)
  blk_ext [iblk, V, idx t]

/-- The product's entry at a point, before the rotation. -/
theorem acc_at (c : Dev nD) (t : Fin cfg0.N) (a b : Fin 1024) :
    accOf (grid0.coords t) (iblk m c 0 t) (iblk m c 1 t) (iblk m c 3 t) (mixRow (grid0.coords t) (shAt m c (top t))) (ix2 a b) = entry m c ⟨1024 * (t.val / 6) + a.val, by have := tlt t; omega⟩ ⟨1024 * (t.val % 6) + b.val, by omega⟩ := by
  unfold accOf shAt
  rw [pay1_at, pay19_at, pay18_at, mix_at _ _ (mrow ⟨1024 * (t.val / 6) + a.val, by have := tlt t; omega⟩) (by
    rw [off2_mid]; show _ = min ((1024 * (t.val / 6) + a.val) / 2048) 4; omega), pay17_at]
  simp only [b0_at, b1_at, b3_at, shift_at, b2_at]
  have e : (⟨1024 * ((top t).val % 6) + b.val, by omega⟩ : Fin 6144) = ⟨1024 * (t.val % 6) + b.val, by omega⟩ :=
    Fin.ext (by show 1024 * (t.val % 6 % 6) + b.val = 1024 * (t.val % 6) + b.val; rw [Nat.mod_mod])
  have el : leadAt (1024 * (t.val % 6)) = leadAt (1024 * (t.val % 6) + b.val) := leadAt_congr (by omega)
  rw [e, el]
  rfl

theorem rot_iff : ∀ t : Fin grid0.N, k0_cond2 (grid0.coords t) = 1#1 ↔ t.val / 6 < 8 ∧ t.val % 6 < 4 := by decide +kernel

/-- An array's entry after the rotation of the latents' queries and keys by the angles whose cosines and sines are given. -/
def spun (p : Fin 9216 → Fin 6144 → EReal) (cs sn : Fin 2048 → Fin 2 → Fin 32 → EReal) (R : Fin 9216) (C : Fin 6144) : EReal :=
  if R.val < 8192 ∧ C.val < 4096 then
    if C.val % 64 < 32 then
      p R C * cs ⟨R.val % 2048, by omega⟩ ⟨C.val % 128 / 64, by omega⟩ ⟨C.val % 32, by omega⟩
        - p R ⟨(C.val + 32) % 6144, by omega⟩ * sn ⟨R.val % 2048, by omega⟩ ⟨C.val % 128 / 64, by omega⟩ ⟨C.val % 32, by omega⟩
    else
      p R C * cs ⟨R.val % 2048, by omega⟩ ⟨C.val % 128 / 64, by omega⟩ ⟨C.val % 32, by omega⟩
        + p R ⟨C.val - 32, by omega⟩ * sn ⟨R.val % 2048, by omega⟩ ⟨C.val % 128 / 64, by omega⟩ ⟨C.val % 32, by omega⟩
  else p R C

theorem plain_at (i : grid0.Coords) (x0 : Vec Ideal S1024x2048 .bf16) (x1 : Vec Ideal S1024x128 .f32) (x3 : Vec Ideal S1x2048x1024 .f32) (r : Vec Ideal S1x1x1024 .f32)
    (a b : Fin 1024) : plain (F := Ideal) i x0 x1 x3 r (ix2 a b) = accOf i x0 x1 x3 r (ix2 a b) := rfl

theorem neg_turn (x y z : EReal) : x + y * (z * -1) = x - y * z := by
  rw [mul_neg, mul_one, mul_neg, sub_eq_add_neg]

theorem spun_at (c : Dev nD) (t : Fin cfg0.N) (a b : Fin 1024) (R : Fin 9216) (C : Fin 6144) (hR : R.val = 1024 * (t.val / 6) + a.val) (hC : C.val = 1024 * (t.val % 6) + b.val) :
    outAt m c t (ix2 a b) = spun (entry m c) (CS m c) (SN m c) R C := by
  have hp : ∀ (b' : Fin 1024) (C' : Fin 6144), C'.val = 1024 * (t.val % 6) + b'.val →
      accOf (grid0.coords t) (iblk m c 0 t) (iblk m c 1 t) (iblk m c 3 t) (mixRow (grid0.coords t) (shAt m c (top t))) (ix2 a b') = entry m c R C' := fun b' C' h => by
    rw [acc_at]
    exact congrArg₂ (entry m c) (Fin.ext hR.symm) (Fin.ext h.symm)
  unfold outAt outOf spun
  by_cases hr : k0_cond2 (grid0.coords t) = 1#1
  · have hr' := (rot_iff t).mp hr
    rw [if_pos hr, rotated_at, if_pos (by omega)]
    unfold turn
    have e1 : (⟨(1024 * (t.val / 6) + a.val) % 2048, by omega⟩ : Fin 2048) = ⟨R.val % 2048, by omega⟩ := Fin.ext (by show _ % 2048 = _ % 2048; rw [hR])
    have e2 : (⟨b.val % 128 / 64, by omega⟩ : Fin 2) = ⟨C.val % 128 / 64, by omega⟩ := Fin.ext (by show b.val % 128 / 64 = C.val % 128 / 64; omega)
    have e3 : (⟨b.val % 128 % 32, by omega⟩ : Fin 32) = ⟨C.val % 32, by omega⟩ := Fin.ext (by show b.val % 128 % 32 = C.val % 32; omega)
    rw [b4_at, b5_at, hp b C hC]
    simp only [e1, e2, e3]
    by_cases h : C.val % 64 < 32
    · rw [if_pos h, if_pos (by omega), if_pos (by omega), neg_turn, hp _ ⟨(C.val + 32) % 6144, by omega⟩ (by show (C.val + 32) % 6144 = _ + (b.val + 32) % 1024; omega)]
    · rw [if_neg h, if_neg (by omega), if_neg (by omega), mul_one, hp _ ⟨C.val - 32, by omega⟩ (by show C.val - 32 = _ + (b.val - 32); omega)]
  · rw [if_neg hr, plain_at, hp b C hC, if_neg (fun h => hr ((rot_iff t).mpr (by omega)))]

/-- The output array. -/
theorem final (c : Dev nD) : (dats m 0 c).arrAt 6 cfg0.N = fun j : S9216x6144.Idx => spun (entry m c) (CS m c) (SN m c) (j 0) (j 1) := by
  refine (dats m 0 c).arrAt_eq_of_covers 6 _ (by decide +kernel) fun t hf y => ?_
  blk_simp
  rw [after0_6]
  idx_vars y
  refine spun_at m c t _ _ _ _ ?_ ?_ <;> simp [idx t, mul_comm]

theorem run_blocks (g : Dev nD → PrngReg) : θ_run defs (onTc (τ := τ) (main (F := Ideal))) ⟨m, fun _ => 0, g⟩ fun r => ∀ c : Dev nD,
      r.2.mem ((c : Thread nD τ).loc main_v15) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h.1.1 c).1 6, h.2.1 c⟩)
    (θ_run_and ((θ_run defs _ _).mono (fun _ h => (⟨h, trivial⟩ : _ ∧ True)) (run_main m g)) (frame m g))

end Cert.Kernel8Ideal.Rope

end
-- ==== Proof.RopeClaim.lean ====
/-
  The reference's query, key and value projection with rotated queries and keys read at an entry, and the two programs compute one array.
-/
module

public import proofs.«01_k».proof.Defs
public import proofs.«01_k».proof.Proof.Gen.Pre_finite8
public import proofs.«01_k».proof.Proof.Gen.Reference8Ideal.Run
public import proofs.«01_k».proof.Proof.RopeVal
public import Idealize.ShloMosaic.Lib.ReduceAll

@[expose] public section

set_option maxRecDepth 16384

noncomputable section

namespace Cert.Reference8Ideal.Rope

open Cert.Reference8Ideal Cert.Reference8Ideal.Gen Idealize.ShloMosaic Idealize.ShloMosaic.TcCoe Idealize.SL.Sem
open Cert.Attn Cert.Up

/-- The rows' factors. -/
def fac (q : FVec Ideal S9216x128 .f32) : FVec Ideal S9216x1 .f32 :=
  Host.rsqrt (addf (Host.divf (broadcastInDim S9216x1 ![0] bcast_S9216_S9216x1_0 (Host.reduceAdd q (constant S_ .f32 0x00000000#32) reducesTo_S9216x128_S9216_d1 h_S_)) (broadcastInDim S9216x1 ![] bcast_S_S9216x1 (constant S_ .f32 0x45000000#32))) (broadcastInDim S9216x1 ![] bcast_S_S9216x1 (constant S_ .f32 0x358637BD#32)))

/-- The shift of every row. -/
def shf (M : FVec Ideal S8x12288 .f32) : FVec Ideal S9216x2048 .f32 :=
  concatenate S9216x2048 0 [⟨S8192x2048, (shapeCast _ (broadcastInDim S4x2048x2048 ![0, 1, 2] bcast_S4x1x2048_S4x2048x2048_0_1_2 (broadcastInDim S4x1x2048 ![0, 2] bcast_S4x2048_S4x1x2048_0_2 (extractStridedSlice S4x2048 ![0, 0] (extractStridedSlice S8x2048 ![0, 0] M slices_S8x12288_S8x2048_0_0) slices_S8x2048_S4x2048_0_0))) shapeCasts_S4x2048x2048_S8192x2048)⟩, ⟨S1024x2048, (broadcastInDim S1024x2048 ![0, 1] bcast_S1x2048_S1024x2048_0_1 (extractStridedSlice S1x2048 ![4, 0] (extractStridedSlice S8x2048 ![0, 0] M slices_S8x12288_S8x2048_0_0) slices_S8x2048_S1x2048_4_0))⟩] concatenates_S8192x2048_S1024x2048_S9216x2048_d0

/-- The scaled and shifted rows. -/
def rows (x : FVec Ideal S9216x2048 .bf16) (f : FVec Ideal S9216x1 .f32) (s : FVec Ideal S9216x2048 .f32) : FVec Ideal S9216x2048 .f32 :=
  addf (mulf (extf .f32 x bitsLt_bf16_f32) (broadcastInDim S9216x2048 ![0, 1] bcast_S9216x1_S9216x2048_0_1 f)) s

/-- The product. -/
def prod (a : FVec Ideal S9216x2048 .f32) (w : FVec Ideal S1x2048x6144 .f32) : FVec Ideal S9216x6144 .f32 :=
  Host.dotGeneral dot_S9216x2048_S2048x6144_S9216x6144_1_0_0_1_n_n none a (shapeCast _ w shapeCasts_S1x2048x6144_S2048x6144)

/-- The latents' rows of an array by batch, position, head, axis, half and frequency. -/
def lat (z : FVec Ideal S9216x2048 .f32) : FVec Ideal S4x2048x16x2x2x32 .f32 :=
  shapeCast _ (extractStridedSlice S8192x2048 ![0, 0] z slices_S9216x2048_S8192x2048_0_0) shapeCasts_S8192x2048_S4x2048x16x2x2x32

/-- The first halves and the second halves. -/
def fst (u : FVec Ideal S4x2048x16x2x2x32 .f32) : FVec Ideal S4x2048x16x2x32 .f32 :=
  shapeCast _ (extractStridedSlice S4x2048x16x2x1x32 ![0, 0, 0, 0, 0, 0] u slices_S4x2048x16x2x2x32_S4x2048x16x2x1x32_0_0_0_0_0_0) shapeCasts_S4x2048x16x2x1x32_S4x2048x16x2x32
def snd (u : FVec Ideal S4x2048x16x2x2x32 .f32) : FVec Ideal S4x2048x16x2x32 .f32 :=
  shapeCast _ (extractStridedSlice S4x2048x16x2x1x32 ![0, 0, 0, 0, 1, 0] u slices_S4x2048x16x2x2x32_S4x2048x16x2x1x32_0_0_0_0_1_0) shapeCasts_S4x2048x16x2x1x32_S4x2048x16x2x32

/-- A table of the positions for every batch and head. -/
def tab (x : FVec Ideal S2048x2x32 .f32) : FVec Ideal S4x2048x16x2x32 .f32 :=
  broadcastInDim S4x2048x16x2x32 ![0, 1, 2, 3, 4] bcast_S1x2048x1x2x32_S4x2048x16x2x32_0_1_2_3_4 (broadcastInDim S1x2048x1x2x32 ![1, 3, 4] bcast_S2048x2x32_S1x2048x1x2x32_1_3_4 x)

/-- The rotated halves side by side. -/
def both (x1 x2 cs sn : FVec Ideal S4x2048x16x2x32 .f32) : FVec Ideal S4x2048x16x2x2x32 .f32 :=
  concatenate S4x2048x16x2x2x32 4 [⟨S4x2048x16x2x1x32, (broadcastInDim S4x2048x16x2x1x32 ![0, 1, 2, 3, 5] bcast_S4x2048x16x2x32_S4x2048x16x2x1x32_0_1_2_3_5 (subf (mulf x1 cs) (mulf x2 sn)))⟩, ⟨S4x2048x16x2x1x32, (broadcastInDim S4x2048x16x2x1x32 ![0, 1, 2, 3, 5] bcast_S4x2048x16x2x32_S4x2048x16x2x1x32_0_1_2_3_5 (addf (mulf x2 cs) (mulf x1 sn)))⟩] concatenates_S4x2048x16x2x1x32_S4x2048x16x2x1x32_S4x2048x16x2x2x32_d4

/-- An array with its latents' rows rotated. -/
def rotd (z : FVec Ideal S9216x2048 .f32) (cs sn : FVec Ideal S2048x2x32 .f32) : FVec Ideal S9216x2048 .f32 :=
  concatenate S9216x2048 0 [⟨S8192x2048, (shapeCast _ (both (fst (lat z)) (snd (lat z)) (tab cs) (tab sn)) shapeCasts_S4x2048x16x2x2x32_S8192x2048)⟩, ⟨S1024x2048, (extractStridedSlice S1024x2048 ![8192, 0] z slices_S9216x2048_S1024x2048_8192_0)⟩] concatenates_S8192x2048_S1024x2048_S9216x2048_d0

/-- The queries, the keys and the values of a product. -/
def qOf (p : FVec Ideal S9216x6144 .f32) : FVec Ideal S9216x2048 .f32 :=
  extractStridedSlice S9216x2048 ![0, 0] p slices_S9216x6144_S9216x2048_0_0
def kOf (p : FVec Ideal S9216x6144 .f32) : FVec Ideal S9216x2048 .f32 :=
  extractStridedSlice S9216x2048 ![0, 2048] p slices_S9216x6144_S9216x2048_0_2048
def vOf (p : FVec Ideal S9216x6144 .f32) : FVec Ideal S9216x2048 .f32 :=
  extractStridedSlice S9216x2048 ![0, 4096] p slices_S9216x6144_S9216x2048_0_4096

/-- The scaled queries. -/
def scl (z : FVec Ideal S9216x2048 .f32) : FVec Ideal S9216x2048 .f32 :=
  mulf z (broadcastInDim S9216x2048 ![] bcast_S_S9216x2048 (constant S_ .f32 0x3E0293EE#32))

/-- The rotated queries beside the rotated keys and the values. -/
def act (q k v : FVec Ideal S9216x2048 .f32) : FVec Ideal S9216x6144 .bf16 :=
  truncf .bf16 (concatenate S9216x6144 1 [⟨S9216x2048, q⟩, ⟨S9216x2048, k⟩, ⟨S9216x2048, v⟩] concatenates_S9216x2048_S9216x2048_S9216x2048_S9216x6144_d1) bitsLt_bf16_f32

/-- The reference's result from the product. -/
def res (p : FVec Ideal S9216x6144 .f32) (cs sn : FVec Ideal S2048x2x32 .f32) : FVec Ideal S9216x6144 .bf16 :=
  act (scl (rotd (qOf p) cs sn)) (rotd (kOf p) cs sn) (vOf p)

theorem run' (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v75) = res (prod (rows (m ((c.tc : Thread nD τ).loc main_arg0)) (fac (m ((c.tc : Thread nD τ).loc main_arg1))) (shf (m ((c.tc : Thread nD τ).loc main_arg2)))) (m ((c.tc : Thread nD τ).loc main_arg3))) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  Cert.Reference8Ideal.Value.run m ρ

theorem fac_at (q : FVec Ideal S9216x128 .f32) (R : Fin 9216) : fac q (ix2 R 0) = rOf (∑ l : Fin 128, q (ix2 R l)) := by
  pointwise [fac, rOf]

theorem shf_at (M : FVec Ideal S8x12288 .f32) (R : Fin 9216) (k : Fin 2048) :
    shf M (ix2 R k) = M (ix2 (⟨min (R.val / 2048) 4, by omega⟩ : Fin 8) (⟨k.val, by omega⟩ : Fin 12288)) := by
  pointwise [shf]
  split <;> refine congrArg M ?_ <;> (congr 1; refine Fin.ext ?_; simp only []; omega)

theorem rows_at (x : FVec Ideal S9216x2048 .bf16) (f : FVec Ideal S9216x1 .f32) (s : FVec Ideal S9216x2048 .f32) (R : Fin 9216) (k : Fin 2048) :
    rows x f s (ix2 R k) = x (ix2 R k) * f (ix2 R 0) + s (ix2 R k) := by
  pointwise [rows]

theorem prod_at (a : FVec Ideal S9216x2048 .f32) (w : FVec Ideal S1x2048x6144 .f32) (R : Fin 9216) (C : Fin 6144) :
    prod a w (ix2 R C) = ∑ k : Fin 2048, a (ix2 R k) * w (ix3 0 k C) := by
  pointwise [prod]

theorem fst_at (u : FVec Ideal S4x2048x16x2x2x32 .f32) (b : Fin 4) (s : Fin 2048) (h : Fin 16) (x : Fin 2) (f : Fin 32) :
    fst u (ix5 b s h x f) = u (ix6 b s h x 0 f) := by
  pointwise [fst]

theorem snd_at (u : FVec Ideal S4x2048x16x2x2x32 .f32) (b : Fin 4) (s : Fin 2048) (h : Fin 16) (x : Fin 2) (f : Fin 32) :
    snd u (ix5 b s h x f) = u (ix6 b s h x 1 f) := by
  pointwise [snd]

theorem tab_at (y : FVec Ideal S2048x2x32 .f32) (b : Fin 4) (s : Fin 2048) (h : Fin 16) (x : Fin 2) (f : Fin 32) :
    tab y (ix5 b s h x f) = y (ix3 s x f) := by
  pointwise [tab]

theorem lat_at (z : FVec Ideal S9216x2048 .f32) (b : Fin 4) (s : Fin 2048) (h : Fin 16) (x k : Fin 2) (f : Fin 32) (R : Fin 9216) (C : Fin 2048)
    (hR : R.val = 2048 * b.val + s.val) (hC : C.val = 128 * h.val + 64 * x.val + 32 * k.val + f.val) :
    lat z (ix6 b s h x k f) = z (ix2 R C) := by
  pointwise [lat]
  refine congrArg z (congrArg₂ ix2 (Fin.ext ?_) (Fin.ext ?_)) <;> simp only [] <;> omega

theorem both_at (x1 x2 cs sn : FVec Ideal S4x2048x16x2x32 .f32) (b : Fin 4) (s : Fin 2048) (h : Fin 16) (x k : Fin 2) (f : Fin 32) :
    both x1 x2 cs sn (ix6 b s h x k f) = if k.val = 0 then x1 (ix5 b s h x f) * cs (ix5 b s h x f) - x2 (ix5 b s h x f) * sn (ix5 b s h x f)
      else x2 (ix5 b s h x f) * cs (ix5 b s h x f) + x1 (ix5 b s h x f) * sn (ix5 b s h x f) := by
  pointwise [both]
  by_cases e : k.val = 0
  · rw [if_pos e, dif_pos (by omega)]
  · rw [if_neg e, dif_neg (by omega)]

/-- An array's entry with the latents' rows rotated. -/
theorem rotd_at (z : FVec Ideal S9216x2048 .f32) (cs sn : FVec Ideal S2048x2x32 .f32) (R : Fin 9216) (C : Fin 2048) :
    rotd z cs sn (ix2 R C) = if R.val < 8192 then
        if C.val % 64 < 32 then
          z (ix2 R C) * cs (ix3 ⟨R.val % 2048, by omega⟩ ⟨C.val % 128 / 64, by omega⟩ ⟨C.val % 32, by omega⟩)
            - z (ix2 R ⟨(C.val + 32) % 2048, by omega⟩) * sn (ix3 ⟨R.val % 2048, by omega⟩ ⟨C.val % 128 / 64, by omega⟩ ⟨C.val % 32, by omega⟩)
        else
          z (ix2 R C) * cs (ix3 ⟨R.val % 2048, by omega⟩ ⟨C.val % 128 / 64, by omega⟩ ⟨C.val % 32, by omega⟩)
            + z (ix2 R ⟨C.val - 32, by omega⟩) * sn (ix3 ⟨R.val % 2048, by omega⟩ ⟨C.val % 128 / 64, by omega⟩ ⟨C.val % 32, by omega⟩)
      else z (ix2 R C) := by
  have ex : (⟨C.val / 64 % 2, by omega⟩ : Fin 2) = ⟨C.val % 128 / 64, by omega⟩ := Fin.ext (by show C.val / 64 % 2 = C.val % 128 / 64; omega)
  pointwise [rotd]
  by_cases h : R.val < 8192
  · rw [dif_pos h, if_pos h, both_at]
    simp only [fst_at, snd_at, tab_at, ex]
    by_cases e : C.val % 64 < 32
    · rw [if_pos e, if_pos (by show C.val / 32 % 2 = 0; omega)]
      rw [lat_at z _ _ _ _ _ _ R C (by show R.val = 2048 * (R.val / 2048) + R.val % 2048; omega)
          (by show C.val = 128 * (C.val / 128) + 64 * (C.val % 128 / 64) + 32 * 0 + C.val % 32; omega),
        lat_at z _ _ _ _ _ _ R ⟨(C.val + 32) % 2048, by omega⟩ (by show R.val = 2048 * (R.val / 2048) + R.val % 2048; omega)
          (by show (C.val + 32) % 2048 = 128 * (C.val / 128) + 64 * (C.val % 128 / 64) + 32 * 1 + C.val % 32; omega)]
    · rw [if_neg e, if_neg (by show ¬ C.val / 32 % 2 = 0; omega)]
      rw [lat_at z _ _ _ _ 1 _ R C (by show R.val = 2048 * (R.val / 2048) + R.val % 2048; omega)
          (by show C.val = 128 * (C.val / 128) + 64 * (C.val % 128 / 64) + 32 * 1 + C.val % 32; omega),
        lat_at z _ _ _ _ 0 _ R ⟨C.val - 32, by omega⟩ (by show R.val = 2048 * (R.val / 2048) + R.val % 2048; omega)
          (by show C.val - 32 = 128 * (C.val / 128) + 64 * (C.val % 128 / 64) + 32 * 0 + C.val % 32; omega)]
  · rw [dif_neg h, if_neg h]
    exact congrArg (fun r => z (ix2 r C)) (Fin.ext (by simp only []; omega))

theorem qOf_at (p : FVec Ideal S9216x6144 .f32) (R : Fin 9216) (C : Fin 2048) : qOf p (ix2 R C) = p (ix2 R ⟨C.val, by omega⟩) := by
  pointwise [qOf]

theorem scl_at (z : FVec Ideal S9216x2048 .f32) (R : Fin 9216) (C : Fin 2048) (n : ℕ) (h : n < 2048) : scl z (ix2 R C) = z (ix2 R C) * leadAt n := by
  unfold leadAt
  rw [if_pos h]
  pointwise [scl]

/-- A rotation's two terms scaled are the scaled entries rotated, whatever they are. -/
theorem scaled_add (x y c s : EReal) (n n' : ℕ) (e : leadAt n' = leadAt n) : (x * c + y * s) * leadAt n = x * leadAt n * c + y * leadAt n' * s := by
  rw [e]
  obtain ⟨r, hr, h⟩ := leadAt_nonneg n
  rw [h, EReal.right_distrib_of_nonneg_of_ne_top (by exact_mod_cast hr) (EReal.coe_ne_top r), mul_right_comm x c, mul_right_comm y s]

theorem scaled_sub (x y c s : EReal) (n n' : ℕ) (e : leadAt n' = leadAt n) : (x * c - y * s) * leadAt n = x * leadAt n * c - y * leadAt n' * s := by
  have h := scaled_add x y c (-s) n n' e
  rw [mul_neg, mul_neg] at h
  rw [sub_eq_add_neg, sub_eq_add_neg]
  exact h

theorem kOf_at (p : FVec Ideal S9216x6144 .f32) (R : Fin 9216) (C : Fin 2048) : kOf p (ix2 R C) = p (ix2 R ⟨2048 + C.val, by omega⟩) * leadAt (2048 + C.val) := by
  unfold leadAt
  rw [if_neg (by omega), mul_one]
  pointwise [kOf]

theorem vOf_at (p : FVec Ideal S9216x6144 .f32) (R : Fin 9216) (C : Fin 2048) : vOf p (ix2 R C) = p (ix2 R ⟨4096 + C.val, by omega⟩) * leadAt (4096 + C.val) := by
  unfold leadAt
  rw [if_neg (by omega), mul_one]
  pointwise [vOf]

theorem act_at (q k v : FVec Ideal S9216x2048 .f32) (R : Fin 9216) (C : Fin 6144) :
    act q k v (ix2 R C) = if h : C.val < 2048 then q (ix2 R ⟨C.val, h⟩) else if h' : C.val < 4096 then k (ix2 R ⟨C.val - 2048, by omega⟩) else v (ix2 R ⟨C.val - 4096, by omega⟩) := by
  pointwise [act]
  by_cases h : C.val < 2048
  · rw [dif_pos h, dif_pos h]
  · rw [dif_neg h, dif_neg h]
    by_cases h' : C.val < 4096
    · rw [dif_pos h', dif_pos (by omega)]
    · rw [dif_neg h', dif_neg (by omega)]
      exact congrArg (fun j => v (ix2 R j)) (Fin.ext (by simp only []; omega))

/-- The scaled product's entry. -/
def scaled (p : FVec Ideal S9216x6144 .f32) (R : Fin 9216) (C : Fin 6144) : EReal := p (ix2 R C) * leadAt C.val

theorem scaled_of (p : FVec Ideal S9216x6144 .f32) (R : Fin 9216) (C : Fin 6144) (n : ℕ) (h : n < 6144) (e : n = C.val) :
    p (ix2 R ⟨n, h⟩) * leadAt n = scaled p R C := by
  subst e; rfl

theorem res_at (p : FVec Ideal S9216x6144 .f32) (cs sn : FVec Ideal S2048x2x32 .f32) (R : Fin 9216) (C : Fin 6144) :
    res p cs sn (ix2 R C) = Cert.Kernel8Ideal.Rope.spun (scaled p) (fun s x f => cs (ix3 s x f)) (fun s x f => sn (ix3 s x f)) R C := by
  unfold res Cert.Kernel8Ideal.Rope.spun
  rw [act_at]
  by_cases h : C.val < 2048
  · rw [dif_pos h, scl_at _ _ _ C.val h, rotd_at]
    simp only [qOf_at]
    by_cases hr : R.val < 8192
    · rw [if_pos hr, if_pos (show R.val < 8192 ∧ C.val < 4096 from ⟨hr, by omega⟩)]
      by_cases e : C.val % 64 < 32
      · rw [if_pos e, if_pos e, scaled_sub _ _ _ _ _ ((C.val + 32) % 2048) (leadAt_congr (by omega)), scaled_of p R C C.val (by omega) rfl,
          scaled_of p R ⟨(C.val + 32) % 6144, by omega⟩ ((C.val + 32) % 2048) (by omega) (by show _ = (C.val + 32) % 6144; omega)]
      · rw [if_neg e, if_neg e, scaled_add _ _ _ _ _ (C.val - 32) (leadAt_congr (by omega)), scaled_of p R C C.val (by omega) rfl,
          scaled_of p R ⟨C.val - 32, by omega⟩ (C.val - 32) (by omega) rfl]
    · rw [if_neg hr, if_neg (show ¬ (R.val < 8192 ∧ C.val < 4096) from fun q => hr q.1), scaled_of p R C C.val (by omega) rfl]
  · rw [dif_neg h]
    by_cases h' : C.val < 4096
    · rw [dif_pos h', rotd_at]
      have e1 : (⟨(C.val - 2048) % 128 / 64, by omega⟩ : Fin 2) = ⟨C.val % 128 / 64, by omega⟩ := Fin.ext (by show (C.val - 2048) % 128 / 64 = C.val % 128 / 64; omega)
      have e2 : (⟨(C.val - 2048) % 32, by omega⟩ : Fin 32) = ⟨C.val % 32, by omega⟩ := Fin.ext (by show (C.val - 2048) % 32 = C.val % 32; omega)
      simp only [kOf_at, e1, e2]
      rw [scaled_of p R C (2048 + (C.val - 2048)) (by omega) (by omega)]
      by_cases hr : R.val < 8192
      · rw [if_pos hr, if_pos (show R.val < 8192 ∧ C.val < 4096 from ⟨hr, by omega⟩)]
        by_cases e : C.val % 64 < 32
        · rw [if_pos e, if_pos (show (C.val - 2048) % 64 < 32 by omega), scaled_of p R ⟨(C.val + 32) % 6144, by omega⟩ (2048 + (C.val - 2048 + 32) % 2048) (by omega) (by show _ = (C.val + 32) % 6144; omega)]
        · rw [if_neg e, if_neg (show ¬ (C.val - 2048) % 64 < 32 by omega), scaled_of p R ⟨C.val - 32, by omega⟩ (2048 + (C.val - 2048 - 32)) (by omega) (by show _ = C.val - 32; omega)]
      · rw [if_neg hr, if_neg (show ¬ (R.val < 8192 ∧ C.val < 4096) from fun q => hr q.1)]
    · rw [dif_neg h', vOf_at, if_neg (fun q => h' q.2)]
      exact scaled_of p R C (4096 + (C.val - 4096)) (by omega) (by omega)

end Cert.Reference8Ideal.Rope

namespace Cert.Pre_finite8.Rope

open Cert.Pre_finite8 Idealize.ShloMosaic
open Cert.Attn

theorem lt_of (a b : EReal) (h : Ideal.cmp .olt a b = 1#1) : a < b := by
  by_contra hn
  simp [Ideal.cmp, hn] at h

theorem ge_of (a b : EReal) (h : Ideal.cmp .oge a b = 1#1) : b ≤ a := by
  by_contra hn
  simp [Ideal.cmp, hn] at h

theorem inf_eq : Ideal.ofBits .f32 0x7F800000#32 = ⊤ := by simp [Ideal.ofBits, Ideal.ieee]

/-- Where the precondition holds, the shift and the weights are real and the squares' sums not negative. -/
theorem real (x : FVec Ideal S9216x2048 .bf16) (q : FVec Ideal S9216x128 .f32) (M : FVec Ideal S8x12288 .f32) (w : FVec Ideal S1x2048x6144 .f32)
    (cs sn : FVec Ideal S2048x2x32 .f32)
    (h : fn (F := Ideal) x q M w cs sn = fun _ => 1#1) :
    (∀ R l, 0 ≤ q (ix2 R l)) ∧ (∀ (R : Fin 9216) (k : Fin 2048), Rl (M (ix2 (⟨min (R.val / 2048) 4, by omega⟩ : Fin 8) ⟨k.val, by omega⟩)))
      ∧ ∀ k C, Rl (w (ix3 0 k C)) := by
  have h0 := congrFun h (Shape.Idx.first (by decide))
  obtain ⟨h1, h4⟩ := IntOp.andi_eq_one.mp h0
  obtain ⟨h1, h3⟩ := IntOp.andi_eq_one.mp h1
  refine ⟨fun R l => ?_, fun R k => ?_, fun k C => ?_⟩
  · have := ge_of _ _ (Host.reduce_andi_all _ _ _ _ _ h1 (ix2 R l))
    refine le_of_eq_of_le ?_ this
    pointwise [Cert.Up.zero_eq]
  · have := lt_of _ _ (Host.reduce_andi_all _ _ _ _ _ h3 (ix2 (⟨min (R.val / 2048) 4, by omega⟩ : Fin 5) k))
    refine Rl.of_abs_lt (lt_of_lt_of_eq (lt_of_eq_of_lt ?_ this) ?_)
    · pointwise
      rfl
    · pointwise [inf_eq]
  · have := lt_of _ _ (Host.reduce_andi_all _ _ _ _ _ h4 (ix2 k C))
    refine Rl.of_abs_lt (lt_of_lt_of_eq (lt_of_eq_of_lt ?_ this) ?_)
    · pointwise
      rfl
    · pointwise [inf_eq]

end Cert.Pre_finite8.Rope

namespace Cert.Proof.Rope

open Idealize.ShloMosaic Idealize.SL.Sem Cert.Attn Cert.Up

theorem value_eq (m : (ℓ : Loc Kernel8Ideal.nD Kernel8Ideal.τ Kernel8Ideal.sig) → Buf (Elt Ideal) ℓ) (hpre : Pre_Kernel8Ideal_finite8 m)
    (c : Dev Kernel8Ideal.nD) :
    Reference8Ideal.Rope.res (Reference8Ideal.Rope.prod (Reference8Ideal.Rope.rows (m (c.tc.loc Kernel8Ideal.main_arg0)) (Reference8Ideal.Rope.fac (m (c.tc.loc Kernel8Ideal.main_arg1)))
        (Reference8Ideal.Rope.shf (m (c.tc.loc Kernel8Ideal.main_arg2)))) (m (c.tc.loc Kernel8Ideal.main_arg3))) (m (c.tc.loc Kernel8Ideal.main_arg4)) (m (c.tc.loc Kernel8Ideal.main_arg5))
      = (Kernel8Ideal.Rope.dats m 0 c).arrAt 6 Kernel8Ideal.cfg0.N := by
  refine Eq.trans ?_ (Kernel8Ideal.Rope.final m c).symm
  obtain ⟨hq, hM, hw⟩ := Cert.Pre_finite8.Rope.real _ _ _ _ _ _ (hpre c)
  funext j
  idx_vars j
  refine (Reference8Ideal.Rope.res_at _ _ _ _ _).trans ?_
  have e : Reference8Ideal.Rope.scaled (Reference8Ideal.Rope.prod (Reference8Ideal.Rope.rows (m (c.tc.loc Kernel8Ideal.main_arg0)) (Reference8Ideal.Rope.fac (m (c.tc.loc Kernel8Ideal.main_arg1)))
        (Reference8Ideal.Rope.shf (m (c.tc.loc Kernel8Ideal.main_arg2)))) (m (c.tc.loc Kernel8Ideal.main_arg3))) = Kernel8Ideal.Rope.entry m c := by
    funext R C
    unfold Reference8Ideal.Rope.scaled
    simp only [Reference8Ideal.Rope.prod_at, Reference8Ideal.Rope.rows_at, Reference8Ideal.Rope.fac_at, Reference8Ideal.Rope.shf_at]
    exact (lead_eq _ _ _ _ _ (fun k => hM _ _) (fun k => hw _ _) (Finset.sum_nonneg fun l _ => hq _ _)).symm
  rw [e]
  rfl

theorem algebraic : Cert.algebraic_Kernel8Ideal_Reference8Ideal_pre_finite8 := by
  pair_intro
  · run_from Cert.Kernel8Ideal.Rope.run_blocks m g
  · run_from Cert.Reference8Ideal.Rope.run' m' g'
    exact value_eq m hpre c

end Cert.Proof.Rope

end
-- ==== Proof.UpBodyI.lean ====
module

public import proofs.«01_k».proof.Proof.Gen.Kernel2Ideal.Frame
public import proofs.«01_k».proof.Proof.Gen.Kernel2Ideal.Skeleton
public import Idealize.ShloMosaic.Lib.Claim
public import Idealize.ShloMosaic.Lib.VecWindow
public import Idealize.ShloMosaic.Lib.WritesUnit

@[expose] public section

set_option maxRecDepth 16384

noncomputable section

namespace Cert.Kernel2Ideal.Up

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The shift columns of the modulation table: columns 6144 to 8191 of its eight rows. -/
def shiftCols (x : Vec F S8x12288 .f32) : Vec F S8x2048 .f32 :=
  VecWindow.window x ![0, 6144] S8x2048.size inb_S8x12288_S8x2048_0_6144

/-- The row of the carried table a point adds: its column block and its batch row. -/
def rowOf (i : grid0.Coords) (xs : Vec F S8x8x1024 .f32) : Vec F S1x1x1024 .f32 :=
  VecWindow.window xs (k0_off2 i) S1x1x1024.size (k0_off2_inb i)

theorem off1_eq (i : grid0.Coords) : k0_off1 i = ![(i 1).val, 0, 0] := by
  revert i; decide +kernel

theorem off2_first (i : grid0.Coords) (hc : k0_cond1 i = 1#1) : k0_off2 i = ![(i 1).val, 0, 0] := by
  revert i; decide +kernel

/-- The carried table with a column block's products put into its slot. -/
def tabPut (i : grid0.Coords) (x2 : Vec F S8x12288 .f32) (x3 : Vec F S1x2048x1024 .f32) (xs : Vec F S8x8x1024 .f32) : Vec F S8x8x1024 .f32 :=
  VecWindow.put xs (k0_off1 i) S1x8x1024.size (k0_pay2 (shiftCols x2) x3)

set_option maxHeartbeats 1000000 in
/-- The body where the row of blocks is not the first: it reads the carried table and writes the output block. -/
theorem run_later (c : Dev nD) (i : grid0.Coords) (hc : ¬ k0_cond1 i = 1#1)
    (arg2 : Memref sig .tc .vmem S1024x2048 .bf16) (harg2 : arg2.IsWhole) (arg3 : Memref sig .tc .vmem S1024x128 .f32) (harg3 : arg3.IsWhole)
    (arg4 : Memref sig .tc .vmem S8x12288 .f32) (harg4 : arg4.IsWhole) (arg5 : Memref sig .tc .vmem S1x2048x1024 .f32) (harg5 : arg5.IsWhole)
    (arg6 : Memref sig .tc .vmem S1024x1024 .bf16) (harg6 : arg6.IsWhole) (arg7 : Memref sig .tc .vmem S8x8x1024 .f32) (harg7 : arg7.IsWhole)
    (x0 : Vec F S1024x2048 .bf16) (x1 : Vec F S1024x128 .f32) (x2 : Vec F S8x12288 .f32) (x3 : Vec F S1x2048x1024 .f32) (xs : Vec F S8x8x1024 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k0_pay1 (k0_pay3 x1) x0 x3 (rowOf i xs))
            ∗ owns (c : Thread nD τ) arg7 fullShare xs) -∗ K ⟨⟩))
      ⊢ wp frame (wpE (defs₀ (F := F)) Variants.none c none) E (cc0_mm_pre_relu2 i arg2 harg2 arg3 harg3 arg4 harg4 arg5 harg5 arg6 harg6 arg7 harg7) K := by
  simp only [cc0_mm_pre_relu2_eq_skeleton]; unfold cc0_mm_pre_relu2_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  subst hf0 hf1 hf2 hf3 hf5
  rw [dif_neg hc]
  sl_exec
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; swap; · iexact H4
    ipureintro
    refine (View.read_writes_full arg6.view f4 inb_S1024x1024_S1024x1024_0_0 _ _).trans ?_
    rw [View.readAt_full arg3.view f1 inb_S1024x128_S1024x128_0_0, View.readAt_full arg2.view f0 inb_S1024x2048_S1024x2048_0_0]
    exact congrArg₂ (k0_pay1 _ _) (View.readAt_full arg5.view f3 inb_S1x2048x1024_S1x2048x1024_0_0_0) rfl
  · iexists _; isplitr; · ipureintro; rfl
    iexact H5

/-- On the first row of blocks the row a point adds lies in the slot it has just put. -/
theorem window_slot (i : grid0.Coords) (hc : k0_cond1 i = 1#1) (w : Vec F S1x8x1024 .f32) (xs xs' : Vec F S8x8x1024 .f32) :
    VecWindow.window (VecWindow.put xs (k0_off1 i) S1x8x1024.size w) (k0_off2 i) S1x1x1024.size (k0_off2_inb i)
      = rowOf i (VecWindow.put xs' (k0_off1 i) S1x8x1024.size w) := by
  funext y
  unfold rowOf VecWindow.window VecWindow.put
  have h : ∀ a, k0_off1 i a ≤ ((Rect.unit (s := S8x8x1024) (k0_off2 i) S1x1x1024.size (k0_off2_inb i)).emb y a).val
      ∧ ((Rect.unit (s := S8x8x1024) (k0_off2 i) S1x1x1024.size (k0_off2_inb i)).emb y a).val < k0_off1 i a + S1x8x1024.size a := by
    intro a
    have e : ((Rect.unit (s := S8x8x1024) (k0_off2 i) S1x1x1024.size (k0_off2_inb i)).emb y a).val = k0_off2 i a + 1 * (y a).val := rfl
    have hy : (y a).val < S1x1x1024.size a := (y a).isLt
    have h1 : k0_off1 i a = (![(i 1).val, 0, 0] : Fin 3 → ℕ) a := congrFun (off1_eq i) a
    have h2 : k0_off2 i a = (![(i 1).val, 0, 0] : Fin 3 → ℕ) a := congrFun (off2_first i hc) a
    have h3 : S1x1x1024.size a ≤ S1x8x1024.size a := (by decide : ∀ a : Fin 3, S1x1x1024.size a ≤ S1x8x1024.size a) a
    omega
  rw [dif_pos h, dif_pos h]

set_option maxHeartbeats 1000000 in
/-- The body on the first row of blocks: it puts its column block of products into the carried table first. -/
theorem run_first (c : Dev nD) (i : grid0.Coords) (hc : k0_cond1 i = 1#1)
    (arg2 : Memref sig .tc .vmem S1024x2048 .bf16) (harg2 : arg2.IsWhole) (arg3 : Memref sig .tc .vmem S1024x128 .f32) (harg3 : arg3.IsWhole)
    (arg4 : Memref sig .tc .vmem S8x12288 .f32) (harg4 : arg4.IsWhole) (arg5 : Memref sig .tc .vmem S1x2048x1024 .f32) (harg5 : arg5.IsWhole)
    (arg6 : Memref sig .tc .vmem S1024x1024 .bf16) (harg6 : arg6.IsWhole) (arg7 : Memref sig .tc .vmem S8x8x1024 .f32) (harg7 : arg7.IsWhole)
    (x0 : Vec F S1024x2048 .bf16) (x1 : Vec F S1024x128 .f32) (x2 : Vec F S8x12288 .f32) (x3 : Vec F S1x2048x1024 .f32) (xs : Vec F S8x8x1024 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k0_pay1 (k0_pay3 x1) x0 x3 (rowOf i (tabPut i x2 x3 xs)))
            ∗ owns (c : Thread nD τ) arg7 fullShare (tabPut i x2 x3 xs)) -∗ K ⟨⟩))
      ⊢ wp frame (wpE (defs₀ (F := F)) Variants.none c none) E (cc0_mm_pre_relu2 i arg2 harg2 arg3 harg3 arg4 harg4 arg5 harg5 arg6 harg6 arg7 harg7) K := by
  simp only [cc0_mm_pre_relu2_eq_skeleton]; unfold cc0_mm_pre_relu2_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  subst hf0 hf1 hf2 hf3 hf5
  rw [dif_pos hc]
  letI : ClosedOff (k0_off1 i) := ⟨![(i 1).val, 0, 0], off1_eq i⟩
  letI : ClosedOff (k0_off2 i) := ⟨![(i 1).val, 0, 0], off2_first i hc⟩
  sl_exec
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; swap; · iexact H4
    ipureintro
    refine (View.read_writes_full arg6.view f4 inb_S1024x1024_S1024x1024_0_0 _ _).trans ?_
    rw [View.readAt_full arg3.view f1 inb_S1024x128_S1024x128_0_0, View.readAt_full arg2.view f0 inb_S1024x2048_S1024x2048_0_0]
    have e5 : View.readAt (Elt F) arg5.view (Rect.unit ![0, 0, 0] ![1, 2048, 1024] inb_S1x2048x1024_S1x2048x1024_0_0_0).toLoadRect f3 = arg5.view.read (Elt F) f3 :=
      View.readAt_full arg5.view f3 inb_S1x2048x1024_S1x2048x1024_0_0_0
    refine congrArg₂ (k0_pay1 _ _) e5 ?_
    unfold run_first.sl.v42 run_first.sl.H5_1
    refine (View.readAt_unit arg7.view _ (k0_off2_inb i) rfl (k0_off2_inb i)).trans ?_
    rw [View.read_writes_cons_put arg7.view _ (k0_off1_inb i hc) _ _ rfl, e5]
    exact window_slot i hc _ _ _
  · iexists _; isplitr; swap; · iexact H5
    ipureintro
    unfold run_first.sl.H5_1
    rw [View.read_writes_cons_put arg7.view _ (k0_off1_inb i hc) _ _ rfl, View.writes_nil]
    refine congrArg (fun z : Vec F S1x2048x1024 .f32 => VecWindow.put (arg7.view.read (Elt F) f5) (k0_off1 i) S1x8x1024.size (k0_pay2 (shiftCols (arg4.view.read (Elt F) f2)) z)) ?_
    exact View.readAt_full arg5.view f3 inb_S1x2048x1024_S1x2048x1024_0_0_0

end Cert.Kernel2Ideal.Up

end
-- ==== Proof.UpFrameI.lean ====
module

public import proofs.«01_k».proof.Proof.UpBodyI

@[expose] public section

set_option maxRecDepth 16384

noncomputable section

namespace Cert.Kernel2Ideal.Up

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The grid -/

theorem cond1_iff : ∀ t : Fin grid0.N, k0_cond1 (grid0.coords t) = 1#1 ↔ t.val < 8 := by decide +kernel

theorem off1_at : ∀ t : Fin grid0.N, k0_off1 (grid0.coords t) = ![t.val % 8, 0, 0] := by decide +kernel

theorem off1_inb : ∀ i : grid0.Coords, ∀ a, k0_off1 i a + S1x8x1024.size a ≤ S8x8x1024.size a := by decide +kernel

theorem off2_zero (i : grid0.Coords) : k0_off2 i 0 = k0_off1 i 0 := by
  revert i; decide +kernel

theorem mix_inb (i : grid0.Coords) : ∀ a, (![0, k0_off2 i 1, 0] : Fin 3 → ℕ) a + S1x1x1024.size a ≤ S1x8x1024.size a := by
  revert i; decide +kernel

/-- The point of the first row of blocks in the same column. -/
def top (t : Fin cfg0.N) : Fin cfg0.N := ⟨t.val % 8, lt_of_le_of_lt (Nat.mod_le _ _) t.isLt⟩

/-- The slot of the carried table a point reads. -/
def slotOf (i : grid0.Coords) (xs : Vec F S8x8x1024 .f32) : Vec F S1x8x1024 .f32 :=
  VecWindow.window xs (k0_off1 i) S1x8x1024.size (off1_inb i)

/-- A slot's row of the point's batch. -/
def mixRow (i : grid0.Coords) (w : Vec F S1x8x1024 .f32) : Vec F S1x1x1024 .f32 :=
  VecWindow.window w ![0, k0_off2 i 1, 0] S1x1x1024.size (mix_inb i)

theorem rowOf_eq (i : grid0.Coords) (xs : Vec F S8x8x1024 .f32) : rowOf i xs = mixRow i (slotOf i xs) := by
  funext y
  unfold rowOf mixRow slotOf VecWindow.window
  refine congrArg xs (funext fun a => Fin.ext ?_)
  have h1 := off1_eq i
  have h0 := off2_zero i
  have h2 : k0_off2 i 2 = 0 := rfl
  show k0_off2 i a + 1 * (y a).val = k0_off1 i a + 1 * ((![0, k0_off2 i 1, 0] : Fin 3 → ℕ) a + 1 * (y a).val)
  fin_cases a <;> simp [h1, h0, h2]

theorem slotOf_congr {i j : grid0.Coords} (h : k0_off1 i = k0_off1 j) (xs : Vec F S8x8x1024 .f32) : slotOf i xs = slotOf j xs := by
  have e : ∀ (o o' : Fin 3 → ℕ) (b b'), o = o' → VecWindow.window (s := S8x8x1024) xs o S1x8x1024.size b = VecWindow.window (s := S8x8x1024) xs o' S1x8x1024.size b' := by
    rintro o o' b b' rfl; rfl
  exact e _ _ _ _ h

theorem slotOf_put_same (i : grid0.Coords) (w : Vec F S1x8x1024 .f32) (xs : Vec F S8x8x1024 .f32) :
    slotOf i (VecWindow.put xs (k0_off1 i) S1x8x1024.size w) = w :=
  VecWindow.window_put_same xs (k0_off1 i) S1x8x1024.size (off1_inb i) w

theorem slotOf_put_ne {s t : Fin grid0.N} (h : s.val % 8 ≠ t.val % 8) (w : Vec F S1x8x1024 .f32) (xs : Vec F S8x8x1024 .f32) :
    slotOf (grid0.coords s) (VecWindow.put xs (k0_off1 (grid0.coords t)) S1x8x1024.size w) = slotOf (grid0.coords s) xs := by
  refine VecWindow.window_put_of_disjoint xs _ S1x8x1024.size _ S1x8x1024.size (off1_inb _) w (0 : Fin 3) ?_
  rw [off1_at, off1_at]
  show s.val % 8 + 1 ≤ t.val % 8 ∨ t.val % 8 + 1 ≤ s.val % 8
  omega

variable (m : (ℓ : Loc nD τ sig) → Buf (Elt F) ℓ) (ρ : Dev nD → PrngReg)

/-! ## What the carried table and the output hold -/

/-- What a point of the first row of blocks puts into its slot. -/
def shAt (c : Dev nD) (t : Fin cfg0.N) : Vec F S1x8x1024 .f32 := k0_pay2 (shiftCols (iblk m c 2 t)) (iblk m c 3 t)

/-- The slots of the points of the first row of blocks before position `n` hold what those points put there. -/
def Kept (c : Dev nD) (n : ℕ) (xs : Vec F S8x8x1024 .f32) : Prop :=
  ∀ s : Fin cfg0.N, s.val < n → s.val < 8 → slotOf (grid0.coords s) xs = shAt m c s

/-- What a point writes: the first column's row scaled and added to its product, then relu and square. -/
def outAt (c : Dev nD) (t : Fin cfg0.N) : Vec F S1024x1024 .bf16 :=
  k0_pay1 (k0_pay3 (iblk m c 1 t)) (iblk m c 0 t) (iblk m c 3 t) (mixRow (grid0.coords t) (shAt m c (top t)))

theorem kept_put (c : Dev nD) (t : Fin cfg0.N) (xs : Vec F S8x8x1024 .f32) (h : Kept m c t.val xs) (ht : t.val < 8) :
    Kept m c (t.val + 1) (tabPut (grid0.coords t) (iblk m c 2 t) (iblk m c 3 t) xs) := by
  intro s hs hs8
  unfold tabPut
  rcases Nat.lt_or_ge s.val t.val with hlt | hge
  · rw [slotOf_put_ne (by omega)]
    exact h s hlt hs8
  · have e : s = t := Fin.ext (by omega)
    subst e
    exact slotOf_put_same _ _ _

theorem kept_later (c : Dev nD) (t : Fin cfg0.N) (xs : Vec F S8x8x1024 .f32) (h : Kept m c t.val xs) (ht : ¬ t.val < 8) :
    Kept m c (t.val + 1) xs := fun s hs hs8 => h s (by omega) hs8

theorem out_of_kept (c : Dev nD) (t : Fin cfg0.N) (xs : Vec F S8x8x1024 .f32) (h : Kept m c (t.val + 1) xs) :
    k0_pay1 (k0_pay3 (iblk m c 1 t)) (iblk m c 0 t) (iblk m c 3 t) (rowOf (grid0.coords t) xs) = outAt m c t := by
  unfold outAt
  have e : k0_off1 (grid0.coords t) = k0_off1 (grid0.coords (top t)) := by
    rw [off1_at t, off1_at (top t)]
    show _ = ![t.val % 8 % 8, 0, 0]
    rw [Nat.mod_mod]
  rw [rowOf_eq, slotOf_congr e, h (top t) (by show t.val % 8 < t.val + 1; omega) (by show t.val % 8 < 8; omega)]

/-! ## The pipeline's proof data -/

/-- The invariant: the carried table with the slots put so far, and the generator register. -/
def Phi (c : Dev nD) (n : ℕ) : sProp 𝕄 :=
  iprop(∃ xs : Vec F S8x8x1024 .f32, ⌜Kept m c n xs⌝ ∗ owns (c : Thread nD τ) (Memref.whole cc0_scratch0) fullShare xs ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := Phi m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = Phi m c (t.val + 1) from rfl, show (dats m 0 c).Φ t.castSucc = Phi m c t.val from rfl,
    show (dats m 0 c).owesAt () t.succ = (dats m 0 c).owesAt () t.castSucc from rfl,
    after0_0, after0_1, after0_2, after0_3, after0_4]
  unfold Phi
  iintro ⟨⟨%xs, %hx, HS, Hr⟩, Ho, ⟨%d0, H0⟩, ⟨%d1, H1⟩, ⟨%d2, H2⟩, ⟨%d3, H3⟩, ⟨%d4, H4⟩⟩
  by_cases hc : k0_cond1 (grid0.coords t) = 1#1
  · have hk := kept_put m c t xs hx ((cond1_iff t).mp hc)
    rw [← out_of_kept m c t _ hk]
    iapply (run_first c (grid0.coords t) hc _ _ _ _ _ _ _ _ _ _ _ _ (iblk m c 0 t) (iblk m c 1 t) (iblk m c 2 t) (iblk m c 3 t) xs Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS Hr]
    · iexists _; isplitr
      · ipureintro; exact hk
      isplitl [HS]; · iexact HS
      iexact Hr
    isplitl [Ho]; · iexact Ho
    isplitl [H0]; · iexact H0
    isplitl [H1]; · iexact H1
    isplitl [H2]; · iexact H2
    isplitl [H3]; · iexact H3
    iexact H4
  · have hk := kept_later m c t xs hx (fun h => hc ((cond1_iff t).mpr h))
    rw [← out_of_kept m c t _ hk]
    iapply (run_later c (grid0.coords t) hc _ _ _ _ _ _ _ _ _ _ _ _ (iblk m c 0 t) (iblk m c 1 t) (iblk m c 2 t) (iblk m c 3 t) xs Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS Hr]
    · iexists _; isplitr
      · ipureintro; exact hk
      isplitl [HS]; · iexact HS
      iexact Hr
    isplitl [Ho]; · iexact Ho
    isplitl [H0]; · iexact H0
    isplitl [H1]; · iexact H1
    isplitl [H2]; · iexact H2
    isplitl [H3]; · iexact H3
    iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

theorem phi_in (c : Dev nD) : (Pipeline.ΦA spec0 c : sProp 𝕄) ⊢ (dats m 0 c).Φ 0 := by
  show _ ⊢ Phi m c 0
  unfold Pipeline.ΦA Phi
  rw [scopedRest0_eq]
  iintro ⟨⟨%f, H⟩, Hr⟩
  iexists f
  isplitr
  · ipureintro; exact fun s hs => absurd hs (Nat.not_lt_zero _)
  isplitl [H]
  · rw [owns_whole]; iexact H
  iexact Hr

theorem phi_out (c : Dev nD) : (dats m 0 c).Φ (Fin.last cfg0.N) ⊢ (Pipeline.ΦA spec0 c : sProp 𝕄) := by
  show Phi m c _ ⊢ _
  unfold Pipeline.ΦA Phi
  rw [scopedRest0_eq]
  simp only [owns_whole]
  iintro ⟨%xs, %hx, H, Hr⟩
  isplitl [H]
  · iexists xs; iexact H
  iexact Hr

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := phi_in m) (hout := phi_out m)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.Kernel2Ideal.Up

end
-- ==== Proof.UpFrame.lean ====
module

public import proofs.«01_k».proof.Proof.UpFrameI
public import proofs.«01_k».proof.Proof.Gen.Kernel2

/-! The frame of the first MLP product: its float program is, at any carrier of floats, the program of its
ideal reading, no operation having been replaced, so the frame of the one is the frame of the other. -/

@[expose] public section

set_option maxRecDepth 65536

noncomputable section

namespace Cert.Kernel2.Up

open Cert.Kernel2.Gen Idealize.ShloMosaic Idealize.ShloMosaic.TcCoe Idealize.SL.Sem

variable {F : FTy → Type} [FloatOps F]

/-- The two tables of kernel bodies are one table. -/
theorem bodies_eq : (defs₀ : Defs nD τ sig (Elt F) Λ₀) = Cert.Kernel2Ideal.defs₀ (F := F) := by
  unfold defs₀ Cert.Kernel2Ideal.defs₀
  refine congrArg Defs.onTc ?_
  funext l x
  match l, x with
  | 0, (t, s) => rfl
  | ⟨_ + 1, h⟩, _ => exact absurd h (Nat.not_lt.2 (Nat.le_add_left _ _))

/-- So are the tables with the pipelines added. -/
theorem defs_eq : (defs : Defs nD τ sig (Elt F) (Pipeline.Sig Λ₀ (Fin 1) fun p => (pcfgs (F := F) p).Adm))
    = Cert.Kernel2Ideal.defs (F := F) :=
  congrArg (Pipeline.defs pcfgs) bodies_eq

variable (m : (ℓ : Loc nD τ sig) → Buf (Elt F) ℓ) (ρ : Dev nD → PrngReg)

/-- The arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  rw [defs_eq]
  exact Cert.Kernel2Ideal.Up.frame m ρ

end Cert.Kernel2.Up

end
-- ==== Proof.SsmBodyI.lean ====
module

public import proofs.«01_k».proof.Proof.Gen.Kernel4Ideal.Frame
public import proofs.«01_k».proof.Proof.Gen.Kernel4Ideal.Skeleton
public import Idealize.ShloMosaic.Lib.Claim
public import Idealize.ShloMosaic.Lib.VecWindow
public import Idealize.ShloMosaic.Lib.WritesUnit

@[expose] public section

set_option maxRecDepth 16384

noncomputable section

namespace Cert.Kernel4Ideal.Ssm

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The shift columns of the modulation table: columns 0 to 2047 of its eight rows. -/
def shiftCols (x : Vec F S8x12288 .f32) : Vec F S8x2048 .f32 :=
  VecWindow.window x ![0, 0] S8x2048.size inb_S8x12288_S8x2048_0_0

/-- The row of the carried table a point adds: its column block and its batch row. -/
def rowOf (i : grid0.Coords) (xs : Vec F S10x8x1024 .f32) : Vec F S1x1x1024 .f32 :=
  VecWindow.window xs (k0_off2 i) S1x1x1024.size (k0_off2_inb i)

theorem off1_eq (i : grid0.Coords) : k0_off1 i = ![(i 1).val, 0, 0] := by
  revert i; decide +kernel

theorem off2_first (i : grid0.Coords) (hc : k0_cond1 i = 1#1) : k0_off2 i = ![(i 1).val, 0, 0] := by
  revert i; decide +kernel

/-- The carried table with a column block's products put into its slot. -/
def tabPut (i : grid0.Coords) (x2 : Vec F S8x12288 .f32) (x3 : Vec F S1x2048x1024 .f32) (xs : Vec F S10x8x1024 .f32) : Vec F S10x8x1024 .f32 :=
  VecWindow.put xs (k0_off1 i) S1x8x1024.size (k0_pay2 (shiftCols x2) x3)

set_option maxHeartbeats 1000000 in
/-- The body where the row of blocks is not the first: it reads the carried table and writes the output block. -/
theorem run_later (c : Dev nD) (i : grid0.Coords) (hc : ¬ k0_cond1 i = 1#1)
    (arg2 : Memref sig .tc .vmem S1024x2048 .bf16) (harg2 : arg2.IsWhole) (arg3 : Memref sig .tc .vmem S1024x128 .f32) (harg3 : arg3.IsWhole)
    (arg4 : Memref sig .tc .vmem S8x12288 .f32) (harg4 : arg4.IsWhole) (arg5 : Memref sig .tc .vmem S1x2048x1024 .f32) (harg5 : arg5.IsWhole)
    (arg6 : Memref sig .tc .vmem S1024x1024 .bf16) (harg6 : arg6.IsWhole) (arg7 : Memref sig .tc .vmem S10x8x1024 .f32) (harg7 : arg7.IsWhole)
    (x0 : Vec F S1024x2048 .bf16) (x1 : Vec F S1024x128 .f32) (x2 : Vec F S8x12288 .f32) (x3 : Vec F S1x2048x1024 .f32) (xs : Vec F S10x8x1024 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k0_pay1 (k0_pay3 x1) x0 x3 (rowOf i xs))
            ∗ owns (c : Thread nD τ) arg7 fullShare xs) -∗ K ⟨⟩))
      ⊢ wp frame (wpE (defs₀ (F := F)) Variants.none c none) E (cc0_mm_pre i arg2 harg2 arg3 harg3 arg4 harg4 arg5 harg5 arg6 harg6 arg7 harg7) K := by
  simp only [cc0_mm_pre_eq_skeleton]; unfold cc0_mm_pre_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  subst hf0 hf1 hf2 hf3 hf5
  rw [dif_neg hc]
  sl_exec
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; swap; · iexact H4
    ipureintro
    refine (View.read_writes_full arg6.view f4 inb_S1024x1024_S1024x1024_0_0 _ _).trans ?_
    rw [View.readAt_full arg3.view f1 inb_S1024x128_S1024x128_0_0, View.readAt_full arg2.view f0 inb_S1024x2048_S1024x2048_0_0]
    exact congrArg₂ (k0_pay1 _ _) (View.readAt_full arg5.view f3 inb_S1x2048x1024_S1x2048x1024_0_0_0) rfl
  · iexists _; isplitr; · ipureintro; rfl
    iexact H5

/-- On the first row of blocks the row a point adds lies in the slot it has just put. -/
theorem window_slot (i : grid0.Coords) (hc : k0_cond1 i = 1#1) (w : Vec F S1x8x1024 .f32) (xs xs' : Vec F S10x8x1024 .f32) :
    VecWindow.window (VecWindow.put xs (k0_off1 i) S1x8x1024.size w) (k0_off2 i) S1x1x1024.size (k0_off2_inb i)
      = rowOf i (VecWindow.put xs' (k0_off1 i) S1x8x1024.size w) := by
  funext y
  unfold rowOf VecWindow.window VecWindow.put
  have h : ∀ a, k0_off1 i a ≤ ((Rect.unit (s := S10x8x1024) (k0_off2 i) S1x1x1024.size (k0_off2_inb i)).emb y a).val
      ∧ ((Rect.unit (s := S10x8x1024) (k0_off2 i) S1x1x1024.size (k0_off2_inb i)).emb y a).val < k0_off1 i a + S1x8x1024.size a := by
    intro a
    have e : ((Rect.unit (s := S10x8x1024) (k0_off2 i) S1x1x1024.size (k0_off2_inb i)).emb y a).val = k0_off2 i a + 1 * (y a).val := rfl
    have hy : (y a).val < S1x1x1024.size a := (y a).isLt
    have h1 : k0_off1 i a = (![(i 1).val, 0, 0] : Fin 3 → ℕ) a := congrFun (off1_eq i) a
    have h2 : k0_off2 i a = (![(i 1).val, 0, 0] : Fin 3 → ℕ) a := congrFun (off2_first i hc) a
    have h3 : S1x1x1024.size a ≤ S1x8x1024.size a := (by decide : ∀ a : Fin 3, S1x1x1024.size a ≤ S1x8x1024.size a) a
    omega
  rw [dif_pos h, dif_pos h]

set_option maxHeartbeats 1000000 in
/-- The body on the first row of blocks: it puts its column block of products into the carried table first. -/
theorem run_first (c : Dev nD) (i : grid0.Coords) (hc : k0_cond1 i = 1#1)
    (arg2 : Memref sig .tc .vmem S1024x2048 .bf16) (harg2 : arg2.IsWhole) (arg3 : Memref sig .tc .vmem S1024x128 .f32) (harg3 : arg3.IsWhole)
    (arg4 : Memref sig .tc .vmem S8x12288 .f32) (harg4 : arg4.IsWhole) (arg5 : Memref sig .tc .vmem S1x2048x1024 .f32) (harg5 : arg5.IsWhole)
    (arg6 : Memref sig .tc .vmem S1024x1024 .bf16) (harg6 : arg6.IsWhole) (arg7 : Memref sig .tc .vmem S10x8x1024 .f32) (harg7 : arg7.IsWhole)
    (x0 : Vec F S1024x2048 .bf16) (x1 : Vec F S1024x128 .f32) (x2 : Vec F S8x12288 .f32) (x3 : Vec F S1x2048x1024 .f32) (xs : Vec F S10x8x1024 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k0_pay1 (k0_pay3 x1) x0 x3 (rowOf i (tabPut i x2 x3 xs)))
            ∗ owns (c : Thread nD τ) arg7 fullShare (tabPut i x2 x3 xs)) -∗ K ⟨⟩))
      ⊢ wp frame (wpE (defs₀ (F := F)) Variants.none c none) E (cc0_mm_pre i arg2 harg2 arg3 harg3 arg4 harg4 arg5 harg5 arg6 harg6 arg7 harg7) K := by
  simp only [cc0_mm_pre_eq_skeleton]; unfold cc0_mm_pre_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  subst hf0 hf1 hf2 hf3 hf5
  rw [dif_pos hc]
  letI : ClosedOff (k0_off1 i) := ⟨![(i 1).val, 0, 0], off1_eq i⟩
  letI : ClosedOff (k0_off2 i) := ⟨![(i 1).val, 0, 0], off2_first i hc⟩
  sl_exec
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; swap; · iexact H4
    ipureintro
    refine (View.read_writes_full arg6.view f4 inb_S1024x1024_S1024x1024_0_0 _ _).trans ?_
    rw [View.readAt_full arg3.view f1 inb_S1024x128_S1024x128_0_0, View.readAt_full arg2.view f0 inb_S1024x2048_S1024x2048_0_0]
    have e5 : View.readAt (Elt F) arg5.view (Rect.unit ![0, 0, 0] ![1, 2048, 1024] inb_S1x2048x1024_S1x2048x1024_0_0_0).toLoadRect f3 = arg5.view.read (Elt F) f3 :=
      View.readAt_full arg5.view f3 inb_S1x2048x1024_S1x2048x1024_0_0_0
    refine congrArg₂ (k0_pay1 _ _) e5 ?_
    unfold run_first.sl.v42 run_first.sl.H5_1
    refine (View.readAt_unit arg7.view _ (k0_off2_inb i) rfl (k0_off2_inb i)).trans ?_
    rw [View.read_writes_cons_put arg7.view _ (k0_off1_inb i hc) _ _ rfl, e5]
    exact window_slot i hc _ _ _
  · iexists _; isplitr; swap; · iexact H5
    ipureintro
    unfold run_first.sl.H5_1
    rw [View.read_writes_cons_put arg7.view _ (k0_off1_inb i hc) _ _ rfl, View.writes_nil]
    refine congrArg (fun z : Vec F S1x2048x1024 .f32 => VecWindow.put (arg7.view.read (Elt F) f5) (k0_off1 i) S1x8x1024.size (k0_pay2 (shiftCols (arg4.view.read (Elt F) f2)) z)) ?_
    exact View.readAt_full arg5.view f3 inb_S1x2048x1024_S1x2048x1024_0_0_0

end Cert.Kernel4Ideal.Ssm

end
-- ==== Proof.SsmFrameI.lean ====
module

public import proofs.«01_k».proof.Proof.SsmBodyI

@[expose] public section

set_option maxRecDepth 16384

noncomputable section

namespace Cert.Kernel4Ideal.Ssm

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The grid -/

theorem cond1_iff : ∀ t : Fin grid0.N, k0_cond1 (grid0.coords t) = 1#1 ↔ t.val < 10 := by decide +kernel

theorem off1_at : ∀ t : Fin grid0.N, k0_off1 (grid0.coords t) = ![t.val % 10, 0, 0] := by decide +kernel

theorem off1_inb : ∀ i : grid0.Coords, ∀ a, k0_off1 i a + S1x8x1024.size a ≤ S10x8x1024.size a := by decide +kernel

theorem off2_zero (i : grid0.Coords) : k0_off2 i 0 = k0_off1 i 0 := by
  revert i; decide +kernel

theorem mix_inb (i : grid0.Coords) : ∀ a, (![0, k0_off2 i 1, 0] : Fin 3 → ℕ) a + S1x1x1024.size a ≤ S1x8x1024.size a := by
  revert i; decide +kernel

/-- The point of the first row of blocks in the same column. -/
def top (t : Fin cfg0.N) : Fin cfg0.N := ⟨t.val % 10, lt_of_le_of_lt (Nat.mod_le _ _) t.isLt⟩

/-- The slot of the carried table a point reads. -/
def slotOf (i : grid0.Coords) (xs : Vec F S10x8x1024 .f32) : Vec F S1x8x1024 .f32 :=
  VecWindow.window xs (k0_off1 i) S1x8x1024.size (off1_inb i)

/-- A slot's row of the point's batch. -/
def mixRow (i : grid0.Coords) (w : Vec F S1x8x1024 .f32) : Vec F S1x1x1024 .f32 :=
  VecWindow.window w ![0, k0_off2 i 1, 0] S1x1x1024.size (mix_inb i)

theorem rowOf_eq (i : grid0.Coords) (xs : Vec F S10x8x1024 .f32) : rowOf i xs = mixRow i (slotOf i xs) := by
  funext y
  unfold rowOf mixRow slotOf VecWindow.window
  refine congrArg xs (funext fun a => Fin.ext ?_)
  have h1 := off1_eq i
  have h0 := off2_zero i
  have h2 : k0_off2 i 2 = 0 := rfl
  show k0_off2 i a + 1 * (y a).val = k0_off1 i a + 1 * ((![0, k0_off2 i 1, 0] : Fin 3 → ℕ) a + 1 * (y a).val)
  fin_cases a <;> simp [h1, h0, h2]

theorem slotOf_congr {i j : grid0.Coords} (h : k0_off1 i = k0_off1 j) (xs : Vec F S10x8x1024 .f32) : slotOf i xs = slotOf j xs := by
  have e : ∀ (o o' : Fin 3 → ℕ) (b b'), o = o' → VecWindow.window (s := S10x8x1024) xs o S1x8x1024.size b = VecWindow.window (s := S10x8x1024) xs o' S1x8x1024.size b' := by
    rintro o o' b b' rfl; rfl
  exact e _ _ _ _ h

theorem slotOf_put_same (i : grid0.Coords) (w : Vec F S1x8x1024 .f32) (xs : Vec F S10x8x1024 .f32) :
    slotOf i (VecWindow.put xs (k0_off1 i) S1x8x1024.size w) = w :=
  VecWindow.window_put_same xs (k0_off1 i) S1x8x1024.size (off1_inb i) w

theorem slotOf_put_ne {s t : Fin grid0.N} (h : s.val % 10 ≠ t.val % 10) (w : Vec F S1x8x1024 .f32) (xs : Vec F S10x8x1024 .f32) :
    slotOf (grid0.coords s) (VecWindow.put xs (k0_off1 (grid0.coords t)) S1x8x1024.size w) = slotOf (grid0.coords s) xs := by
  refine VecWindow.window_put_of_disjoint xs _ S1x8x1024.size _ S1x8x1024.size (off1_inb _) w (0 : Fin 3) ?_
  rw [off1_at, off1_at]
  show s.val % 10 + 1 ≤ t.val % 10 ∨ t.val % 10 + 1 ≤ s.val % 10
  omega

variable (m : (ℓ : Loc nD τ sig) → Buf (Elt F) ℓ) (ρ : Dev nD → PrngReg)

/-! ## What the carried table and the output hold -/

/-- What a point of the first row of blocks puts into its slot. -/
def shAt (c : Dev nD) (t : Fin cfg0.N) : Vec F S1x8x1024 .f32 := k0_pay2 (shiftCols (iblk m c 2 t)) (X0_3 m c t)

/-- The slots of the points of the first row of blocks before position `n` hold what those points put there. -/
def Kept (c : Dev nD) (n : ℕ) (xs : Vec F S10x8x1024 .f32) : Prop :=
  ∀ s : Fin cfg0.N, s.val < n → s.val < 10 → slotOf (grid0.coords s) xs = shAt m c s

/-- What a point writes: the first column's row scaled and added to its product. -/
def outAt (c : Dev nD) (t : Fin cfg0.N) : Vec F S1024x1024 .bf16 :=
  k0_pay1 (k0_pay3 (iblk m c 1 t)) (iblk m c 0 t) (X0_3 m c t) (mixRow (grid0.coords t) (shAt m c (top t)))

theorem kept_put (c : Dev nD) (t : Fin cfg0.N) (xs : Vec F S10x8x1024 .f32) (h : Kept m c t.val xs) (ht : t.val < 10) :
    Kept m c (t.val + 1) (tabPut (grid0.coords t) (iblk m c 2 t) (X0_3 m c t) xs) := by
  intro s hs hs8
  unfold tabPut
  rcases Nat.lt_or_ge s.val t.val with hlt | hge
  · rw [slotOf_put_ne (by omega)]
    exact h s hlt hs8
  · have e : s = t := Fin.ext (by omega)
    subst e
    exact slotOf_put_same _ _ _

theorem kept_later (c : Dev nD) (t : Fin cfg0.N) (xs : Vec F S10x8x1024 .f32) (h : Kept m c t.val xs) (ht : ¬ t.val < 10) :
    Kept m c (t.val + 1) xs := fun s hs hs8 => h s (by omega) hs8

theorem out_of_kept (c : Dev nD) (t : Fin cfg0.N) (xs : Vec F S10x8x1024 .f32) (h : Kept m c (t.val + 1) xs) :
    k0_pay1 (k0_pay3 (iblk m c 1 t)) (iblk m c 0 t) (X0_3 m c t) (rowOf (grid0.coords t) xs) = outAt m c t := by
  unfold outAt
  have e : k0_off1 (grid0.coords t) = k0_off1 (grid0.coords (top t)) := by
    rw [off1_at t, off1_at (top t)]
    show _ = ![t.val % 10 % 10, 0, 0]
    rw [Nat.mod_mod]
  rw [rowOf_eq, slotOf_congr e, h (top t) (by show t.val % 10 < t.val + 1; omega) (by show t.val % 10 < 10; omega)]

/-! ## The pipeline's proof data -/

/-- The invariant: the carried table with the slots put so far, and the generator register. -/
def Phi (c : Dev nD) (n : ℕ) : sProp 𝕄 :=
  iprop(∃ xs : Vec F S10x8x1024 .f32, ⌜Kept m c n xs⌝ ∗ owns (c : Thread nD τ) (Memref.whole cc0_scratch0) fullShare xs ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => X0_3 m c t
    | ⟨4, _⟩ => outAt m c t
  Φ t := Phi m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = X0_3 m c t := by dsimp only [dats]
theorem after0_4 (c : Dev nD) (t : Fin cfg0.N) : (dats m 0 c).after 4 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = X0_3 m c t :=
  before0_3_of m (dats m 0 c) (A_eq m c 3) (after0_3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = Phi m c (t.val + 1) from rfl, show (dats m 0 c).Φ t.castSucc = Phi m c t.val from rfl,
    show (dats m 0 c).owesAt () t.succ = (dats m 0 c).owesAt () t.castSucc from rfl,
    after0_0, after0_1, after0_2, after0_3, after0_4]
  unfold Phi
  iintro ⟨⟨%xs, %hx, HS, Hr⟩, Ho, ⟨%d0, H0⟩, ⟨%d1, H1⟩, ⟨%d2, H2⟩, ⟨%d3, H3⟩, ⟨%d4, H4⟩⟩
  by_cases hc : k0_cond1 (grid0.coords t) = 1#1
  · have hk := kept_put m c t xs hx ((cond1_iff t).mp hc)
    rw [← out_of_kept m c t _ hk]
    iapply (run_first c (grid0.coords t) hc _ _ _ _ _ _ _ _ _ _ _ _ (iblk m c 0 t) (iblk m c 1 t) (iblk m c 2 t) (X0_3 m c t) xs Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS Hr]
    · iexists _; isplitr
      · ipureintro; exact hk
      isplitl [HS]; · iexact HS
      iexact Hr
    isplitl [Ho]; · iexact Ho
    isplitl [H0]; · iexact H0
    isplitl [H1]; · iexact H1
    isplitl [H2]; · iexact H2
    isplitl [H3]; · iexact H3
    iexact H4
  · have hk := kept_later m c t xs hx (fun h => hc ((cond1_iff t).mpr h))
    rw [← out_of_kept m c t _ hk]
    iapply (run_later c (grid0.coords t) hc _ _ _ _ _ _ _ _ _ _ _ _ (iblk m c 0 t) (iblk m c 1 t) (iblk m c 2 t) (X0_3 m c t) xs Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS Hr]
    · iexists _; isplitr
      · ipureintro; exact hk
      isplitl [HS]; · iexact HS
      iexact Hr
    isplitl [Ho]; · iexact Ho
    isplitl [H0]; · iexact H0
    isplitl [H1]; · iexact H1
    isplitl [H2]; · iexact H2
    isplitl [H3]; · iexact H3
    iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

theorem phi_in (c : Dev nD) : (Pipeline.ΦA spec0 c : sProp 𝕄) ⊢ (dats m 0 c).Φ 0 := by
  show _ ⊢ Phi m c 0
  unfold Pipeline.ΦA Phi
  rw [scopedRest0_eq]
  iintro ⟨⟨%f, H⟩, Hr⟩
  iexists f
  isplitr
  · ipureintro; exact fun s hs => absurd hs (Nat.not_lt_zero _)
  isplitl [H]
  · rw [owns_whole]; iexact H
  iexact Hr

theorem phi_out (c : Dev nD) : (dats m 0 c).Φ (Fin.last cfg0.N) ⊢ (Pipeline.ΦA spec0 c : sProp 𝕄) := by
  show Phi m c _ ⊢ _
  unfold Pipeline.ΦA Phi
  rw [scopedRest0_eq]
  simp only [owns_whole]
  iintro ⟨%xs, %hx, H, Hr⟩
  isplitl [H]
  · iexists xs; iexact H
  iexact Hr

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := phi_in m) (hout := phi_out m)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.Kernel4Ideal.Ssm

end
-- ==== Proof.SsmFrame.lean ====
module

public import proofs.«01_k».proof.Proof.SsmFrameI
public import proofs.«01_k».proof.Proof.Gen.Kernel4

/-! The frame of the SSM projection: its float program is, at any carrier of floats, the program of its
ideal reading, no operation having been replaced, so the frame of the one is the frame of the other. -/

@[expose] public section

set_option maxRecDepth 65536

noncomputable section

namespace Cert.Kernel4.Ssm

open Cert.Kernel4.Gen Idealize.ShloMosaic Idealize.ShloMosaic.TcCoe Idealize.SL.Sem

variable {F : FTy → Type} [FloatOps F]

/-- The two tables of kernel bodies are one table. -/
theorem bodies_eq : (defs₀ : Defs nD τ sig (Elt F) Λ₀) = Cert.Kernel4Ideal.defs₀ (F := F) := by
  unfold defs₀ Cert.Kernel4Ideal.defs₀
  refine congrArg Defs.onTc ?_
  funext l x
  match l, x with
  | 0, (t, s) => rfl
  | ⟨_ + 1, h⟩, _ => exact absurd h (Nat.not_lt.2 (Nat.le_add_left _ _))

/-- So are the tables with the pipelines added. -/
theorem defs_eq : (defs : Defs nD τ sig (Elt F) (Pipeline.Sig Λ₀ (Fin 1) fun p => (pcfgs (F := F) p).Adm))
    = Cert.Kernel4Ideal.defs (F := F) :=
  congrArg (Pipeline.defs pcfgs) bodies_eq

variable (m : (ℓ : Loc nD τ sig) → Buf (Elt F) ℓ) (ρ : Dev nD → PrngReg)

/-- The arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  rw [defs_eq]
  exact Cert.Kernel4Ideal.Ssm.frame m ρ

end Cert.Kernel4.Ssm

end
-- ==== Proof.SsmVal.lean ====
/-
  The state-space projection's output array, from the argument arrays.
-/
module

public import proofs.«01_k».proof.Proof.SsmFrameI
public import proofs.«01_k».proof.Proof.Up
public import Idealize.ShloMosaic.Lib.Pipeline.ValueKit

@[expose] public section

set_option maxRecDepth 16384

noncomputable section

namespace Cert.Kernel4Ideal.Ssm

open Cert.Kernel4Ideal Cert.Kernel4Ideal.Gen Idealize.ShloMosaic Idealize.ShloMosaic.TcCoe Idealize.SL.Sem
open Cert.Attn Cert.Up

theorem pay3_at (v : Vec Ideal S1024x128 .f32) (a : Fin 1024) : k0_pay3 (F := Ideal) v (ix2 a 0) = rOf (∑ l : Fin 128, v (ix2 a l)) := by
  rw [← rOf_mul]
  pointwise [k0_pay3]

theorem pay2_at (v : Vec Ideal S8x2048 .f32) (w : Vec Ideal S1x2048x1024 .f32) (q : Fin 8) (b : Fin 1024) :
    k0_pay2 (F := Ideal) v w (ix3 0 q b) = ∑ k : Fin 2048, v (ix2 q k) * w (ix3 0 k b) := by
  pointwise [k0_pay2]

theorem pay1_at (r : Vec Ideal S1024x1 .f32) (x : Vec Ideal S1024x2048 .bf16) (w : Vec Ideal S1x2048x1024 .f32) (s : Vec Ideal S1x1x1024 .f32) (a b : Fin 1024) :
    k0_pay1 (F := Ideal) r x w s (ix2 a b) = (∑ k : Fin 2048, x (ix2 a k) * w (ix3 0 k b)) * r (ix2 a 0) + s (ix3 0 0 b) := by
  pointwise [k0_pay1, one_eq]

variable (m : (ℓ : Loc nD τ sig) → Buf (Elt Ideal) ℓ)

theorem idx : ∀ t : Fin cfg0.N, win0_0.index t = ![t.val / 10, 0] ∧ win0_1.index t = ![t.val / 10, 0] ∧ win0_2.index t = ![0, 0]
    ∧ win0_3.index t = ![0, 0, t.val % 10] ∧ win0_4.index t = ![t.val / 10, t.val % 10] :=
  (by decide +kernel : ∀ t : Fin grid0.N, _)

theorem off2_mid : ∀ t : Fin grid0.N, k0_off2 (grid0.coords t) 1 = min (t.val / 20) 4 := by decide +kernel

theorem tlt (t : Fin cfg0.N) : t.val < 90 := t.isLt

def X (c : Dev nD) (i : Fin 9216) (k : Fin 2048) : EReal := m ((c : Thread nD τ).loc main_arg0) (ix2 i k)
def Q (c : Dev nD) (i : Fin 9216) (l : Fin 128) : EReal := m ((c : Thread nD τ).loc main_arg1) (ix2 i l)
def M (c : Dev nD) (q : Fin 8) (k : Fin 12288) : EReal := m ((c : Thread nD τ).loc main_arg2) (ix2 q k)
def W (c : Dev nD) (k : Fin 2048) (j : Fin 10240) : EReal := m ((c : Thread nD τ).loc main_arg3) (ix3 0 k ⟨j.val, by omega⟩)

theorem b0_at (c : Dev nD) (t : Fin cfg0.N) (a : Fin 1024) (k : Fin 2048) :
    iblk m c 0 t (ix2 a k) = X m c ⟨1024 * (t.val / 10) + a.val, by have := tlt t; omega⟩ k := by
  blk_ext [iblk, V, idx t, X]

theorem b1_at (c : Dev nD) (t : Fin cfg0.N) (a : Fin 1024) (l : Fin 128) :
    iblk m c 1 t (ix2 a l) = Q m c ⟨1024 * (t.val / 10) + a.val, by have := tlt t; omega⟩ l := by
  blk_ext [iblk, V, idx t, Q]

theorem b2_at (c : Dev nD) (t : Fin cfg0.N) (q : Fin 8) (k : Fin 12288) : iblk m c 2 t (ix2 q k) = M m c q k := by
  blk_ext [iblk, V, idx t, M]

theorem b3_at (c : Dev nD) (t : Fin cfg0.N) (k : Fin 2048) (b : Fin 1024) :
    X0_3 m c t (ix3 0 k b) = W m c k ⟨1024 * (t.val % 10) + b.val, by omega⟩ := by
  unfold X0_3 Pipeline.Window.fill
  rw [dif_pos (moved0_3 t (ix3 0 k b))]
  blk_ext [iblk, V, idx t, W]

theorem shift_at (x : Vec Ideal S8x12288 .f32) (q : Fin 8) (k : Fin 2048) : shiftCols x (ix2 q k) = x (ix2 q ⟨k.val, by omega⟩) := by
  refine congrArg x (funext fun a => Fin.ext ?_)
  show (![0, 0] : Fin 2 → ℕ) a + 1 * (ix2 q k a).val = _
  fin_cases a
  · show 0 + 1 * q.val = q.val; omega
  · show 0 + 1 * k.val = k.val; omega

theorem mix_at (i : grid0.Coords) (w : Vec Ideal S1x8x1024 .f32) (q : Fin 8) (hq : k0_off2 i 1 = q.val) (b : Fin 1024) :
    mixRow i w (ix3 0 0 b) = w (ix3 0 q b) := by
  refine congrArg w (funext fun a => Fin.ext ?_)
  show (![0, k0_off2 i 1, 0] : Fin 3 → ℕ) a + 1 * (ix3 (0 : Fin 1) (0 : Fin 1) b a).val = _
  fin_cases a
  · rfl
  · show k0_off2 i 1 + 1 * 0 = q.val; omega
  · show 0 + 1 * b.val = b.val; omega

/-- The modulation row of a row of the array. -/
def mrow (R : Fin 9216) : Fin 8 := ⟨min (R.val / 2048) 4, by omega⟩

/-- The entry of the result. -/
def entry (c : Dev nD) (R : Fin 9216) (C : Fin 10240) : EReal :=
  (∑ k, X m c R k * W m c k C) * rOf (∑ l, Q m c R l) + ∑ k, M m c (mrow R) ⟨k.val, by omega⟩ * W m c k C

theorem out_at (c : Dev nD) (t : Fin cfg0.N) (a b : Fin 1024) :
    outAt m c t (ix2 a b) = entry m c ⟨1024 * (t.val / 10) + a.val, by have := tlt t; omega⟩ ⟨1024 * (t.val % 10) + b.val, by omega⟩ := by
  unfold outAt shAt
  rw [pay1_at, pay3_at, mix_at _ _ (mrow ⟨1024 * (t.val / 10) + a.val, by have := tlt t; omega⟩) (by
    rw [off2_mid]; show _ = min ((1024 * (t.val / 10) + a.val) / 2048) 4; omega), pay2_at]
  simp only [b0_at, b1_at, b3_at, shift_at, b2_at]
  have e : (⟨1024 * ((top t).val % 10) + b.val, by omega⟩ : Fin 10240) = ⟨1024 * (t.val % 10) + b.val, by omega⟩ :=
    Fin.ext (by show 1024 * (t.val % 10 % 10) + b.val = 1024 * (t.val % 10) + b.val; rw [Nat.mod_mod])
  rw [e]
  rfl

/-- The output array. -/
theorem final (c : Dev nD) : (dats m 0 c).arrAt 4 cfg0.N = fun j : S9216x10240.Idx => entry m c (j 0) (j 1) := by
  refine (dats m 0 c).arrAt_eq_of_covers 4 _ (by decide +kernel) fun t hf y => ?_
  blk_simp
  rw [after0_4]
  idx_vars y
  refine (out_at m c t _ _).trans ?_
  congr 1 <;> refine Fin.ext ?_ <;> simp [idx t, mul_comm]

theorem run_blocks (g : Dev nD → PrngReg) : θ_run defs (onTc (τ := τ) (main (F := Ideal))) ⟨m, fun _ => 0, g⟩ fun r => ∀ c : Dev nD,
      r.2.mem ((c : Thread nD τ).loc main_v0) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h.1.1 c).1 4, h.2.1 c⟩)
    (θ_run_and ((θ_run defs _ _).mono (fun _ h => (⟨h, trivial⟩ : _ ∧ True)) (run_main m g)) (frame m g))

end Cert.Kernel4Ideal.Ssm

end
-- ==== Proof.SsmClaim.lean ====
/-
  The reference's state-space projection read at an entry, and the two projection programs compute one array.
-/
module

public import proofs.«01_k».proof.Defs
public import proofs.«01_k».proof.Proof.Gen.Pre_finite4
public import proofs.«01_k».proof.Proof.Gen.Reference4Ideal.Run
public import proofs.«01_k».proof.Proof.SsmVal
public import Idealize.ShloMosaic.Lib.ReduceAll

@[expose] public section

set_option maxRecDepth 16384

noncomputable section

namespace Cert.Reference4Ideal.Ssm

open Cert.Reference4Ideal Cert.Reference4Ideal.Gen Idealize.ShloMosaic Idealize.ShloMosaic.TcCoe Idealize.SL.Sem
open Cert.Attn Cert.Up

/-- The rows' factors. -/
def fac (q : FVec Ideal S9216x128 .f32) : FVec Ideal S9216x1 .f32 :=
  Host.rsqrt (addf (Host.divf (broadcastInDim S9216x1 ![0] bcast_S9216_S9216x1_0 (Host.reduceAdd q (constant S_ .f32 0x00000000#32) reducesTo_S9216x128_S9216_d1 h_S_)) (broadcastInDim S9216x1 ![] bcast_S_S9216x1 (constant S_ .f32 0x45000000#32))) (broadcastInDim S9216x1 ![] bcast_S_S9216x1 (constant S_ .f32 0x358637BD#32)))

/-- The shift of every row. -/
def shf (M : FVec Ideal S8x12288 .f32) : FVec Ideal S9216x2048 .f32 :=
  concatenate S9216x2048 0 [⟨S8192x2048, (shapeCast _ (broadcastInDim S4x2048x2048 ![0, 1, 2] bcast_S4x1x2048_S4x2048x2048_0_1_2 (broadcastInDim S4x1x2048 ![0, 2] bcast_S4x2048_S4x1x2048_0_2 (extractStridedSlice S4x2048 ![0, 0] (extractStridedSlice S8x2048 ![0, 0] M slices_S8x12288_S8x2048_0_0) slices_S8x2048_S4x2048_0_0))) shapeCasts_S4x2048x2048_S8192x2048)⟩, ⟨S1024x2048, (broadcastInDim S1024x2048 ![0, 1] bcast_S1x2048_S1024x2048_0_1 (extractStridedSlice S1x2048 ![4, 0] (extractStridedSlice S8x2048 ![0, 0] M slices_S8x12288_S8x2048_0_0) slices_S8x2048_S1x2048_4_0))⟩] concatenates_S8192x2048_S1024x2048_S9216x2048_d0

/-- The scaled and shifted rows. -/
def rows (x : FVec Ideal S9216x2048 .bf16) (f : FVec Ideal S9216x1 .f32) (s : FVec Ideal S9216x2048 .f32) : FVec Ideal S9216x2048 .f32 :=
  addf (mulf (extf .f32 x bitsLt_bf16_f32) (broadcastInDim S9216x2048 ![0, 1] bcast_S9216x1_S9216x2048_0_1 f)) s

/-- The product. -/
def prod (a : FVec Ideal S9216x2048 .f32) (w : FVec Ideal S1x2048x10368 .f32) : FVec Ideal S9216x10240 .bf16 :=
  truncf .bf16 (Host.dotGeneral dot_S9216x2048_S2048x10240_S9216x10240_1_0_0_1_n_n none a (shapeCast _ (extractStridedSlice S1x2048x10240 ![0, 0, 0] w slices_S1x2048x10368_S1x2048x10240_0_0_0) shapeCasts_S1x2048x10240_S2048x10240)) bitsLt_bf16_f32

theorem run' (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v22) = prod (rows (m ((c.tc : Thread nD τ).loc main_arg0)) (fac (m ((c.tc : Thread nD τ).loc main_arg1))) (shf (m ((c.tc : Thread nD τ).loc main_arg2)))) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Cert.Reference4Ideal.Value.run m ρ

theorem fac_at (q : FVec Ideal S9216x128 .f32) (R : Fin 9216) : fac q (ix2 R 0) = rOf (∑ l : Fin 128, q (ix2 R l)) := by
  pointwise [fac, rOf]

theorem shf_at (M : FVec Ideal S8x12288 .f32) (R : Fin 9216) (k : Fin 2048) :
    shf M (ix2 R k) = M (ix2 (⟨min (R.val / 2048) 4, by omega⟩ : Fin 8) (⟨k.val, by omega⟩ : Fin 12288)) := by
  pointwise [shf]
  split <;> refine congrArg M ?_ <;> (congr 1; refine Fin.ext ?_; simp only []; omega)

theorem rows_at (x : FVec Ideal S9216x2048 .bf16) (f : FVec Ideal S9216x1 .f32) (s : FVec Ideal S9216x2048 .f32) (R : Fin 9216) (k : Fin 2048) :
    rows x f s (ix2 R k) = x (ix2 R k) * f (ix2 R 0) + s (ix2 R k) := by
  pointwise [rows]

theorem prod_at (a : FVec Ideal S9216x2048 .f32) (w : FVec Ideal S1x2048x10368 .f32) (R : Fin 9216) (C : Fin 10240) :
    prod a w (ix2 R C) = ∑ k : Fin 2048, a (ix2 R k) * w (ix3 0 k ⟨C.val, by omega⟩) := by
  pointwise [prod]

end Cert.Reference4Ideal.Ssm

namespace Cert.Pre_finite4.Ssm

open Cert.Pre_finite4 Idealize.ShloMosaic
open Cert.Attn

theorem lt_of (a b : EReal) (h : Ideal.cmp .olt a b = 1#1) : a < b := by
  by_contra hn
  simp [Ideal.cmp, hn] at h

theorem ge_of (a b : EReal) (h : Ideal.cmp .oge a b = 1#1) : b ≤ a := by
  by_contra hn
  simp [Ideal.cmp, hn] at h

theorem inf_eq : Ideal.ofBits .f32 0x7F800000#32 = ⊤ := by simp [Ideal.ofBits, Ideal.ieee]

/-- Where the precondition holds, the shift and the weights are real and the squares' sums not negative. -/
theorem real (x : FVec Ideal S9216x2048 .bf16) (q : FVec Ideal S9216x128 .f32) (M : FVec Ideal S8x12288 .f32) (w : FVec Ideal S1x2048x10368 .f32)
    (h : fn (F := Ideal) x q M w = fun _ => 1#1) :
    (∀ R l, 0 ≤ q (ix2 R l)) ∧ (∀ (R : Fin 9216) (k : Fin 2048), Rl (M (ix2 (⟨min (R.val / 2048) 4, by omega⟩ : Fin 8) ⟨k.val, by omega⟩)))
      ∧ ∀ (k : Fin 2048) (C : Fin 10240), Rl (w (ix3 0 k ⟨C.val, by omega⟩)) := by
  have h0 := congrFun h (Shape.Idx.first (by decide))
  obtain ⟨h1, h4⟩ := IntOp.andi_eq_one.mp h0
  obtain ⟨h1, h3⟩ := IntOp.andi_eq_one.mp h1
  refine ⟨fun R l => ?_, fun R k => ?_, fun k C => ?_⟩
  · have := ge_of _ _ (Host.reduce_andi_all _ _ _ _ _ h1 (ix2 R l))
    refine le_of_eq_of_le ?_ this
    pointwise [Cert.Up.zero_eq]
  · have := lt_of _ _ (Host.reduce_andi_all _ _ _ _ _ h3 (ix2 (⟨min (R.val / 2048) 4, by omega⟩ : Fin 5) k))
    refine Rl.of_abs_lt (lt_of_lt_of_eq (lt_of_eq_of_lt ?_ this) ?_)
    · pointwise
      rfl
    · pointwise [inf_eq]
  · have := lt_of _ _ (Host.reduce_andi_all _ _ _ _ _ h4 (ix2 k C))
    refine Rl.of_abs_lt (lt_of_lt_of_eq (lt_of_eq_of_lt ?_ this) ?_)
    · pointwise
      rfl
    · pointwise [inf_eq]

end Cert.Pre_finite4.Ssm

namespace Cert.Proof.Ssm

open Idealize.ShloMosaic Idealize.SL.Sem Cert.Attn Cert.Up

theorem value_eq (m : (ℓ : Loc Kernel4Ideal.nD Kernel4Ideal.τ Kernel4Ideal.sig) → Buf (Elt Ideal) ℓ) (hpre : Pre_Kernel4Ideal_finite4 m)
    (c : Dev Kernel4Ideal.nD) :
    Reference4Ideal.Ssm.prod (Reference4Ideal.Ssm.rows (m (c.tc.loc Kernel4Ideal.main_arg0)) (Reference4Ideal.Ssm.fac (m (c.tc.loc Kernel4Ideal.main_arg1)))
        (Reference4Ideal.Ssm.shf (m (c.tc.loc Kernel4Ideal.main_arg2)))) (m (c.tc.loc Kernel4Ideal.main_arg3))
      = (Kernel4Ideal.Ssm.dats m 0 c).arrAt 4 Kernel4Ideal.cfg0.N := by
  refine Eq.trans ?_ (Kernel4Ideal.Ssm.final m c).symm
  obtain ⟨hq, hM, hw⟩ := Cert.Pre_finite4.Ssm.real _ _ _ _ (hpre c)
  funext j
  idx_vars j
  refine (Reference4Ideal.Ssm.prod_at _ _ _ _).trans ?_
  simp only [Reference4Ideal.Ssm.rows_at, Reference4Ideal.Ssm.fac_at, Reference4Ideal.Ssm.shf_at]
  exact (affine_eq _ _ _ _ (fun k => hM _ _) (fun k => hw _ _) (Finset.sum_nonneg fun l _ => hq _ _)).symm

theorem algebraic : Cert.algebraic_Kernel4Ideal_Reference4Ideal_pre_finite4 := by
  pair_intro
  · run_from Cert.Kernel4Ideal.Ssm.run_blocks m g
  · run_from Cert.Reference4Ideal.Ssm.run' m' g'
    exact value_eq m hpre c

end Cert.Proof.Ssm

end
-- ==== Proof.NaBodyI.lean ====
module

public import proofs.«01_k».proof.Proof.Gen.Kernel5Ideal.Frame
public import proofs.«01_k».proof.Proof.Gen.Kernel5Ideal.Skeleton
public import Idealize.ShloMosaic.Lib.Claim
public import Idealize.ShloMosaic.Lib.VecWindow
public import Idealize.ShloMosaic.Lib.WritesUnit

@[expose] public section

set_option maxRecDepth 16384

noncomputable section

namespace Cert.Kernel5Ideal.Na

open Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The shift columns of the modulation table: columns 0 to 2047 of its eight rows. -/
def shiftCols (x : Vec F S8x12288 .f32) : Vec F S8x2048 .f32 :=
  VecWindow.window x ![0, 0] S8x2048.size inb_S8x12288_S8x2048_0_0

/-- The row of the carried table a point adds: its column block and its batch row. -/
def rowOf (i : grid0.Coords) (xs : Vec F S6x8x1024 .f32) : Vec F S1x1x1024 .f32 :=
  VecWindow.window xs (k0_off2 i) S1x1x1024.size (k0_off2_inb i)

theorem off1_eq (i : grid0.Coords) : k0_off1 i = ![(i 1).val, 0, 0] := by
  revert i; decide +kernel

theorem off2_first (i : grid0.Coords) (hc : k0_cond1 i = 1#1) : k0_off2 i = ![(i 1).val, 0, 0] := by
  revert i; decide +kernel

/-- The carried table with a column block's products put into its slot. -/
def tabPut (i : grid0.Coords) (x2 : Vec F S8x12288 .f32) (x3 : Vec F S1x2048x1024 .f32) (xs : Vec F S6x8x1024 .f32) : Vec F S6x8x1024 .f32 :=
  VecWindow.put xs (k0_off1 i) S1x8x1024.size (k0_pay2 (shiftCols x2) x3)

set_option maxHeartbeats 1000000 in
/-- The body where the row of blocks is not the first: it reads the carried table and writes the output block. -/
theorem run_later (c : Dev nD) (i : grid0.Coords) (hc : ¬ k0_cond1 i = 1#1)
    (arg2 : Memref sig .tc .vmem S1024x2048 .bf16) (harg2 : arg2.IsWhole) (arg3 : Memref sig .tc .vmem S1024x128 .f32) (harg3 : arg3.IsWhole)
    (arg4 : Memref sig .tc .vmem S8x12288 .f32) (harg4 : arg4.IsWhole) (arg5 : Memref sig .tc .vmem S1x2048x1024 .f32) (harg5 : arg5.IsWhole)
    (arg6 : Memref sig .tc .vmem S1024x1024 .bf16) (harg6 : arg6.IsWhole) (arg7 : Memref sig .tc .vmem S6x8x1024 .f32) (harg7 : arg7.IsWhole)
    (x0 : Vec F S1024x2048 .bf16) (x1 : Vec F S1024x128 .f32) (x2 : Vec F S8x12288 .f32) (x3 : Vec F S1x2048x1024 .f32) (xs : Vec F S6x8x1024 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k0_pay1 (k0_pay3 i) (k0_pay4 i x1) x0 x3 (rowOf i xs))
            ∗ owns (c : Thread nD τ) arg7 fullShare xs) -∗ K ⟨⟩))
      ⊢ wp frame (wpE (defs₀ (F := F)) Variants.none c none) E (cc0_mm_pre i arg2 harg2 arg3 harg3 arg4 harg4 arg5 harg5 arg6 harg6 arg7 harg7) K := by
  simp only [cc0_mm_pre_eq_skeleton]; unfold cc0_mm_pre_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  subst hf0 hf1 hf2 hf3 hf5
  rw [dif_neg hc]
  sl_exec
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; swap; · iexact H4
    ipureintro
    refine (View.read_writes_full arg6.view f4 inb_S1024x1024_S1024x1024_0_0 _ _).trans ?_
    rw [View.readAt_full arg3.view f1 inb_S1024x128_S1024x128_0_0, View.readAt_full arg2.view f0 inb_S1024x2048_S1024x2048_0_0]
    exact congrArg₂ (k0_pay1 _ _ _) (View.readAt_full arg5.view f3 inb_S1x2048x1024_S1x2048x1024_0_0_0) rfl
  · iexists _; isplitr; · ipureintro; rfl
    iexact H5

/-- On the first row of blocks the row a point adds lies in the slot it has just put. -/
theorem window_slot (i : grid0.Coords) (hc : k0_cond1 i = 1#1) (w : Vec F S1x8x1024 .f32) (xs xs' : Vec F S6x8x1024 .f32) :
    VecWindow.window (VecWindow.put xs (k0_off1 i) S1x8x1024.size w) (k0_off2 i) S1x1x1024.size (k0_off2_inb i)
      = rowOf i (VecWindow.put xs' (k0_off1 i) S1x8x1024.size w) := by
  funext y
  unfold rowOf VecWindow.window VecWindow.put
  have h : ∀ a, k0_off1 i a ≤ ((Rect.unit (s := S6x8x1024) (k0_off2 i) S1x1x1024.size (k0_off2_inb i)).emb y a).val
      ∧ ((Rect.unit (s := S6x8x1024) (k0_off2 i) S1x1x1024.size (k0_off2_inb i)).emb y a).val < k0_off1 i a + S1x8x1024.size a := by
    intro a
    have e : ((Rect.unit (s := S6x8x1024) (k0_off2 i) S1x1x1024.size (k0_off2_inb i)).emb y a).val = k0_off2 i a + 1 * (y a).val := rfl
    have hy : (y a).val < S1x1x1024.size a := (y a).isLt
    have h1 : k0_off1 i a = (![(i 1).val, 0, 0] : Fin 3 → ℕ) a := congrFun (off1_eq i) a
    have h2 : k0_off2 i a = (![(i 1).val, 0, 0] : Fin 3 → ℕ) a := congrFun (off2_first i hc) a
    have h3 : S1x1x1024.size a ≤ S1x8x1024.size a := (by decide : ∀ a : Fin 3, S1x1x1024.size a ≤ S1x8x1024.size a) a
    omega
  rw [dif_pos h, dif_pos h]

set_option maxHeartbeats 1000000 in
/-- The body on the first row of blocks: it puts its column block of products into the carried table first. -/
theorem run_first (c : Dev nD) (i : grid0.Coords) (hc : k0_cond1 i = 1#1)
    (arg2 : Memref sig .tc .vmem S1024x2048 .bf16) (harg2 : arg2.IsWhole) (arg3 : Memref sig .tc .vmem S1024x128 .f32) (harg3 : arg3.IsWhole)
    (arg4 : Memref sig .tc .vmem S8x12288 .f32) (harg4 : arg4.IsWhole) (arg5 : Memref sig .tc .vmem S1x2048x1024 .f32) (harg5 : arg5.IsWhole)
    (arg6 : Memref sig .tc .vmem S1024x1024 .bf16) (harg6 : arg6.IsWhole) (arg7 : Memref sig .tc .vmem S6x8x1024 .f32) (harg7 : arg7.IsWhole)
    (x0 : Vec F S1024x2048 .bf16) (x1 : Vec F S1024x128 .f32) (x2 : Vec F S8x12288 .f32) (x3 : Vec F S1x2048x1024 .f32) (xs : Vec F S6x8x1024 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k0_pay1 (k0_pay3 i) (k0_pay4 i x1) x0 x3 (rowOf i (tabPut i x2 x3 xs)))
            ∗ owns (c : Thread nD τ) arg7 fullShare (tabPut i x2 x3 xs)) -∗ K ⟨⟩))
      ⊢ wp frame (wpE (defs₀ (F := F)) Variants.none c none) E (cc0_mm_pre i arg2 harg2 arg3 harg3 arg4 harg4 arg5 harg5 arg6 harg6 arg7 harg7) K := by
  simp only [cc0_mm_pre_eq_skeleton]; unfold cc0_mm_pre_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  subst hf0 hf1 hf2 hf3 hf5
  rw [dif_pos hc]
  letI : ClosedOff (k0_off1 i) := ⟨![(i 1).val, 0, 0], off1_eq i⟩
  letI : ClosedOff (k0_off2 i) := ⟨![(i 1).val, 0, 0], off2_first i hc⟩
  sl_exec
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; swap; · iexact H4
    ipureintro
    refine (View.read_writes_full arg6.view f4 inb_S1024x1024_S1024x1024_0_0 _ _).trans ?_
    rw [View.readAt_full arg3.view f1 inb_S1024x128_S1024x128_0_0, View.readAt_full arg2.view f0 inb_S1024x2048_S1024x2048_0_0]
    have e5 : View.readAt (Elt F) arg5.view (Rect.unit ![0, 0, 0] ![1, 2048, 1024] inb_S1x2048x1024_S1x2048x1024_0_0_0).toLoadRect f3 = arg5.view.read (Elt F) f3 :=
      View.readAt_full arg5.view f3 inb_S1x2048x1024_S1x2048x1024_0_0_0
    refine congrArg₂ (k0_pay1 _ _ _) e5 ?_
    unfold run_first.sl.v44 run_first.sl.H5_1
    refine (View.readAt_unit arg7.view _ (k0_off2_inb i) rfl (k0_off2_inb i)).trans ?_
    rw [View.read_writes_cons_put arg7.view _ (k0_off1_inb i hc) _ _ rfl, e5]
    exact window_slot i hc _ _ _
  · iexists _; isplitr; swap; · iexact H5
    ipureintro
    unfold run_first.sl.H5_1
    rw [View.read_writes_cons_put arg7.view _ (k0_off1_inb i hc) _ _ rfl, View.writes_nil]
    refine congrArg (fun z : Vec F S1x2048x1024 .f32 => VecWindow.put (arg7.view.read (Elt F) f5) (k0_off1 i) S1x8x1024.size (k0_pay2 (shiftCols (arg4.view.read (Elt F) f2)) z)) ?_
    exact View.readAt_full arg5.view f3 inb_S1x2048x1024_S1x2048x1024_0_0_0

end Cert.Kernel5Ideal.Na

end
-- ==== Proof.NaFrameI.lean ====
module

public import proofs.«01_k».proof.Proof.NaBodyI

@[expose] public section

set_option maxRecDepth 16384

noncomputable section

namespace Cert.Kernel5Ideal.Na

open Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The grid -/

theorem cond1_iff : ∀ t : Fin grid0.N, k0_cond1 (grid0.coords t) = 1#1 ↔ t.val < 6 := by decide +kernel

theorem off1_at : ∀ t : Fin grid0.N, k0_off1 (grid0.coords t) = ![t.val % 6, 0, 0] := by decide +kernel

theorem off1_inb : ∀ i : grid0.Coords, ∀ a, k0_off1 i a + S1x8x1024.size a ≤ S6x8x1024.size a := by decide +kernel

theorem off2_zero (i : grid0.Coords) : k0_off2 i 0 = k0_off1 i 0 := by
  revert i; decide +kernel

theorem mix_inb (i : grid0.Coords) : ∀ a, (![0, k0_off2 i 1, 0] : Fin 3 → ℕ) a + S1x1x1024.size a ≤ S1x8x1024.size a := by
  revert i; decide +kernel

/-- The point of the first row of blocks in the same column. -/
def top (t : Fin cfg0.N) : Fin cfg0.N := ⟨t.val % 6, lt_of_le_of_lt (Nat.mod_le _ _) t.isLt⟩

/-- The slot of the carried table a point reads. -/
def slotOf (i : grid0.Coords) (xs : Vec F S6x8x1024 .f32) : Vec F S1x8x1024 .f32 :=
  VecWindow.window xs (k0_off1 i) S1x8x1024.size (off1_inb i)

/-- A slot's row of the point's batch. -/
def mixRow (i : grid0.Coords) (w : Vec F S1x8x1024 .f32) : Vec F S1x1x1024 .f32 :=
  VecWindow.window w ![0, k0_off2 i 1, 0] S1x1x1024.size (mix_inb i)

theorem rowOf_eq (i : grid0.Coords) (xs : Vec F S6x8x1024 .f32) : rowOf i xs = mixRow i (slotOf i xs) := by
  funext y
  unfold rowOf mixRow slotOf VecWindow.window
  refine congrArg xs (funext fun a => Fin.ext ?_)
  have h1 := off1_eq i
  have h0 := off2_zero i
  have h2 : k0_off2 i 2 = 0 := rfl
  show k0_off2 i a + 1 * (y a).val = k0_off1 i a + 1 * ((![0, k0_off2 i 1, 0] : Fin 3 → ℕ) a + 1 * (y a).val)
  fin_cases a <;> simp [h1, h0, h2]

theorem slotOf_congr {i j : grid0.Coords} (h : k0_off1 i = k0_off1 j) (xs : Vec F S6x8x1024 .f32) : slotOf i xs = slotOf j xs := by
  have e : ∀ (o o' : Fin 3 → ℕ) (b b'), o = o' → VecWindow.window (s := S6x8x1024) xs o S1x8x1024.size b = VecWindow.window (s := S6x8x1024) xs o' S1x8x1024.size b' := by
    rintro o o' b b' rfl; rfl
  exact e _ _ _ _ h

theorem slotOf_put_same (i : grid0.Coords) (w : Vec F S1x8x1024 .f32) (xs : Vec F S6x8x1024 .f32) :
    slotOf i (VecWindow.put xs (k0_off1 i) S1x8x1024.size w) = w :=
  VecWindow.window_put_same xs (k0_off1 i) S1x8x1024.size (off1_inb i) w

theorem slotOf_put_ne {s t : Fin grid0.N} (h : s.val % 6 ≠ t.val % 6) (w : Vec F S1x8x1024 .f32) (xs : Vec F S6x8x1024 .f32) :
    slotOf (grid0.coords s) (VecWindow.put xs (k0_off1 (grid0.coords t)) S1x8x1024.size w) = slotOf (grid0.coords s) xs := by
  refine VecWindow.window_put_of_disjoint xs _ S1x8x1024.size _ S1x8x1024.size (off1_inb _) w (0 : Fin 3) ?_
  rw [off1_at, off1_at]
  show s.val % 6 + 1 ≤ t.val % 6 ∨ t.val % 6 + 1 ≤ s.val % 6
  omega

variable (m : (ℓ : Loc nD τ sig) → Buf (Elt F) ℓ) (ρ : Dev nD → PrngReg)

/-! ## What the carried table and the output hold -/

/-- What a point of the first row of blocks puts into its slot. -/
def shAt (c : Dev nD) (t : Fin cfg0.N) : Vec F S1x8x1024 .f32 := k0_pay2 (shiftCols (iblk m c 2 t)) (iblk m c 3 t)

/-- The slots of the points of the first row of blocks before position `n` hold what those points put there. -/
def Kept (c : Dev nD) (n : ℕ) (xs : Vec F S6x8x1024 .f32) : Prop :=
  ∀ s : Fin cfg0.N, s.val < n → s.val < 6 → slotOf (grid0.coords s) xs = shAt m c s

/-- What a point writes: the scaled product with the scaled row of the carried table. -/
def outAt (c : Dev nD) (t : Fin cfg0.N) : Vec F S1024x1024 .bf16 :=
  k0_pay1 (k0_pay3 (grid0.coords t)) (k0_pay4 (grid0.coords t) (iblk m c 1 t)) (iblk m c 0 t) (iblk m c 3 t) (mixRow (grid0.coords t) (shAt m c (top t)))

theorem kept_put (c : Dev nD) (t : Fin cfg0.N) (xs : Vec F S6x8x1024 .f32) (h : Kept m c t.val xs) (ht : t.val < 6) :
    Kept m c (t.val + 1) (tabPut (grid0.coords t) (iblk m c 2 t) (iblk m c 3 t) xs) := by
  intro s hs hs8
  unfold tabPut
  rcases Nat.lt_or_ge s.val t.val with hlt | hge
  · rw [slotOf_put_ne (by omega)]
    exact h s hlt hs8
  · have e : s = t := Fin.ext (by omega)
    subst e
    exact slotOf_put_same _ _ _

theorem kept_later (c : Dev nD) (t : Fin cfg0.N) (xs : Vec F S6x8x1024 .f32) (h : Kept m c t.val xs) (ht : ¬ t.val < 6) :
    Kept m c (t.val + 1) xs := fun s hs hs8 => h s (by omega) hs8

theorem out_of_kept (c : Dev nD) (t : Fin cfg0.N) (xs : Vec F S6x8x1024 .f32) (h : Kept m c (t.val + 1) xs) :
    k0_pay1 (k0_pay3 (grid0.coords t)) (k0_pay4 (grid0.coords t) (iblk m c 1 t)) (iblk m c 0 t) (iblk m c 3 t) (rowOf (grid0.coords t) xs) = outAt m c t := by
  unfold outAt
  have e : k0_off1 (grid0.coords t) = k0_off1 (grid0.coords (top t)) := by
    rw [off1_at t, off1_at (top t)]
    show _ = ![t.val % 6 % 6, 0, 0]
    rw [Nat.mod_mod]
  rw [rowOf_eq, slotOf_congr e, h (top t) (by show t.val % 6 < t.val + 1; omega) (by show t.val % 6 < 6; omega)]

/-! ## The pipeline's proof data -/

/-- The invariant: the carried table with the slots put so far, and the generator register. -/
def Phi (c : Dev nD) (n : ℕ) : sProp 𝕄 :=
  iprop(∃ xs : Vec F S6x8x1024 .f32, ⌜Kept m c n xs⌝ ∗ owns (c : Thread nD τ) (Memref.whole cc0_scratch0) fullShare xs ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := Phi m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = Phi m c (t.val + 1) from rfl, show (dats m 0 c).Φ t.castSucc = Phi m c t.val from rfl,
    show (dats m 0 c).owesAt () t.succ = (dats m 0 c).owesAt () t.castSucc from rfl,
    after0_0, after0_1, after0_2, after0_3, after0_4]
  unfold Phi
  iintro ⟨⟨%xs, %hx, HS, Hr⟩, Ho, ⟨%d0, H0⟩, ⟨%d1, H1⟩, ⟨%d2, H2⟩, ⟨%d3, H3⟩, ⟨%d4, H4⟩⟩
  by_cases hc : k0_cond1 (grid0.coords t) = 1#1
  · have hk := kept_put m c t xs hx ((cond1_iff t).mp hc)
    rw [← out_of_kept m c t _ hk]
    iapply (run_first c (grid0.coords t) hc _ _ _ _ _ _ _ _ _ _ _ _ (iblk m c 0 t) (iblk m c 1 t) (iblk m c 2 t) (iblk m c 3 t) xs Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS Hr]
    · iexists _; isplitr
      · ipureintro; exact hk
      isplitl [HS]; · iexact HS
      iexact Hr
    isplitl [Ho]; · iexact Ho
    isplitl [H0]; · iexact H0
    isplitl [H1]; · iexact H1
    isplitl [H2]; · iexact H2
    isplitl [H3]; · iexact H3
    iexact H4
  · have hk := kept_later m c t xs hx (fun h => hc ((cond1_iff t).mpr h))
    rw [← out_of_kept m c t _ hk]
    iapply (run_later c (grid0.coords t) hc _ _ _ _ _ _ _ _ _ _ _ _ (iblk m c 0 t) (iblk m c 1 t) (iblk m c 2 t) (iblk m c 3 t) xs Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS Hr]
    · iexists _; isplitr
      · ipureintro; exact hk
      isplitl [HS]; · iexact HS
      iexact Hr
    isplitl [Ho]; · iexact Ho
    isplitl [H0]; · iexact H0
    isplitl [H1]; · iexact H1
    isplitl [H2]; · iexact H2
    isplitl [H3]; · iexact H3
    iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

theorem phi_in (c : Dev nD) : (Pipeline.ΦA spec0 c : sProp 𝕄) ⊢ (dats m 0 c).Φ 0 := by
  show _ ⊢ Phi m c 0
  unfold Pipeline.ΦA Phi
  rw [scopedRest0_eq]
  iintro ⟨⟨%f, H⟩, Hr⟩
  iexists f
  isplitr
  · ipureintro; exact fun s hs => absurd hs (Nat.not_lt_zero _)
  isplitl [H]
  · rw [owns_whole]; iexact H
  iexact Hr

theorem phi_out (c : Dev nD) : (dats m 0 c).Φ (Fin.last cfg0.N) ⊢ (Pipeline.ΦA spec0 c : sProp 𝕄) := by
  show Phi m c _ ⊢ _
  unfold Pipeline.ΦA Phi
  rw [scopedRest0_eq]
  simp only [owns_whole]
  iintro ⟨%xs, %hx, H, Hr⟩
  isplitl [H]
  · iexists xs; iexact H
  iexact Hr

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := phi_in m) (hout := phi_out m)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.Kernel5Ideal.Na

end
-- ==== Proof.NaFrame.lean ====
module

public import proofs.«01_k».proof.Proof.NaFrameI
public import proofs.«01_k».proof.Proof.Gen.Kernel5

/-! The frame of the neighbourhood attention projection: its float program is, at any carrier of floats, the program of its
ideal reading, no operation having been replaced, so the frame of the one is the frame of the other. -/

@[expose] public section

set_option maxRecDepth 65536

noncomputable section

namespace Cert.Kernel5.Na

open Cert.Kernel5.Gen Idealize.ShloMosaic Idealize.ShloMosaic.TcCoe Idealize.SL.Sem

variable {F : FTy → Type} [FloatOps F]

/-- The two tables of kernel bodies are one table. -/
theorem bodies_eq : (defs₀ : Defs nD τ sig (Elt F) Λ₀) = Cert.Kernel5Ideal.defs₀ (F := F) := by
  unfold defs₀ Cert.Kernel5Ideal.defs₀
  refine congrArg Defs.onTc ?_
  funext l x
  match l, x with
  | 0, (t, s) => rfl
  | ⟨_ + 1, h⟩, _ => exact absurd h (Nat.not_lt.2 (Nat.le_add_left _ _))

/-- So are the tables with the pipelines added. -/
theorem defs_eq : (defs : Defs nD τ sig (Elt F) (Pipeline.Sig Λ₀ (Fin 1) fun p => (pcfgs (F := F) p).Adm))
    = Cert.Kernel5Ideal.defs (F := F) :=
  congrArg (Pipeline.defs pcfgs) bodies_eq

variable (m : (ℓ : Loc nD τ sig) → Buf (Elt F) ℓ) (ρ : Dev nD → PrngReg)

/-- The arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  rw [defs_eq]
  exact Cert.Kernel5Ideal.Na.frame m ρ

end Cert.Kernel5.Na

end
-- ==== Proof.NaVal.lean ====
/-
  The query, key and value projection's output array, from the argument arrays.
-/
module

public import proofs.«01_k».proof.Proof.NaFrameI
public import proofs.«01_k».proof.Proof.Up
public import Idealize.ShloMosaic.Lib.Pipeline.ValueKit

@[expose] public section

set_option maxRecDepth 16384

noncomputable section

namespace Cert.Kernel5Ideal.Na

open Cert.Kernel5Ideal Cert.Kernel5Ideal.Gen Idealize.ShloMosaic Idealize.ShloMosaic.TcCoe Idealize.SL.Sem
open Cert.Attn Cert.Up

theorem pay4_at (i : grid0.Coords) (v : Vec Ideal S1024x128 .f32) (a : Fin 1024) :
    k0_pay4 (F := Ideal) i v (ix2 a 0) = rOf (∑ l : Fin 128, v (ix2 a l)) * k0_pay3 (F := Ideal) i := by
  rw [← rOf_mul]
  pointwise [k0_pay4]

theorem pay2_at (v : Vec Ideal S8x2048 .f32) (w : Vec Ideal S1x2048x1024 .f32) (q : Fin 8) (b : Fin 1024) :
    k0_pay2 (F := Ideal) v w (ix3 0 q b) = ∑ k : Fin 2048, v (ix2 q k) * w (ix3 0 k b) := by
  pointwise [k0_pay2]

theorem pay1_at (e : EReal) (r : Vec Ideal S1024x1 .f32) (x : Vec Ideal S1024x2048 .bf16) (w : Vec Ideal S1x2048x1024 .f32) (s : Vec Ideal S1x1x1024 .f32) (a b : Fin 1024) :
    k0_pay1 (F := Ideal) e r x w s (ix2 a b) = (∑ k : Fin 2048, x (ix2 a k) * w (ix3 0 k b)) * r (ix2 a 0) + s (ix3 0 0 b) * e := by
  pointwise [k0_pay1]

theorem isQuery : ∀ t : Fin grid0.N, Scalar.cmpi .slt (BitVec.ofNat 32 (grid0.coords t 1).val) 2#32 = if t.val % 6 < 2 then 1#1 else 0#1 := by
  decide +kernel

theorem pay3_at (t : Fin grid0.N) : k0_pay3 (F := Ideal) (grid0.coords t) = leadAt (1024 * (t.val % 6)) := by
  unfold k0_pay3 leadAt
  simp only [isQuery t]
  by_cases h : t.val % 6 < 2
  · rw [if_pos h, if_pos (by omega)]; rfl
  · rw [if_neg h, if_neg (by omega)]; exact one_eq

variable (m : (ℓ : Loc nD τ sig) → Buf (Elt Ideal) ℓ)

theorem idx : ∀ t : Fin cfg0.N, win0_0.index t = ![t.val / 6, 0] ∧ win0_1.index t = ![t.val / 6, 0] ∧ win0_2.index t = ![0, 0]
    ∧ win0_3.index t = ![0, 0, t.val % 6] ∧ win0_4.index t = ![t.val / 6, t.val % 6] :=
  (by decide +kernel : ∀ t : Fin grid0.N, _)

theorem off2_mid : ∀ t : Fin grid0.N, k0_off2 (grid0.coords t) 1 = min (t.val / 12) 4 := by decide +kernel

theorem tlt (t : Fin cfg0.N) : t.val < 54 := t.isLt

def X (c : Dev nD) (i : Fin 9216) (k : Fin 2048) : EReal := m ((c : Thread nD τ).loc main_arg0) (ix2 i k)
def Q (c : Dev nD) (i : Fin 9216) (l : Fin 128) : EReal := m ((c : Thread nD τ).loc main_arg1) (ix2 i l)
def M (c : Dev nD) (q : Fin 8) (k : Fin 12288) : EReal := m ((c : Thread nD τ).loc main_arg2) (ix2 q k)
def W (c : Dev nD) (k : Fin 2048) (j : Fin 6144) : EReal := m ((c : Thread nD τ).loc main_arg3) (ix3 0 k j)

theorem b0_at (c : Dev nD) (t : Fin cfg0.N) (a : Fin 1024) (k : Fin 2048) :
    iblk m c 0 t (ix2 a k) = X m c ⟨1024 * (t.val / 6) + a.val, by have := tlt t; omega⟩ k := by
  blk_ext [iblk, V, idx t, X]

theorem b1_at (c : Dev nD) (t : Fin cfg0.N) (a : Fin 1024) (l : Fin 128) :
    iblk m c 1 t (ix2 a l) = Q m c ⟨1024 * (t.val / 6) + a.val, by have := tlt t; omega⟩ l := by
  blk_ext [iblk, V, idx t, Q]

theorem b2_at (c : Dev nD) (t : Fin cfg0.N) (q : Fin 8) (k : Fin 12288) : iblk m c 2 t (ix2 q k) = M m c q k := by
  blk_ext [iblk, V, idx t, M]

theorem b3_at (c : Dev nD) (t : Fin cfg0.N) (k : Fin 2048) (b : Fin 1024) :
    iblk m c 3 t (ix3 0 k b) = W m c k ⟨1024 * (t.val % 6) + b.val, by omega⟩ := by
  blk_ext [iblk, V, idx t, W]

theorem shift_at (x : Vec Ideal S8x12288 .f32) (q : Fin 8) (k : Fin 2048) : shiftCols x (ix2 q k) = x (ix2 q ⟨k.val, by omega⟩) := by
  refine congrArg x (funext fun a => Fin.ext ?_)
  show (![0, 0] : Fin 2 → ℕ) a + 1 * (ix2 q k a).val = _
  fin_cases a
  · show 0 + 1 * q.val = q.val; omega
  · show 0 + 1 * k.val = k.val; omega

theorem mix_at (i : grid0.Coords) (w : Vec Ideal S1x8x1024 .f32) (q : Fin 8) (hq : k0_off2 i 1 = q.val) (b : Fin 1024) :
    mixRow i w (ix3 0 0 b) = w (ix3 0 q b) := by
  refine congrArg w (funext fun a => Fin.ext ?_)
  show (![0, k0_off2 i 1, 0] : Fin 3 → ℕ) a + 1 * (ix3 (0 : Fin 1) (0 : Fin 1) b a).val = _
  fin_cases a
  · rfl
  · show k0_off2 i 1 + 1 * 0 = q.val; omega
  · show 0 + 1 * b.val = b.val; omega

/-- The modulation row of a row of the array. -/
def mrow (R : Fin 9216) : Fin 8 := ⟨min (R.val / 2048) 4, by omega⟩

/-- The entry of the result. -/
def entry (c : Dev nD) (R : Fin 9216) (C : Fin 6144) : EReal :=
  kLead (X m c R) (fun k => M m c (mrow R) ⟨k.val, by omega⟩) (fun k => W m c k C) (∑ l, Q m c R l) (leadAt C.val)

theorem out_at (c : Dev nD) (t : Fin cfg0.N) (a b : Fin 1024) :
    outAt m c t (ix2 a b) = entry m c ⟨1024 * (t.val / 6) + a.val, by have := tlt t; omega⟩ ⟨1024 * (t.val % 6) + b.val, by omega⟩ := by
  unfold outAt shAt
  rw [pay1_at, pay4_at, pay3_at, mix_at _ _ (mrow ⟨1024 * (t.val / 6) + a.val, by have := tlt t; omega⟩) (by
    rw [off2_mid]; show _ = min ((1024 * (t.val / 6) + a.val) / 2048) 4; omega), pay2_at]
  simp only [b0_at, b1_at, b3_at, shift_at, b2_at]
  have e : (⟨1024 * ((top t).val % 6) + b.val, by omega⟩ : Fin 6144) = ⟨1024 * (t.val % 6) + b.val, by omega⟩ :=
    Fin.ext (by show 1024 * (t.val % 6 % 6) + b.val = 1024 * (t.val % 6) + b.val; rw [Nat.mod_mod])
  have el : leadAt (1024 * (t.val % 6)) = leadAt (1024 * (t.val % 6) + b.val) := leadAt_congr (by omega)
  rw [e, el]
  rfl

/-- The output array. -/
theorem final (c : Dev nD) : (dats m 0 c).arrAt 4 cfg0.N = fun j : S9216x6144.Idx => entry m c (j 0) (j 1) := by
  refine (dats m 0 c).arrAt_eq_of_covers 4 _ (by decide +kernel) fun t hf y => ?_
  blk_simp
  rw [after0_4]
  idx_vars y
  refine (out_at m c t _ _).trans ?_
  congr 1 <;> refine Fin.ext ?_ <;> simp [idx t, mul_comm]

theorem run_blocks (g : Dev nD → PrngReg) : θ_run defs (onTc (τ := τ) (main (F := Ideal))) ⟨m, fun _ => 0, g⟩ fun r => ∀ c : Dev nD,
      r.2.mem ((c : Thread nD τ).loc main_v0) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h.1.1 c).1 4, h.2.1 c⟩)
    (θ_run_and ((θ_run defs _ _).mono (fun _ h => (⟨h, trivial⟩ : _ ∧ True)) (run_main m g)) (frame m g))

end Cert.Kernel5Ideal.Na

end
-- ==== Proof.NaClaim.lean ====
/-
  The reference's query, key and value projection read at an entry, and the two projection programs compute one array.
-/
module

public import proofs.«01_k».proof.Defs
public import proofs.«01_k».proof.Proof.Gen.Pre_finite5
public import proofs.«01_k».proof.Proof.Gen.Reference5Ideal.Run
public import proofs.«01_k».proof.Proof.NaVal
public import Idealize.ShloMosaic.Lib.ReduceAll

@[expose] public section

set_option maxRecDepth 16384

noncomputable section

namespace Cert.Reference5Ideal.Na

open Cert.Reference5Ideal Cert.Reference5Ideal.Gen Idealize.ShloMosaic Idealize.ShloMosaic.TcCoe Idealize.SL.Sem
open Cert.Attn Cert.Up

/-- The rows' factors. -/
def fac (q : FVec Ideal S9216x128 .f32) : FVec Ideal S9216x1 .f32 :=
  Host.rsqrt (addf (Host.divf (broadcastInDim S9216x1 ![0] bcast_S9216_S9216x1_0 (Host.reduceAdd q (constant S_ .f32 0x00000000#32) reducesTo_S9216x128_S9216_d1 h_S_)) (broadcastInDim S9216x1 ![] bcast_S_S9216x1 (constant S_ .f32 0x45000000#32))) (broadcastInDim S9216x1 ![] bcast_S_S9216x1 (constant S_ .f32 0x358637BD#32)))

/-- The shift of every row. -/
def shf (M : FVec Ideal S8x12288 .f32) : FVec Ideal S9216x2048 .f32 :=
  concatenate S9216x2048 0 [⟨S8192x2048, (shapeCast _ (broadcastInDim S4x2048x2048 ![0, 1, 2] bcast_S4x1x2048_S4x2048x2048_0_1_2 (broadcastInDim S4x1x2048 ![0, 2] bcast_S4x2048_S4x1x2048_0_2 (extractStridedSlice S4x2048 ![0, 0] (extractStridedSlice S8x2048 ![0, 0] M slices_S8x12288_S8x2048_0_0) slices_S8x2048_S4x2048_0_0))) shapeCasts_S4x2048x2048_S8192x2048)⟩, ⟨S1024x2048, (broadcastInDim S1024x2048 ![0, 1] bcast_S1x2048_S1024x2048_0_1 (extractStridedSlice S1x2048 ![4, 0] (extractStridedSlice S8x2048 ![0, 0] M slices_S8x12288_S8x2048_0_0) slices_S8x2048_S1x2048_4_0))⟩] concatenates_S8192x2048_S1024x2048_S9216x2048_d0

/-- The scaled and shifted rows. -/
def rows (x : FVec Ideal S9216x2048 .bf16) (f : FVec Ideal S9216x1 .f32) (s : FVec Ideal S9216x2048 .f32) : FVec Ideal S9216x2048 .f32 :=
  addf (mulf (extf .f32 x bitsLt_bf16_f32) (broadcastInDim S9216x2048 ![0, 1] bcast_S9216x1_S9216x2048_0_1 f)) s

/-- The product. -/
def prod (a : FVec Ideal S9216x2048 .f32) (w : FVec Ideal S2x2048x6144 .f32) : FVec Ideal S9216x6144 .f32 :=
  Host.dotGeneral dot_S9216x2048_S2048x6144_S9216x6144_1_0_0_1_n_n none a (shapeCast _ (extractStridedSlice S1x2048x6144 ![0, 0, 0] w slices_S2x2048x6144_S1x2048x6144_0_0_0) shapeCasts_S1x2048x6144_S2048x6144)

/-- The scaled queries beside the keys and the values. -/
def act (p : FVec Ideal S9216x6144 .f32) : FVec Ideal S9216x6144 .bf16 :=
  truncf .bf16 (concatenate S9216x6144 1 [⟨S9216x2048, (mulf (extractStridedSlice S9216x2048 ![0, 0] p slices_S9216x6144_S9216x2048_0_0) (broadcastInDim S9216x2048 ![] bcast_S_S9216x2048 (constant S_ .f32 0x3E0293EE#32)))⟩, ⟨S9216x2048, (extractStridedSlice S9216x2048 ![0, 2048] p slices_S9216x6144_S9216x2048_0_2048)⟩, ⟨S9216x2048, (extractStridedSlice S9216x2048 ![0, 4096] p slices_S9216x6144_S9216x2048_0_4096)⟩] concatenates_S9216x2048_S9216x2048_S9216x2048_S9216x6144_d1) bitsLt_bf16_f32

theorem run' (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v28) = act (prod (rows (m ((c.tc : Thread nD τ).loc main_arg0)) (fac (m ((c.tc : Thread nD τ).loc main_arg1))) (shf (m ((c.tc : Thread nD τ).loc main_arg2)))) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Cert.Reference5Ideal.Value.run m ρ

theorem fac_at (q : FVec Ideal S9216x128 .f32) (R : Fin 9216) : fac q (ix2 R 0) = rOf (∑ l : Fin 128, q (ix2 R l)) := by
  pointwise [fac, rOf]

theorem shf_at (M : FVec Ideal S8x12288 .f32) (R : Fin 9216) (k : Fin 2048) :
    shf M (ix2 R k) = M (ix2 (⟨min (R.val / 2048) 4, by omega⟩ : Fin 8) (⟨k.val, by omega⟩ : Fin 12288)) := by
  pointwise [shf]
  split <;> refine congrArg M ?_ <;> (congr 1; refine Fin.ext ?_; simp only []; omega)

theorem rows_at (x : FVec Ideal S9216x2048 .bf16) (f : FVec Ideal S9216x1 .f32) (s : FVec Ideal S9216x2048 .f32) (R : Fin 9216) (k : Fin 2048) :
    rows x f s (ix2 R k) = x (ix2 R k) * f (ix2 R 0) + s (ix2 R k) := by
  pointwise [rows]

theorem prod_at (a : FVec Ideal S9216x2048 .f32) (w : FVec Ideal S2x2048x6144 .f32) (R : Fin 9216) (C : Fin 6144) :
    prod a w (ix2 R C) = ∑ k : Fin 2048, a (ix2 R k) * w (ix3 0 k C) := by
  pointwise [prod]

theorem act_at (p : FVec Ideal S9216x6144 .f32) (R : Fin 9216) (C : Fin 6144) : act p (ix2 R C) = p (ix2 R C) * leadAt C.val := by
  pointwise [act, leadAt]
  by_cases h : C.val < 2048
  · rw [dif_pos h, if_pos h]
  · rw [dif_neg h, if_neg h, mul_one]
    split <;> refine congrArg (fun c => p (ix2 R c)) (Fin.ext ?_)
    · show 2048 + (C.val - 2048) = C.val; omega
    · show 4096 + (C.val - 2048 - 2048) = C.val; omega

end Cert.Reference5Ideal.Na

namespace Cert.Pre_finite5.Na

open Cert.Pre_finite5 Idealize.ShloMosaic
open Cert.Attn

theorem lt_of (a b : EReal) (h : Ideal.cmp .olt a b = 1#1) : a < b := by
  by_contra hn
  simp [Ideal.cmp, hn] at h

theorem ge_of (a b : EReal) (h : Ideal.cmp .oge a b = 1#1) : b ≤ a := by
  by_contra hn
  simp [Ideal.cmp, hn] at h

theorem inf_eq : Ideal.ofBits .f32 0x7F800000#32 = ⊤ := by simp [Ideal.ofBits, Ideal.ieee]

/-- Where the precondition holds, the shift and the weights are real and the squares' sums not negative. -/
theorem real (x : FVec Ideal S9216x2048 .bf16) (q : FVec Ideal S9216x128 .f32) (M : FVec Ideal S8x12288 .f32) (w : FVec Ideal S2x2048x6144 .f32)
    (h : fn (F := Ideal) x q M w = fun _ => 1#1) :
    (∀ R l, 0 ≤ q (ix2 R l)) ∧ (∀ (R : Fin 9216) (k : Fin 2048), Rl (M (ix2 (⟨min (R.val / 2048) 4, by omega⟩ : Fin 8) ⟨k.val, by omega⟩)))
      ∧ ∀ k C, Rl (w (ix3 0 k C)) := by
  have h0 := congrFun h (Shape.Idx.first (by decide))
  obtain ⟨h1, h4⟩ := IntOp.andi_eq_one.mp h0
  obtain ⟨h1, h3⟩ := IntOp.andi_eq_one.mp h1
  refine ⟨fun R l => ?_, fun R k => ?_, fun k C => ?_⟩
  · have := ge_of _ _ (Host.reduce_andi_all _ _ _ _ _ h1 (ix2 R l))
    refine le_of_eq_of_le ?_ this
    pointwise [Cert.Up.zero_eq]
  · have := lt_of _ _ (Host.reduce_andi_all _ _ _ _ _ h3 (ix2 (⟨min (R.val / 2048) 4, by omega⟩ : Fin 5) k))
    refine Rl.of_abs_lt (lt_of_lt_of_eq (lt_of_eq_of_lt ?_ this) ?_)
    · pointwise
      rfl
    · pointwise [inf_eq]
  · have := lt_of _ _ (Host.reduce_andi_all _ _ _ _ _ h4 (ix2 k C))
    refine Rl.of_abs_lt (lt_of_lt_of_eq (lt_of_eq_of_lt ?_ this) ?_)
    · pointwise
      rfl
    · pointwise [inf_eq]

end Cert.Pre_finite5.Na

namespace Cert.Proof.Na

open Idealize.ShloMosaic Idealize.SL.Sem Cert.Attn Cert.Up

theorem value_eq (m : (ℓ : Loc Kernel5Ideal.nD Kernel5Ideal.τ Kernel5Ideal.sig) → Buf (Elt Ideal) ℓ) (hpre : Pre_Kernel5Ideal_finite5 m)
    (c : Dev Kernel5Ideal.nD) :
    Reference5Ideal.Na.act (Reference5Ideal.Na.prod (Reference5Ideal.Na.rows (m (c.tc.loc Kernel5Ideal.main_arg0)) (Reference5Ideal.Na.fac (m (c.tc.loc Kernel5Ideal.main_arg1)))
        (Reference5Ideal.Na.shf (m (c.tc.loc Kernel5Ideal.main_arg2)))) (m (c.tc.loc Kernel5Ideal.main_arg3)))
      = (Kernel5Ideal.Na.dats m 0 c).arrAt 4 Kernel5Ideal.cfg0.N := by
  refine Eq.trans ?_ (Kernel5Ideal.Na.final m c).symm
  obtain ⟨hq, hM, hw⟩ := Cert.Pre_finite5.Na.real _ _ _ _ (hpre c)
  funext j
  idx_vars j
  refine (Reference5Ideal.Na.act_at _ _ _).trans ?_
  simp only [Reference5Ideal.Na.prod_at, Reference5Ideal.Na.rows_at, Reference5Ideal.Na.fac_at, Reference5Ideal.Na.shf_at]
  exact (lead_eq _ _ _ _ _ (fun k => hM _ _) (fun k => hw _ _) (Finset.sum_nonneg fun l _ => hq _ _)).symm

theorem algebraic : Cert.algebraic_Kernel5Ideal_Reference5Ideal_pre_finite5 := by
  pair_intro
  · run_from Cert.Kernel5Ideal.Na.run_blocks m g
  · run_from Cert.Reference5Ideal.Na.run' m' g'
    exact value_eq m hpre c

end Cert.Proof.Na

end
-- ==== Proof.SsoVal.lean ====
/-
  The state-space mixer's output projection: the kernel's output arrays, from the argument arrays.
-/
module

public import proofs.«01_k».proof.Proof.Gen.Kernel6Ideal.Value
public import proofs.«01_k».proof.Proof.Gen.Kernel6Ideal.Points
public import proofs.«01_k».proof.Proof.Up
public import Idealize.ShloMosaic.Lib.Pipeline.ValueKit

@[expose] public section

set_option maxRecDepth 16384

noncomputable section

namespace Cert.Kernel6Ideal.Sso

open Cert.Kernel6Ideal Cert.Kernel6Ideal.Gen Idealize.ShloMosaic Idealize.ShloMosaic.TcCoe Idealize.SL.Sem
open Cert.Attn Cert.Up

/-! ## What a point leaves in the outputs' buffers -/

section Body

variable {F : FTy → Type} [FloatOps F]

theorem zero2 : (![0, 0] : Fin 2 → ℕ) = fun _ => 0 := by decide

theorem zero3 : (![0, 0, 0] : Fin 3 → ℕ) = fun _ => 0 := by decide

/-- The modulation row a point reads. -/
def rowOf (i : grid0.Coords) (x : Vec F S8x512 .f32) : Vec F S1x512 .f32 :=
  View.ld x (Rect.unit (s := S8x512) (k0_off1 i) S1x512.size (k0_off1_inb i))

variable (c : Dev nD) (i : grid0.Coords) (a3 : Memref sig .tc .vmem S1024x4096 .bf16) (h3 : a3.IsWhole) (a4 : Memref sig .tc .vmem S1x4096x512 .bf16) (h4 : a4.IsWhole)
  (a5 : Memref sig .tc .vmem S1024x512 .f32) (h5 : a5.IsWhole) (a6 : Memref sig .tc .vmem S8x512 .f32) (h6 : a6.IsWhole) (a7 : Memref sig .tc .vmem S1x512 .f32) (h7 : a7.IsWhole)
  (a8 : Memref sig .tc .vmem S8x512 .f32) (h8 : a8.IsWhole) (a11 : Memref sig .tc .vmem S1024x512 .f32) (h11 : a11.IsWhole) (a12 : Memref sig .tc .vmem S1024x512 .bf16) (h12 : a12.IsWhole)
  (a13 : Memref sig .tc .vmem S1024x128 .f32) (h13 : a13.IsWhole)
  (x0 : Vec F S1024x4096 .bf16) (x1 : Vec F S1x4096x512 .bf16) (x2 : Vec F S1024x512 .f32) (x3 : Vec F S8x512 .f32) (x4 : Vec F S1x512 .f32) (x5 : Vec F S8x512 .f32)
  (xo : Vec F S1024x128 .f32)

theorem outA6 (q0 : cond0_0 i) (q1 : ¬cond0_1 i) :
    out0_A_6 c i a3 h3 a4 h4 a5 h5 a6 h6 a7 h7 a8 h8 a11 h11 a12 h12 a13 h13 q0 q1 x0 x1 x2 x3 x4 x5 = k0_pay4 x0 x1 x2 (rowOf i x3) := by
  unfold out0_A_6
  rw [View.read_writes_junk_eq_canon]
  unfold kernelRun0_A
  dsimp only
  sl_unfold_words
  rw [View.canon_unit_zero zero2]
  simp only [View.readAt_eq_ld, h3.read_unread, h4.read_unread, h5.read_unread, h6.read_unread, View.ld_unit_zero (S := S1024x4096) zero2, View.ld_unit_zero (S := S1x4096x512) zero3,
    View.ld_unit_zero (S := S1024x512) zero2, View.ld_unit_zero (S := S1x512) zero2, View.ld_unit_zero (S := S1024x128) zero2]
  rfl

theorem outA7 (q0 : cond0_0 i) (q1 : ¬cond0_1 i) :
    out0_A_7 c i a3 h3 a4 h4 a5 h5 a6 h6 a7 h7 a8 h8 a11 h11 a12 h12 a13 h13 q0 q1 x0 x1 x2 x3 x4 x5 = k0_pay1 (k0_pay4 x0 x1 x2 (rowOf i x3)) x4 (rowOf i x5) := by
  unfold out0_A_7
  rw [View.read_writes_junk_eq_canon]
  unfold kernelRun0_A
  dsimp only
  sl_unfold_words
  rw [View.canon_unit_zero zero2]
  simp only [View.readAt_eq_ld, h3.read_unread, h4.read_unread, h5.read_unread, h6.read_unread, h7.read_unread, h8.read_unread, View.ld_unit_zero (S := S1024x4096) zero2, View.ld_unit_zero (S := S1x4096x512) zero3,
    View.ld_unit_zero (S := S1024x512) zero2, View.ld_unit_zero (S := S1x512) zero2, View.ld_unit_zero (S := S1024x128) zero2]
  rfl

theorem outA8 (q0 : cond0_0 i) (q1 : ¬cond0_1 i) :
    out0_A_8 c i a3 h3 a4 h4 a5 h5 a6 h6 a7 h7 a8 h8 a11 h11 a12 h12 a13 h13 q0 q1 x0 x1 x2 x3 x4 x5 = k0_pay2 (k0_pay4 x0 x1 x2 (rowOf i x3)) := by
  unfold out0_A_8
  rw [View.read_writes_junk_eq_canon]
  unfold kernelRun0_A
  dsimp only
  sl_unfold_words
  rw [View.canon_unit_zero zero2]
  simp only [View.readAt_eq_ld, h3.read_unread, h4.read_unread, h5.read_unread, h6.read_unread, View.ld_unit_zero (S := S1024x4096) zero2, View.ld_unit_zero (S := S1x4096x512) zero3,
    View.ld_unit_zero (S := S1024x512) zero2, View.ld_unit_zero (S := S1x512) zero2, View.ld_unit_zero (S := S1024x128) zero2]
  rfl

theorem outB6 (q0 : ¬cond0_0 i) (q1 : cond0_1 i) :
    out0_B_6 c i a3 h3 a4 h4 a5 h5 a6 h6 a7 h7 a8 h8 a11 h11 a12 h12 a13 h13 q0 q1 x0 x1 x2 x3 x4 x5 xo = k0_pay4 x0 x1 x2 (rowOf i x3) := by
  unfold out0_B_6
  rw [View.read_writes_junk_eq_canon]
  unfold kernelRun0_B
  dsimp only
  sl_unfold_words
  rw [View.canon_unit_zero zero2]
  simp only [View.readAt_eq_ld, h3.read_unread, h4.read_unread, h5.read_unread, h6.read_unread, View.ld_unit_zero (S := S1024x4096) zero2, View.ld_unit_zero (S := S1x4096x512) zero3,
    View.ld_unit_zero (S := S1024x512) zero2, View.ld_unit_zero (S := S1x512) zero2, View.ld_unit_zero (S := S1024x128) zero2]
  rfl

theorem outB7 (q0 : ¬cond0_0 i) (q1 : cond0_1 i) :
    out0_B_7 c i a3 h3 a4 h4 a5 h5 a6 h6 a7 h7 a8 h8 a11 h11 a12 h12 a13 h13 q0 q1 x0 x1 x2 x3 x4 x5 xo = k0_pay1 (k0_pay4 x0 x1 x2 (rowOf i x3)) x4 (rowOf i x5) := by
  unfold out0_B_7
  rw [View.read_writes_junk_eq_canon]
  unfold kernelRun0_B
  dsimp only
  sl_unfold_words
  rw [View.canon_unit_zero zero2]
  simp only [View.readAt_eq_ld, h3.read_unread, h4.read_unread, h5.read_unread, h6.read_unread, h7.read_unread, h8.read_unread, View.ld_unit_zero (S := S1024x4096) zero2, View.ld_unit_zero (S := S1x4096x512) zero3,
    View.ld_unit_zero (S := S1024x512) zero2, View.ld_unit_zero (S := S1x512) zero2, View.ld_unit_zero (S := S1024x128) zero2]
  rfl

theorem outB8 (q0 : ¬cond0_0 i) (q1 : cond0_1 i) :
    out0_B_8 c i a3 h3 a4 h4 a5 h5 a6 h6 a7 h7 a8 h8 a11 h11 a12 h12 a13 h13 q0 q1 x0 x1 x2 x3 x4 x5 xo = k0_pay3 (k0_pay4 x0 x1 x2 (rowOf i x3)) xo := by
  unfold out0_B_8
  rw [View.read_writes_junk_eq_canon]
  unfold kernelRun0_B
  dsimp only
  sl_unfold_words
  rw [View.canon_unit_zero zero2]
  simp only [View.readAt_eq_ld, h3.read_unread, h4.read_unread, h5.read_unread, h6.read_unread, h13.read_unread, View.ld_unit_zero (S := S1024x4096) zero2, View.ld_unit_zero (S := S1x4096x512) zero3,
    View.ld_unit_zero (S := S1024x512) zero2, View.ld_unit_zero (S := S1x512) zero2, View.ld_unit_zero (S := S1024x128) zero2]
  rfl

variable (m : (ℓ : Loc nD τ sig) → Buf (Elt F) ℓ)

/-- The new rows a point leaves. -/
def hAt (t : Fin cfg0.N) : Vec F S1024x512 .f32 := k0_pay4 (iblk m c 0 t) (iblk m c 1 t) (iblk m c 2 t) (rowOf (grid0.coords t) (iblk m c 3 t))

theorem left6 (t : Fin cfg0.N) : (outsAt0 m c t.val t.isLt).1 = hAt c m t := by
  by_cases h0 : t.val % 4 = 0
  · have h1 : ¬1 ≤ t.val % 4 := by omega
    rw [outsAt0_A m c t h0 h1]
    dsimp only
    exact outA6 (F := F) ..
  · have h1 : 1 ≤ t.val % 4 := by omega
    rw [outsAt0_B m c t h0 h1]
    dsimp only
    exact outB6 (F := F) ..

theorem left7 (t : Fin cfg0.N) : (outsAt0 m c t.val t.isLt).2.1 = k0_pay1 (hAt c m t) (iblk m c 4 t) (rowOf (grid0.coords t) (iblk m c 5 t)) := by
  by_cases h0 : t.val % 4 = 0
  · have h1 : ¬1 ≤ t.val % 4 := by omega
    rw [outsAt0_A m c t h0 h1]
    dsimp only
    exact outA7 (F := F) ..
  · have h1 : 1 ≤ t.val % 4 := by omega
    rw [outsAt0_B m c t h0 h1]
    dsimp only
    exact outB7 (F := F) ..

theorem left8_first (t : Fin cfg0.N) (h0 : t.val % 4 = 0) : (outsAt0 m c t.val t.isLt).2.2 = k0_pay2 (hAt c m t) := by
  have h1 : ¬1 ≤ t.val % 4 := by omega
  rw [outsAt0_A m c t h0 h1]
  dsimp only
  exact outA8 (F := F) ..

theorem left8_later (t : Fin cfg0.N) (h1 : 1 ≤ t.val % 4) :
    (outsAt0 m c t.val t.isLt).2.2 = k0_pay3 (hAt c m t) (outsAt0 m c (t.val - 1) (Nat.lt_of_le_of_lt (Nat.sub_le _ _) t.isLt)).2.2 := by
  have h0 : ¬t.val % 4 = 0 := by omega
  rw [outsAt0_B m c t h0 h1]
  dsimp only
  exact outB8 (F := F) ..

end Body

/-! ## The payloads at an entry -/

theorem pay4_at (x : Vec Ideal S1024x4096 .bf16) (w : Vec Ideal S1x4096x512 .bf16) (h : Vec Ideal S1024x512 .f32) (g : Vec Ideal S1x512 .f32) (a : Fin 1024) (b : Fin 512) :
    k0_pay4 (F := Ideal) x w h g (ix2 a b) = h (ix2 a b) + g (ix2 0 b) * ∑ k : Fin 4096, x (ix2 a k) * w (ix3 0 k b) := by
  pointwise [k0_pay4]

theorem pay1_at (p : FVec Ideal S1024x512 .f32) (n s : Vec Ideal S1x512 .f32) (a : Fin 1024) (b : Fin 512) :
    k0_pay1 (F := Ideal) p n s (ix2 a b) = p (ix2 a b) * (n (ix2 0 b) * (1 + s (ix2 0 b))) := by
  pointwise [k0_pay1, one_eq]

theorem pay2_at (p : FVec Ideal S1024x512 .f32) (a : Fin 1024) (l : Fin 128) (z : Fin 512 → EReal) (hz : ∀ b, p (ix2 a b) = z b) :
    k0_pay2 (F := Ideal) p (ix2 a l) = z ⟨l.val, by omega⟩ * z ⟨l.val, by omega⟩ + z ⟨128 + l.val, by omega⟩ * z ⟨128 + l.val, by omega⟩
      + z ⟨256 + l.val, by omega⟩ * z ⟨256 + l.val, by omega⟩ + z ⟨384 + l.val, by omega⟩ * z ⟨384 + l.val, by omega⟩ := by
  simp only [← hz]
  pointwise [k0_pay2]

theorem pay3_at (p : FVec Ideal S1024x512 .f32) (x : Vec Ideal S1024x128 .f32) (a : Fin 1024) (l : Fin 128) :
    k0_pay3 (F := Ideal) p x (ix2 a l) = x (ix2 a l) + k0_pay2 (F := Ideal) p (ix2 a l) := by
  pointwise [k0_pay3]

/-! ## The blocks -/

variable (m : (ℓ : Loc nD τ sig) → Buf (Elt Ideal) ℓ)

theorem idx : ∀ t : Fin cfg0.N, win0_0.index t = ![t.val / 4, 0] ∧ win0_1.index t = ![0, 0, t.val % 4] ∧ win0_2.index t = ![t.val / 4, t.val % 4]
    ∧ win0_3.index t = ![0, 8 + t.val % 4] ∧ win0_4.index t = ![0, t.val % 4] ∧ win0_5.index t = ![0, 16 + t.val % 4]
    ∧ win0_6.index t = ![t.val / 4, t.val % 4] ∧ win0_7.index t = ![t.val / 4, t.val % 4] ∧ win0_8.index t = ![t.val / 4, 0] :=
  (by decide +kernel : ∀ t : Fin grid0.N, _)

theorem off1_at : ∀ t : Fin grid0.N, k0_off1 (grid0.coords t) = ![min (t.val / 8) 4, 0] := by decide +kernel

theorem tlt (t : Fin cfg0.N) : t.val < 36 := t.isLt

def X (c : Dev nD) (i : Fin 9216) (k : Fin 4096) : EReal := m ((c : Thread nD τ).loc main_arg0) (ix2 i k)
def W (c : Dev nD) (k : Fin 4096) (j : Fin 2048) : EReal := m ((c : Thread nD τ).loc main_arg1) (ix3 0 k j)
def H (c : Dev nD) (i : Fin 9216) (j : Fin 2048) : EReal := m ((c : Thread nD τ).loc main_arg2) (ix2 i j)
def G (c : Dev nD) (q : Fin 8) (k : Fin 12288) : EReal := m ((c : Thread nD τ).loc main_arg3) (ix2 q k)
def NW (c : Dev nD) (j : Fin 2048) : EReal := m ((c : Thread nD τ).loc main_arg4) (ix1 j)

theorem b0_at (c : Dev nD) (t : Fin cfg0.N) (a : Fin 1024) (k : Fin 4096) :
    iblk m c 0 t (ix2 a k) = X m c ⟨1024 * (t.val / 4) + a.val, by have := tlt t; omega⟩ k := by
  blk_ext [iblk, V, idx t, X]

theorem b1_at (c : Dev nD) (t : Fin cfg0.N) (k : Fin 4096) (b : Fin 512) :
    iblk m c 1 t (ix3 0 k b) = W m c k ⟨512 * (t.val % 4) + b.val, by omega⟩ := by
  have h : ∀ (k : Fin 4096) (j : Fin 2048), V m c main_v0 (ix3 0 k j) = W m c k j := fun k j => by
    entry_read
    pointwise [W]
  refine Eq.trans ?_ (h _ _)
  blk_ext [iblk, V, idx t]

theorem b2_at (c : Dev nD) (t : Fin cfg0.N) (a : Fin 1024) (b : Fin 512) :
    iblk m c 2 t (ix2 a b) = H m c ⟨1024 * (t.val / 4) + a.val, by have := tlt t; omega⟩ ⟨512 * (t.val % 4) + b.val, by omega⟩ := by
  blk_ext [iblk, V, idx t, H]

theorem b3_at (c : Dev nD) (t : Fin cfg0.N) (q : Fin 8) (b : Fin 512) :
    iblk m c 3 t (ix2 q b) = G m c q ⟨512 * (8 + t.val % 4) + b.val, by omega⟩ := by
  blk_ext [iblk, V, idx t, G]

theorem b4_at (c : Dev nD) (t : Fin cfg0.N) (b : Fin 512) :
    iblk m c 4 t (ix2 0 b) = NW m c ⟨512 * (t.val % 4) + b.val, by omega⟩ := by
  have h : ∀ j : Fin 2048, V m c main_v1 (ix2 0 j) = NW m c j := fun j => by
    entry_read
    pointwise [NW]
  refine Eq.trans ?_ (h _)
  blk_ext [iblk, V, idx t]

theorem b5_at (c : Dev nD) (t : Fin cfg0.N) (q : Fin 8) (b : Fin 512) :
    iblk m c 5 t (ix2 q b) = G m c q ⟨512 * (16 + t.val % 4) + b.val, by omega⟩ := by
  blk_ext [iblk, V, idx t, G]

/-- The modulation row of a row of the array. -/
def mrow (R : Fin 9216) : Fin 8 := ⟨min (R.val / 2048) 4, by omega⟩

theorem row_at (t : Fin cfg0.N) (x : Vec Ideal S8x512 .f32) (q : Fin 8) (hq : min (t.val / 8) 4 = q.val) (b : Fin 512) :
    rowOf (grid0.coords t) x (ix2 0 b) = x (ix2 q b) := by
  refine congrArg x (funext fun a => Fin.ext ?_)
  show k0_off1 (grid0.coords t) a + 1 * (ix2 (0 : Fin 1) b a).val = _
  rw [off1_at]
  fin_cases a
  · show min (t.val / 8) 4 + 1 * 0 = q.val; omega
  · show 0 + 1 * b.val = b.val; omega

/-! ## The entries -/

/-- The entry of the first result. -/
def hEnt (c : Dev nD) (R : Fin 9216) (C : Fin 2048) : EReal :=
  H m c R C + G m c (mrow R) ⟨4096 + C.val, by omega⟩ * ∑ k, X m c R k * W m c k C

/-- The entry of the second result. -/
def xEnt (c : Dev nD) (R : Fin 9216) (C : Fin 2048) : EReal :=
  hEnt m c R C * (NW m c C * (1 + G m c (mrow R) ⟨8192 + C.val, by omega⟩))

/-- The square of a column's entry, by its lanes' column. -/
def sqr (c : Dev nD) (R : Fin 9216) (l : Fin 128) (q : Fin 16) : EReal :=
  hEnt m c R ⟨128 * q.val + l.val, by omega⟩ * hEnt m c R ⟨128 * q.val + l.val, by omega⟩

/-- The entry of the third result. -/
def sEnt (c : Dev nD) (R : Fin 9216) (l : Fin 128) : EReal := ∑ q : Fin 16, sqr m c R l q

theorem h_at (c : Dev nD) (t : Fin cfg0.N) (a : Fin 1024) (b : Fin 512) :
    hAt c m t (ix2 a b) = hEnt m c ⟨1024 * (t.val / 4) + a.val, by have := tlt t; omega⟩ ⟨512 * (t.val % 4) + b.val, by omega⟩ := by
  unfold hAt
  rw [pay4_at, row_at t _ (mrow ⟨1024 * (t.val / 4) + a.val, by have := tlt t; omega⟩) (by
    show _ = min ((1024 * (t.val / 4) + a.val) / 2048) 4; omega)]
  simp only [b0_at, b1_at, b2_at, b3_at]
  unfold hEnt
  exact congrArg₂ (· + ·) rfl (congrArg₂ (· * ·) (congrArg _ (Fin.ext (by simp only []; omega))) rfl)

theorem x_at (c : Dev nD) (t : Fin cfg0.N) (a : Fin 1024) (b : Fin 512) :
    k0_pay1 (hAt c m t) (iblk m c 4 t) (rowOf (grid0.coords t) (iblk m c 5 t)) (ix2 a b)
      = xEnt m c ⟨1024 * (t.val / 4) + a.val, by have := tlt t; omega⟩ ⟨512 * (t.val % 4) + b.val, by omega⟩ := by
  rw [pay1_at, row_at t (iblk m c 5 t) (mrow ⟨1024 * (t.val / 4) + a.val, by have := tlt t; omega⟩) (by
    show _ = min ((1024 * (t.val / 4) + a.val) / 2048) 4; omega), b4_at, b5_at]
  refine congrArg₂ (· * ·) (h_at m c t a b) (congrArg₂ (· * ·) rfl (congrArg (1 + ·) (congrArg _ (Fin.ext ?_))))
  simp only []; omega

/-- The squares' sum of four lanes' columns of a column block. -/
def four (c : Dev nD) (R : Fin 9216) (l : Fin 128) (j : ℕ) (hj : j < 4) : EReal :=
  sqr m c R l ⟨4 * j, by omega⟩ + sqr m c R l ⟨4 * j + 1, by omega⟩ + sqr m c R l ⟨4 * j + 2, by omega⟩ + sqr m c R l ⟨4 * j + 3, by omega⟩

theorem four_congr (c : Dev nD) (R R' : Fin 9216) (l : Fin 128) (j j' : ℕ) (hj : j < 4) (hj' : j' < 4) (hR : R = R') (e : j = j') :
    four m c R l j hj = four m c R' l j' hj' := by subst hR e; rfl

theorem sq_at (c : Dev nD) (t : Fin cfg0.N) (a : Fin 1024) (l : Fin 128) :
    k0_pay2 (hAt c m t) (ix2 a l) = four m c ⟨1024 * (t.val / 4) + a.val, by have := tlt t; omega⟩ l (t.val % 4) (by omega) := by
  refine (pay2_at _ a l (fun b => hEnt m c ⟨1024 * (t.val / 4) + a.val, by have := tlt t; omega⟩ ⟨512 * (t.val % 4) + b.val, by omega⟩) fun b => h_at m c t a b).trans ?_
  refine congrArg₂ (· + ·) (congrArg₂ (· + ·) (congrArg₂ (· + ·) ?_ ?_) ?_) ?_ <;>
    exact congrArg (fun C => hEnt m c _ C * hEnt m c _ C) (Fin.ext (by simp only []; omega))

theorem sum_sixteen (f : Fin 16 → EReal) :
    ∑ q, f q = (((f 0 + f 1 + f 2 + f 3) + (f 4 + f 5 + f 6 + f 7)) + (f 8 + f 9 + f 10 + f 11)) + (f 12 + f 13 + f 14 + f 15) := by
  rw [Fin.sum_univ_castSucc, Fin.sum_univ_castSucc, Fin.sum_univ_castSucc, Fin.sum_univ_castSucc, Fin.sum_univ_castSucc, Fin.sum_univ_castSucc,
    Fin.sum_univ_castSucc, Fin.sum_univ_castSucc, Fin.sum_univ_eight]
  simp only [add_assoc]
  rfl

theorem sEnt_eq (c : Dev nD) (R : Fin 9216) (l : Fin 128) :
    sEnt m c R l = ((four m c R l 0 (by omega) + four m c R l 1 (by omega)) + four m c R l 2 (by omega)) + four m c R l 3 (by omega) :=
  sum_sixteen (sqr m c R l)

/-- The point before. -/
def prev (t : Fin cfg0.N) : Fin cfg0.N := ⟨t.val - 1, by have := t.isLt; omega⟩

theorem later_at (c : Dev nD) (t : Fin cfg0.N) (h : 1 ≤ t.val % 4) (a : Fin 1024) (l : Fin 128) :
    (outsAt0 m c t.val t.isLt).2.2 (ix2 a l) = (outsAt0 m c (prev t).val (prev t).isLt).2.2 (ix2 a l) + k0_pay2 (hAt c m t) (ix2 a l) := by
  rw [left8_later c m t h, pay3_at]
  rfl

theorem s_at (c : Dev nD) (t : Fin cfg0.N) (ht : t.val % 4 = 3) (a : Fin 1024) (l : Fin 128) :
    (outsAt0 m c t.val t.isLt).2.2 (ix2 a l) = sEnt m c ⟨1024 * (t.val / 4) + a.val, by have := tlt t; omega⟩ l := by
  have v1 : (prev t).val = t.val - 1 := rfl
  have v2 : (prev (prev t)).val = t.val - 1 - 1 := rfl
  have v3 : (prev (prev (prev t))).val = t.val - 1 - 1 - 1 := rfl
  rw [later_at m c t (by omega), later_at m c (prev t) (by omega), later_at m c (prev (prev t)) (by omega),
    left8_first c m (prev (prev (prev t))) (by omega), sq_at, sq_at, sq_at, sq_at]
  rw [sEnt_eq]
  refine congrArg₂ (· + ·) (congrArg₂ (· + ·) (congrArg₂ (· + ·) ?_ ?_) ?_) ?_ <;>
    exact four_congr m c _ _ l _ _ _ _ (Fin.ext (by first | done | (simp only [v1, v2, v3]; first | done | omega))) (by omega)

/-! ## The output arrays -/

theorem final6 (c : Dev nD) : (dats m 0 c).arrAt 6 cfg0.N = fun j : S9216x2048.Idx => hEnt m c (j 0) (j 1) := by
  refine (dats m 0 c).arrAt_eq_of_covers 6 _ (by decide +kernel) fun t hf y => ?_
  blk_simp
  rw [after0_6, left6]
  idx_vars y
  refine (h_at m c t _ _).trans ?_
  congr 1 <;> refine Fin.ext ?_ <;> simp [idx t, mul_comm]

theorem final7 (c : Dev nD) : (dats m 0 c).arrAt 7 cfg0.N = fun j : S9216x2048.Idx => xEnt m c (j 0) (j 1) := by
  refine (dats m 0 c).arrAt_eq_of_covers 7 _ (by decide +kernel) fun t hf y => ?_
  blk_simp
  rw [after0_7, left7]
  idx_vars y
  refine (x_at m c t _ _).trans ?_
  congr 1 <;> refine Fin.ext ?_ <;> simp [idx t, mul_comm]

theorem final8 (c : Dev nD) : (dats m 0 c).arrAt 8 cfg0.N = fun j : S9216x128.Idx => sEnt m c (j 0) (j 1) := by
  refine (dats m 0 c).arrAt_eq_of_covers 8 _ (by decide +kernel) fun t hf y => ?_
  have ht : t.val % 4 = 3 := (flush0_8 t).mp hf
  blk_simp
  rw [after0_8]
  idx_vars y
  refine (s_at m c t ht _ _).trans ?_
  congr 1 <;> refine Fin.ext ?_ <;> simp [idx t, mul_comm]

end Cert.Kernel6Ideal.Sso

end
-- ==== Proof.SsoClaim.lean ====
/-
  The state-space mixer's output projection: the reference read at an entry, and the two programs compute the same arrays.
-/
module

public import proofs.«01_k».proof.Defs
public import proofs.«01_k».proof.Proof.Gen.Reference6Ideal.Run
public import proofs.«01_k».proof.Proof.SsoVal

@[expose] public section

set_option maxRecDepth 16384

noncomputable section

namespace Cert.Reference6Ideal.Sso

open Cert.Reference6Ideal Cert.Reference6Ideal.Gen Idealize.ShloMosaic Idealize.ShloMosaic.TcCoe Idealize.SL.Sem
open Cert.Attn Cert.Up

/-- The gate of every row. -/
def gate (M : FVec Ideal S8x12288 .f32) : FVec Ideal S9216x2048 .f32 :=
  concatenate S9216x2048 0 [⟨S8192x2048, (shapeCast _ (broadcastInDim S4x2048x2048 ![0, 1, 2] bcast_S4x1x2048_S4x2048x2048_0_1_2 (broadcastInDim S4x1x2048 ![0, 2] bcast_S4x2048_S4x1x2048_0_2 (extractStridedSlice S4x2048 ![0, 0] (extractStridedSlice S8x2048 ![0, 4096] M slices_S8x12288_S8x2048_0_4096) slices_S8x2048_S4x2048_0_0))) shapeCasts_S4x2048x2048_S8192x2048)⟩, ⟨S1024x2048, (broadcastInDim S1024x2048 ![0, 1] bcast_S1x2048_S1024x2048_0_1 (extractStridedSlice S1x2048 ![4, 0] (extractStridedSlice S8x2048 ![0, 4096] M slices_S8x12288_S8x2048_0_4096) slices_S8x2048_S1x2048_4_0))⟩] concatenates_S8192x2048_S1024x2048_S9216x2048_d0

/-- The scale of every row. -/
def scl (M : FVec Ideal S8x12288 .f32) : FVec Ideal S9216x2048 .f32 :=
  concatenate S9216x2048 0 [⟨S8192x2048, (shapeCast _ (broadcastInDim S4x2048x2048 ![0, 1, 2] bcast_S4x1x2048_S4x2048x2048_0_1_2 (broadcastInDim S4x1x2048 ![0, 2] bcast_S4x2048_S4x1x2048_0_2 (extractStridedSlice S4x2048 ![0, 0] (extractStridedSlice S8x2048 ![0, 8192] M slices_S8x12288_S8x2048_0_8192) slices_S8x2048_S4x2048_0_0))) shapeCasts_S4x2048x2048_S8192x2048)⟩, ⟨S1024x2048, (broadcastInDim S1024x2048 ![0, 1] bcast_S1x2048_S1024x2048_0_1 (extractStridedSlice S1x2048 ![4, 0] (extractStridedSlice S8x2048 ![0, 8192] M slices_S8x12288_S8x2048_0_8192) slices_S8x2048_S1x2048_4_0))⟩] concatenates_S8192x2048_S1024x2048_S9216x2048_d0

/-- The product. -/
def prod (x : FVec Ideal S9216x4096 .bf16) (w : FVec Ideal S1x4096x2048 .f32) : FVec Ideal S9216x2048 .f32 :=
  Host.dotGeneral dot_S9216x4096_S4096x2048_S9216x2048_1_0_0_1_n_n none (extf .f32 x bitsLt_bf16_f32) (shapeCast _ w shapeCasts_S1x4096x2048_S4096x2048)

/-- The array with the gated product added. -/
def hNew (h y g : FVec Ideal S9216x2048 .f32) : FVec Ideal S9216x2048 .f32 := addf h (mulf g y)

/-- The array scaled. -/
def scaled (h : FVec Ideal S9216x2048 .f32) (n : FVec Ideal S2048 .f32) (s : FVec Ideal S9216x2048 .f32) : FVec Ideal S9216x2048 .bf16 :=
  truncf .bf16 (mulf h (mulf (broadcastInDim S9216x2048 ![0, 1] bcast_S1x2048_S9216x2048_0_1 (broadcastInDim S1x2048 ![1] bcast_S2048_S1x2048_1 n)) (addf (broadcastInDim S9216x2048 ![] bcast_S_S9216x2048 (constant S_ .f32 0x3F800000#32)) s))) bitsLt_bf16_f32

/-- The squares' sums. -/
def squares (h : FVec Ideal S9216x2048 .f32) : FVec Ideal S9216x128 .f32 :=
  Host.reduceAdd (shapeCast _ (mulf h h) shapeCasts_S9216x2048_S9216x16x128) (constant S_ .f32 0x00000000#32) reducesTo_S9216x16x128_S9216x128_d1 h_S_

theorem run' (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v12) = hNew (m ((c.tc : Thread nD τ).loc main_arg2)) (prod (m ((c.tc : Thread nD τ).loc main_arg0)) (m ((c.tc : Thread nD τ).loc main_arg1))) (gate (m ((c.tc : Thread nD τ).loc main_arg3)))
      ∧ r.2.mem ((c.tc : Thread nD τ).loc main_v30) = scaled (hNew (m ((c.tc : Thread nD τ).loc main_arg2)) (prod (m ((c.tc : Thread nD τ).loc main_arg0)) (m ((c.tc : Thread nD τ).loc main_arg1))) (gate (m ((c.tc : Thread nD τ).loc main_arg3)))) (m ((c.tc : Thread nD τ).loc main_arg4)) (scl (m ((c.tc : Thread nD τ).loc main_arg3)))
      ∧ r.2.mem ((c.tc : Thread nD τ).loc main_v29) = squares (hNew (m ((c.tc : Thread nD τ).loc main_arg2)) (prod (m ((c.tc : Thread nD τ).loc main_arg0)) (m ((c.tc : Thread nD τ).loc main_arg1))) (gate (m ((c.tc : Thread nD τ).loc main_arg3))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  Cert.Reference6Ideal.Value.run m ρ

theorem gate_at (M : FVec Ideal S8x12288 .f32) (R : Fin 9216) (C : Fin 2048) :
    gate M (ix2 R C) = M (ix2 (⟨min (R.val / 2048) 4, by omega⟩ : Fin 8) (⟨4096 + C.val, by omega⟩ : Fin 12288)) := by
  pointwise [gate]
  split <;> refine congrArg M ?_ <;> (congr 1; refine Fin.ext ?_; simp only []; omega)

theorem scl_at (M : FVec Ideal S8x12288 .f32) (R : Fin 9216) (C : Fin 2048) :
    scl M (ix2 R C) = M (ix2 (⟨min (R.val / 2048) 4, by omega⟩ : Fin 8) (⟨8192 + C.val, by omega⟩ : Fin 12288)) := by
  pointwise [scl]
  split <;> refine congrArg M ?_ <;> (congr 1; refine Fin.ext ?_; simp only []; omega)

theorem prod_at (x : FVec Ideal S9216x4096 .bf16) (w : FVec Ideal S1x4096x2048 .f32) (R : Fin 9216) (C : Fin 2048) :
    prod x w (ix2 R C) = ∑ k : Fin 4096, x (ix2 R k) * w (ix3 0 k C) := by
  pointwise [prod]

theorem hNew_at (h y g : FVec Ideal S9216x2048 .f32) (R : Fin 9216) (C : Fin 2048) :
    hNew h y g (ix2 R C) = h (ix2 R C) + g (ix2 R C) * y (ix2 R C) := by
  pointwise [hNew]

theorem scaled_at (h : FVec Ideal S9216x2048 .f32) (n : FVec Ideal S2048 .f32) (s : FVec Ideal S9216x2048 .f32) (R : Fin 9216) (C : Fin 2048) :
    scaled h n s (ix2 R C) = h (ix2 R C) * (n (ix1 C) * (1 + s (ix2 R C))) := by
  pointwise [scaled, one_eq]

theorem squares_at (h : FVec Ideal S9216x2048 .f32) (R : Fin 9216) (l : Fin 128) :
    squares h (ix2 R l) = ∑ q : Fin 16, h (ix2 R ⟨128 * q.val + l.val, by omega⟩) * h (ix2 R ⟨128 * q.val + l.val, by omega⟩) := by
  pointwise [squares]
  simp only [Nat.mul_comm]

end Cert.Reference6Ideal.Sso

namespace Cert.Proof.Sso

open Idealize.ShloMosaic Idealize.SL.Sem Cert.Attn Cert.Up

variable (m : (ℓ : Loc Kernel6Ideal.nD Kernel6Ideal.τ Kernel6Ideal.sig) → Buf (Elt Ideal) ℓ) (c : Dev Kernel6Ideal.nD)

theorem h_entry (R : Fin 9216) (C : Fin 2048) :
    Reference6Ideal.Sso.hNew (m (c.tc.loc Kernel6Ideal.main_arg2)) (Reference6Ideal.Sso.prod (m (c.tc.loc Kernel6Ideal.main_arg0)) (m (c.tc.loc Kernel6Ideal.main_arg1))) (Reference6Ideal.Sso.gate (m (c.tc.loc Kernel6Ideal.main_arg3))) (ix2 R C) = Kernel6Ideal.Sso.hEnt m c R C := by
  rw [Reference6Ideal.Sso.hNew_at, Reference6Ideal.Sso.gate_at, Reference6Ideal.Sso.prod_at]
  rfl

theorem h_eq : Reference6Ideal.Sso.hNew (m (c.tc.loc Kernel6Ideal.main_arg2)) (Reference6Ideal.Sso.prod (m (c.tc.loc Kernel6Ideal.main_arg0)) (m (c.tc.loc Kernel6Ideal.main_arg1))) (Reference6Ideal.Sso.gate (m (c.tc.loc Kernel6Ideal.main_arg3))) = (Kernel6Ideal.Gen.dats m 0 c).arrAt 6 Kernel6Ideal.cfg0.N := by
  refine Eq.trans ?_ (Kernel6Ideal.Sso.final6 m c).symm
  funext j
  idx_vars j
  exact h_entry m c _ _

theorem x_eq : Reference6Ideal.Sso.scaled (Reference6Ideal.Sso.hNew (m (c.tc.loc Kernel6Ideal.main_arg2)) (Reference6Ideal.Sso.prod (m (c.tc.loc Kernel6Ideal.main_arg0)) (m (c.tc.loc Kernel6Ideal.main_arg1))) (Reference6Ideal.Sso.gate (m (c.tc.loc Kernel6Ideal.main_arg3)))) (m (c.tc.loc Kernel6Ideal.main_arg4)) (Reference6Ideal.Sso.scl (m (c.tc.loc Kernel6Ideal.main_arg3))) = (Kernel6Ideal.Gen.dats m 0 c).arrAt 7 Kernel6Ideal.cfg0.N := by
  refine Eq.trans ?_ (Kernel6Ideal.Sso.final7 m c).symm
  funext j
  idx_vars j
  refine (Reference6Ideal.Sso.scaled_at _ _ _ _ _).trans ?_
  rw [h_entry m c, Reference6Ideal.Sso.scl_at]
  rfl

theorem s_eq : Reference6Ideal.Sso.squares (Reference6Ideal.Sso.hNew (m (c.tc.loc Kernel6Ideal.main_arg2)) (Reference6Ideal.Sso.prod (m (c.tc.loc Kernel6Ideal.main_arg0)) (m (c.tc.loc Kernel6Ideal.main_arg1))) (Reference6Ideal.Sso.gate (m (c.tc.loc Kernel6Ideal.main_arg3)))) = (Kernel6Ideal.Gen.dats m 0 c).arrAt 8 Kernel6Ideal.cfg0.N := by
  refine Eq.trans ?_ (Kernel6Ideal.Sso.final8 m c).symm
  funext j
  idx_vars j
  refine (Reference6Ideal.Sso.squares_at _ _ _).trans ?_
  simp only [h_entry m c]
  rfl

theorem algebraic : Cert.algebraic_Kernel6Ideal_Reference6Ideal := by
  pair_intro
  · run_from Cert.Kernel6Ideal.Value.run_blocks m g
  · run_from Cert.Reference6Ideal.Sso.run' m' g'
    · exact h_eq m c
    · exact x_eq m c
    · exact s_eq m c

end Cert.Proof.Sso

end
-- ==== Proof.AttnOutVal.lean ====
/-
  The attention's output projection: the kernel's output arrays, from the argument arrays.
-/
module

public import proofs.«01_k».proof.Proof.Gen.Kernel7Ideal.Value
public import proofs.«01_k».proof.Proof.Gen.Kernel7Ideal.Points
public import proofs.«01_k».proof.Proof.Up
public import Idealize.ShloMosaic.Lib.Pipeline.ValueKit

@[expose] public section

set_option maxRecDepth 16384

noncomputable section

namespace Cert.Kernel7Ideal.AttnOut

open Cert.Kernel7Ideal Cert.Kernel7Ideal.Gen Idealize.ShloMosaic Idealize.ShloMosaic.TcCoe Idealize.SL.Sem
open Cert.Attn Cert.Up

/-! ## What a point leaves in the outputs' buffers -/

section Body

variable {F : FTy → Type} [FloatOps F]

theorem zero2 : (![0, 0] : Fin 2 → ℕ) = fun _ => 0 := by decide

/-- The first half of a block's columns. -/
def fst {e : EltTy} (x : Vec F S1024x1024 e) : Vec F S1024x512 e :=
  View.ld x (Rect.unit (s := S1024x1024) ![0, 0] S1024x512.size inb_S1024x1024_S1024x512_0_0)

/-- The second half. -/
def snd {e : EltTy} (x : Vec F S1024x1024 e) : Vec F S1024x512 e :=
  View.ld x (Rect.unit (s := S1024x1024) ![0, 512] S1024x512.size inb_S1024x1024_S1024x512_0_512)

/-- The weights of the first half. -/
def wFst (x : Vec F S1x2048x1024 .bf16) : Vec F S1x2048x512 .bf16 :=
  View.ld x (Rect.unit (s := S1x2048x1024) ![0, 0, 0] S1x2048x512.size inb_S1x2048x1024_S1x2048x512_0_0_0)

/-- The weights of the second half. -/
def wSnd (x : Vec F S1x2048x1024 .bf16) : Vec F S1x2048x512 .bf16 :=
  View.ld x (Rect.unit (s := S1x2048x1024) ![0, 0, 512] S1x2048x512.size inb_S1x2048x1024_S1x2048x512_0_0_512)

/-- The norm weights of the first half. -/
def nFst (x : Vec F S1x1024 .f32) : Vec F S1x512 .f32 :=
  View.ld x (Rect.unit (s := S1x1024) ![0, 0] S1x512.size inb_S1x1024_S1x512_0_0)

/-- The norm weights of the second half. -/
def nSnd (x : Vec F S1x1024 .f32) : Vec F S1x512 .f32 :=
  View.ld x (Rect.unit (s := S1x1024) ![0, 512] S1x512.size inb_S1x1024_S1x512_0_512)

/-- The modulation row a point reads, for the first half. -/
def rFst (i : grid0.Coords) (x : Vec F S8x1024 .f32) : Vec F S1x512 .f32 :=
  View.ld x (Rect.unit (s := S8x1024) (k0_off1 i) S1x512.size (k0_off1_inb i))

/-- The modulation row a point reads, for the second half. -/
def rSnd (i : grid0.Coords) (x : Vec F S8x1024 .f32) : Vec F S1x512 .f32 :=
  View.ld x (Rect.unit (s := S8x1024) (k0_off2 i) S1x512.size (k0_off2_inb i))

/-- A block from its halves. -/
def halves {e : EltTy} (p q : Vec F S1024x512 e) : Vec F S1024x1024 e :=
  View.canon [(⟨Rect.unit (s := S1024x1024) ![0, 512] S1024x512.size inb_S1024x1024_S1024x512_0_512, q⟩ : View.Piece (Elt F) S1024x1024 e),
    ⟨Rect.unit (s := S1024x1024) ![0, 0] S1024x512.size inb_S1024x1024_S1024x512_0_0, p⟩]

theorem halves_at {e : EltTy} (p q : Vec F S1024x512 e) (a : Fin 1024) (b : Fin 1024) (v : Elt F e)
    (hp : ∀ l : Fin 512, l.val = b.val → p (ix2 a l) = v) (hq : ∀ l : Fin 512, 512 + l.val = b.val → q (ix2 a l) = v) :
    halves p q (ix2 a b) = v := by
  unfold halves
  canon_tiles x h
  · idx_vars x
    obtain rfl : a = x0 := Fin.ext h0
    exact hq _ (by exact h1.symm)
  · idx_vars x
    obtain rfl : a = x0 := Fin.ext h0
    exact hp _ (by exact h1.symm)

variable (c : Dev nD) (i : grid0.Coords) (a3 : Memref sig .tc .vmem S1024x2048 .bf16) (h3 : a3.IsWhole) (a4 : Memref sig .tc .vmem S1x2048x1024 .bf16) (h4 : a4.IsWhole)
  (a5 : Memref sig .tc .vmem S1024x1024 .f32) (h5 : a5.IsWhole) (a6 : Memref sig .tc .vmem S8x1024 .f32) (h6 : a6.IsWhole) (a7 : Memref sig .tc .vmem S1x1024 .f32) (h7 : a7.IsWhole)
  (a8 : Memref sig .tc .vmem S8x1024 .f32) (h8 : a8.IsWhole) (a11 : Memref sig .tc .vmem S1024x1024 .f32) (h11 : a11.IsWhole) (a12 : Memref sig .tc .vmem S1024x1024 .bf16) (h12 : a12.IsWhole)
  (a13 : Memref sig .tc .vmem S1024x128 .f32) (h13 : a13.IsWhole)
  (x0 : Vec F S1024x2048 .bf16) (x1 : Vec F S1x2048x1024 .bf16) (x2 : Vec F S1024x1024 .f32) (x3 : Vec F S8x1024 .f32) (x4 : Vec F S1x1024 .f32) (x5 : Vec F S8x1024 .f32)
  (xo : Vec F S1024x128 .f32)

/-- The new rows' first half. -/
def newFst : FVec F S1024x512 .f32 := k0_pay6 (k0_pay4 x0 (wFst x1)) (fst x2) (rFst i x3)

/-- The new rows' second half. -/
def newSnd : FVec F S1024x512 .f32 := k0_pay9 (k0_pay5 x0 (wSnd x1)) (snd x2) (rSnd i x3)

/-- The scaled rows' first half. -/
def sclFst : FVec F S1024x512 .bf16 := k0_pay7 (k0_pay4 x0 (wFst x1)) (fst x2) (rFst i x3) (nFst x4) (rFst i x5)

/-- The scaled rows' second half. -/
def sclSnd : FVec F S1024x512 .bf16 := k0_pay1 (k0_pay10 (k0_pay5 x0 (wSnd x1)) (snd x2) (rSnd i x3) (nSnd x4) (rSnd i x5))

/-- The first half's squares. -/
def sqFst : FVec F S1024x128 .f32 := k0_pay8 (k0_pay4 x0 (wFst x1)) (fst x2) (rFst i x3)

theorem outA6 (q0 : cond0_0 i) (q1 : ¬cond0_1 i) :
    out0_A_6 c i a3 h3 a4 h4 a5 h5 a6 h6 a7 h7 a8 h8 a11 h11 a12 h12 a13 h13 q0 q1 x0 x1 x2 x3 x4 x5 = halves (newFst i x0 x1 x2 x3) (newSnd i x0 x1 x2 x3) := by
  unfold out0_A_6
  rw [View.read_writes_junk_eq_canon]
  unfold kernelRun0_A
  dsimp only
  sl_unfold_words
  simp only [View.readAt_eq_ld, h3.read_unread, h4.read_unread, h5.read_unread, h6.read_unread, View.ld_unit_zero (S := S1024x2048) zero2]
  rfl

theorem outA7 (q0 : cond0_0 i) (q1 : ¬cond0_1 i) :
    out0_A_7 c i a3 h3 a4 h4 a5 h5 a6 h6 a7 h7 a8 h8 a11 h11 a12 h12 a13 h13 q0 q1 x0 x1 x2 x3 x4 x5 = halves (sclFst i x0 x1 x2 x3 x4 x5) (sclSnd i x0 x1 x2 x3 x4 x5) := by
  unfold out0_A_7
  rw [View.read_writes_junk_eq_canon]
  unfold kernelRun0_A
  dsimp only
  sl_unfold_words
  simp only [View.readAt_eq_ld, h3.read_unread, h4.read_unread, h5.read_unread, h6.read_unread, h7.read_unread, h8.read_unread, View.ld_unit_zero (S := S1024x2048) zero2]
  rfl

theorem outA8 (q0 : cond0_0 i) (q1 : ¬cond0_1 i) :
    out0_A_8 c i a3 h3 a4 h4 a5 h5 a6 h6 a7 h7 a8 h8 a11 h11 a12 h12 a13 h13 q0 q1 x0 x1 x2 x3 x4 x5 = k0_pay2 (sqFst i x0 x1 x2 x3) (newSnd i x0 x1 x2 x3) := by
  unfold out0_A_8
  rw [View.read_writes_junk_eq_canon]
  unfold kernelRun0_A
  dsimp only
  sl_unfold_words
  rw [View.canon_unit_zero zero2]
  simp only [View.readAt_eq_ld, h3.read_unread, h4.read_unread, h5.read_unread, h6.read_unread, View.ld_unit_zero (S := S1024x2048) zero2, View.ld_unit_zero (S := S1024x128) zero2]
  rfl

theorem outB6 (q0 : ¬cond0_0 i) (q1 : cond0_1 i) :
    out0_B_6 c i a3 h3 a4 h4 a5 h5 a6 h6 a7 h7 a8 h8 a11 h11 a12 h12 a13 h13 q0 q1 x0 x1 x2 x3 x4 x5 xo = halves (newFst i x0 x1 x2 x3) (newSnd i x0 x1 x2 x3) := by
  unfold out0_B_6
  rw [View.read_writes_junk_eq_canon]
  unfold kernelRun0_B
  dsimp only
  sl_unfold_words
  simp only [View.readAt_eq_ld, h3.read_unread, h4.read_unread, h5.read_unread, h6.read_unread, View.ld_unit_zero (S := S1024x2048) zero2]
  rfl

theorem outB7 (q0 : ¬cond0_0 i) (q1 : cond0_1 i) :
    out0_B_7 c i a3 h3 a4 h4 a5 h5 a6 h6 a7 h7 a8 h8 a11 h11 a12 h12 a13 h13 q0 q1 x0 x1 x2 x3 x4 x5 xo = halves (sclFst i x0 x1 x2 x3 x4 x5) (sclSnd i x0 x1 x2 x3 x4 x5) := by
  unfold out0_B_7
  rw [View.read_writes_junk_eq_canon]
  unfold kernelRun0_B
  dsimp only
  sl_unfold_words
  simp only [View.readAt_eq_ld, h3.read_unread, h4.read_unread, h5.read_unread, h6.read_unread, h7.read_unread, h8.read_unread, View.ld_unit_zero (S := S1024x2048) zero2]
  rfl

theorem outB8 (q0 : ¬cond0_0 i) (q1 : cond0_1 i) :
    out0_B_8 c i a3 h3 a4 h4 a5 h5 a6 h6 a7 h7 a8 h8 a11 h11 a12 h12 a13 h13 q0 q1 x0 x1 x2 x3 x4 x5 xo = k0_pay3 (sqFst i x0 x1 x2 x3) (newSnd i x0 x1 x2 x3) xo := by
  unfold out0_B_8
  rw [View.read_writes_junk_eq_canon]
  unfold kernelRun0_B
  dsimp only
  sl_unfold_words
  rw [View.canon_unit_zero zero2]
  simp only [View.readAt_eq_ld, h3.read_unread, h4.read_unread, h5.read_unread, h6.read_unread, h13.read_unread, View.ld_unit_zero (S := S1024x2048) zero2, View.ld_unit_zero (S := S1024x128) zero2]
  rfl

variable (m : (ℓ : Loc nD τ sig) → Buf (Elt F) ℓ)

/-- The halves a point leaves. -/
def nF (t : Fin cfg0.N) : FVec F S1024x512 .f32 := newFst (grid0.coords t) (iblk m c 0 t) (iblk m c 1 t) (iblk m c 2 t) (iblk m c 3 t)
def nS (t : Fin cfg0.N) : FVec F S1024x512 .f32 := newSnd (grid0.coords t) (iblk m c 0 t) (iblk m c 1 t) (iblk m c 2 t) (iblk m c 3 t)
def sF (t : Fin cfg0.N) : FVec F S1024x512 .bf16 := sclFst (grid0.coords t) (iblk m c 0 t) (iblk m c 1 t) (iblk m c 2 t) (iblk m c 3 t) (iblk m c 4 t) (iblk m c 5 t)
def sS (t : Fin cfg0.N) : FVec F S1024x512 .bf16 := sclSnd (grid0.coords t) (iblk m c 0 t) (iblk m c 1 t) (iblk m c 2 t) (iblk m c 3 t) (iblk m c 4 t) (iblk m c 5 t)
def qF (t : Fin cfg0.N) : FVec F S1024x128 .f32 := sqFst (grid0.coords t) (iblk m c 0 t) (iblk m c 1 t) (iblk m c 2 t) (iblk m c 3 t)

theorem left6 (t : Fin cfg0.N) : (outsAt0 m c t.val t.isLt).1 = halves (nF c m t) (nS c m t) := by
  by_cases h0 : t.val % 2 = 0
  · have h1 : ¬t.val % 2 = 1 := by omega
    rw [outsAt0_A m c t h0 h1]
    dsimp only
    exact outA6 (F := F) ..
  · have h1 : t.val % 2 = 1 := by omega
    rw [outsAt0_B m c t h0 h1]
    dsimp only
    exact outB6 (F := F) ..

theorem left7 (t : Fin cfg0.N) : (outsAt0 m c t.val t.isLt).2.1 = halves (sF c m t) (sS c m t) := by
  by_cases h0 : t.val % 2 = 0
  · have h1 : ¬t.val % 2 = 1 := by omega
    rw [outsAt0_A m c t h0 h1]
    dsimp only
    exact outA7 (F := F) ..
  · have h1 : t.val % 2 = 1 := by omega
    rw [outsAt0_B m c t h0 h1]
    dsimp only
    exact outB7 (F := F) ..

theorem left8_first (t : Fin cfg0.N) (h0 : t.val % 2 = 0) : (outsAt0 m c t.val t.isLt).2.2 = k0_pay2 (qF c m t) (nS c m t) := by
  have h1 : ¬t.val % 2 = 1 := by omega
  rw [outsAt0_A m c t h0 h1]
  dsimp only
  exact outA8 (F := F) ..

theorem left8_later (t : Fin cfg0.N) (h1 : t.val % 2 = 1) :
    (outsAt0 m c t.val t.isLt).2.2 = k0_pay3 (qF c m t) (nS c m t) (outsAt0 m c (t.val - 1) (Nat.lt_of_le_of_lt (Nat.sub_le _ _) t.isLt)).2.2 := by
  have h0 : ¬t.val % 2 = 0 := by omega
  rw [outsAt0_B m c t h0 h1]
  dsimp only
  exact outB8 (F := F) ..

end Body

/-! ## The payloads at an entry -/

theorem pay6_at (x : Vec Ideal S1024x2048 .bf16) (w : Vec Ideal S1x2048x512 .bf16) (h : Vec Ideal S1024x512 .f32) (g : Vec Ideal S1x512 .f32) (a : Fin 1024) (b : Fin 512) :
    k0_pay6 (F := Ideal) (k0_pay4 x w) h g (ix2 a b) = h (ix2 a b) + g (ix2 0 b) * ∑ k : Fin 2048, x (ix2 a k) * w (ix3 0 k b) := by
  pointwise [k0_pay6, k0_pay4]

theorem pay9_at (x : Vec Ideal S1024x2048 .bf16) (w : Vec Ideal S1x2048x512 .bf16) (h : Vec Ideal S1024x512 .f32) (g : Vec Ideal S1x512 .f32) (a : Fin 1024) (b : Fin 512) :
    k0_pay9 (F := Ideal) (k0_pay5 x w) h g (ix2 a b) = h (ix2 a b) + g (ix2 0 b) * ∑ k : Fin 2048, x (ix2 a k) * w (ix3 0 k b) := by
  pointwise [k0_pay9, k0_pay5]

theorem pay7_at (v : FVec Ideal S1024x512 .f32) (h : Vec Ideal S1024x512 .f32) (g n s : Vec Ideal S1x512 .f32) (a : Fin 1024) (b : Fin 512) :
    k0_pay7 (F := Ideal) v h g n s (ix2 a b) = k0_pay6 (F := Ideal) v h g (ix2 a b) * (n (ix2 0 b) * (1 + s (ix2 0 b))) := by
  pointwise [k0_pay7, k0_pay6, one_eq]

theorem pay10_at (v : FVec Ideal S1024x512 .f32) (h : Vec Ideal S1024x512 .f32) (g n s : Vec Ideal S1x512 .f32) (a : Fin 1024) (b : Fin 512) :
    k0_pay1 (F := Ideal) (k0_pay10 v h g n s) (ix2 a b) = k0_pay9 (F := Ideal) v h g (ix2 a b) * (n (ix2 0 b) * (1 + s (ix2 0 b))) := by
  pointwise [k0_pay1, k0_pay10, k0_pay9, one_eq]

/-- The squares of a half's four lanes' columns. -/
def four (z : Fin 512 → EReal) (l : Fin 128) (q : Fin 4) : EReal := z ⟨128 * q.val + l.val, by omega⟩ * z ⟨128 * q.val + l.val, by omega⟩

theorem pay8_at (v : FVec Ideal S1024x512 .f32) (h : Vec Ideal S1024x512 .f32) (g : Vec Ideal S1x512 .f32) (a : Fin 1024) (l : Fin 128) (z : Fin 512 → EReal)
    (hz : ∀ b, k0_pay6 (F := Ideal) v h g (ix2 a b) = z b) :
    k0_pay8 (F := Ideal) v h g (ix2 a l) = four z l 0 + four z l 1 + four z l 2 + four z l 3 := by
  simp only [four, ← hz]
  pointwise [k0_pay8, k0_pay6]

theorem pay2_at (p : FVec Ideal S1024x128 .f32) (y : FVec Ideal S1024x512 .f32) (a : Fin 1024) (l : Fin 128) (z : Fin 512 → EReal) (hz : ∀ b, y (ix2 a b) = z b) :
    k0_pay2 (F := Ideal) p y (ix2 a l) = p (ix2 a l) + four z l 0 + four z l 1 + four z l 2 + four z l 3 := by
  simp only [four, ← hz]
  pointwise [k0_pay2]

theorem pay3_at (p : FVec Ideal S1024x128 .f32) (y : FVec Ideal S1024x512 .f32) (x : Vec Ideal S1024x128 .f32) (a : Fin 1024) (l : Fin 128) :
    k0_pay3 (F := Ideal) p y x (ix2 a l) = x (ix2 a l) + k0_pay2 (F := Ideal) p y (ix2 a l) := by
  pointwise [k0_pay3]

/-! ## The blocks -/

variable (m : (ℓ : Loc nD τ sig) → Buf (Elt Ideal) ℓ)

theorem idx : ∀ t : Fin cfg0.N, win0_0.index t = ![t.val / 2, 0] ∧ win0_1.index t = ![0, 0, t.val % 2] ∧ win0_2.index t = ![t.val / 2, t.val % 2]
    ∧ win0_3.index t = ![0, 4 + t.val % 2] ∧ win0_4.index t = ![0, t.val % 2] ∧ win0_5.index t = ![0, 8 + t.val % 2]
    ∧ win0_6.index t = ![t.val / 2, t.val % 2] ∧ win0_7.index t = ![t.val / 2, t.val % 2] ∧ win0_8.index t = ![t.val / 2, 0] :=
  (by decide +kernel : ∀ t : Fin grid0.N, _)

theorem off1_at : ∀ t : Fin grid0.N, k0_off1 (grid0.coords t) = ![t.val / 4, 0] := by decide +kernel

theorem off2_at : ∀ t : Fin grid0.N, k0_off2 (grid0.coords t) = ![t.val / 4, 512] := by decide +kernel

theorem tlt (t : Fin cfg0.N) : t.val < 16 := t.isLt

def X (c : Dev nD) (i : Fin 8192) (k : Fin 2048) : EReal := m ((c : Thread nD τ).loc main_arg0) (ix2 i k)
def W (c : Dev nD) (k : Fin 2048) (j : Fin 2048) : EReal := m ((c : Thread nD τ).loc main_arg1) (ix3 0 k j)
def H (c : Dev nD) (i : Fin 9216) (j : Fin 2048) : EReal := m ((c : Thread nD τ).loc main_arg2) (ix2 i j)
def G (c : Dev nD) (q : Fin 8) (k : Fin 12288) : EReal := m ((c : Thread nD τ).loc main_arg3) (ix2 q k)
def NW (c : Dev nD) (j : Fin 2048) : EReal := m ((c : Thread nD τ).loc main_arg4) (ix1 j)

theorem b0_at (c : Dev nD) (t : Fin cfg0.N) (a : Fin 1024) (k : Fin 2048) :
    iblk m c 0 t (ix2 a k) = X m c ⟨1024 * (t.val / 2) + a.val, by have := tlt t; omega⟩ k := by
  blk_ext [iblk, V, idx t, X]

theorem b1_at (c : Dev nD) (t : Fin cfg0.N) (k : Fin 2048) (b : Fin 1024) :
    iblk m c 1 t (ix3 0 k b) = W m c k ⟨1024 * (t.val % 2) + b.val, by omega⟩ := by
  have h : ∀ (k : Fin 2048) (j : Fin 2048), V m c main_v0 (ix3 0 k j) = W m c k j := fun k j => by
    entry_read
    pointwise [W]
  refine Eq.trans ?_ (h _ _)
  blk_ext [iblk, V, idx t]

theorem b2_at (c : Dev nD) (t : Fin cfg0.N) (a : Fin 1024) (b : Fin 1024) :
    iblk m c 2 t (ix2 a b) = H m c ⟨1024 * (t.val / 2) + a.val, by have := tlt t; omega⟩ ⟨1024 * (t.val % 2) + b.val, by omega⟩ := by
  have h : ∀ (i : Fin 9216) (j : Fin 2048), V m c main_v2_0 (ix2 i j) = H m c i j := fun i j => by
    entry_read
    rfl
  refine Eq.trans ?_ (h _ _)
  blk_ext [iblk, V, idx t]

theorem b3_at (c : Dev nD) (t : Fin cfg0.N) (q : Fin 8) (b : Fin 1024) :
    iblk m c 3 t (ix2 q b) = G m c q ⟨1024 * (4 + t.val % 2) + b.val, by omega⟩ := by
  blk_ext [iblk, V, idx t, G]

theorem b4_at (c : Dev nD) (t : Fin cfg0.N) (b : Fin 1024) :
    iblk m c 4 t (ix2 0 b) = NW m c ⟨1024 * (t.val % 2) + b.val, by omega⟩ := by
  have h : ∀ j : Fin 2048, V m c main_v1 (ix2 0 j) = NW m c j := fun j => by
    entry_read
    pointwise [NW]
  refine Eq.trans ?_ (h _)
  blk_ext [iblk, V, idx t]

theorem b5_at (c : Dev nD) (t : Fin cfg0.N) (q : Fin 8) (b : Fin 1024) :
    iblk m c 5 t (ix2 q b) = G m c q ⟨1024 * (8 + t.val % 2) + b.val, by omega⟩ := by
  blk_ext [iblk, V, idx t, G]

/-! ## The halves of a block at an entry -/

theorem fst_at {e : EltTy} (x : Vec Ideal S1024x1024 e) (a : Fin 1024) (b : Fin 512) : fst (F := Ideal) x (ix2 a b) = x (ix2 a ⟨b.val, by omega⟩) := by
  refine congrArg x (funext fun d => Fin.ext ?_)
  fin_cases d
  · show 0 + 1 * a.val = a.val; omega
  · show 0 + 1 * b.val = b.val; omega

theorem snd_at {e : EltTy} (x : Vec Ideal S1024x1024 e) (a : Fin 1024) (b : Fin 512) : snd (F := Ideal) x (ix2 a b) = x (ix2 a ⟨512 + b.val, by omega⟩) := by
  refine congrArg x (funext fun d => Fin.ext ?_)
  fin_cases d
  · show 0 + 1 * a.val = a.val; omega
  · show 512 + 1 * b.val = 512 + b.val; omega

theorem wFst_at (x : Vec Ideal S1x2048x1024 .bf16) (k : Fin 2048) (b : Fin 512) : wFst (F := Ideal) x (ix3 0 k b) = x (ix3 0 k ⟨b.val, by omega⟩) := by
  refine congrArg x (funext fun d => Fin.ext ?_)
  fin_cases d
  · rfl
  · show 0 + 1 * k.val = k.val; omega
  · show 0 + 1 * b.val = b.val; omega

theorem wSnd_at (x : Vec Ideal S1x2048x1024 .bf16) (k : Fin 2048) (b : Fin 512) : wSnd (F := Ideal) x (ix3 0 k b) = x (ix3 0 k ⟨512 + b.val, by omega⟩) := by
  refine congrArg x (funext fun d => Fin.ext ?_)
  fin_cases d
  · rfl
  · show 0 + 1 * k.val = k.val; omega
  · show 512 + 1 * b.val = 512 + b.val; omega

theorem nFst_at (x : Vec Ideal S1x1024 .f32) (b : Fin 512) : nFst (F := Ideal) x (ix2 0 b) = x (ix2 0 ⟨b.val, by omega⟩) := by
  refine congrArg x (funext fun d => Fin.ext ?_)
  fin_cases d
  · rfl
  · show 0 + 1 * b.val = b.val; omega

theorem nSnd_at (x : Vec Ideal S1x1024 .f32) (b : Fin 512) : nSnd (F := Ideal) x (ix2 0 b) = x (ix2 0 ⟨512 + b.val, by omega⟩) := by
  refine congrArg x (funext fun d => Fin.ext ?_)
  fin_cases d
  · rfl
  · show 512 + 1 * b.val = 512 + b.val; omega

/-- The modulation row of a point's rows. -/
def mrow (t : Fin cfg0.N) : Fin 8 := ⟨t.val / 4, by have := tlt t; omega⟩

theorem rFst_at (t : Fin cfg0.N) (x : Vec Ideal S8x1024 .f32) (b : Fin 512) :
    rFst (F := Ideal) (grid0.coords t) x (ix2 0 b) = x (ix2 (mrow t) ⟨b.val, by omega⟩) := by
  refine congrArg x (funext fun d => Fin.ext ?_)
  show k0_off1 (grid0.coords t) d + 1 * (ix2 (0 : Fin 1) b d).val = _
  rw [off1_at]
  fin_cases d
  · show t.val / 4 + 1 * 0 = t.val / 4; omega
  · show 0 + 1 * b.val = b.val; omega

theorem rSnd_at (t : Fin cfg0.N) (x : Vec Ideal S8x1024 .f32) (b : Fin 512) :
    rSnd (F := Ideal) (grid0.coords t) x (ix2 0 b) = x (ix2 (mrow t) ⟨512 + b.val, by omega⟩) := by
  refine congrArg x (funext fun d => Fin.ext ?_)
  show k0_off2 (grid0.coords t) d + 1 * (ix2 (0 : Fin 1) b d).val = _
  rw [off2_at]
  fin_cases d
  · show t.val / 4 + 1 * 0 = t.val / 4; omega
  · show 512 + 1 * b.val = 512 + b.val; omega

/-! ## The entries -/

/-- A row of the attention's rows, of a row of the array. -/
def cl (R : Fin 9216) : Fin 8192 := ⟨min R.val 8191, by omega⟩

/-- The entry of the first result. -/
def hEnt (c : Dev nD) (R : Fin 8192) (C : Fin 2048) : EReal :=
  H m c ⟨R.val, by omega⟩ C + G m c ⟨R.val / 2048, by omega⟩ ⟨4096 + C.val, by omega⟩ * ∑ k, X m c R k * W m c k C

/-- The entry of the second result. -/
def xEnt (c : Dev nD) (R : Fin 8192) (C : Fin 2048) : EReal :=
  hEnt m c R C * (NW m c C * (1 + G m c ⟨R.val / 2048, by omega⟩ ⟨8192 + C.val, by omega⟩))

/-- The square of a column's entry, by its lanes' column. -/
def sqr (c : Dev nD) (R : Fin 8192) (l : Fin 128) (q : Fin 16) : EReal :=
  hEnt m c R ⟨128 * q.val + l.val, by omega⟩ * hEnt m c R ⟨128 * q.val + l.val, by omega⟩

/-- The entry of the third result. -/
def sEnt (c : Dev nD) (R : Fin 8192) (l : Fin 128) : EReal := ∑ q : Fin 16, sqr m c R l q

/-- The row, of the attention's rows, of a row of a point's block. -/
def rowAt (t : Fin cfg0.N) (a : Fin 1024) : Fin 8192 := ⟨1024 * (t.val / 2) + a.val, by have := tlt t; omega⟩

theorem hEnt_of (c : Dev nD) (t : Fin cfg0.N) (a : Fin 1024) (R : Fin 8192) (C : Fin 2048) (r : Fin 9216) (q : Fin 8) (g : Fin 12288)
    (hR : R = rowAt t a) (hr : r.val = 1024 * (t.val / 2) + a.val) (hq : q = mrow t) (hg : g.val = 4096 + C.val) :
    H m c r C + G m c q g * ∑ k, X m c R k * W m c k C = hEnt m c R C := by
  subst hR hq
  have e1 : r = ⟨(rowAt t a).val, by omega⟩ := Fin.ext hr
  have e2 : mrow t = ⟨(rowAt t a).val / 2048, by have := (rowAt t a).isLt; omega⟩ := Fin.ext (by
    show t.val / 4 = (1024 * (t.val / 2) + a.val) / 2048; omega)
  have e3 : g = ⟨4096 + C.val, by omega⟩ := Fin.ext hg
  rw [e1, e2, e3]
  rfl

theorem nF_at (c : Dev nD) (t : Fin cfg0.N) (a : Fin 1024) (b : Fin 512) :
    nF c m t (ix2 a b) = hEnt m c (rowAt t a) ⟨1024 * (t.val % 2) + b.val, by omega⟩ := by
  unfold nF newFst
  rw [pay6_at]
  simp only [fst_at, wFst_at, rFst_at, b0_at, b1_at, b2_at, b3_at]
  exact hEnt_of m c t a _ _ _ _ _ rfl rfl rfl (by simp only []; omega)

theorem nS_at (c : Dev nD) (t : Fin cfg0.N) (a : Fin 1024) (b : Fin 512) :
    nS c m t (ix2 a b) = hEnt m c (rowAt t a) ⟨1024 * (t.val % 2) + (512 + b.val), by omega⟩ := by
  unfold nS newSnd
  rw [pay9_at]
  simp only [snd_at, wSnd_at, rSnd_at, b0_at, b1_at, b2_at, b3_at]
  exact hEnt_of m c t a _ _ _ _ _ rfl rfl rfl (by simp only []; omega)

theorem xEnt_of (c : Dev nD) (t : Fin cfg0.N) (a : Fin 1024) (C : Fin 2048) (g : Fin 12288) (hg : g.val = 8192 + C.val) :
    hEnt m c (rowAt t a) C * (NW m c C * (1 + G m c (mrow t) g)) = xEnt m c (rowAt t a) C := by
  have e2 : mrow t = ⟨(rowAt t a).val / 2048, by have := (rowAt t a).isLt; omega⟩ := Fin.ext (by
    show t.val / 4 = (1024 * (t.val / 2) + a.val) / 2048; omega)
  have e3 : g = ⟨8192 + C.val, by omega⟩ := Fin.ext hg
  rw [e2, e3]
  rfl

theorem sF_at (c : Dev nD) (t : Fin cfg0.N) (a : Fin 1024) (b : Fin 512) :
    sF c m t (ix2 a b) = xEnt m c (rowAt t a) ⟨1024 * (t.val % 2) + b.val, by omega⟩ := by
  unfold sF sclFst
  rw [pay7_at]
  refine (congrArg₂ (· * ·) (nF_at m c t a b) rfl).trans ?_
  simp only [nFst_at, rFst_at, b4_at, b5_at]
  exact xEnt_of m c t a _ _ (by simp only []; omega)

theorem sS_at (c : Dev nD) (t : Fin cfg0.N) (a : Fin 1024) (b : Fin 512) :
    sS c m t (ix2 a b) = xEnt m c (rowAt t a) ⟨1024 * (t.val % 2) + (512 + b.val), by omega⟩ := by
  unfold sS sclSnd
  rw [pay10_at]
  refine (congrArg₂ (· * ·) (nS_at m c t a b) rfl).trans ?_
  simp only [nSnd_at, rSnd_at, b4_at, b5_at]
  exact xEnt_of m c t a _ _ (by simp only []; omega)

theorem h_at (c : Dev nD) (t : Fin cfg0.N) (a b : Fin 1024) :
    halves (F := Ideal) (e := .f32) (nF c m t) (nS c m t) (ix2 a b) = hEnt m c (rowAt t a) ⟨1024 * (t.val % 2) + b.val, by omega⟩ := by
  refine halves_at _ _ a b _ (fun l hl => ?_) (fun l hl => ?_)
  · rw [nF_at]; simp only [hl]
  · rw [nS_at]; simp only [hl]

theorem x_at (c : Dev nD) (t : Fin cfg0.N) (a b : Fin 1024) :
    halves (F := Ideal) (e := .bf16) (sF c m t) (sS c m t) (ix2 a b) = xEnt m c (rowAt t a) ⟨1024 * (t.val % 2) + b.val, by omega⟩ := by
  refine halves_at _ _ a b _ (fun l hl => ?_) (fun l hl => ?_)
  · rw [sF_at]; simp only [hl]
  · rw [sS_at]; simp only [hl]

/-- The squares' sum of a column block. -/
def eight (c : Dev nD) (R : Fin 8192) (l : Fin 128) (j : ℕ) (hj : j < 2) : EReal :=
  (sqr m c R l ⟨8 * j, by omega⟩ + sqr m c R l ⟨8 * j + 1, by omega⟩ + sqr m c R l ⟨8 * j + 2, by omega⟩ + sqr m c R l ⟨8 * j + 3, by omega⟩)
    + sqr m c R l ⟨8 * j + 4, by omega⟩ + sqr m c R l ⟨8 * j + 5, by omega⟩ + sqr m c R l ⟨8 * j + 6, by omega⟩ + sqr m c R l ⟨8 * j + 7, by omega⟩

theorem eight_congr (c : Dev nD) (R R' : Fin 8192) (l : Fin 128) (j j' : ℕ) (hj : j < 2) (hj' : j' < 2) (hR : R = R') (e : j = j') :
    eight m c R l j hj = eight m c R' l j' hj' := by subst hR e; rfl

theorem sq_at (c : Dev nD) (t : Fin cfg0.N) (a : Fin 1024) (l : Fin 128) :
    k0_pay2 (qF c m t) (nS c m t) (ix2 a l) = eight m c (rowAt t a) l (t.val % 2) (by omega) := by
  rw [pay2_at _ _ a l (fun b => hEnt m c (rowAt t a) ⟨1024 * (t.val % 2) + (512 + b.val), by omega⟩) fun b => nS_at m c t a b]
  have e : qF c m t (ix2 a l) = _ := pay8_at _ _ _ a l (fun b => hEnt m c (rowAt t a) ⟨1024 * (t.val % 2) + b.val, by omega⟩) fun b => nF_at m c t a b
  rw [e]
  unfold eight
  refine congrArg₂ (· + ·) (congrArg₂ (· + ·) (congrArg₂ (· + ·) (congrArg₂ (· + ·) (congrArg₂ (· + ·) (congrArg₂ (· + ·) (congrArg₂ (· + ·) ?_ ?_) ?_) ?_) ?_) ?_) ?_) ?_ <;>
    exact congrArg (fun C => hEnt m c (rowAt t a) C * hEnt m c (rowAt t a) C) (Fin.ext (by first | (show 1024 * _ + (128 * _ + _) = 128 * _ + _; simp; omega) | (show 1024 * _ + (512 + (128 * _ + _)) = 128 * _ + _; simp; omega)))

theorem sEnt_eq (c : Dev nD) (R : Fin 8192) (l : Fin 128) :
    sEnt m c R l = eight m c R l 0 (by omega) + eight m c R l 1 (by omega) := by
  unfold sEnt eight
  rw [Fin.sum_univ_castSucc, Fin.sum_univ_castSucc, Fin.sum_univ_castSucc, Fin.sum_univ_castSucc, Fin.sum_univ_castSucc, Fin.sum_univ_castSucc,
    Fin.sum_univ_castSucc, Fin.sum_univ_castSucc, Fin.sum_univ_eight]
  simp only [add_assoc]
  rfl

/-- The point before. -/
def prev (t : Fin cfg0.N) : Fin cfg0.N := ⟨t.val - 1, by have := t.isLt; omega⟩

theorem s_at (c : Dev nD) (t : Fin cfg0.N) (ht : t.val % 2 = 1) (a : Fin 1024) (l : Fin 128) :
    (outsAt0 m c t.val t.isLt).2.2 (ix2 a l) = sEnt m c (rowAt t a) l := by
  have v1 : (prev t).val = t.val - 1 := rfl
  have e : (outsAt0 m c (t.val - 1) (Nat.lt_of_le_of_lt (Nat.sub_le _ _) t.isLt)).2.2 = k0_pay2 (qF c m (prev t)) (nS c m (prev t)) :=
    left8_first c m (prev t) (by omega)
  rw [left8_later c m t ht, pay3_at, e, sq_at, sq_at, sEnt_eq]
  refine congrArg₂ (· + ·) ?_ ?_
  · exact eight_congr m c _ _ l _ _ _ _ (Fin.ext (by show 1024 * ((t.val - 1) / 2) + a.val = 1024 * (t.val / 2) + a.val; omega)) (by omega)
  · exact eight_congr m c _ _ l _ _ _ _ rfl ht

/-! ## The output arrays -/

theorem final6 (c : Dev nD) (j : S9216x2048.Idx) :
    (dats m 0 c).arrAt 6 cfg0.N j = if (j 0).val < 8192 then hEnt m c (cl (j 0)) (j 1) else H m c (j 0) (j 1) := by
  refine ((dats m 0 c).arrAt_apply_of_coversWhere 6 (fun j : S9216x2048.Idx => hEnt m c (cl (j 0)) (j 1)) (P := fun j : S9216x2048.Idx => (j 0).val < 8192)
    (fun β => β 0 < 8) (by decide +kernel) (fun t hf y => ?_) (fun j => by blk_simp [Pipeline.Window.cell_apply]; omega) j).trans ?_
  · blk_simp
    rw [after0_6, left6]
    idx_vars y
    refine (h_at m c t _ _).trans ?_
    congr 1 <;> refine Fin.ext ?_ <;> simp [idx t, mul_comm, cl, rowAt]
    all_goals (have := tlt t; omega)
  · refine if_congr Iff.rfl rfl ?_
    rw [A_eq]
    have h : ∀ (i : Fin 9216) (j : Fin 2048), V m c main_v2_0 (ix2 i j) = H m c i j := fun i j => by
      entry_read
      rfl
    idx_vars j
    exact h _ _

theorem final7 (c : Dev nD) (j : S9216x2048.Idx) :
    (dats m 0 c).arrAt 7 cfg0.N j = if (j 0).val < 8192 then xEnt m c (cl (j 0)) (j 1) else m ((c : Thread nD τ).loc main_arg5) j := by
  refine ((dats m 0 c).arrAt_apply_of_coversWhere 7 (fun j : S9216x2048.Idx => xEnt m c (cl (j 0)) (j 1)) (P := fun j : S9216x2048.Idx => (j 0).val < 8192)
    (fun β => β 0 < 8) (by decide +kernel) (fun t hf y => ?_) (fun j => by blk_simp [Pipeline.Window.cell_apply]; omega) j).trans ?_
  · blk_simp
    rw [after0_7, left7]
    idx_vars y
    refine (x_at m c t _ _).trans ?_
    congr 1 <;> refine Fin.ext ?_ <;> simp [idx t, mul_comm, cl, rowAt]
    all_goals (have := tlt t; omega)
  · refine if_congr Iff.rfl rfl ?_
    rw [A_eq]
    have h : ∀ (i : Fin 9216) (j : Fin 2048), V m c main_v2_1 (ix2 i j) = m ((c : Thread nD τ).loc main_arg5) (ix2 i j) := fun i j => by
      entry_read
      rfl
    idx_vars j
    exact h _ _

theorem final8 (c : Dev nD) (j : S9216x128.Idx) :
    (dats m 0 c).arrAt 8 cfg0.N j = if (j 0).val < 8192 then sEnt m c (cl (j 0)) (j 1) else m ((c : Thread nD τ).loc main_arg6) j := by
  refine ((dats m 0 c).arrAt_apply_of_coversWhere 8 (fun j : S9216x128.Idx => sEnt m c (cl (j 0)) (j 1)) (P := fun j : S9216x128.Idx => (j 0).val < 8192)
    (fun β => β 0 < 8) (by decide +kernel) (fun t hf y => ?_) (fun j => by blk_simp [Pipeline.Window.cell_apply]; omega) j).trans ?_
  · have ht : t.val % 2 = 1 := (flush0_8 t).mp hf
    blk_simp
    rw [after0_8]
    idx_vars y
    refine (s_at m c t ht _ _).trans ?_
    congr 1 <;> refine Fin.ext ?_ <;> simp [idx t, mul_comm, cl, rowAt]
    all_goals (have := tlt t; omega)
  · refine if_congr Iff.rfl rfl ?_
    rw [A_eq]
    have h : ∀ (i : Fin 9216) (j : Fin 128), V m c main_v2_2 (ix2 i j) = m ((c : Thread nD τ).loc main_arg6) (ix2 i j) := fun i j => by
      entry_read
      rfl
    idx_vars j
    exact h _ _

end Cert.Kernel7Ideal.AttnOut

end
-- ==== Proof.AttnOutClaim.lean ====
/-
  The attention's output projection: the reference read at an entry, and the two programs compute the same arrays.
-/
module

public import proofs.«01_k».proof.Defs
public import proofs.«01_k».proof.Proof.Gen.Reference7Ideal.Run
public import proofs.«01_k».proof.Proof.AttnOutVal

@[expose] public section

set_option maxRecDepth 16384

noncomputable section

namespace Cert.Reference7Ideal.AttnOut

open Cert.Reference7Ideal Cert.Reference7Ideal.Gen Idealize.ShloMosaic Idealize.ShloMosaic.TcCoe Idealize.SL.Sem
open Cert.Attn Cert.Up

/-- The gate of every row. -/
def gate (M : FVec Ideal S8x12288 .f32) : FVec Ideal S8192x2048 .f32 :=
  extractStridedSlice S8192x2048 ![0, 0] (concatenate S9216x2048 0 [⟨S8192x2048, (shapeCast _ (broadcastInDim S4x2048x2048 ![0, 1, 2] bcast_S4x1x2048_S4x2048x2048_0_1_2 (broadcastInDim S4x1x2048 ![0, 2] bcast_S4x2048_S4x1x2048_0_2 (extractStridedSlice S4x2048 ![0, 0] (extractStridedSlice S8x2048 ![0, 4096] M slices_S8x12288_S8x2048_0_4096) slices_S8x2048_S4x2048_0_0))) shapeCasts_S4x2048x2048_S8192x2048)⟩, ⟨S1024x2048, (broadcastInDim S1024x2048 ![0, 1] bcast_S1x2048_S1024x2048_0_1 (extractStridedSlice S1x2048 ![4, 0] (extractStridedSlice S8x2048 ![0, 4096] M slices_S8x12288_S8x2048_0_4096) slices_S8x2048_S1x2048_4_0))⟩] concatenates_S8192x2048_S1024x2048_S9216x2048_d0) slices_S9216x2048_S8192x2048_0_0

/-- The scale of every row. -/
def scl (M : FVec Ideal S8x12288 .f32) : FVec Ideal S8192x2048 .f32 :=
  extractStridedSlice S8192x2048 ![0, 0] (concatenate S9216x2048 0 [⟨S8192x2048, (shapeCast _ (broadcastInDim S4x2048x2048 ![0, 1, 2] bcast_S4x1x2048_S4x2048x2048_0_1_2 (broadcastInDim S4x1x2048 ![0, 2] bcast_S4x2048_S4x1x2048_0_2 (extractStridedSlice S4x2048 ![0, 0] (extractStridedSlice S8x2048 ![0, 8192] M slices_S8x12288_S8x2048_0_8192) slices_S8x2048_S4x2048_0_0))) shapeCasts_S4x2048x2048_S8192x2048)⟩, ⟨S1024x2048, (broadcastInDim S1024x2048 ![0, 1] bcast_S1x2048_S1024x2048_0_1 (extractStridedSlice S1x2048 ![4, 0] (extractStridedSlice S8x2048 ![0, 8192] M slices_S8x12288_S8x2048_0_8192) slices_S8x2048_S1x2048_4_0))⟩] concatenates_S8192x2048_S1024x2048_S9216x2048_d0) slices_S9216x2048_S8192x2048_0_0

/-- The product of the attention's rows with the weights of the layer. -/
def prod (x : FVec Ideal S8192x2048 .bf16) (w : FVec Ideal S2x2048x2048 .f32) : FVec Ideal S8192x2048 .f32 :=
  Host.dotGeneral dot_S8192x2048_S2048x2048_S8192x2048_1_0_0_1_n_n none (extf .f32 x bitsLt_bf16_f32) (shapeCast _ (extractStridedSlice S1x2048x2048 ![0, 0, 0] w slices_S2x2048x2048_S1x2048x2048_0_0_0) shapeCasts_S1x2048x2048_S2048x2048)

/-- The array's rows with the gated product added. -/
def hNew (h : FVec Ideal S9216x2048 .f32) (y g : FVec Ideal S8192x2048 .f32) : FVec Ideal S8192x2048 .f32 :=
  addf (extractStridedSlice S8192x2048 ![0, 0] h slices_S9216x2048_S8192x2048_0_0) (mulf g y)

/-- The rows scaled. -/
def scaled (h : FVec Ideal S8192x2048 .f32) (n : FVec Ideal S2048 .f32) (s : FVec Ideal S8192x2048 .f32) : FVec Ideal S8192x2048 .bf16 :=
  truncf .bf16 (mulf h (mulf (broadcastInDim S8192x2048 ![0, 1] bcast_S1x2048_S8192x2048_0_1 (broadcastInDim S1x2048 ![1] bcast_S2048_S1x2048_1 n)) (addf (broadcastInDim S8192x2048 ![] bcast_S_S8192x2048 (constant S_ .f32 0x3F800000#32)) s))) bitsLt_bf16_f32

/-- The squares' sums. -/
def squares (h : FVec Ideal S8192x2048 .f32) : FVec Ideal S8192x128 .f32 :=
  Host.reduceAdd (shapeCast _ (mulf h h) shapeCasts_S8192x2048_S8192x16x128) (constant S_ .f32 0x00000000#32) reducesTo_S8192x16x128_S8192x128_d1 h_S_

/-- The first result: the new rows over the old last ones. -/
def hAll (p : FVec Ideal S8192x2048 .f32) (h : FVec Ideal S9216x2048 .f32) : FVec Ideal S9216x2048 .f32 :=
  concatenate S9216x2048 0 [⟨S8192x2048, p⟩, ⟨S1024x2048, (extractStridedSlice S1024x2048 ![8192, 0] h slices_S9216x2048_S1024x2048_8192_0)⟩] concatenates_S8192x2048_S1024x2048_S9216x2048_d0

/-- The second result, likewise. -/
def xAll (p : FVec Ideal S8192x2048 .bf16) (h : FVec Ideal S9216x2048 .bf16) : FVec Ideal S9216x2048 .bf16 :=
  concatenate S9216x2048 0 [⟨S8192x2048, p⟩, ⟨S1024x2048, (extractStridedSlice S1024x2048 ![8192, 0] h slices_S9216x2048_S1024x2048_8192_0)⟩] concatenates_S8192x2048_S1024x2048_S9216x2048_d0

/-- The third result, likewise. -/
def sAll (p : FVec Ideal S8192x128 .f32) (h : FVec Ideal S9216x128 .f32) : FVec Ideal S9216x128 .f32 :=
  concatenate S9216x128 0 [⟨S8192x128, p⟩, ⟨S1024x128, (extractStridedSlice S1024x128 ![8192, 0] h slices_S9216x128_S1024x128_8192_0)⟩] concatenates_S8192x128_S1024x128_S9216x128_d0

theorem run' (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v35) = hAll (hNew (m ((c.tc : Thread nD τ).loc main_arg2)) (prod (m ((c.tc : Thread nD τ).loc main_arg0)) (m ((c.tc : Thread nD τ).loc main_arg1))) (gate (m ((c.tc : Thread nD τ).loc main_arg3)))) (m ((c.tc : Thread nD τ).loc main_arg2))
      ∧ r.2.mem ((c.tc : Thread nD τ).loc main_v38) = xAll (scaled (hNew (m ((c.tc : Thread nD τ).loc main_arg2)) (prod (m ((c.tc : Thread nD τ).loc main_arg0)) (m ((c.tc : Thread nD τ).loc main_arg1))) (gate (m ((c.tc : Thread nD τ).loc main_arg3)))) (m ((c.tc : Thread nD τ).loc main_arg4)) (scl (m ((c.tc : Thread nD τ).loc main_arg3)))) (m ((c.tc : Thread nD τ).loc main_arg5))
      ∧ r.2.mem ((c.tc : Thread nD τ).loc main_v40) = sAll (squares (hNew (m ((c.tc : Thread nD τ).loc main_arg2)) (prod (m ((c.tc : Thread nD τ).loc main_arg0)) (m ((c.tc : Thread nD τ).loc main_arg1))) (gate (m ((c.tc : Thread nD τ).loc main_arg3))))) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  Cert.Reference7Ideal.Value.run m ρ

theorem gate_at (M : FVec Ideal S8x12288 .f32) (R : Fin 8192) (C : Fin 2048) :
    gate M (ix2 R C) = M (ix2 (⟨R.val / 2048, by omega⟩ : Fin 8) (⟨4096 + C.val, by omega⟩ : Fin 12288)) := by
  pointwise [gate]

theorem scl_at (M : FVec Ideal S8x12288 .f32) (R : Fin 8192) (C : Fin 2048) :
    scl M (ix2 R C) = M (ix2 (⟨R.val / 2048, by omega⟩ : Fin 8) (⟨8192 + C.val, by omega⟩ : Fin 12288)) := by
  pointwise [scl]

theorem prod_at (x : FVec Ideal S8192x2048 .bf16) (w : FVec Ideal S2x2048x2048 .f32) (R : Fin 8192) (C : Fin 2048) :
    prod x w (ix2 R C) = ∑ k : Fin 2048, x (ix2 R k) * w (ix3 0 k C) := by
  pointwise [prod]

theorem hNew_at (h : FVec Ideal S9216x2048 .f32) (y g : FVec Ideal S8192x2048 .f32) (R : Fin 8192) (C : Fin 2048) :
    hNew h y g (ix2 R C) = h (ix2 ⟨R.val, by omega⟩ C) + g (ix2 R C) * y (ix2 R C) := by
  pointwise [hNew]

theorem scaled_at (h : FVec Ideal S8192x2048 .f32) (n : FVec Ideal S2048 .f32) (s : FVec Ideal S8192x2048 .f32) (R : Fin 8192) (C : Fin 2048) :
    scaled h n s (ix2 R C) = h (ix2 R C) * (n (ix1 C) * (1 + s (ix2 R C))) := by
  pointwise [scaled, one_eq]

theorem squares_at (h : FVec Ideal S8192x2048 .f32) (R : Fin 8192) (l : Fin 128) :
    squares h (ix2 R l) = ∑ q : Fin 16, h (ix2 R ⟨128 * q.val + l.val, by omega⟩) * h (ix2 R ⟨128 * q.val + l.val, by omega⟩) := by
  pointwise [squares]
  simp only [Nat.mul_comm]

/-- A row of the attention's rows, of a row of the array. -/
def cl (R : Fin 9216) : Fin 8192 := ⟨min R.val 8191, by omega⟩

theorem cl_of (R : Fin 9216) (h : R.val < 8192) : (⟨R.val, h⟩ : Fin 8192) = cl R := Fin.ext (by simp only [cl]; omega)

theorem hAll_at (p : FVec Ideal S8192x2048 .f32) (h : FVec Ideal S9216x2048 .f32) (R : Fin 9216) (C : Fin 2048) :
    hAll p h (ix2 R C) = if R.val < 8192 then p (ix2 (cl R) C) else h (ix2 R C) := by
  pointwise [hAll]
  split
  · next hR => exact congrArg (fun r => p (ix2 r _)) (cl_of R hR)
  · next hR =>
    exact congrArg (fun r => h (ix2 r _)) (Fin.ext (by simp only []; omega))

theorem xAll_at (p : FVec Ideal S8192x2048 .bf16) (h : FVec Ideal S9216x2048 .bf16) (R : Fin 9216) (C : Fin 2048) :
    xAll p h (ix2 R C) = if R.val < 8192 then p (ix2 (cl R) C) else h (ix2 R C) := by
  pointwise [xAll]
  split
  · next hR => exact congrArg (fun r => p (ix2 r _)) (cl_of R hR)
  · next hR =>
    exact congrArg (fun r => h (ix2 r _)) (Fin.ext (by simp only []; omega))

theorem sAll_at (p : FVec Ideal S8192x128 .f32) (h : FVec Ideal S9216x128 .f32) (R : Fin 9216) (l : Fin 128) :
    sAll p h (ix2 R l) = if R.val < 8192 then p (ix2 (cl R) l) else h (ix2 R l) := by
  pointwise [sAll]
  split
  · next hR => exact congrArg (fun r => p (ix2 r _)) (cl_of R hR)
  · next hR =>
    exact congrArg (fun r => h (ix2 r _)) (Fin.ext (by simp only []; omega))

end Cert.Reference7Ideal.AttnOut

namespace Cert.Proof.AttnOut

open Idealize.ShloMosaic Idealize.SL.Sem Cert.Attn Cert.Up

variable (m : (ℓ : Loc Kernel7Ideal.nD Kernel7Ideal.τ Kernel7Ideal.sig) → Buf (Elt Ideal) ℓ) (c : Dev Kernel7Ideal.nD)

theorem h_entry (R : Fin 8192) (C : Fin 2048) :
    Reference7Ideal.AttnOut.hNew (m (c.tc.loc Kernel7Ideal.main_arg2)) (Reference7Ideal.AttnOut.prod (m (c.tc.loc Kernel7Ideal.main_arg0)) (m (c.tc.loc Kernel7Ideal.main_arg1))) (Reference7Ideal.AttnOut.gate (m (c.tc.loc Kernel7Ideal.main_arg3))) (ix2 R C) = Kernel7Ideal.AttnOut.hEnt m c R C := by
  rw [Reference7Ideal.AttnOut.hNew_at, Reference7Ideal.AttnOut.gate_at, Reference7Ideal.AttnOut.prod_at]
  rfl

theorem h_eq : Reference7Ideal.AttnOut.hAll (Reference7Ideal.AttnOut.hNew (m (c.tc.loc Kernel7Ideal.main_arg2)) (Reference7Ideal.AttnOut.prod (m (c.tc.loc Kernel7Ideal.main_arg0)) (m (c.tc.loc Kernel7Ideal.main_arg1))) (Reference7Ideal.AttnOut.gate (m (c.tc.loc Kernel7Ideal.main_arg3)))) (m (c.tc.loc Kernel7Ideal.main_arg2)) = (Kernel7Ideal.Gen.dats m 0 c).arrAt 6 Kernel7Ideal.cfg0.N := by
  funext j
  refine Eq.trans ?_ (Kernel7Ideal.AttnOut.final6 m c j).symm
  idx_vars j
  refine (Reference7Ideal.AttnOut.hAll_at _ _ _ _).trans ?_
  rw [h_entry m c]
  rfl

theorem x_eq : Reference7Ideal.AttnOut.xAll (Reference7Ideal.AttnOut.scaled (Reference7Ideal.AttnOut.hNew (m (c.tc.loc Kernel7Ideal.main_arg2)) (Reference7Ideal.AttnOut.prod (m (c.tc.loc Kernel7Ideal.main_arg0)) (m (c.tc.loc Kernel7Ideal.main_arg1))) (Reference7Ideal.AttnOut.gate (m (c.tc.loc Kernel7Ideal.main_arg3)))) (m (c.tc.loc Kernel7Ideal.main_arg4)) (Reference7Ideal.AttnOut.scl (m (c.tc.loc Kernel7Ideal.main_arg3)))) (m (c.tc.loc Kernel7Ideal.main_arg5)) = (Kernel7Ideal.Gen.dats m 0 c).arrAt 7 Kernel7Ideal.cfg0.N := by
  funext j
  refine Eq.trans ?_ (Kernel7Ideal.AttnOut.final7 m c j).symm
  idx_vars j
  refine (Reference7Ideal.AttnOut.xAll_at _ _ _ _).trans ?_
  rw [Reference7Ideal.AttnOut.scaled_at, h_entry m c, Reference7Ideal.AttnOut.scl_at]
  rfl

theorem s_eq : Reference7Ideal.AttnOut.sAll (Reference7Ideal.AttnOut.squares (Reference7Ideal.AttnOut.hNew (m (c.tc.loc Kernel7Ideal.main_arg2)) (Reference7Ideal.AttnOut.prod (m (c.tc.loc Kernel7Ideal.main_arg0)) (m (c.tc.loc Kernel7Ideal.main_arg1))) (Reference7Ideal.AttnOut.gate (m (c.tc.loc Kernel7Ideal.main_arg3))))) (m (c.tc.loc Kernel7Ideal.main_arg6)) = (Kernel7Ideal.Gen.dats m 0 c).arrAt 8 Kernel7Ideal.cfg0.N := by
  funext j
  refine Eq.trans ?_ (Kernel7Ideal.AttnOut.final8 m c j).symm
  idx_vars j
  refine (Reference7Ideal.AttnOut.sAll_at _ _ _ _).trans ?_
  rw [Reference7Ideal.AttnOut.squares_at]
  simp only [h_entry m c]
  rfl

theorem algebraic : Cert.algebraic_Kernel7Ideal_Reference7Ideal := by
  pair_intro
  · run_from Cert.Kernel7Ideal.Value.run_blocks m g
  · run_from Cert.Reference7Ideal.AttnOut.run' m' g'
    · exact h_eq m c
    · exact x_eq m c
    · exact s_eq m c

end Cert.Proof.AttnOut

end
-- ==== Proof.CtxVal.lean ====
/-
  The attention's output projection for the context: the kernel's output arrays, from the argument arrays.
-/
module

public import proofs.«01_k».proof.Proof.Gen.Kernel9Ideal.Value
public import proofs.«01_k».proof.Proof.Gen.Kernel9Ideal.Points
public import proofs.«01_k».proof.Proof.Up
public import Idealize.ShloMosaic.Lib.Pipeline.ValueKit

@[expose] public section

set_option maxRecDepth 16384

noncomputable section

namespace Cert.Kernel9Ideal.CtxOut

open Cert.Kernel9Ideal Cert.Kernel9Ideal.Gen Idealize.ShloMosaic Idealize.ShloMosaic.TcCoe Idealize.SL.Sem
open Cert.Attn Cert.Up

/-! ## What a point leaves in the outputs' buffers -/

section Body

variable {F : FTy → Type} [FloatOps F]

theorem zero2 : (![0, 0] : Fin 2 → ℕ) = fun _ => 0 := by decide

/-- The first half of a block's columns. -/
def fst {e : EltTy} (x : Vec F S1024x1024 e) : Vec F S1024x512 e :=
  View.ld x (Rect.unit (s := S1024x1024) ![0, 0] S1024x512.size inb_S1024x1024_S1024x512_0_0)

/-- The second half. -/
def snd {e : EltTy} (x : Vec F S1024x1024 e) : Vec F S1024x512 e :=
  View.ld x (Rect.unit (s := S1024x1024) ![0, 512] S1024x512.size inb_S1024x1024_S1024x512_0_512)

/-- The weights of the first half. -/
def wFst (x : Vec F S1x2048x1024 .bf16) : Vec F S1x2048x512 .bf16 :=
  View.ld x (Rect.unit (s := S1x2048x1024) ![0, 0, 0] S1x2048x512.size inb_S1x2048x1024_S1x2048x512_0_0_0)

/-- The weights of the second half. -/
def wSnd (x : Vec F S1x2048x1024 .bf16) : Vec F S1x2048x512 .bf16 :=
  View.ld x (Rect.unit (s := S1x2048x1024) ![0, 0, 512] S1x2048x512.size inb_S1x2048x1024_S1x2048x512_0_0_512)

/-- The norm weights of the first half. -/
def nFst (x : Vec F S1x1024 .f32) : Vec F S1x512 .f32 :=
  View.ld x (Rect.unit (s := S1x1024) ![0, 0] S1x512.size inb_S1x1024_S1x512_0_0)

/-- The norm weights of the second half. -/
def nSnd (x : Vec F S1x1024 .f32) : Vec F S1x512 .f32 :=
  View.ld x (Rect.unit (s := S1x1024) ![0, 512] S1x512.size inb_S1x1024_S1x512_0_512)

/-- The modulation row a point reads, for the first half. -/
def rFst (i : grid0.Coords) (x : Vec F S8x1024 .f32) : Vec F S1x512 .f32 :=
  View.ld x (Rect.unit (s := S8x1024) (k0_off1 i) S1x512.size (k0_off1_inb i))

/-- The modulation row a point reads, for the second half. -/
def rSnd (i : grid0.Coords) (x : Vec F S8x1024 .f32) : Vec F S1x512 .f32 :=
  View.ld x (Rect.unit (s := S8x1024) (k0_off2 i) S1x512.size (k0_off2_inb i))

/-- A block from its halves. -/
def halves {e : EltTy} (p q : Vec F S1024x512 e) : Vec F S1024x1024 e :=
  View.canon [(⟨Rect.unit (s := S1024x1024) ![0, 512] S1024x512.size inb_S1024x1024_S1024x512_0_512, q⟩ : View.Piece (Elt F) S1024x1024 e),
    ⟨Rect.unit (s := S1024x1024) ![0, 0] S1024x512.size inb_S1024x1024_S1024x512_0_0, p⟩]

theorem halves_at {e : EltTy} (p q : Vec F S1024x512 e) (a : Fin 1024) (b : Fin 1024) (v : Elt F e)
    (hp : ∀ l : Fin 512, l.val = b.val → p (ix2 a l) = v) (hq : ∀ l : Fin 512, 512 + l.val = b.val → q (ix2 a l) = v) :
    halves p q (ix2 a b) = v := by
  unfold halves
  canon_tiles x h
  · idx_vars x
    obtain rfl : a = x0 := Fin.ext h0
    exact hq _ (by exact h1.symm)
  · idx_vars x
    obtain rfl : a = x0 := Fin.ext h0
    exact hp _ (by exact h1.symm)

variable (c : Dev nD) (i : grid0.Coords) (a3 : Memref sig .tc .vmem S1024x2048 .bf16) (h3 : a3.IsWhole) (a4 : Memref sig .tc .vmem S1x2048x1024 .bf16) (h4 : a4.IsWhole)
  (a5 : Memref sig .tc .vmem S1024x1024 .f32) (h5 : a5.IsWhole) (a6 : Memref sig .tc .vmem S8x1024 .f32) (h6 : a6.IsWhole) (a7 : Memref sig .tc .vmem S1x1024 .f32) (h7 : a7.IsWhole)
  (a8 : Memref sig .tc .vmem S8x1024 .f32) (h8 : a8.IsWhole) (a11 : Memref sig .tc .vmem S1024x1024 .f32) (h11 : a11.IsWhole) (a12 : Memref sig .tc .vmem S1024x1024 .bf16) (h12 : a12.IsWhole)
  (a13 : Memref sig .tc .vmem S1024x128 .f32) (h13 : a13.IsWhole)
  (x0 : Vec F S1024x2048 .bf16) (x1 : Vec F S1x2048x1024 .bf16) (x2 : Vec F S1024x1024 .f32) (x3 : Vec F S8x1024 .f32) (x4 : Vec F S1x1024 .f32) (x5 : Vec F S8x1024 .f32)
  (xo : Vec F S1024x128 .f32)

/-- The new rows' first half. -/
def newFst : FVec F S1024x512 .f32 := k0_pay6 (k0_pay4 x0 (wFst x1)) (fst x2) (rFst i x3)

/-- The new rows' second half. -/
def newSnd : FVec F S1024x512 .f32 := k0_pay9 (k0_pay5 x0 (wSnd x1)) (snd x2) (rSnd i x3)

/-- The scaled rows' first half. -/
def sclFst : FVec F S1024x512 .bf16 := k0_pay7 (k0_pay4 x0 (wFst x1)) (fst x2) (rFst i x3) (nFst x4) (rFst i x5)

/-- The scaled rows' second half. -/
def sclSnd : FVec F S1024x512 .bf16 := k0_pay1 (k0_pay10 (k0_pay5 x0 (wSnd x1)) (snd x2) (rSnd i x3) (nSnd x4) (rSnd i x5))

/-- The first half's squares. -/
def sqFst : FVec F S1024x128 .f32 := k0_pay8 (k0_pay4 x0 (wFst x1)) (fst x2) (rFst i x3)

theorem outA6 (q0 : cond0_0 i) (q1 : ¬cond0_1 i) :
    out0_A_6 c i a3 h3 a4 h4 a5 h5 a6 h6 a7 h7 a8 h8 a11 h11 a12 h12 a13 h13 q0 q1 x0 x1 x2 x3 x4 x5 = halves (newFst i x0 x1 x2 x3) (newSnd i x0 x1 x2 x3) := by
  unfold out0_A_6
  rw [View.read_writes_junk_eq_canon]
  unfold kernelRun0_A
  dsimp only
  sl_unfold_words
  simp only [View.readAt_eq_ld, h3.read_unread, h4.read_unread, h5.read_unread, h6.read_unread, View.ld_unit_zero (S := S1024x2048) zero2]
  rfl

theorem outA7 (q0 : cond0_0 i) (q1 : ¬cond0_1 i) :
    out0_A_7 c i a3 h3 a4 h4 a5 h5 a6 h6 a7 h7 a8 h8 a11 h11 a12 h12 a13 h13 q0 q1 x0 x1 x2 x3 x4 x5 = halves (sclFst i x0 x1 x2 x3 x4 x5) (sclSnd i x0 x1 x2 x3 x4 x5) := by
  unfold out0_A_7
  rw [View.read_writes_junk_eq_canon]
  unfold kernelRun0_A
  dsimp only
  sl_unfold_words
  simp only [View.readAt_eq_ld, h3.read_unread, h4.read_unread, h5.read_unread, h6.read_unread, h7.read_unread, h8.read_unread, View.ld_unit_zero (S := S1024x2048) zero2]
  rfl

theorem outA8 (q0 : cond0_0 i) (q1 : ¬cond0_1 i) :
    out0_A_8 c i a3 h3 a4 h4 a5 h5 a6 h6 a7 h7 a8 h8 a11 h11 a12 h12 a13 h13 q0 q1 x0 x1 x2 x3 x4 x5 = k0_pay2 (sqFst i x0 x1 x2 x3) (newSnd i x0 x1 x2 x3) := by
  unfold out0_A_8
  rw [View.read_writes_junk_eq_canon]
  unfold kernelRun0_A
  dsimp only
  sl_unfold_words
  rw [View.canon_unit_zero zero2]
  simp only [View.readAt_eq_ld, h3.read_unread, h4.read_unread, h5.read_unread, h6.read_unread, View.ld_unit_zero (S := S1024x2048) zero2, View.ld_unit_zero (S := S1024x128) zero2]
  rfl

theorem outB6 (q0 : ¬cond0_0 i) (q1 : cond0_1 i) :
    out0_B_6 c i a3 h3 a4 h4 a5 h5 a6 h6 a7 h7 a8 h8 a11 h11 a12 h12 a13 h13 q0 q1 x0 x1 x2 x3 x4 x5 xo = halves (newFst i x0 x1 x2 x3) (newSnd i x0 x1 x2 x3) := by
  unfold out0_B_6
  rw [View.read_writes_junk_eq_canon]
  unfold kernelRun0_B
  dsimp only
  sl_unfold_words
  simp only [View.readAt_eq_ld, h3.read_unread, h4.read_unread, h5.read_unread, h6.read_unread, View.ld_unit_zero (S := S1024x2048) zero2]
  rfl

theorem outB7 (q0 : ¬cond0_0 i) (q1 : cond0_1 i) :
    out0_B_7 c i a3 h3 a4 h4 a5 h5 a6 h6 a7 h7 a8 h8 a11 h11 a12 h12 a13 h13 q0 q1 x0 x1 x2 x3 x4 x5 xo = halves (sclFst i x0 x1 x2 x3 x4 x5) (sclSnd i x0 x1 x2 x3 x4 x5) := by
  unfold out0_B_7
  rw [View.read_writes_junk_eq_canon]
  unfold kernelRun0_B
  dsimp only
  sl_unfold_words
  simp only [View.readAt_eq_ld, h3.read_unread, h4.read_unread, h5.read_unread, h6.read_unread, h7.read_unread, h8.read_unread, View.ld_unit_zero (S := S1024x2048) zero2]
  rfl

theorem outB8 (q0 : ¬cond0_0 i) (q1 : cond0_1 i) :
    out0_B_8 c i a3 h3 a4 h4 a5 h5 a6 h6 a7 h7 a8 h8 a11 h11 a12 h12 a13 h13 q0 q1 x0 x1 x2 x3 x4 x5 xo = k0_pay3 (sqFst i x0 x1 x2 x3) (newSnd i x0 x1 x2 x3) xo := by
  unfold out0_B_8
  rw [View.read_writes_junk_eq_canon]
  unfold kernelRun0_B
  dsimp only
  sl_unfold_words
  rw [View.canon_unit_zero zero2]
  simp only [View.readAt_eq_ld, h3.read_unread, h4.read_unread, h5.read_unread, h6.read_unread, h13.read_unread, View.ld_unit_zero (S := S1024x2048) zero2, View.ld_unit_zero (S := S1024x128) zero2]
  rfl

variable (m : (ℓ : Loc nD τ sig) → Buf (Elt F) ℓ)

/-- The halves a point leaves. -/
def nF (t : Fin cfg0.N) : FVec F S1024x512 .f32 := newFst (grid0.coords t) (iblk m c 0 t) (iblk m c 1 t) (iblk m c 2 t) (iblk m c 3 t)
def nS (t : Fin cfg0.N) : FVec F S1024x512 .f32 := newSnd (grid0.coords t) (iblk m c 0 t) (iblk m c 1 t) (iblk m c 2 t) (iblk m c 3 t)
def sF (t : Fin cfg0.N) : FVec F S1024x512 .bf16 := sclFst (grid0.coords t) (iblk m c 0 t) (iblk m c 1 t) (iblk m c 2 t) (iblk m c 3 t) (iblk m c 4 t) (iblk m c 5 t)
def sS (t : Fin cfg0.N) : FVec F S1024x512 .bf16 := sclSnd (grid0.coords t) (iblk m c 0 t) (iblk m c 1 t) (iblk m c 2 t) (iblk m c 3 t) (iblk m c 4 t) (iblk m c 5 t)
def qF (t : Fin cfg0.N) : FVec F S1024x128 .f32 := sqFst (grid0.coords t) (iblk m c 0 t) (iblk m c 1 t) (iblk m c 2 t) (iblk m c 3 t)

theorem left6 (t : Fin cfg0.N) : (outsAt0 m c t.val t.isLt).1 = halves (nF c m t) (nS c m t) := by
  by_cases h0 : t.val % 2 = 0
  · have h1 : ¬t.val % 2 = 1 := by omega
    rw [outsAt0_A m c t h0 h1]
    dsimp only
    exact outA6 (F := F) ..
  · have h1 : t.val % 2 = 1 := by omega
    rw [outsAt0_B m c t h0 h1]
    dsimp only
    exact outB6 (F := F) ..

theorem left7 (t : Fin cfg0.N) : (outsAt0 m c t.val t.isLt).2.1 = halves (sF c m t) (sS c m t) := by
  by_cases h0 : t.val % 2 = 0
  · have h1 : ¬t.val % 2 = 1 := by omega
    rw [outsAt0_A m c t h0 h1]
    dsimp only
    exact outA7 (F := F) ..
  · have h1 : t.val % 2 = 1 := by omega
    rw [outsAt0_B m c t h0 h1]
    dsimp only
    exact outB7 (F := F) ..

theorem left8_first (t : Fin cfg0.N) (h0 : t.val % 2 = 0) : (outsAt0 m c t.val t.isLt).2.2 = k0_pay2 (qF c m t) (nS c m t) := by
  have h1 : ¬t.val % 2 = 1 := by omega
  rw [outsAt0_A m c t h0 h1]
  dsimp only
  exact outA8 (F := F) ..

theorem left8_later (t : Fin cfg0.N) (h1 : t.val % 2 = 1) :
    (outsAt0 m c t.val t.isLt).2.2 = k0_pay3 (qF c m t) (nS c m t) (outsAt0 m c (t.val - 1) (Nat.lt_of_le_of_lt (Nat.sub_le _ _) t.isLt)).2.2 := by
  have h0 : ¬t.val % 2 = 0 := by omega
  rw [outsAt0_B m c t h0 h1]
  dsimp only
  exact outB8 (F := F) ..

end Body

/-! ## The payloads at an entry -/

theorem pay6_at (x : Vec Ideal S1024x2048 .bf16) (w : Vec Ideal S1x2048x512 .bf16) (h : Vec Ideal S1024x512 .f32) (g : Vec Ideal S1x512 .f32) (a : Fin 1024) (b : Fin 512) :
    k0_pay6 (F := Ideal) (k0_pay4 x w) h g (ix2 a b) = h (ix2 a b) + g (ix2 0 b) * ∑ k : Fin 2048, x (ix2 a k) * w (ix3 0 k b) := by
  pointwise [k0_pay6, k0_pay4]

theorem pay9_at (x : Vec Ideal S1024x2048 .bf16) (w : Vec Ideal S1x2048x512 .bf16) (h : Vec Ideal S1024x512 .f32) (g : Vec Ideal S1x512 .f32) (a : Fin 1024) (b : Fin 512) :
    k0_pay9 (F := Ideal) (k0_pay5 x w) h g (ix2 a b) = h (ix2 a b) + g (ix2 0 b) * ∑ k : Fin 2048, x (ix2 a k) * w (ix3 0 k b) := by
  pointwise [k0_pay9, k0_pay5]

theorem pay7_at (v : FVec Ideal S1024x512 .f32) (h : Vec Ideal S1024x512 .f32) (g n s : Vec Ideal S1x512 .f32) (a : Fin 1024) (b : Fin 512) :
    k0_pay7 (F := Ideal) v h g n s (ix2 a b) = k0_pay6 (F := Ideal) v h g (ix2 a b) * (n (ix2 0 b) * (1 + s (ix2 0 b))) := by
  pointwise [k0_pay7, k0_pay6, one_eq]

theorem pay10_at (v : FVec Ideal S1024x512 .f32) (h : Vec Ideal S1024x512 .f32) (g n s : Vec Ideal S1x512 .f32) (a : Fin 1024) (b : Fin 512) :
    k0_pay1 (F := Ideal) (k0_pay10 v h g n s) (ix2 a b) = k0_pay9 (F := Ideal) v h g (ix2 a b) * (n (ix2 0 b) * (1 + s (ix2 0 b))) := by
  pointwise [k0_pay1, k0_pay10, k0_pay9, one_eq]

/-- The squares of a half's four lanes' columns. -/
def four (z : Fin 512 → EReal) (l : Fin 128) (q : Fin 4) : EReal := z ⟨128 * q.val + l.val, by omega⟩ * z ⟨128 * q.val + l.val, by omega⟩

theorem pay8_at (v : FVec Ideal S1024x512 .f32) (h : Vec Ideal S1024x512 .f32) (g : Vec Ideal S1x512 .f32) (a : Fin 1024) (l : Fin 128) (z : Fin 512 → EReal)
    (hz : ∀ b, k0_pay6 (F := Ideal) v h g (ix2 a b) = z b) :
    k0_pay8 (F := Ideal) v h g (ix2 a l) = four z l 0 + four z l 1 + four z l 2 + four z l 3 := by
  simp only [four, ← hz]
  pointwise [k0_pay8, k0_pay6]

theorem pay2_at (p : FVec Ideal S1024x128 .f32) (y : FVec Ideal S1024x512 .f32) (a : Fin 1024) (l : Fin 128) (z : Fin 512 → EReal) (hz : ∀ b, y (ix2 a b) = z b) :
    k0_pay2 (F := Ideal) p y (ix2 a l) = p (ix2 a l) + four z l 0 + four z l 1 + four z l 2 + four z l 3 := by
  simp only [four, ← hz]
  pointwise [k0_pay2]

theorem pay3_at (p : FVec Ideal S1024x128 .f32) (y : FVec Ideal S1024x512 .f32) (x : Vec Ideal S1024x128 .f32) (a : Fin 1024) (l : Fin 128) :
    k0_pay3 (F := Ideal) p y x (ix2 a l) = x (ix2 a l) + k0_pay2 (F := Ideal) p y (ix2 a l) := by
  pointwise [k0_pay3]

/-! ## The blocks -/

variable (m : (ℓ : Loc nD τ sig) → Buf (Elt Ideal) ℓ)

theorem idx : ∀ t : Fin cfg0.N, win0_0.index t = ![0, 0] ∧ win0_1.index t = ![0, 0, t.val % 2] ∧ win0_2.index t = ![8, t.val % 2]
    ∧ win0_3.index t = ![0, 4 + t.val % 2] ∧ win0_4.index t = ![0, t.val % 2] ∧ win0_5.index t = ![0, 8 + t.val % 2]
    ∧ win0_6.index t = ![8, t.val % 2] ∧ win0_7.index t = ![8, t.val % 2] ∧ win0_8.index t = ![8, 0] :=
  (by decide +kernel : ∀ t : Fin grid0.N, _)

theorem off1_at : ∀ t : Fin grid0.N, k0_off1 (grid0.coords t) = ![4, 0] := by decide +kernel

theorem off2_at : ∀ t : Fin grid0.N, k0_off2 (grid0.coords t) = ![4, 512] := by decide +kernel

theorem tlt (t : Fin cfg0.N) : t.val < 2 := t.isLt

def X (c : Dev nD) (i : Fin 1024) (k : Fin 2048) : EReal := m ((c : Thread nD τ).loc main_arg0) (ix2 i k)
def W (c : Dev nD) (k : Fin 2048) (j : Fin 2048) : EReal := m ((c : Thread nD τ).loc main_arg1) (ix3 0 k j)
def H (c : Dev nD) (i : Fin 9216) (j : Fin 2048) : EReal := m ((c : Thread nD τ).loc main_arg2) (ix2 i j)
def G (c : Dev nD) (q : Fin 8) (k : Fin 12288) : EReal := m ((c : Thread nD τ).loc main_arg3) (ix2 q k)
def NW (c : Dev nD) (j : Fin 2048) : EReal := m ((c : Thread nD τ).loc main_arg4) (ix1 j)

theorem b0_at (c : Dev nD) (t : Fin cfg0.N) (a : Fin 1024) (k : Fin 2048) :
    iblk m c 0 t (ix2 a k) = X m c a k := by
  blk_ext [iblk, V, idx t, X]

theorem b1_at (c : Dev nD) (t : Fin cfg0.N) (k : Fin 2048) (b : Fin 1024) :
    iblk m c 1 t (ix3 0 k b) = W m c k ⟨1024 * (t.val % 2) + b.val, by omega⟩ := by
  have h : ∀ (k : Fin 2048) (j : Fin 2048), V m c main_v0 (ix3 0 k j) = W m c k j := fun k j => by
    entry_read
    pointwise [W]
  refine Eq.trans ?_ (h _ _)
  blk_ext [iblk, V, idx t]

theorem b2_at (c : Dev nD) (t : Fin cfg0.N) (a : Fin 1024) (b : Fin 1024) :
    iblk m c 2 t (ix2 a b) = H m c ⟨8192 + a.val, by omega⟩ ⟨1024 * (t.val % 2) + b.val, by omega⟩ := by
  have h : ∀ (i : Fin 9216) (j : Fin 2048), V m c main_v2_0 (ix2 i j) = H m c i j := fun i j => by
    entry_read
    rfl
  refine Eq.trans ?_ (h _ _)
  blk_ext [iblk, V, idx t]

theorem b3_at (c : Dev nD) (t : Fin cfg0.N) (q : Fin 8) (b : Fin 1024) :
    iblk m c 3 t (ix2 q b) = G m c q ⟨1024 * (4 + t.val % 2) + b.val, by omega⟩ := by
  blk_ext [iblk, V, idx t, G]

theorem b4_at (c : Dev nD) (t : Fin cfg0.N) (b : Fin 1024) :
    iblk m c 4 t (ix2 0 b) = NW m c ⟨1024 * (t.val % 2) + b.val, by omega⟩ := by
  have h : ∀ j : Fin 2048, V m c main_v1 (ix2 0 j) = NW m c j := fun j => by
    entry_read
    pointwise [NW]
  refine Eq.trans ?_ (h _)
  blk_ext [iblk, V, idx t]

theorem b5_at (c : Dev nD) (t : Fin cfg0.N) (q : Fin 8) (b : Fin 1024) :
    iblk m c 5 t (ix2 q b) = G m c q ⟨1024 * (8 + t.val % 2) + b.val, by omega⟩ := by
  blk_ext [iblk, V, idx t, G]

/-! ## The halves of a block at an entry -/

theorem fst_at {e : EltTy} (x : Vec Ideal S1024x1024 e) (a : Fin 1024) (b : Fin 512) : fst (F := Ideal) x (ix2 a b) = x (ix2 a ⟨b.val, by omega⟩) := by
  refine congrArg x (funext fun d => Fin.ext ?_)
  fin_cases d
  · show 0 + 1 * a.val = a.val; omega
  · show 0 + 1 * b.val = b.val; omega

theorem snd_at {e : EltTy} (x : Vec Ideal S1024x1024 e) (a : Fin 1024) (b : Fin 512) : snd (F := Ideal) x (ix2 a b) = x (ix2 a ⟨512 + b.val, by omega⟩) := by
  refine congrArg x (funext fun d => Fin.ext ?_)
  fin_cases d
  · show 0 + 1 * a.val = a.val; omega
  · show 512 + 1 * b.val = 512 + b.val; omega

theorem wFst_at (x : Vec Ideal S1x2048x1024 .bf16) (k : Fin 2048) (b : Fin 512) : wFst (F := Ideal) x (ix3 0 k b) = x (ix3 0 k ⟨b.val, by omega⟩) := by
  refine congrArg x (funext fun d => Fin.ext ?_)
  fin_cases d
  · rfl
  · show 0 + 1 * k.val = k.val; omega
  · show 0 + 1 * b.val = b.val; omega

theorem wSnd_at (x : Vec Ideal S1x2048x1024 .bf16) (k : Fin 2048) (b : Fin 512) : wSnd (F := Ideal) x (ix3 0 k b) = x (ix3 0 k ⟨512 + b.val, by omega⟩) := by
  refine congrArg x (funext fun d => Fin.ext ?_)
  fin_cases d
  · rfl
  · show 0 + 1 * k.val = k.val; omega
  · show 512 + 1 * b.val = 512 + b.val; omega

theorem nFst_at (x : Vec Ideal S1x1024 .f32) (b : Fin 512) : nFst (F := Ideal) x (ix2 0 b) = x (ix2 0 ⟨b.val, by omega⟩) := by
  refine congrArg x (funext fun d => Fin.ext ?_)
  fin_cases d
  · rfl
  · show 0 + 1 * b.val = b.val; omega

theorem nSnd_at (x : Vec Ideal S1x1024 .f32) (b : Fin 512) : nSnd (F := Ideal) x (ix2 0 b) = x (ix2 0 ⟨512 + b.val, by omega⟩) := by
  refine congrArg x (funext fun d => Fin.ext ?_)
  fin_cases d
  · rfl
  · show 512 + 1 * b.val = 512 + b.val; omega

theorem rFst_at (t : Fin cfg0.N) (x : Vec Ideal S8x1024 .f32) (b : Fin 512) :
    rFst (F := Ideal) (grid0.coords t) x (ix2 0 b) = x (ix2 4 ⟨b.val, by omega⟩) := by
  refine congrArg x (funext fun d => Fin.ext ?_)
  show k0_off1 (grid0.coords t) d + 1 * (ix2 (0 : Fin 1) b d).val = _
  rw [off1_at]
  fin_cases d
  · rfl
  · show 0 + 1 * b.val = b.val; omega

theorem rSnd_at (t : Fin cfg0.N) (x : Vec Ideal S8x1024 .f32) (b : Fin 512) :
    rSnd (F := Ideal) (grid0.coords t) x (ix2 0 b) = x (ix2 4 ⟨512 + b.val, by omega⟩) := by
  refine congrArg x (funext fun d => Fin.ext ?_)
  show k0_off2 (grid0.coords t) d + 1 * (ix2 (0 : Fin 1) b d).val = _
  rw [off2_at]
  fin_cases d
  · rfl
  · show 512 + 1 * b.val = 512 + b.val; omega

/-! ## The entries -/

/-- A row of the attention's rows, of a row of the array. -/
def cl (R : Fin 9216) : Fin 1024 := ⟨R.val - 8192, by omega⟩

theorem cl_of {R : Fin 9216} {a : Fin 1024} (h : R.val = 8192 + a.val) : cl R = a := Fin.ext (by unfold cl; simp only []; omega)

/-- The entry of the first result. -/
def hEnt (c : Dev nD) (R : Fin 1024) (C : Fin 2048) : EReal :=
  H m c ⟨8192 + R.val, by omega⟩ C + G m c 4 ⟨4096 + C.val, by omega⟩ * ∑ k, X m c R k * W m c k C

/-- The entry of the second result. -/
def xEnt (c : Dev nD) (R : Fin 1024) (C : Fin 2048) : EReal :=
  hEnt m c R C * (NW m c C * (1 + G m c 4 ⟨8192 + C.val, by omega⟩))

/-- The square of a column's entry, by its lanes' column. -/
def sqr (c : Dev nD) (R : Fin 1024) (l : Fin 128) (q : Fin 16) : EReal :=
  hEnt m c R ⟨128 * q.val + l.val, by omega⟩ * hEnt m c R ⟨128 * q.val + l.val, by omega⟩

/-- The entry of the third result. -/
def sEnt (c : Dev nD) (R : Fin 1024) (l : Fin 128) : EReal := ∑ q : Fin 16, sqr m c R l q

theorem nF_at (c : Dev nD) (t : Fin cfg0.N) (a : Fin 1024) (b : Fin 512) :
    nF c m t (ix2 a b) = hEnt m c a ⟨1024 * (t.val % 2) + b.val, by omega⟩ := by
  unfold nF newFst
  rw [pay6_at]
  simp only [fst_at, wFst_at, rFst_at, b0_at, b1_at, b2_at, b3_at]
  exact congrArg (fun g => _ + G m c 4 g * _) (Fin.ext (by simp only []; omega))

theorem nS_at (c : Dev nD) (t : Fin cfg0.N) (a : Fin 1024) (b : Fin 512) :
    nS c m t (ix2 a b) = hEnt m c a ⟨1024 * (t.val % 2) + (512 + b.val), by omega⟩ := by
  unfold nS newSnd
  rw [pay9_at]
  simp only [snd_at, wSnd_at, rSnd_at, b0_at, b1_at, b2_at, b3_at]
  exact congrArg (fun g => _ + G m c 4 g * _) (Fin.ext (by simp only []; omega))

theorem sF_at (c : Dev nD) (t : Fin cfg0.N) (a : Fin 1024) (b : Fin 512) :
    sF c m t (ix2 a b) = xEnt m c a ⟨1024 * (t.val % 2) + b.val, by omega⟩ := by
  unfold sF sclFst
  rw [pay7_at]
  refine (congrArg₂ (· * ·) (nF_at m c t a b) rfl).trans ?_
  simp only [nFst_at, rFst_at, b4_at, b5_at]
  exact congrArg (fun g => hEnt m c a _ * (NW m c _ * (1 + G m c 4 g))) (Fin.ext (by simp only []; omega))

theorem sS_at (c : Dev nD) (t : Fin cfg0.N) (a : Fin 1024) (b : Fin 512) :
    sS c m t (ix2 a b) = xEnt m c a ⟨1024 * (t.val % 2) + (512 + b.val), by omega⟩ := by
  unfold sS sclSnd
  rw [pay10_at]
  refine (congrArg₂ (· * ·) (nS_at m c t a b) rfl).trans ?_
  simp only [nSnd_at, rSnd_at, b4_at, b5_at]
  exact congrArg (fun g => hEnt m c a _ * (NW m c _ * (1 + G m c 4 g))) (Fin.ext (by simp only []; omega))

theorem h_at (c : Dev nD) (t : Fin cfg0.N) (a b : Fin 1024) :
    halves (F := Ideal) (e := .f32) (nF c m t) (nS c m t) (ix2 a b) = hEnt m c a ⟨1024 * (t.val % 2) + b.val, by omega⟩ := by
  refine halves_at _ _ a b _ (fun l hl => ?_) (fun l hl => ?_)
  · rw [nF_at]; simp only [hl]
  · rw [nS_at]; simp only [hl]

theorem x_at (c : Dev nD) (t : Fin cfg0.N) (a b : Fin 1024) :
    halves (F := Ideal) (e := .bf16) (sF c m t) (sS c m t) (ix2 a b) = xEnt m c a ⟨1024 * (t.val % 2) + b.val, by omega⟩ := by
  refine halves_at _ _ a b _ (fun l hl => ?_) (fun l hl => ?_)
  · rw [sF_at]; simp only [hl]
  · rw [sS_at]; simp only [hl]

/-- The squares' sum of a column block. -/
def eight (c : Dev nD) (R : Fin 1024) (l : Fin 128) (j : ℕ) (hj : j < 2) : EReal :=
  (sqr m c R l ⟨8 * j, by omega⟩ + sqr m c R l ⟨8 * j + 1, by omega⟩ + sqr m c R l ⟨8 * j + 2, by omega⟩ + sqr m c R l ⟨8 * j + 3, by omega⟩)
    + sqr m c R l ⟨8 * j + 4, by omega⟩ + sqr m c R l ⟨8 * j + 5, by omega⟩ + sqr m c R l ⟨8 * j + 6, by omega⟩ + sqr m c R l ⟨8 * j + 7, by omega⟩

theorem eight_congr (c : Dev nD) (R : Fin 1024) (l : Fin 128) (j j' : ℕ) (hj : j < 2) (hj' : j' < 2) (e : j = j') :
    eight m c R l j hj = eight m c R l j' hj' := by subst e; rfl

theorem sq_at (c : Dev nD) (t : Fin cfg0.N) (a : Fin 1024) (l : Fin 128) :
    k0_pay2 (qF c m t) (nS c m t) (ix2 a l) = eight m c a l (t.val % 2) (by omega) := by
  rw [pay2_at _ _ a l (fun b => hEnt m c a ⟨1024 * (t.val % 2) + (512 + b.val), by omega⟩) fun b => nS_at m c t a b]
  have e : qF c m t (ix2 a l) = _ := pay8_at _ _ _ a l (fun b => hEnt m c a ⟨1024 * (t.val % 2) + b.val, by omega⟩) fun b => nF_at m c t a b
  rw [e]
  unfold eight
  refine congrArg₂ (· + ·) (congrArg₂ (· + ·) (congrArg₂ (· + ·) (congrArg₂ (· + ·) (congrArg₂ (· + ·) (congrArg₂ (· + ·) (congrArg₂ (· + ·) ?_ ?_) ?_) ?_) ?_) ?_) ?_) ?_ <;>
    exact congrArg (fun C => hEnt m c a C * hEnt m c a C) (Fin.ext (by first | (show 1024 * _ + (128 * _ + _) = 128 * _ + _; simp; omega) | (show 1024 * _ + (512 + (128 * _ + _)) = 128 * _ + _; simp; omega)))

theorem sEnt_eq (c : Dev nD) (R : Fin 1024) (l : Fin 128) :
    sEnt m c R l = eight m c R l 0 (by omega) + eight m c R l 1 (by omega) := by
  unfold sEnt eight
  rw [Fin.sum_univ_castSucc, Fin.sum_univ_castSucc, Fin.sum_univ_castSucc, Fin.sum_univ_castSucc, Fin.sum_univ_castSucc, Fin.sum_univ_castSucc,
    Fin.sum_univ_castSucc, Fin.sum_univ_castSucc, Fin.sum_univ_eight]
  simp only [add_assoc]
  rfl

/-- The point before. -/
def prev (t : Fin cfg0.N) : Fin cfg0.N := ⟨t.val - 1, by have := t.isLt; omega⟩

theorem s_at (c : Dev nD) (t : Fin cfg0.N) (ht : t.val % 2 = 1) (a : Fin 1024) (l : Fin 128) :
    (outsAt0 m c t.val t.isLt).2.2 (ix2 a l) = sEnt m c a l := by
  have v1 : (prev t).val = t.val - 1 := rfl
  have e : (outsAt0 m c (t.val - 1) (Nat.lt_of_le_of_lt (Nat.sub_le _ _) t.isLt)).2.2 = k0_pay2 (qF c m (prev t)) (nS c m (prev t)) :=
    left8_first c m (prev t) (by omega)
  rw [left8_later c m t ht, pay3_at, e, sq_at, sq_at, sEnt_eq]
  refine congrArg₂ (· + ·) ?_ ?_
  · exact eight_congr m c _ l _ _ _ _ (by omega)
  · exact eight_congr m c _ l _ _ _ _ ht

/-! ## The output arrays -/

theorem final6 (c : Dev nD) (j : S9216x2048.Idx) :
    (dats m 0 c).arrAt 6 cfg0.N j = if 8192 ≤ (j 0).val then hEnt m c (cl (j 0)) (j 1) else H m c (j 0) (j 1) := by
  refine ((dats m 0 c).arrAt_apply_of_coversWhere 6 (fun j : S9216x2048.Idx => hEnt m c (cl (j 0)) (j 1)) (P := fun j : S9216x2048.Idx => 8192 ≤ (j 0).val)
    (fun β => β 0 = 8) (by decide +kernel) (fun t hf y => ?_) (fun j => by have h : (j 0).val < 9216 := (j 0).isLt; blk_simp [Pipeline.Window.cell_apply]; omega) j).trans ?_
  · blk_simp
    rw [after0_6, left6]
    idx_vars y
    refine (h_at m c t _ _).trans ?_
    exact congrArg₂ (hEnt m c) (cl_of (by simp [idx t, mul_comm])).symm (Fin.ext (by simp [idx t, mul_comm]))
  · refine if_congr Iff.rfl rfl ?_
    rw [A_eq]
    have h : ∀ (i : Fin 9216) (j : Fin 2048), V m c main_v2_0 (ix2 i j) = H m c i j := fun i j => by
      entry_read
      rfl
    idx_vars j
    exact h _ _

theorem final7 (c : Dev nD) (j : S9216x2048.Idx) :
    (dats m 0 c).arrAt 7 cfg0.N j = if 8192 ≤ (j 0).val then xEnt m c (cl (j 0)) (j 1) else m ((c : Thread nD τ).loc main_arg5) j := by
  refine ((dats m 0 c).arrAt_apply_of_coversWhere 7 (fun j : S9216x2048.Idx => xEnt m c (cl (j 0)) (j 1)) (P := fun j : S9216x2048.Idx => 8192 ≤ (j 0).val)
    (fun β => β 0 = 8) (by decide +kernel) (fun t hf y => ?_) (fun j => by have h : (j 0).val < 9216 := (j 0).isLt; blk_simp [Pipeline.Window.cell_apply]; omega) j).trans ?_
  · blk_simp
    rw [after0_7, left7]
    idx_vars y
    refine (x_at m c t _ _).trans ?_
    exact congrArg₂ (xEnt m c) (cl_of (by simp [idx t, mul_comm])).symm (Fin.ext (by simp [idx t, mul_comm]))
  · refine if_congr Iff.rfl rfl ?_
    rw [A_eq]
    have h : ∀ (i : Fin 9216) (j : Fin 2048), V m c main_v2_1 (ix2 i j) = m ((c : Thread nD τ).loc main_arg5) (ix2 i j) := fun i j => by
      entry_read
      rfl
    idx_vars j
    exact h _ _

theorem final8 (c : Dev nD) (j : S9216x128.Idx) :
    (dats m 0 c).arrAt 8 cfg0.N j = if 8192 ≤ (j 0).val then sEnt m c (cl (j 0)) (j 1) else m ((c : Thread nD τ).loc main_arg6) j := by
  refine ((dats m 0 c).arrAt_apply_of_coversWhere 8 (fun j : S9216x128.Idx => sEnt m c (cl (j 0)) (j 1)) (P := fun j : S9216x128.Idx => 8192 ≤ (j 0).val)
    (fun β => β 0 = 8) (by decide +kernel) (fun t hf y => ?_) (fun j => by have h : (j 0).val < 9216 := (j 0).isLt; blk_simp [Pipeline.Window.cell_apply]; omega) j).trans ?_
  · have ht : t.val % 2 = 1 := (flush0_8 t).mp hf
    blk_simp
    rw [after0_8]
    idx_vars y
    refine (s_at m c t ht _ _).trans ?_
    exact congrArg₂ (sEnt m c) (cl_of (by simp [idx t, mul_comm])).symm (Fin.ext (by simp [idx t, mul_comm]))
  · refine if_congr Iff.rfl rfl ?_
    rw [A_eq]
    have h : ∀ (i : Fin 9216) (j : Fin 128), V m c main_v2_2 (ix2 i j) = m ((c : Thread nD τ).loc main_arg6) (ix2 i j) := fun i j => by
      entry_read
      rfl
    idx_vars j
    exact h _ _

end Cert.Kernel9Ideal.CtxOut

end
-- ==== Proof.CtxClaim.lean ====
/-
  The attention's output projection for the context: the reference read at an entry, and the two programs compute the same arrays.
-/
module

public import proofs.«01_k».proof.Defs
public import proofs.«01_k».proof.Proof.Gen.Reference9Ideal.Run
public import proofs.«01_k».proof.Proof.CtxVal

@[expose] public section

set_option maxRecDepth 16384

noncomputable section

namespace Cert.Reference9Ideal.CtxOut

open Cert.Reference9Ideal Cert.Reference9Ideal.Gen Idealize.ShloMosaic Idealize.ShloMosaic.TcCoe Idealize.SL.Sem
open Cert.Attn Cert.Up

/-- The gate of every row. -/
def gate (M : FVec Ideal S8x12288 .f32) : FVec Ideal S1024x2048 .f32 :=
  extractStridedSlice S1024x2048 ![8192, 0] (concatenate S9216x2048 0 [⟨S8192x2048, (shapeCast _ (broadcastInDim S4x2048x2048 ![0, 1, 2] bcast_S4x1x2048_S4x2048x2048_0_1_2 (broadcastInDim S4x1x2048 ![0, 2] bcast_S4x2048_S4x1x2048_0_2 (extractStridedSlice S4x2048 ![0, 0] (extractStridedSlice S8x2048 ![0, 4096] M slices_S8x12288_S8x2048_0_4096) slices_S8x2048_S4x2048_0_0))) shapeCasts_S4x2048x2048_S8192x2048)⟩, ⟨S1024x2048, (broadcastInDim S1024x2048 ![0, 1] bcast_S1x2048_S1024x2048_0_1 (extractStridedSlice S1x2048 ![4, 0] (extractStridedSlice S8x2048 ![0, 4096] M slices_S8x12288_S8x2048_0_4096) slices_S8x2048_S1x2048_4_0))⟩] concatenates_S8192x2048_S1024x2048_S9216x2048_d0) slices_S9216x2048_S1024x2048_8192_0

/-- The scale of every row. -/
def scl (M : FVec Ideal S8x12288 .f32) : FVec Ideal S1024x2048 .f32 :=
  extractStridedSlice S1024x2048 ![8192, 0] (concatenate S9216x2048 0 [⟨S8192x2048, (shapeCast _ (broadcastInDim S4x2048x2048 ![0, 1, 2] bcast_S4x1x2048_S4x2048x2048_0_1_2 (broadcastInDim S4x1x2048 ![0, 2] bcast_S4x2048_S4x1x2048_0_2 (extractStridedSlice S4x2048 ![0, 0] (extractStridedSlice S8x2048 ![0, 8192] M slices_S8x12288_S8x2048_0_8192) slices_S8x2048_S4x2048_0_0))) shapeCasts_S4x2048x2048_S8192x2048)⟩, ⟨S1024x2048, (broadcastInDim S1024x2048 ![0, 1] bcast_S1x2048_S1024x2048_0_1 (extractStridedSlice S1x2048 ![4, 0] (extractStridedSlice S8x2048 ![0, 8192] M slices_S8x12288_S8x2048_0_8192) slices_S8x2048_S1x2048_4_0))⟩] concatenates_S8192x2048_S1024x2048_S9216x2048_d0) slices_S9216x2048_S1024x2048_8192_0

/-- The product of the attention's rows with the weights of the layer. -/
def prod (x : FVec Ideal S1024x2048 .bf16) (w : FVec Ideal S2x2048x2048 .f32) : FVec Ideal S1024x2048 .f32 :=
  Host.dotGeneral dot_S1024x2048_S2048x2048_S1024x2048_1_0_0_1_n_n none (extf .f32 x bitsLt_bf16_f32) (shapeCast _ (extractStridedSlice S1x2048x2048 ![0, 0, 0] w slices_S2x2048x2048_S1x2048x2048_0_0_0) shapeCasts_S1x2048x2048_S2048x2048)

/-- The array's rows with the gated product added. -/
def hNew (h : FVec Ideal S9216x2048 .f32) (y g : FVec Ideal S1024x2048 .f32) : FVec Ideal S1024x2048 .f32 :=
  addf (extractStridedSlice S1024x2048 ![8192, 0] h slices_S9216x2048_S1024x2048_8192_0) (mulf g y)

/-- The rows scaled. -/
def scaled (h : FVec Ideal S1024x2048 .f32) (n : FVec Ideal S2048 .f32) (s : FVec Ideal S1024x2048 .f32) : FVec Ideal S1024x2048 .bf16 :=
  truncf .bf16 (mulf h (mulf (broadcastInDim S1024x2048 ![0, 1] bcast_S1x2048_S1024x2048_0_1 (broadcastInDim S1x2048 ![1] bcast_S2048_S1x2048_1 n)) (addf (broadcastInDim S1024x2048 ![] bcast_S_S1024x2048 (constant S_ .f32 0x3F800000#32)) s))) bitsLt_bf16_f32

/-- The squares' sums. -/
def squares (h : FVec Ideal S1024x2048 .f32) : FVec Ideal S1024x128 .f32 :=
  Host.reduceAdd (shapeCast _ (mulf h h) shapeCasts_S1024x2048_S1024x16x128) (constant S_ .f32 0x00000000#32) reducesTo_S1024x16x128_S1024x128_d1 h_S_

/-- The first result: the new rows under the old first ones. -/
def hAll (p : FVec Ideal S1024x2048 .f32) (h : FVec Ideal S9216x2048 .f32) : FVec Ideal S9216x2048 .f32 :=
  concatenate S9216x2048 0 [⟨S8192x2048, (extractStridedSlice S8192x2048 ![0, 0] h slices_S9216x2048_S8192x2048_0_0)⟩, ⟨S1024x2048, p⟩] concatenates_S8192x2048_S1024x2048_S9216x2048_d0

/-- The second result, likewise. -/
def xAll (p : FVec Ideal S1024x2048 .bf16) (h : FVec Ideal S9216x2048 .bf16) : FVec Ideal S9216x2048 .bf16 :=
  concatenate S9216x2048 0 [⟨S8192x2048, (extractStridedSlice S8192x2048 ![0, 0] h slices_S9216x2048_S8192x2048_0_0)⟩, ⟨S1024x2048, p⟩] concatenates_S8192x2048_S1024x2048_S9216x2048_d0

/-- The third result, likewise. -/
def sAll (p : FVec Ideal S1024x128 .f32) (h : FVec Ideal S9216x128 .f32) : FVec Ideal S9216x128 .f32 :=
  concatenate S9216x128 0 [⟨S8192x128, (extractStridedSlice S8192x128 ![0, 0] h slices_S9216x128_S8192x128_0_0)⟩, ⟨S1024x128, p⟩] concatenates_S8192x128_S1024x128_S9216x128_d0

theorem run' (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v35) = hAll (hNew (m ((c.tc : Thread nD τ).loc main_arg2)) (prod (m ((c.tc : Thread nD τ).loc main_arg0)) (m ((c.tc : Thread nD τ).loc main_arg1))) (gate (m ((c.tc : Thread nD τ).loc main_arg3)))) (m ((c.tc : Thread nD τ).loc main_arg2))
      ∧ r.2.mem ((c.tc : Thread nD τ).loc main_v38) = xAll (scaled (hNew (m ((c.tc : Thread nD τ).loc main_arg2)) (prod (m ((c.tc : Thread nD τ).loc main_arg0)) (m ((c.tc : Thread nD τ).loc main_arg1))) (gate (m ((c.tc : Thread nD τ).loc main_arg3)))) (m ((c.tc : Thread nD τ).loc main_arg4)) (scl (m ((c.tc : Thread nD τ).loc main_arg3)))) (m ((c.tc : Thread nD τ).loc main_arg5))
      ∧ r.2.mem ((c.tc : Thread nD τ).loc main_v40) = sAll (squares (hNew (m ((c.tc : Thread nD τ).loc main_arg2)) (prod (m ((c.tc : Thread nD τ).loc main_arg0)) (m ((c.tc : Thread nD τ).loc main_arg1))) (gate (m ((c.tc : Thread nD τ).loc main_arg3))))) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  Cert.Reference9Ideal.Value.run m ρ

theorem gate_at (M : FVec Ideal S8x12288 .f32) (R : Fin 1024) (C : Fin 2048) :
    gate M (ix2 R C) = M (ix2 (4 : Fin 8) (⟨4096 + C.val, by omega⟩ : Fin 12288)) := by
  pointwise [gate]

theorem scl_at (M : FVec Ideal S8x12288 .f32) (R : Fin 1024) (C : Fin 2048) :
    scl M (ix2 R C) = M (ix2 (4 : Fin 8) (⟨8192 + C.val, by omega⟩ : Fin 12288)) := by
  pointwise [scl]

theorem prod_at (x : FVec Ideal S1024x2048 .bf16) (w : FVec Ideal S2x2048x2048 .f32) (R : Fin 1024) (C : Fin 2048) :
    prod x w (ix2 R C) = ∑ k : Fin 2048, x (ix2 R k) * w (ix3 0 k C) := by
  pointwise [prod]

theorem hNew_at (h : FVec Ideal S9216x2048 .f32) (y g : FVec Ideal S1024x2048 .f32) (R : Fin 1024) (C : Fin 2048) :
    hNew h y g (ix2 R C) = h (ix2 ⟨8192 + R.val, by omega⟩ C) + g (ix2 R C) * y (ix2 R C) := by
  pointwise [hNew]

theorem scaled_at (h : FVec Ideal S1024x2048 .f32) (n : FVec Ideal S2048 .f32) (s : FVec Ideal S1024x2048 .f32) (R : Fin 1024) (C : Fin 2048) :
    scaled h n s (ix2 R C) = h (ix2 R C) * (n (ix1 C) * (1 + s (ix2 R C))) := by
  pointwise [scaled, one_eq]

theorem squares_at (h : FVec Ideal S1024x2048 .f32) (R : Fin 1024) (l : Fin 128) :
    squares h (ix2 R l) = ∑ q : Fin 16, h (ix2 R ⟨128 * q.val + l.val, by omega⟩) * h (ix2 R ⟨128 * q.val + l.val, by omega⟩) := by
  pointwise [squares]
  simp only [Nat.mul_comm]

/-- A row of the attention's rows, of a row of the array. -/
def cl (R : Fin 9216) : Fin 1024 := ⟨R.val - 8192, by omega⟩

theorem hAll_at (p : FVec Ideal S1024x2048 .f32) (h : FVec Ideal S9216x2048 .f32) (R : Fin 9216) (C : Fin 2048) :
    hAll p h (ix2 R C) = if 8192 ≤ R.val then p (ix2 (cl R) C) else h (ix2 R C) := by
  pointwise [hAll]
  by_cases hR : 8192 ≤ R.val
  · rw [dif_neg (by omega), if_pos hR]
    rfl
  · rw [dif_pos (by omega), if_neg hR]

theorem xAll_at (p : FVec Ideal S1024x2048 .bf16) (h : FVec Ideal S9216x2048 .bf16) (R : Fin 9216) (C : Fin 2048) :
    xAll p h (ix2 R C) = if 8192 ≤ R.val then p (ix2 (cl R) C) else h (ix2 R C) := by
  pointwise [xAll]
  by_cases hR : 8192 ≤ R.val
  · rw [dif_neg (by omega), if_pos hR]
    rfl
  · rw [dif_pos (by omega), if_neg hR]

theorem sAll_at (p : FVec Ideal S1024x128 .f32) (h : FVec Ideal S9216x128 .f32) (R : Fin 9216) (l : Fin 128) :
    sAll p h (ix2 R l) = if 8192 ≤ R.val then p (ix2 (cl R) l) else h (ix2 R l) := by
  pointwise [sAll]
  by_cases hR : 8192 ≤ R.val
  · rw [dif_neg (by omega), if_pos hR]
    rfl
  · rw [dif_pos (by omega), if_neg hR]

end Cert.Reference9Ideal.CtxOut

namespace Cert.Proof.CtxOut

open Idealize.ShloMosaic Idealize.SL.Sem Cert.Attn Cert.Up

variable (m : (ℓ : Loc Kernel9Ideal.nD Kernel9Ideal.τ Kernel9Ideal.sig) → Buf (Elt Ideal) ℓ) (c : Dev Kernel9Ideal.nD)

theorem h_entry (R : Fin 1024) (C : Fin 2048) :
    Reference9Ideal.CtxOut.hNew (m (c.tc.loc Kernel9Ideal.main_arg2)) (Reference9Ideal.CtxOut.prod (m (c.tc.loc Kernel9Ideal.main_arg0)) (m (c.tc.loc Kernel9Ideal.main_arg1))) (Reference9Ideal.CtxOut.gate (m (c.tc.loc Kernel9Ideal.main_arg3))) (ix2 R C) = Kernel9Ideal.CtxOut.hEnt m c R C := by
  rw [Reference9Ideal.CtxOut.hNew_at, Reference9Ideal.CtxOut.gate_at, Reference9Ideal.CtxOut.prod_at]
  rfl

theorem h_eq : Reference9Ideal.CtxOut.hAll (Reference9Ideal.CtxOut.hNew (m (c.tc.loc Kernel9Ideal.main_arg2)) (Reference9Ideal.CtxOut.prod (m (c.tc.loc Kernel9Ideal.main_arg0)) (m (c.tc.loc Kernel9Ideal.main_arg1))) (Reference9Ideal.CtxOut.gate (m (c.tc.loc Kernel9Ideal.main_arg3)))) (m (c.tc.loc Kernel9Ideal.main_arg2)) = (Kernel9Ideal.Gen.dats m 0 c).arrAt 6 Kernel9Ideal.cfg0.N := by
  funext j
  refine Eq.trans ?_ (Kernel9Ideal.CtxOut.final6 m c j).symm
  idx_vars j
  refine (Reference9Ideal.CtxOut.hAll_at _ _ _ _).trans ?_
  rw [h_entry m c]
  rfl

theorem x_eq : Reference9Ideal.CtxOut.xAll (Reference9Ideal.CtxOut.scaled (Reference9Ideal.CtxOut.hNew (m (c.tc.loc Kernel9Ideal.main_arg2)) (Reference9Ideal.CtxOut.prod (m (c.tc.loc Kernel9Ideal.main_arg0)) (m (c.tc.loc Kernel9Ideal.main_arg1))) (Reference9Ideal.CtxOut.gate (m (c.tc.loc Kernel9Ideal.main_arg3)))) (m (c.tc.loc Kernel9Ideal.main_arg4)) (Reference9Ideal.CtxOut.scl (m (c.tc.loc Kernel9Ideal.main_arg3)))) (m (c.tc.loc Kernel9Ideal.main_arg5)) = (Kernel9Ideal.Gen.dats m 0 c).arrAt 7 Kernel9Ideal.cfg0.N := by
  funext j
  refine Eq.trans ?_ (Kernel9Ideal.CtxOut.final7 m c j).symm
  idx_vars j
  refine (Reference9Ideal.CtxOut.xAll_at _ _ _ _).trans ?_
  rw [Reference9Ideal.CtxOut.scaled_at, h_entry m c, Reference9Ideal.CtxOut.scl_at]
  rfl

theorem s_eq : Reference9Ideal.CtxOut.sAll (Reference9Ideal.CtxOut.squares (Reference9Ideal.CtxOut.hNew (m (c.tc.loc Kernel9Ideal.main_arg2)) (Reference9Ideal.CtxOut.prod (m (c.tc.loc Kernel9Ideal.main_arg0)) (m (c.tc.loc Kernel9Ideal.main_arg1))) (Reference9Ideal.CtxOut.gate (m (c.tc.loc Kernel9Ideal.main_arg3))))) (m (c.tc.loc Kernel9Ideal.main_arg6)) = (Kernel9Ideal.Gen.dats m 0 c).arrAt 8 Kernel9Ideal.cfg0.N := by
  funext j
  refine Eq.trans ?_ (Kernel9Ideal.CtxOut.final8 m c j).symm
  idx_vars j
  refine (Reference9Ideal.CtxOut.sAll_at _ _ _ _).trans ?_
  rw [Reference9Ideal.CtxOut.squares_at]
  simp only [h_entry m c]
  rfl

theorem algebraic : Cert.algebraic_Kernel9Ideal_Reference9Ideal := by
  pair_intro
  · run_from Cert.Kernel9Ideal.Value.run_blocks m g
  · run_from Cert.Reference9Ideal.CtxOut.run' m' g'
    · exact h_eq m c
    · exact x_eq m c
    · exact s_eq m c

end Cert.Proof.CtxOut

end
-- ==== Proof.FinalNormClaim.lean ====
/-
  The norm after the last layer: the kernel's output array and the reference's read at an entry, and the two are one array.
-/
module

public import proofs.«01_k».proof.Defs
public import proofs.«01_k».proof.Proof.Gen.Reference10Ideal.Run
public import proofs.«01_k».proof.Proof.Gen.Kernel10Ideal.Value
public import proofs.«01_k».proof.Proof.Gen.Kernel10Ideal.Points
public import proofs.«01_k».proof.Proof.Up
public import Idealize.ShloMosaic.Lib.Pipeline.ValueKit

@[expose] public section

set_option maxRecDepth 16384

noncomputable section

namespace Cert.Kernel10Ideal.FinalNorm

open Cert.Kernel10Ideal Cert.Kernel10Ideal.Gen Idealize.ShloMosaic Idealize.ShloMosaic.TcCoe Idealize.SL.Sem
open Cert.Attn Cert.Up

theorem zero2 : (![0, 0] : Fin 2 → ℕ) = fun _ => 0 := by decide

theorem pay_at (x : Vec Ideal S256x2048 .f32) (w : Vec Ideal S1x2048 .f32) (a : Fin 256) (b : Fin 2048) :
    k0_pay1 (F := Ideal) x w (ix2 a b) = x (ix2 a b) * rOf (∑ k : Fin 2048, x (ix2 a k) * x (ix2 a k)) * w (ix2 0 b) := by
  pointwise [k0_pay1, rOf]

variable (m : (ℓ : Loc nD τ sig) → Buf (Elt Ideal) ℓ)

theorem idx : ∀ t : Fin cfg0.N, win0_0.index t = ![t.val, 0] ∧ win0_1.index t = ![0, 0] ∧ win0_2.index t = ![t.val, 0] :=
  (by decide +kernel : ∀ t : Fin grid0.N, _)

theorem tlt (t : Fin cfg0.N) : t.val < 32 := t.isLt

/-- A row of the blocks, of a row of a point's block. -/
def row (t : Fin cfg0.N) (a : Fin 256) : Fin 9216 := ⟨256 * t.val + a.val, by have := tlt t; omega⟩

def H (c : Dev nD) (i : Fin 9216) (j : Fin 2048) : EReal := m ((c : Thread nD τ).loc main_arg0) (ix2 i j)
def NW (c : Dev nD) (j : Fin 2048) : EReal := m ((c : Thread nD τ).loc main_arg1) (ix1 j)

theorem b0_at (c : Dev nD) (t : Fin cfg0.N) (a : Fin 256) (k : Fin 2048) : iblk m c 0 t (ix2 a k) = H m c (row t a) k := by
  blk_ext [iblk, V, idx t, H, row]

theorem b1_at (c : Dev nD) (t : Fin cfg0.N) (b : Fin 2048) : iblk m c 1 t (ix2 0 b) = NW m c b := by
  have h : ∀ j : Fin 2048, V m c main_v0 (ix2 0 j) = NW m c j := fun j => by
    entry_read
    pointwise [NW]
  refine Eq.trans ?_ (h _)
  blk_ext [iblk, V, idx t]

/-- The entry of the result. -/
def ent (c : Dev nD) (R : Fin 9216) (C : Fin 2048) : EReal :=
  H m c R C * rOf (∑ k : Fin 2048, H m c R k * H m c R k) * NW m c C

theorem out_at (c : Dev nD) (t : Fin cfg0.N) (a : Fin 256) (b : Fin 2048) :
    out0_2 (F := Ideal) (iblk m c 0 t) (iblk m c 1 t) (ix2 a b) = ent m c (row t a) b := by
  unfold out0_2
  rw [View.canon_unit_zero zero2]
  simp only [View.ld_unit_zero (S := S256x2048) zero2, View.ld_unit_zero (S := S1x2048) zero2]
  rw [pay_at]
  simp only [b0_at, b1_at]
  rfl

theorem final (c : Dev nD) : (dats m 0 c).arrAt 2 cfg0.N = fun j : S8192x2048.Idx => ent m c ⟨(j 0).val, Nat.lt_of_lt_of_le (j 0).isLt (by decide)⟩ (j 1) := by
  refine (dats m 0 c).arrAt_eq_of_covers 2 _ (by decide +kernel) fun t hf y => ?_
  blk_simp
  rw [after0_2]
  idx_vars y
  refine (out_at m c t _ _).trans ?_
  exact congrArg₂ (ent m c) (Fin.ext (by simp [idx t, row, mul_comm])) (Fin.ext (by simp [idx t]))

end Cert.Kernel10Ideal.FinalNorm

namespace Cert.Reference10Ideal.FinalNorm

open Cert.Reference10Ideal Cert.Reference10Ideal.Gen Idealize.ShloMosaic Idealize.ShloMosaic.TcCoe Idealize.SL.Sem
open Cert.Attn Cert.Up

/-- The latents' rows. -/
def lat (h : FVec Ideal S9216x2048 .f32) : FVec Ideal S8192x2048 .f32 :=
  extractStridedSlice S8192x2048 ![0, 0] h slices_S9216x2048_S8192x2048_0_0

/-- The norm of rows. -/
def norm (x : FVec Ideal S8192x2048 .f32) (w : FVec Ideal S2048 .f32) : FVec Ideal S8192x2048 .f32 :=
  mulf (mulf x (broadcastInDim S8192x2048 ![0, 1] bcast_S8192x1_S8192x2048_0_1 (Host.rsqrt (addf (Host.divf (broadcastInDim S8192x1 ![0] bcast_S8192_S8192x1_0 (Host.reduceAdd (mulf x x) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32))))))
    (broadcastInDim S8192x2048 ![0, 1] bcast_S1x2048_S8192x2048_0_1 (broadcastInDim S1x2048 ![1] bcast_S2048_S1x2048_1 w))

theorem run' (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v13) = norm (lat (m ((c.tc : Thread nD τ).loc main_arg0))) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Cert.Reference10Ideal.Value.run m ρ

theorem lat_at (h : FVec Ideal S9216x2048 .f32) (R : Fin 8192) (C : Fin 2048) : lat h (ix2 R C) = h (ix2 ⟨R.val, by omega⟩ C) := by
  pointwise [lat]

theorem norm_at (x : FVec Ideal S8192x2048 .f32) (w : FVec Ideal S2048 .f32) (R : Fin 8192) (C : Fin 2048) :
    norm x w (ix2 R C) = x (ix2 R C) * rOf (∑ k : Fin 2048, x (ix2 R k) * x (ix2 R k)) * w (ix1 C) := by
  pointwise [norm, rOf]

end Cert.Reference10Ideal.FinalNorm

namespace Cert.Proof.FinalNorm

open Idealize.ShloMosaic Idealize.SL.Sem Cert.Attn Cert.Up

theorem value_eq (m : (ℓ : Loc Kernel10Ideal.nD Kernel10Ideal.τ Kernel10Ideal.sig) → Buf (Elt Ideal) ℓ) (c : Dev Kernel10Ideal.nD) :
    Reference10Ideal.FinalNorm.norm (Reference10Ideal.FinalNorm.lat (m (c.tc.loc Kernel10Ideal.main_arg0))) (m (c.tc.loc Kernel10Ideal.main_arg1)) = (Kernel10Ideal.Gen.dats m 0 c).arrAt 2 Kernel10Ideal.cfg0.N := by
  funext j
  refine Eq.trans ?_ (congrFun (Kernel10Ideal.FinalNorm.final m c) j).symm
  idx_vars j
  refine (Reference10Ideal.FinalNorm.norm_at _ _ _ _).trans ?_
  simp only [Reference10Ideal.FinalNorm.lat_at]
  rfl

theorem algebraic : Cert.algebraic_Kernel10Ideal_Reference10Ideal := by
  pair_intro
  · run_from Cert.Kernel10Ideal.Value.run_blocks m g
  · run_from Cert.Reference10Ideal.FinalNorm.run' m' g'
    exact value_eq m c

end Cert.Proof.FinalNorm

end
-- ==== Proof.SsmFinClaim.lean ====
/-
  The recurrence's finish: the kernel's output array and the reference's read at an entry, and the two are one array.
-/
module

public import proofs.«01_k».proof.Defs
public import proofs.«01_k».proof.Proof.Gen.Reference11Ideal.Run
public import proofs.«01_k».proof.Proof.Gen.Kernel11Ideal.Value
public import proofs.«01_k».proof.Proof.Gen.Kernel11Ideal.Points
public import proofs.«01_k».proof.Proof.Up
public import Idealize.ShloMosaic.Lib.Pipeline.ValueKit

@[expose] public section

set_option maxRecDepth 16384

noncomputable section

namespace Cert.SsmFin

open Idealize.ShloMosaic

/-- The factor of a group of columns, from the squares' sum. -/
def gOf (S : EReal) : EReal := Ideal.rsqrt (Ideal.div S (Ideal.ofBits .f32 0x44000000#32) + Ideal.ofBits .f32 0x358637BD#32)

/-- A group's entry over the group's root mean square. -/
def nrm (z : Fin 512 → EReal) (k : Fin 512) : EReal := z k * gOf (∑ q, z q * z q)

/-- The gate. -/
def silu (z : EReal) : EReal := z * Ideal.div 1 (1 + Ideal.exp (-z))

/-- A row's gated entry, from the two scans', the skip's and the gate's. -/
def gated (f b x d z : EReal) : EReal := (f + b + x * d) * silu z

end Cert.SsmFin

namespace Cert.Kernel11Ideal.SsmFin

open Cert.Kernel11Ideal Cert.Kernel11Ideal.Gen Idealize.ShloMosaic Idealize.ShloMosaic.TcCoe Idealize.SL.Sem
open Cert.Attn Cert.Up Cert.SsmFin

theorem zero2 : (![0, 0] : Fin 2 → ℕ) = fun _ => 0 := by decide

theorem zero3 : (![0, 0, 0] : Fin 3 → ℕ) = fun _ => 0 := by decide

/-- A group's columns. -/
def col (g : Fin 8) (k : Fin 512) : Fin 4096 := ⟨512 * g.val + k.val, by omega⟩

/-! ## The payloads at an entry -/

theorem gated_at (z : Vec Ideal S256x4096 .bf16) (f b : Vec Ideal S1x256x4096 .bf16) (x : Vec Ideal S256x4096 .bf16) (d : Vec Ideal S1x4096 .f32) (r : Fin 256) (j : Fin 4096) :
    k0_pay1 (F := Ideal) z f b x d (ix2 r j) = gated (f (ix3 0 r j)) (b (ix3 0 r j)) (x (ix2 r j)) (d (ix2 0 j)) (z (ix2 r j)) := by
  pointwise [k0_pay1, gated, silu, one_eq, zero_sub]

section Payloads

variable (y : FVec Ideal S256x4096 .f32) (w : Vec Ideal S1x512 .f32) (r : Fin 256) (k : Fin 512)

theorem g0_at (z : Vec Ideal S256x4096 .bf16) (f b : Vec Ideal S1x256x4096 .bf16) (x : Vec Ideal S256x4096 .bf16) (d : Vec Ideal S1x4096 .f32) :
    k0_pay4 (F := Ideal) (k0_pay2 z f b x d) (k0_pay3 w) (ix2 r k) = nrm (fun q => k0_pay1 (F := Ideal) z f b x d (ix2 r (col 0 q))) k * w (ix2 0 k) := by
  pointwise [k0_pay4, k0_pay2, k0_pay3, nrm, gOf, col]

theorem g1_at : k0_pay5 (F := Ideal) y w (ix2 r k) = nrm (fun q => y (ix2 r (col 1 q))) k * w (ix2 0 k) := by
  pointwise [k0_pay5, nrm, gOf, col]

theorem g2_at : k0_pay6 (F := Ideal) y w (ix2 r k) = nrm (fun q => y (ix2 r (col 2 q))) k * w (ix2 0 k) := by
  pointwise [k0_pay6, nrm, gOf, col]

theorem g3_at : k0_pay9 (F := Ideal) (k0_pay7 y) (k0_pay8 y) w (ix2 r k) = nrm (fun q => y (ix2 r (col 3 q))) k * w (ix2 0 k) := by
  pointwise [k0_pay7, k0_pay8, k0_pay9, nrm, gOf, col]

theorem g4_at : k0_pay10 (F := Ideal) y w (ix2 r k) = nrm (fun q => y (ix2 r (col 4 q))) k * w (ix2 0 k) := by
  pointwise [k0_pay10, nrm, gOf, col]

theorem g5_at : k0_pay12 (F := Ideal) (k0_pay11 y) w (ix2 r k) = nrm (fun q => y (ix2 r (col 5 q))) k * w (ix2 0 k) := by
  pointwise [k0_pay11, k0_pay12, nrm, gOf, col]

theorem g6_at : k0_pay13 (F := Ideal) y w (ix2 r k) = nrm (fun q => y (ix2 r (col 6 q))) k * w (ix2 0 k) := by
  pointwise [k0_pay13, nrm, gOf, col]

theorem g7_at : k0_pay14 (F := Ideal) y w (ix2 r k) = nrm (fun q => y (ix2 r (col 7 q))) k * w (ix2 0 k) := by
  pointwise [k0_pay14, nrm, gOf, col]

end Payloads

/-! ## What a point leaves in the output's buffer -/

/-- A block from its groups of columns. -/
def groups (p0 p1 p2 p3 p4 p5 p6 p7 : FVec Ideal S256x512 .bf16) : FVec Ideal S256x4096 .bf16 :=
  View.canon [(⟨Rect.unit (s := S256x4096) ![0, 3584] S256x512.size inb_S256x4096_S256x512_0_3584, p7⟩ : View.Piece (Elt Ideal) S256x4096 .bf16),
    ⟨Rect.unit (s := S256x4096) ![0, 3072] S256x512.size inb_S256x4096_S256x512_0_3072, p6⟩,
    ⟨Rect.unit (s := S256x4096) ![0, 2560] S256x512.size inb_S256x4096_S256x512_0_2560, p5⟩,
    ⟨Rect.unit (s := S256x4096) ![0, 2048] S256x512.size inb_S256x4096_S256x512_0_2048, p4⟩,
    ⟨Rect.unit (s := S256x4096) ![0, 1536] S256x512.size inb_S256x4096_S256x512_0_1536, p3⟩,
    ⟨Rect.unit (s := S256x4096) ![0, 1024] S256x512.size inb_S256x4096_S256x512_0_1024, p2⟩,
    ⟨Rect.unit (s := S256x4096) ![0, 512] S256x512.size inb_S256x4096_S256x512_0_512, p1⟩,
    ⟨Rect.unit (s := S256x4096) ![0, 0] S256x512.size inb_S256x4096_S256x512_0_0, p0⟩]

theorem groups_at (p0 p1 p2 p3 p4 p5 p6 p7 : FVec Ideal S256x512 .bf16) (r : Fin 256) (j : Fin 4096) (v : EReal)
    (e0 : ∀ l : Fin 512, l.val = j.val → p0 (ix2 r l) = v) (e1 : ∀ l : Fin 512, 512 + l.val = j.val → p1 (ix2 r l) = v) (e2 : ∀ l : Fin 512, 1024 + l.val = j.val → p2 (ix2 r l) = v) (e3 : ∀ l : Fin 512, 1536 + l.val = j.val → p3 (ix2 r l) = v) (e4 : ∀ l : Fin 512, 2048 + l.val = j.val → p4 (ix2 r l) = v) (e5 : ∀ l : Fin 512, 2560 + l.val = j.val → p5 (ix2 r l) = v) (e6 : ∀ l : Fin 512, 3072 + l.val = j.val → p6 (ix2 r l) = v) (e7 : ∀ l : Fin 512, 3584 + l.val = j.val → p7 (ix2 r l) = v) :
    groups p0 p1 p2 p3 p4 p5 p6 p7 (ix2 r j) = v := by
  unfold groups
  canon_tiles x h
  · idx_vars x
    obtain rfl : r = x0 := Fin.ext h0
    exact e7 _ (by exact h1.symm)
  · idx_vars x
    obtain rfl : r = x0 := Fin.ext h0
    exact e6 _ (by exact h1.symm)
  · idx_vars x
    obtain rfl : r = x0 := Fin.ext h0
    exact e5 _ (by exact h1.symm)
  · idx_vars x
    obtain rfl : r = x0 := Fin.ext h0
    exact e4 _ (by exact h1.symm)
  · idx_vars x
    obtain rfl : r = x0 := Fin.ext h0
    exact e3 _ (by exact h1.symm)
  · idx_vars x
    obtain rfl : r = x0 := Fin.ext h0
    exact e2 _ (by exact h1.symm)
  · idx_vars x
    obtain rfl : r = x0 := Fin.ext h0
    exact e1 _ (by exact h1.symm)
  · idx_vars x
    obtain rfl : r = x0 := Fin.ext h0
    exact e0 _ (by exact h1.symm)

/-- The norm weights of a group's columns. -/
def wts (o : ℕ) (h : ∀ k, (![0, o] : Fin 2 → ℕ) k + S1x512.size k ≤ S1x4096.size k) (x : Vec Ideal S1x4096 .f32) : Vec Ideal S1x512 .f32 :=
  View.ld x (Rect.unit (s := S1x4096) ![0, o] S1x512.size h)

theorem wts_at (o : ℕ) (h : ∀ k, (![0, o] : Fin 2 → ℕ) k + S1x512.size k ≤ S1x4096.size k) (x : Vec Ideal S1x4096 .f32) (k : Fin 512) (j : Fin 4096) (e : o + k.val = j.val) :
    wts o h x (ix2 0 k) = x (ix2 0 j) := by
  refine congrArg x (funext fun d => Fin.ext ?_)
  fin_cases d
  · rfl
  · show o + 1 * k.val = j.val; omega

/-- The gated rows of a point. -/
def rows (x0 x1 : Vec Ideal S1x256x4096 .bf16) (x2 x3 : Vec Ideal S256x4096 .bf16) (x4 : Vec Ideal S1x4096 .f32) : FVec Ideal S256x4096 .f32 := k0_pay1 x3 x0 x1 x2 x4

theorem out_eq (c : Dev nD) (i : grid0.Coords) (a1 : Memref sig .tc .vmem S1x256x4096 .bf16) (h1 : a1.IsWhole) (a2 : Memref sig .tc .vmem S1x256x4096 .bf16) (h2 : a2.IsWhole)
    (a3 : Memref sig .tc .vmem S256x4096 .bf16) (h3 : a3.IsWhole) (a4 : Memref sig .tc .vmem S256x4096 .bf16) (h4 : a4.IsWhole) (a5 : Memref sig .tc .vmem S1x4096 .f32) (h5 : a5.IsWhole)
    (a6 : Memref sig .tc .vmem S1x4096 .f32) (h6 : a6.IsWhole) (a7 : Memref sig .tc .vmem S256x4096 .bf16) (h7 : a7.IsWhole)
    (x0 x1 : Vec Ideal S1x256x4096 .bf16) (x2 x3 : Vec Ideal S256x4096 .bf16) (x4 x5 : Vec Ideal S1x4096 .f32) :
    out0_A_6 (F := Ideal) c i a1 h1 a2 h2 a3 h3 a4 h4 a5 h5 a6 h6 a7 h7 x0 x1 x2 x3 x4 x5 =
      groups (k0_pay4 (k0_pay2 x3 x0 x1 x2 x4) (k0_pay3 (wts 0 inb_S1x4096_S1x512_0_0 x5)))
        (k0_pay5 (rows x0 x1 x2 x3 x4) (wts 512 inb_S1x4096_S1x512_0_512 x5)) (k0_pay6 (rows x0 x1 x2 x3 x4) (wts 1024 inb_S1x4096_S1x512_0_1024 x5))
        (k0_pay9 (k0_pay7 (rows x0 x1 x2 x3 x4)) (k0_pay8 (rows x0 x1 x2 x3 x4)) (wts 1536 inb_S1x4096_S1x512_0_1536 x5)) (k0_pay10 (rows x0 x1 x2 x3 x4) (wts 2048 inb_S1x4096_S1x512_0_2048 x5))
        (k0_pay12 (k0_pay11 (rows x0 x1 x2 x3 x4)) (wts 2560 inb_S1x4096_S1x512_0_2560 x5)) (k0_pay13 (rows x0 x1 x2 x3 x4) (wts 3072 inb_S1x4096_S1x512_0_3072 x5))
        (k0_pay14 (rows x0 x1 x2 x3 x4) (wts 3584 inb_S1x4096_S1x512_0_3584 x5)) := by
  unfold out0_A_6
  rw [View.read_writes_junk_eq_canon]
  unfold kernelRun0_A
  dsimp only
  sl_unfold_words
  simp only [View.readAt_eq_ld, h1.read_unread, h2.read_unread, h3.read_unread, h4.read_unread, h5.read_unread, h6.read_unread, View.ld_unit_zero (S := S256x4096) zero2, View.ld_unit_zero (S := S1x4096) zero2,
    View.ld_unit_zero (S := S1x256x4096) zero3]
  rfl

/-- A group's entry at a column: the group's norm there, weighted. -/
theorem out_at (c : Dev nD) (i : grid0.Coords) (a1 : Memref sig .tc .vmem S1x256x4096 .bf16) (h1 : a1.IsWhole) (a2 : Memref sig .tc .vmem S1x256x4096 .bf16) (h2 : a2.IsWhole)
    (a3 : Memref sig .tc .vmem S256x4096 .bf16) (h3 : a3.IsWhole) (a4 : Memref sig .tc .vmem S256x4096 .bf16) (h4 : a4.IsWhole) (a5 : Memref sig .tc .vmem S1x4096 .f32) (h5 : a5.IsWhole)
    (a6 : Memref sig .tc .vmem S1x4096 .f32) (h6 : a6.IsWhole) (a7 : Memref sig .tc .vmem S256x4096 .bf16) (h7 : a7.IsWhole)
    (x0 x1 : Vec Ideal S1x256x4096 .bf16) (x2 x3 : Vec Ideal S256x4096 .bf16) (x4 x5 : Vec Ideal S1x4096 .f32) (r : Fin 256) (g : Fin 8) (k : Fin 512) :
    out0_A_6 (F := Ideal) c i a1 h1 a2 h2 a3 h3 a4 h4 a5 h5 a6 h6 a7 h7 x0 x1 x2 x3 x4 x5 (ix2 r (col g k)) =
      nrm (fun q => rows x0 x1 x2 x3 x4 (ix2 r (col g q))) k * x5 (ix2 0 (col g k)) := by
  rw [out_eq]
  refine groups_at _ _ _ _ _ _ _ _ r _ _ ?_ ?_ ?_ ?_ ?_ ?_ ?_ ?_ <;> intro l hl <;> have hl : _ = 512 * g.val + k.val := hl
  · obtain rfl : g = 0 := Fin.ext (by show g.val = 0; omega)
    obtain rfl : l = k := Fin.ext (by have h : (0 : Fin 8).val = 0 := rfl; omega)
    rw [g0_at, wts_at _ _ _ _ (col 0 l) (Nat.zero_add _ |>.trans hl)]
    rfl
  · obtain rfl : g = 1 := Fin.ext (by show g.val = 1; omega)
    obtain rfl : l = k := Fin.ext (by have h : (1 : Fin 8).val = 1 := rfl; omega)
    rw [g1_at, wts_at _ _ _ _ (col 1 l) hl]
  · obtain rfl : g = 2 := Fin.ext (by show g.val = 2; omega)
    obtain rfl : l = k := Fin.ext (by have h : (2 : Fin 8).val = 2 := rfl; omega)
    rw [g2_at, wts_at _ _ _ _ (col 2 l) hl]
  · obtain rfl : g = 3 := Fin.ext (by show g.val = 3; omega)
    obtain rfl : l = k := Fin.ext (by have h : (3 : Fin 8).val = 3 := rfl; omega)
    rw [g3_at, wts_at _ _ _ _ (col 3 l) hl]
  · obtain rfl : g = 4 := Fin.ext (by show g.val = 4; omega)
    obtain rfl : l = k := Fin.ext (by have h : (4 : Fin 8).val = 4 := rfl; omega)
    rw [g4_at, wts_at _ _ _ _ (col 4 l) hl]
  · obtain rfl : g = 5 := Fin.ext (by show g.val = 5; omega)
    obtain rfl : l = k := Fin.ext (by have h : (5 : Fin 8).val = 5 := rfl; omega)
    rw [g5_at, wts_at _ _ _ _ (col 5 l) hl]
  · obtain rfl : g = 6 := Fin.ext (by show g.val = 6; omega)
    obtain rfl : l = k := Fin.ext (by have h : (6 : Fin 8).val = 6 := rfl; omega)
    rw [g6_at, wts_at _ _ _ _ (col 6 l) hl]
  · obtain rfl : g = 7 := Fin.ext (by show g.val = 7; omega)
    obtain rfl : l = k := Fin.ext (by have h : (7 : Fin 8).val = 7 := rfl; omega)
    rw [g7_at, wts_at _ _ _ _ (col 7 l) hl]

/-! ## The blocks -/

variable (m : (ℓ : Loc nD τ sig) → Buf (Elt Ideal) ℓ)

theorem idx : ∀ t : Fin cfg0.N, win0_0.index t = ![0, t.val, 0] ∧ win0_1.index t = ![1, t.val, 0] ∧ win0_2.index t = ![t.val, 0] ∧ win0_3.index t = ![t.val, 0]
    ∧ win0_4.index t = ![0, 0] ∧ win0_5.index t = ![0, 0] ∧ win0_6.index t = ![t.val, 0] :=
  (by decide +kernel : ∀ t : Fin grid0.N, _)

theorem tlt (t : Fin cfg0.N) : t.val < 36 := t.isLt

/-- A row of the arrays, of a row of a point's block. -/
def row (t : Fin cfg0.N) (a : Fin 256) : Fin 9216 := ⟨256 * t.val + a.val, by have := tlt t; omega⟩

/-- A column's head. -/
def head (j : Fin 4096) : Fin 64 := ⟨j.val / 64, by omega⟩

def Y (c : Dev nD) (d : Fin 2) (i : Fin 9216) (j : Fin 4096) : EReal := m ((c : Thread nD τ).loc main_arg0) (ix3 d i j)
def X (c : Dev nD) (i : Fin 9216) (j : Fin 4096) : EReal := m ((c : Thread nD τ).loc main_arg1) (ix2 i ⟨j.val, by omega⟩)
def Z (c : Dev nD) (i : Fin 9216) (j : Fin 4096) : EReal := m ((c : Thread nD τ).loc main_arg2) (ix2 i ⟨j.val, by omega⟩)
def D (c : Dev nD) (h : Fin 64) : EReal := m ((c : Thread nD τ).loc main_arg3) (ix1 h)
def NW (c : Dev nD) (j : Fin 4096) : EReal := m ((c : Thread nD τ).loc main_arg4) (ix1 j)

theorem b0_at (c : Dev nD) (t : Fin cfg0.N) (a : Fin 256) (j : Fin 4096) : iblk m c 0 t (ix3 0 a j) = Y m c 0 (row t a) j := by
  blk_ext [iblk, V, idx t, Y, row]

theorem b1_at (c : Dev nD) (t : Fin cfg0.N) (a : Fin 256) (j : Fin 4096) : iblk m c 1 t (ix3 0 a j) = Y m c 1 (row t a) j := by
  blk_ext [iblk, V, idx t, Y, row]

theorem X2_at (c : Dev nD) (t : Fin cfg0.N) (a : Fin 256) (j : Fin 4096) : X0_2 m c t (ix2 a j) = X m c (row t a) j := by
  unfold X0_2 Pipeline.Window.fill
  rw [dif_pos (moved0_2 t _)]
  blk_ext [iblk, V, idx t, X, row]

theorem X3_at (c : Dev nD) (t : Fin cfg0.N) (a : Fin 256) (j : Fin 4096) : X0_3 m c t (ix2 a j) = Z m c (row t a) j := by
  unfold X0_3 Pipeline.Window.fill
  rw [dif_pos (moved0_3 t _)]
  blk_ext [iblk, V, idx t, Z, row]

theorem b4_at (c : Dev nD) (t : Fin cfg0.N) (j : Fin 4096) : iblk m c 4 t (ix2 0 j) = D m c (head j) := by
  have h : ∀ j : Fin 4096, V m c main_v2 (ix2 0 j) = D m c (head j) := fun j => by
    entry_read
    pointwise [D, head]
  refine Eq.trans ?_ (h _)
  blk_ext [iblk, V, idx t]

theorem b5_at (c : Dev nD) (t : Fin cfg0.N) (j : Fin 4096) : iblk m c 5 t (ix2 0 j) = NW m c j := by
  have h : ∀ j : Fin 4096, V m c main_v3 (ix2 0 j) = NW m c j := fun j => by
    entry_read
    pointwise [NW]
  refine Eq.trans ?_ (h _)
  blk_ext [iblk, V, idx t]

/-- The gated entry. -/
def gEnt (c : Dev nD) (R : Fin 9216) (j : Fin 4096) : EReal := gated (Y m c 0 R j) (Y m c 1 R j) (X m c R j) (D m c (head j)) (Z m c R j)

/-- A column's group, and its place there. -/
def grp (j : Fin 4096) : Fin 8 := ⟨j.val / 512, by omega⟩
def pos (j : Fin 4096) : Fin 512 := ⟨j.val % 512, by omega⟩

theorem col_eq (j : Fin 4096) : col (grp j) (pos j) = j := Fin.ext (Nat.div_add_mod _ _)

/-- The entry of the result. -/
def ent (c : Dev nD) (R : Fin 9216) (j : Fin 4096) : EReal := nrm (fun q => gEnt m c R (col (grp j) q)) (pos j) * NW m c j

theorem left_at (c : Dev nD) (t : Fin cfg0.N) (a : Fin 256) (j : Fin 4096) : outsAt0 m c t (ix2 a j) = ent m c (row t a) j := by
  unfold outsAt0
  have e := out_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
    (iblk m c 0 t) (iblk m c 1 t) (X0_2 m c t) (X0_3 m c t) (iblk m c 4 t) (iblk m c 5 t) a (grp j) (pos j)
  rw [col_eq] at e
  refine e.trans ?_
  unfold ent
  refine congrArg₂ (· * ·) (congrArg (fun z => nrm z (pos j)) (funext fun q => ?_)) (b5_at m c t j)
  refine (gated_at _ _ _ _ _ _ _).trans ?_
  rw [b0_at, b1_at, X2_at, X3_at, b4_at]
  rfl

theorem final (c : Dev nD) : (dats m 0 c).arrAt 6 cfg0.N = fun j : S9216x4096.Idx => ent m c (j 0) (j 1) := by
  refine (dats m 0 c).arrAt_eq_of_covers 6 _ (by decide +kernel) fun t hf y => ?_
  blk_simp
  rw [after0_6]
  idx_vars y
  refine (left_at m c t _ _).trans ?_
  exact congrArg₂ (ent m c) (Fin.ext (by simp [idx t, row, mul_comm])) (Fin.ext (by simp [idx t]))

end Cert.Kernel11Ideal.SsmFin

namespace Cert.Reference11Ideal.SsmFin

open Cert.Reference11Ideal Cert.Reference11Ideal.Gen Idealize.ShloMosaic Idealize.ShloMosaic.TcCoe Idealize.SL.Sem
open Cert.Attn Cert.Up Cert.SsmFin

/-- The gates. -/
def gate (p : FVec Ideal S9216x10240 .bf16) : FVec Ideal S9216x4096 .f32 :=
  mulf (extf .f32 (extractStridedSlice S9216x4096 ![0, 0] p slices_S9216x10240_S9216x4096_0_0) bitsLt_bf16_f32) (Host.divf (broadcastInDim S9216x4096 ![] bcast_S_S9216x4096 (constant S_ .f32 0x3F800000#32)) (addf (broadcastInDim S9216x4096 ![] bcast_S_S9216x4096 (constant S_ .f32 0x3F800000#32)) (Host.exp (Host.negf (extf .f32 (extractStridedSlice S9216x4096 ![0, 0] p slices_S9216x10240_S9216x4096_0_0) bitsLt_bf16_f32)))))

/-- The scans of both directions, added. -/
def both (y : FVec Ideal S2x9216x4096 .bf16) : FVec Ideal S9216x4096 .f32 :=
  addf (shapeCast _ (extractStridedSlice S1x9216x4096 ![0, 0, 0] (extf .f32 y bitsLt_bf16_f32) slices_S2x9216x4096_S1x9216x4096_0_0_0) shapeCasts_S1x9216x4096_S9216x4096) (shapeCast _ (extractStridedSlice S1x9216x4096 ![1, 0, 0] (extf .f32 y bitsLt_bf16_f32) slices_S2x9216x4096_S1x9216x4096_1_0_0) shapeCasts_S1x9216x4096_S9216x4096)

/-- The skip added, head by head. -/
def skip (b : FVec Ideal S9216x4096 .f32) (x : FVec Ideal S9216x6144 .bf16) (d : FVec Ideal S64 .f32) : FVec Ideal S9216x4096 .f32 :=
  shapeCast _ (addf (shapeCast _ b shapeCasts_S9216x4096_S9216x64x64) (mulf (shapeCast _ (extf .f32 (extractStridedSlice S9216x4096 ![0, 0] x slices_S9216x6144_S9216x4096_0_0) bitsLt_bf16_f32) shapeCasts_S9216x4096_S9216x64x64) (broadcastInDim S9216x64x64 ![0, 1, 2] bcast_S1x64x1_S9216x64x64_0_1_2 (broadcastInDim S1x64x1 ![1, 2] bcast_S64x1_S1x64x1_1_2 (broadcastInDim S64x1 ![0] bcast_S64_S64x1_0 d))))) shapeCasts_S9216x64x64_S9216x4096

/-- The columns by their groups. -/
def byGroup (v : FVec Ideal S9216x4096 .f32) : FVec Ideal S9216x8x512 .f32 := shapeCast _ v shapeCasts_S9216x4096_S9216x8x512

/-- The norm of every group. -/
def norm (v : FVec Ideal S9216x8x512 .f32) (w : FVec Ideal S4096 .f32) : FVec Ideal S9216x4096 .bf16 :=
  truncf .bf16 (shapeCast _ (mulf (mulf v (broadcastInDim S9216x8x512 ![0, 1, 2] bcast_S9216x8x1_S9216x8x512_0_1_2 (Host.rsqrt (addf (Host.divf (broadcastInDim S9216x8x1 ![0, 1] bcast_S9216x8_S9216x8x1_0_1 (Host.reduceAdd (mulf v v) (constant S_ .f32 0x00000000#32) reducesTo_S9216x8x512_S9216x8_d2 h_S_)) (broadcastInDim S9216x8x1 ![] bcast_S_S9216x8x1 (constant S_ .f32 0x44000000#32))) (broadcastInDim S9216x8x1 ![] bcast_S_S9216x8x1 (constant S_ .f32 0x358637BD#32)))))) (broadcastInDim S9216x8x512 ![0, 1, 2] bcast_S1x8x512_S9216x8x512_0_1_2 (broadcastInDim S1x8x512 ![1, 2] bcast_S8x512_S1x8x512_1_2 (shapeCast _ w shapeCasts_S4096_S8x512)))) shapeCasts_S9216x8x512_S9216x4096) bitsLt_bf16_f32

theorem res_eq (m : (ℓ : Loc nD τ sig) → Buf (Elt Ideal) ℓ) (c : Dev nD) :
    Value.res_main_v36 m c = norm (byGroup (mulf (skip (both (m ((c.tc : Thread nD τ).loc main_arg0))) (m ((c.tc : Thread nD τ).loc main_arg1)) (m ((c.tc : Thread nD τ).loc main_arg3))) (gate (m ((c.tc : Thread nD τ).loc main_arg2))))) (m ((c.tc : Thread nD τ).loc main_arg4)) := rfl

theorem gate_at (p : FVec Ideal S9216x10240 .bf16) (R : Fin 9216) (C : Fin 4096) : gate p (ix2 R C) = silu (p (ix2 R ⟨C.val, by omega⟩)) := by
  pointwise [gate, silu, one_eq]

theorem both_at (y : FVec Ideal S2x9216x4096 .bf16) (R : Fin 9216) (C : Fin 4096) : both y (ix2 R C) = y (ix3 0 R C) + y (ix3 1 R C) := by
  pointwise [both]

theorem skip_at (b : FVec Ideal S9216x4096 .f32) (x : FVec Ideal S9216x6144 .bf16) (d : FVec Ideal S64 .f32) (R : Fin 9216) (C : Fin 4096) :
    skip b x d (ix2 R C) = b (ix2 R C) + x (ix2 R ⟨C.val, by omega⟩) * d (ix1 ⟨C.val / 64, by omega⟩) := by
  pointwise [skip]

theorem byGroup_at (v : FVec Ideal S9216x4096 .f32) (R : Fin 9216) (g : Fin 8) (k : Fin 512) : byGroup v (ix3 R g k) = v (ix2 R (Kernel11Ideal.SsmFin.col g k)) := by
  pointwise [byGroup, Kernel11Ideal.SsmFin.col]
  simp only [Nat.mul_comm]

theorem norm_at (v : FVec Ideal S9216x8x512 .f32) (w : FVec Ideal S4096 .f32) (R : Fin 9216) (C : Fin 4096) :
    norm v w (ix2 R C) = nrm (fun q => v (ix3 R (Kernel11Ideal.SsmFin.grp C) q)) (Kernel11Ideal.SsmFin.pos C) * w (ix1 C) := by
  pointwise [norm, nrm, gOf, Kernel11Ideal.SsmFin.grp, Kernel11Ideal.SsmFin.pos]

end Cert.Reference11Ideal.SsmFin

namespace Cert.Proof.SsmFin

open Idealize.ShloMosaic Idealize.SL.Sem Cert.Attn Cert.Up

theorem value_eq (m : (ℓ : Loc Kernel11Ideal.nD Kernel11Ideal.τ Kernel11Ideal.sig) → Buf (Elt Ideal) ℓ)
    (m' : (ℓ : Loc Reference11Ideal.nD Reference11Ideal.τ Reference11Ideal.sig) → Buf (Elt Ideal) ℓ) (c : Dev Kernel11Ideal.nD)
    (h0 : m' (c.tc.loc Reference11Ideal.main_arg0) = m (c.tc.loc Kernel11Ideal.main_arg0))
    (h1 : m' (c.tc.loc Reference11Ideal.main_arg1) = m (c.tc.loc Kernel11Ideal.main_arg1))
    (h2 : m' (c.tc.loc Reference11Ideal.main_arg2) = m (c.tc.loc Kernel11Ideal.main_arg2))
    (h3 : m' (c.tc.loc Reference11Ideal.main_arg3) = m (c.tc.loc Kernel11Ideal.main_arg3))
    (h4 : m' (c.tc.loc Reference11Ideal.main_arg4) = m (c.tc.loc Kernel11Ideal.main_arg4)) :
    Reference11Ideal.Value.res_main_v36 m' c = (Kernel11Ideal.Gen.dats m 0 c).arrAt 6 Kernel11Ideal.cfg0.N := by
  rw [Reference11Ideal.SsmFin.res_eq, h0, h1, h2, h3, h4]
  funext j
  refine Eq.trans ?_ (congrFun (Kernel11Ideal.SsmFin.final m c) j).symm
  idx_vars j
  refine (Reference11Ideal.SsmFin.norm_at _ _ _ _).trans ?_
  refine congrArg₂ (· * ·) (congrArg (fun z => Cert.SsmFin.nrm z _) (funext fun q => ?_)) rfl
  rw [Reference11Ideal.SsmFin.byGroup_at]
  refine (congrArg₂ (· * ·) (Reference11Ideal.SsmFin.skip_at _ _ _ _ _) (Reference11Ideal.SsmFin.gate_at _ _ _)).trans ?_
  rw [Reference11Ideal.SsmFin.both_at]
  rfl

theorem algebraic : Cert.algebraic_Kernel11Ideal_Reference11Ideal := by
  pair_intro
  · run_from Cert.Kernel11Ideal.Value.run_blocks m g
  · run_from Cert.Reference11Ideal.Value.run m' g'
    exact value_eq m m' c (hagree c).1 (hagree c).2.1 (hagree c).2.2.1 (hagree c).2.2.2.1 (hagree c).2.2.2.2

end Cert.Proof.SsmFin

end
-- ==== Proof.AdalnClaim.lean ====
/-
  The modulations of all layers: the kernel's output array and the reference's read at an entry, and the two are one array.
-/
module

public import proofs.«01_k».proof.Defs
public import proofs.«01_k».proof.Proof.Gen.Reference12Ideal.Run
public import proofs.«01_k».proof.Proof.Gen.Kernel12Ideal.Value
public import proofs.«01_k».proof.Proof.Gen.Kernel12Ideal.Points
public import proofs.«01_k».proof.Proof.SsmFinClaim

@[expose] public section

set_option maxRecDepth 16384

noncomputable section

namespace Cert.Kernel12Ideal.Adaln

open Cert.Kernel12Ideal Cert.Kernel12Ideal.Gen Idealize.ShloMosaic Idealize.ShloMosaic.TcCoe Idealize.SL.Sem
open Cert.Attn Cert.Up Cert.SsmFin

theorem zero2 : (![0, 0] : Fin 2 → ℕ) = fun _ => 0 := by decide
theorem zero3 : (![0, 0, 0] : Fin 3 → ℕ) = fun _ => 0 := by decide

theorem pay_at (x : Vec Ideal S8x2048 .f32) (w : Vec Ideal S1x2048x1024 .f32) (b : Vec Ideal S1x1x1024 .f32) (r : Fin 8) (j : Fin 1024) :
    k0_pay1 (F := Ideal) x w b (ix3 0 r j) = (∑ k : Fin 2048, silu (x (ix2 r k)) * w (ix3 0 k j)) + b (ix3 0 0 j) := by
  pointwise [k0_pay1, silu, one_eq, zero_sub]

variable (m : (ℓ : Loc nD τ sig) → Buf (Elt Ideal) ℓ)

theorem idx : ∀ t : Fin cfg0.N, win0_0.index t = ![0, 0] ∧ win0_1.index t = ![t.val / 12, 0, t.val % 12]
    ∧ win0_2.index t = ![t.val / 12, 0, t.val % 12] ∧ win0_3.index t = ![t.val / 12, 0, t.val % 12] :=
  (by decide +kernel : ∀ t : Fin grid0.N, _)

theorem tlt (t : Fin cfg0.N) : t.val < 48 := t.isLt

/-- The layer of a grid point, and a column of the modulations, of a column of the point's block. -/
def lay (t : Fin cfg0.N) : Fin 4 := ⟨t.val / 12, by have := tlt t; omega⟩
def col (t : Fin cfg0.N) (j : Fin 1024) : Fin 12288 := ⟨1024 * (t.val % 12) + j.val, by omega⟩

def C (c : Dev nD) (r : Fin 8) (k : Fin 2048) : EReal := m ((c : Thread nD τ).loc main_arg0) (ix2 r k)
def W (c : Dev nD) (l : Fin 4) (k : Fin 2048) (j : Fin 12288) : EReal := m ((c : Thread nD τ).loc main_arg1) (ix3 l k j)
def B (c : Dev nD) (l : Fin 4) (j : Fin 12288) : EReal := m ((c : Thread nD τ).loc main_arg2) (ix2 l j)

theorem b0_at (c : Dev nD) (t : Fin cfg0.N) (r : Fin 8) (k : Fin 2048) : iblk m c 0 t (ix2 r k) = C m c r k := by
  blk_ext [iblk, V, idx t, C]

theorem b1_at (c : Dev nD) (t : Fin cfg0.N) (k : Fin 2048) (j : Fin 1024) : iblk m c 1 t (ix3 0 k j) = W m c (lay t) k (col t j) := by
  blk_ext [iblk, V, idx t, W, lay, col]

theorem b2_at (c : Dev nD) (t : Fin cfg0.N) (j : Fin 1024) : iblk m c 2 t (ix3 0 0 j) = B m c (lay t) (col t j) := by
  have h : ∀ (l : Fin 4) (j : Fin 12288), V m c main_v0 (ix3 l 0 j) = B m c l j := fun l j => by
    entry_read
    pointwise [B]
  refine Eq.trans ?_ (h _ _)
  blk_ext [iblk, V, idx t, lay, col]

/-- The entry of the result. -/
def ent (c : Dev nD) (l : Fin 4) (r : Fin 8) (j : Fin 12288) : EReal :=
  (∑ k : Fin 2048, silu (C m c r k) * W m c l k j) + B m c l j

theorem out_at (c : Dev nD) (t : Fin cfg0.N) (r : Fin 8) (j : Fin 1024) :
    out0_3 (F := Ideal) (iblk m c 0 t) (iblk m c 1 t) (iblk m c 2 t) (ix3 0 r j) = ent m c (lay t) r (col t j) := by
  unfold out0_3
  rw [View.canon_unit_zero zero3]
  simp only [View.ld_unit_zero (S := S8x2048) zero2, View.ld_unit_zero (S := S1x2048x1024) zero3, View.ld_unit_zero (S := S1x1x1024) zero3]
  rw [pay_at]
  simp only [b0_at, b1_at, b2_at]
  rfl

theorem ent_eq (c : Dev nD) {l l' : Fin 4} {r r' : Fin 8} {j j' : Fin 12288} (hl : l.val = l'.val) (hr : r.val = r'.val) (hj : j.val = j'.val) :
    ent m c l r j = ent m c l' r' j' := by
  rw [Fin.ext hl, Fin.ext hr, Fin.ext hj]

theorem final (c : Dev nD) : (dats m 0 c).arrAt 3 cfg0.N = fun j : S4x8x12288.Idx => ent m c (j 0) (j 1) (j 2) := by
  refine (dats m 0 c).arrAt_eq_of_covers 3 _ (by decide +kernel) fun t hf y => ?_
  blk_simp
  rw [after0_3]
  idx_vars y
  obtain rfl : y0 = 0 := Subsingleton.elim _ _
  refine (out_at m c t _ _).trans ?_
  exact ent_eq m c (by simp [idx t, lay]) (by simp [idx t]) (by simp [idx t, col, mul_comm])

end Cert.Kernel12Ideal.Adaln

namespace Cert.Reference12Ideal.Adaln

open Cert.Reference12Ideal Cert.Reference12Ideal.Gen Idealize.ShloMosaic Idealize.ShloMosaic.TcCoe Idealize.SL.Sem
open Cert.Attn Cert.Up Cert.SsmFin

/-- The conditioning rows, activated. -/
def act (x : FVec Ideal S8x2048 .f32) : FVec Ideal S8x2048 .f32 :=
  mulf x (Host.divf (broadcastInDim S8x2048 ![] bcast_S_S8x2048 (constant S_ .f32 0x3F800000#32)) (addf (broadcastInDim S8x2048 ![] bcast_S_S8x2048 (constant S_ .f32 0x3F800000#32)) (Host.exp (Host.negf x))))

/-- The modulations. -/
def mods (x : FVec Ideal S8x2048 .f32) (w : FVec Ideal S4x2048x12288 .f32) (b : FVec Ideal S4x12288 .f32) : FVec Ideal S4x8x12288 .f32 :=
  addf (transpose S4x8x12288 [0, 2, 1] (Host.dotGeneral dot_S4x2048x12288_S8x2048_S4x12288x8_1_1_02_0_n_n none w (act x)) transposes_S4x12288x8_S4x8x12288_0_2_1) (broadcastInDim S4x8x12288 ![0, 1, 2] bcast_S4x1x12288_S4x8x12288_0_1_2 (broadcastInDim S4x1x12288 ![0, 2] bcast_S4x12288_S4x1x12288_0_2 b))

theorem run' (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v5) = mods (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.Reference12Ideal.Value.run m ρ

theorem act_at (x : FVec Ideal S8x2048 .f32) (r : Fin 8) (k : Fin 2048) : act x (ix2 r k) = silu (x (ix2 r k)) := by
  pointwise [act, silu, one_eq]

theorem mods_at (x : FVec Ideal S8x2048 .f32) (w : FVec Ideal S4x2048x12288 .f32) (b : FVec Ideal S4x12288 .f32) (l : Fin 4) (r : Fin 8) (j : Fin 12288) :
    mods x w b (ix3 l r j) = (∑ k : Fin 2048, w (ix3 l k j) * silu (x (ix2 r k))) + b (ix2 l j) := by
  pointwise [mods, act_at]

end Cert.Reference12Ideal.Adaln

namespace Cert.Proof.Adaln

open Idealize.ShloMosaic Idealize.SL.Sem Cert.Attn Cert.Up

theorem value_eq (m : (ℓ : Loc Kernel12Ideal.nD Kernel12Ideal.τ Kernel12Ideal.sig) → Buf (Elt Ideal) ℓ) (c : Dev Kernel12Ideal.nD) :
    Reference12Ideal.Adaln.mods (m (c.tc.loc Kernel12Ideal.main_arg0)) (m (c.tc.loc Kernel12Ideal.main_arg1)) (m (c.tc.loc Kernel12Ideal.main_arg2)) = (Kernel12Ideal.Gen.dats m 0 c).arrAt 3 Kernel12Ideal.cfg0.N := by
  funext j
  refine Eq.trans ?_ (congrFun (Kernel12Ideal.Adaln.final m c) j).symm
  idx_vars j
  refine (Reference12Ideal.Adaln.mods_at _ _ _ _ _ _).trans ?_
  exact congrArg₂ (· + ·) (Finset.sum_congr rfl fun k _ => mul_comm _ _) rfl

theorem algebraic : Cert.algebraic_Kernel12Ideal_Reference12Ideal := by
  pair_intro
  · run_from Cert.Kernel12Ideal.Value.run_blocks m g
  · run_from Cert.Reference12Ideal.Adaln.run' m' g'
    exact value_eq m c

end Cert.Proof.Adaln

end
-- ==== Proof.DaPure.lean ====
/-
  The differential attention kernel's arithmetic: every one of the eight 256-row sub-blocks of a body stores the same
  function `sub` of the tiles it loads, and `sub` read at an index is the row function of Attn.lean.
-/
module

public import proofs.«01_k».proof.Proof.Gen.KernelIdeal.Value
public import proofs.«01_k».proof.Proof.Attn
public import Idealize.ShloMosaic.Lib.Pointwise
public import Idealize.ShloMosaic.Lib.Pipeline.ValueKit

@[expose] public section

set_option maxRecDepth 16384

noncomputable section

namespace Cert.KernelIdeal.Da

open Cert.KernelIdeal Cert.KernelIdeal.Gen Idealize.ShloMosaic Idealize.ShloMosaic.TcCoe Idealize.SL.Sem
open Cert.Attn

/-- What a sub-block stores, from the lambda, its query tiles, the key tiles, the value tiles and the weight row. -/
def sub (lam : Elt Ideal .f32) (q1 : Vec Ideal S256x128 .bf16) (k1 : Vec Ideal S2048x128 .bf16) (kc1 : Vec Ideal S256x128 .bf16)
    (q2 : Vec Ideal S256x128 .bf16) (k2 : Vec Ideal S2048x128 .bf16) (kc2 : Vec Ideal S256x128 .bf16)
    (v : Vec Ideal S2048x256 .bf16) (vc : Vec Ideal S256x256 .bf16) (sw : Vec Ideal S1x256 .f32) : FVec Ideal S256x256 .bf16 :=
  k0_pay14 (k0_pay13 lam (k0_pay6 q1 k1 kc1) (k0_pay7 q1 k1 kc1) (k0_pay8 q1 k1 kc1) (k0_pay10 q2 k2) (k0_pay11 q2 kc2) (k0_pay12 q2 k2) v vc) sw

/-- One score. -/
def sc {a b : ℕ} (q : FVec Ideal ⟨2, ![a, 128]⟩ .bf16) (k : FVec Ideal ⟨2, ![b, 128]⟩ .bf16) (r : Fin a) (i : Fin b) : EReal :=
  ∑ d : Fin 128, q (ix2 r d) * k (ix2 i d)

/-- The row before normalisation. -/
def o (lam : EReal) (q1 : FVec Ideal S256x128 .bf16) (k1 : FVec Ideal S2048x128 .bf16) (kc1 : FVec Ideal S256x128 .bf16)
    (q2 : FVec Ideal S256x128 .bf16) (k2 : FVec Ideal S2048x128 .bf16) (kc2 : FVec Ideal S256x128 .bf16)
    (v : FVec Ideal S2048x256 .bf16) (vc : FVec Ideal S256x256 .bf16) (r e : Fin 256) : EReal :=
  kOut lam (sc q1 k1 r) (sc q1 kc1 r) (sc q2 k2 r) (sc q2 kc2 r)
    (kMax (sc q1 k1 r) (sc q1 kc1 r)) (kMax (sc q2 k2 r) (sc q2 kc2 r)) (fun i => v (ix2 i e)) (fun i => vc (ix2 i e))

/-- The row before normalisation from the first softmax's weights and sum and the second's scores and maximum. -/
def oG (lam : EReal) (p1 : Fin 2048 → EReal) (pc1 : Fin 256 → EReal) (S1 : EReal) (t2 : Fin 2048 → EReal) (tc2 : Fin 256 → EReal)
    (M2 : EReal) (v : Fin 2048 → EReal) (vc : Fin 256 → EReal) : EReal :=
  ((∑ i, (p1 i - Ideal.div (lam * S1) (∑ k, Ideal.exp2 (t2 k - M2) + ∑ k, Ideal.exp2 (tc2 k - M2)) * Ideal.exp2 (t2 i - M2)) * v i)
    + ∑ i, (pc1 i - Ideal.div (lam * S1) (∑ k, Ideal.exp2 (t2 k - M2) + ∑ k, Ideal.exp2 (tc2 k - M2)) * Ideal.exp2 (tc2 i - M2)) * vc i)
    * Ideal.div 1 S1

variable (q : Vec Ideal S256x128 .bf16) (k : Vec Ideal S2048x128 .bf16) (kc : Vec Ideal S256x128 .bf16)

theorem pay3_at (r : Fin 256) (i : Fin 2048) : k0_pay3 (F := Ideal) q k (ix2 r i) = sc q k r i := by
  pointwise! [k0_pay3, k0_pay2, sc]

theorem pay4_at (r i : Fin 256) : k0_pay4 (F := Ideal) q kc (ix2 r i) = sc q kc r i := by
  pointwise! [k0_pay4, k0_pay2, sc]

theorem pay5_at (r : Fin 256) : k0_pay5 (F := Ideal) q k kc (ix2 r 0) = kMax (sc q k r) (sc q kc r) := by
  pointwise [k0_pay5, pay3_at, pay4_at, init_bot, kMax]

theorem pay6_at (r : Fin 256) (i : Fin 2048) :
    k0_pay6 (F := Ideal) q k kc (ix2 r i) = Ideal.exp2 (sc q k r i - kMax (sc q k r) (sc q kc r)) := by
  pointwise [k0_pay6, pay3_at, pay5_at]
  rfl

theorem pay7_at (r i : Fin 256) :
    k0_pay7 (F := Ideal) q k kc (ix2 r i) = Ideal.exp2 (sc q kc r i - kMax (sc q k r) (sc q kc r)) := by
  pointwise [k0_pay7, pay4_at, pay5_at]
  rfl

theorem pay8_at (r : Fin 256) :
    k0_pay8 (F := Ideal) q k kc (ix2 r 0) = ∑ i, Ideal.exp2 (sc q k r i - kMax (sc q k r) (sc q kc r))
      + ∑ i, Ideal.exp2 (sc q kc r i - kMax (sc q k r) (sc q kc r)) := by
  pointwise [k0_pay8, pay6_at, pay7_at]

theorem pay10_at (r : Fin 256) (i : Fin 2048) : k0_pay10 (F := Ideal) q k (ix2 r i) = sc q k r i := by
  pointwise! [k0_pay10, k0_pay9, sc]

theorem pay11_at (r i : Fin 256) : k0_pay11 (F := Ideal) q kc (ix2 r i) = sc q kc r i := by
  pointwise! [k0_pay11, k0_pay9, sc]

theorem pay12_at (r : Fin 256) : k0_pay12 (F := Ideal) q k (ix2 r 0) = Finset.univ.fold max ⊥ (sc q k r) := by
  pointwise [k0_pay12, pay10_at, init_bot]

theorem pay13_at (lam : Elt Ideal .f32) (p1 : FVec Ideal S256x2048 .f32) (pc1 : FVec Ideal S256x256 .f32) (S1 : FVec Ideal S256x1 .f32)
    (t2 : FVec Ideal S256x2048 .f32) (tc2 : FVec Ideal S256x256 .f32) (m2 : FVec Ideal S256x1 .f32)
    (v : Vec Ideal S2048x256 .bf16) (vc : Vec Ideal S256x256 .bf16) (sw : Vec Ideal S1x256 .f32) (r e : Fin 256) :
    k0_pay14 (k0_pay13 lam p1 pc1 S1 t2 tc2 m2 v vc) sw (ix2 r e)
      = fin (fun e => oG lam (fun i => p1 (ix2 r i)) (fun i => pc1 (ix2 r i)) (S1 (ix2 r 0)) (fun i => t2 (ix2 r i)) (fun i => tc2 (ix2 r i))
          (max (m2 (ix2 r 0)) (Finset.univ.fold max ⊥ fun i => tc2 (ix2 r i))) (fun i => v (ix2 i e)) (fun i => vc (ix2 i e))) e (sw (ix2 0 e)) := by
  pointwise [k0_pay14, k0_pay13, init_bot]
  rfl

theorem sub_at (lam : Elt Ideal .f32) (q1 : Vec Ideal S256x128 .bf16) (k1 : Vec Ideal S2048x128 .bf16) (kc1 : Vec Ideal S256x128 .bf16)
    (q2 : Vec Ideal S256x128 .bf16) (k2 : Vec Ideal S2048x128 .bf16) (kc2 : Vec Ideal S256x128 .bf16)
    (v : Vec Ideal S2048x256 .bf16) (vc : Vec Ideal S256x256 .bf16) (sw : Vec Ideal S1x256 .f32) (r e : Fin 256) :
    sub lam q1 k1 kc1 q2 k2 kc2 v vc sw (ix2 r e) = fin (o lam q1 k1 kc1 q2 k2 kc2 v vc r) e (sw (ix2 0 e)) := by
  rw [sub, pay13_at]
  simp only [pay6_at, pay7_at, pay8_at, pay10_at, pay11_at, pay12_at]
  rfl

/-! ## The eight stores: each sub-block's payload is `sub` of its loads -/

section Stores

variable (lam : Elt Ideal .f32) (q1 : Vec Ideal S256x128 .bf16) (k1 : Vec Ideal S2048x128 .bf16) (kc1 : Vec Ideal S256x128 .bf16)
  (q2 : Vec Ideal S256x128 .bf16) (k2 : Vec Ideal S2048x128 .bf16) (kc2 : Vec Ideal S256x128 .bf16)
  (v : Vec Ideal S2048x256 .bf16) (vc : Vec Ideal S256x256 .bf16) (sw : Vec Ideal S1x256 .f32)

theorem store0 :
    k0_pay14 (k0_pay13 lam (k0_pay6 q1 k1 kc1) (k0_pay7 q1 k1 kc1) (k0_pay8 q1 k1 kc1) (k0_pay10 q2 k2) (k0_pay11 q2 kc2) (k0_pay12 q2 k2) v vc) sw
      = sub lam q1 k1 kc1 q2 k2 kc2 v vc sw := rfl

theorem store1 :
    k0_pay27 (k0_pay24 lam (k0_pay19 q1 k1 kc1) (k0_pay20 q1 k1 kc1) (k0_pay21 q1 k1 kc1) (k0_pay22 q2) (k0_pay23 q2 k2) kc2 v vc) (k0_pay25 lam (k0_pay19 q1 k1 kc1) (k0_pay20 q1 k1 kc1) (k0_pay21 q1 k1 kc1) (k0_pay22 q2) (k0_pay23 q2 k2) kc2 v vc) k0_pay26 sw
      = sub lam q1 k1 kc1 q2 k2 kc2 v vc sw := rfl

theorem store2 :
    k0_pay37 (k0_pay35 lam (k0_pay32 q1 k1 kc1) (k0_pay33 q1 k1 kc1) (k0_pay34 q1 k1 kc1) q2 k2 kc2 v vc) (k0_pay36 (k0_pay34 q1 k1 kc1)) sw
      = sub lam q1 k1 kc1 q2 k2 kc2 v vc sw := rfl

theorem store3 :
    k0_pay55 (k0_pay45 (k0_pay43 q1 k1 kc1) (k0_pay44 q1 k1 kc1)) (k0_pay53 lam (k0_pay42 q1 k1 kc1) (k0_pay43 q1 k1 kc1) (k0_pay44 q1 k1 kc1) q2 k2 kc2 v) (k0_pay54 lam (k0_pay43 q1 k1 kc1) (k0_pay44 q1 k1 kc1) q2 k2 kc2) vc sw
      = sub lam q1 k1 kc1 q2 k2 kc2 v vc sw := rfl

theorem store4 :
    k0_pay72 (k0_pay61 (k0_pay58 q1 kc1) (k0_pay59 q1 k1 kc1)) (k0_pay62 (k0_pay57 q1 k1) (k0_pay58 q1 kc1) (k0_pay59 q1 k1 kc1)) (k0_pay68 q2 k2 kc2) (k0_pay69 lam (k0_pay57 q1 k1) (k0_pay58 q1 kc1) (k0_pay59 q1 k1 kc1) q2 k2 kc2) (k0_pay70 lam (k0_pay57 q1 k1) (k0_pay58 q1 kc1) (k0_pay59 q1 k1 kc1) q2 k2 kc2) (k0_pay71 v) vc sw
      = sub lam q1 k1 kc1 q2 k2 kc2 v vc sw := rfl

theorem store5 :
    k0_pay88 (k0_pay78 (k0_pay73 q1) (k0_pay74 q1 k1) (k0_pay75 kc1) (constant S256x256 FTy.f32 0#32)) (k0_pay79 (k0_pay73 q1) (k0_pay74 q1 k1) (k0_pay75 kc1) (constant S256x256 FTy.f32 0#32)) (k0_pay80 (k0_pay73 q1) (k0_pay74 q1 k1) (k0_pay75 kc1) (constant S256x256 FTy.f32 0#32)) (k0_pay85 q2 k2 kc2) (k0_pay86 q2 k2 kc2) (k0_pay87 lam (k0_pay73 q1) (k0_pay74 q1 k1) (k0_pay75 kc1) (constant S256x256 FTy.f32 0#32) q2 k2 kc2) v vc sw
      = sub lam q1 k1 kc1 q2 k2 kc2 v vc sw := rfl

theorem store6 :
    k0_pay103 lam (k0_pay93 (k0_pay89 q1) k1 kc1) (k0_pay94 (k0_pay89 q1) k1 kc1) (k0_pay95 (k0_pay89 q1) k1 kc1) (k0_pay100 q2 k2 kc2) (k0_pay101 q2 k2 kc2) (k0_pay102 q2 k2 kc2) v vc sw
      = sub lam q1 k1 kc1 q2 k2 kc2 v vc sw := rfl

theorem store7 :
    k0_pay1 (k0_pay115 lam (k0_pay108 q1 k1 kc1) (k0_pay109 q1 k1 kc1) (k0_pay110 q1 k1 kc1) (k0_pay112 q2 k2) (k0_pay113 q2 kc2) (k0_pay114 q2 k2 kc2) v vc) (k0_pay116 sw)
      = sub lam q1 k1 kc1 q2 k2 kc2 v vc sw := rfl

end Stores

end Cert.KernelIdeal.Da
-- ==== Proof.DaArr.lean ====
/-
  The differential attention kernel's output array, from the argument arrays.
-/
module

public import proofs.«01_k».proof.Proof.DaPure

@[expose] public section

set_option maxRecDepth 16384

noncomputable section

namespace Cert.KernelIdeal.Da

open Cert.KernelIdeal Cert.KernelIdeal.Gen Idealize.ShloMosaic Idealize.ShloMosaic.TcCoe Idealize.SL.Sem
open Cert.Attn

variable (m : (ℓ : Loc nD τ sig) → Buf (Elt Ideal) ℓ)

theorem idx : ∀ t : Fin cfg0.N, win0_0.index t = ![0] ∧ win0_1.index t = ![t.val / 8, t.val % 8] ∧ win0_2.index t = ![t.val / 8, 8 + t.val % 8]
    ∧ win0_3.index t = ![32 + t.val / 8, 8 + t.val % 8] ∧ win0_4.index t = ![t.val / 8, 16 + t.val % 8]
    ∧ win0_5.index t = ![32 + t.val / 8, 16 + t.val % 8] ∧ win0_6.index t = ![0, 0] ∧ win0_7.index t = ![t.val / 8, t.val % 8] :=
  (by decide +kernel : ∀ t : Fin grid0.N, _)

/-- The argument array by row and column. -/
def X (c : Dev nD) (i : Fin 9216) (j : Fin 6144) : EReal := m ((c : Thread nD τ).loc main_arg0) (ix2 i j)

theorem v9_at (c : Dev nD) (i : Fin 9216) (j : Fin 6144) :
    V m c main_v9 (ix2 i j) = if j.val < 2048 then X m c i j * leadOf else X m c i j := by
  entry_read
  pointwise [X, leadOf]
  split
  · rfl
  · exact congrArg (m ((c : Thread nD τ).loc main_arg0)) (congrArg (ix2 i) (Fin.ext (by simp only []; omega)))

theorem v9_q (c : Dev nD) (i : Fin 9216) (j : Fin 6144) (h : j.val < 2048) : V m c main_v9 (ix2 i j) = X m c i j * leadOf :=
  (v9_at m c i j).trans (if_pos h)

theorem v9_kv (c : Dev nD) (i : Fin 9216) (j : Fin 6144) (h : ¬ j.val < 2048) : V m c main_v9 (ix2 i j) = X m c i j :=
  (v9_at m c i j).trans (if_neg h)

theorem tlt (t : Fin cfg0.N) : t.val < 32 := t.isLt

/-- The batch and the head pair of a point. -/
def tb (t : Fin cfg0.N) : Fin 4 := ⟨t.val / 8, by have := tlt t; omega⟩
def th (t : Fin cfg0.N) : Fin 8 := ⟨t.val % 8, by omega⟩

theorem X1_at (c : Dev nD) (t : Fin cfg0.N) (r : Fin 2048) (e : Fin 256) :
    X0_1 m c t (ix2 r e) = X m c ⟨2048 * (tb t).val + r.val, by omega⟩ ⟨256 * (th t).val + e.val, by omega⟩ * leadOf := by
  refine Eq.trans ?_ (v9_q m c _ _ (by show 256 * (t.val % 8) + e.val < 2048; omega))
  unfold X0_1 Pipeline.Window.fill
  rw [dif_pos (moved0_1 t _)]
  blk_ext [iblk, V, idx t, tb, th]

theorem X2_at (c : Dev nD) (t : Fin cfg0.N) (r : Fin 2048) (e : Fin 256) :
    X0_2 m c t (ix2 r e) = X m c ⟨2048 * (tb t).val + r.val, by omega⟩ ⟨2048 + 256 * (th t).val + e.val, by omega⟩ := by
  refine Eq.trans ?_ (v9_kv m c _ _ (by show ¬ 2048 + 256 * (t.val % 8) + e.val < 2048; omega))
  unfold X0_2 Pipeline.Window.fill
  rw [dif_pos (moved0_2 t _)]
  blk_ext [iblk, V, idx t, tb, th]

theorem X4_at (c : Dev nD) (t : Fin cfg0.N) (r : Fin 2048) (e : Fin 256) :
    X0_4 m c t (ix2 r e) = X m c ⟨2048 * (tb t).val + r.val, by omega⟩ ⟨4096 + 256 * (th t).val + e.val, by omega⟩ := by
  refine Eq.trans ?_ (v9_kv m c _ _ (by show ¬ 4096 + 256 * (t.val % 8) + e.val < 2048; omega))
  unfold X0_4 Pipeline.Window.fill
  rw [dif_pos (moved0_4 t _)]
  blk_ext [iblk, V, idx t, tb, th]

theorem b3_at (c : Dev nD) (t : Fin cfg0.N) (r : Fin 256) (e : Fin 256) :
    iblk m c 3 t (ix2 r e) = X m c ⟨8192 + 256 * (tb t).val + r.val, by omega⟩ ⟨2048 + 256 * (th t).val + e.val, by omega⟩ := by
  refine Eq.trans ?_ (v9_kv m c _ _ (by show ¬ 2048 + 256 * (t.val % 8) + e.val < 2048; omega))
  blk_ext [iblk, V, idx t, tb, th]

theorem b5_at (c : Dev nD) (t : Fin cfg0.N) (r : Fin 256) (e : Fin 256) :
    iblk m c 5 t (ix2 r e) = X m c ⟨8192 + 256 * (tb t).val + r.val, by omega⟩ ⟨4096 + 256 * (th t).val + e.val, by omega⟩ := by
  refine Eq.trans ?_ (v9_kv m c _ _ (by show ¬ 4096 + 256 * (t.val % 8) + e.val < 2048; omega))
  blk_ext [iblk, V, idx t, tb, th]

/-- The weight row. -/
def W (c : Dev nD) (e : Fin 256) : EReal := m ((c : Thread nD τ).loc main_arg2) (ix1 e)

/-- The lambda the kernel is given, computed by the host. -/
def lam (c : Dev nD) : EReal := V m c main_v26 (ix1 0)

theorem lam_eq (c : Dev nD) : lam m c = lamOf fun i d => m ((c : Thread nD τ).loc main_arg1) (ix2 i d) := by
  unfold lam
  entry_read
  pointwise [lamOf]

theorem b6_at (c : Dev nD) (t : Fin cfg0.N) (e : Fin 256) : iblk m c 6 t (ix2 0 e) = W m c e := by
  have h : V m c main_v27 (ix2 0 e) = W m c e := by
    entry_read
    pointwise [W]
  refine Eq.trans ?_ h
  blk_ext [iblk, V, idx t]

theorem b0_at (c : Dev nD) (t : Fin cfg0.N) : iblk m c 0 t (ix1 0) = lam m c := by
  unfold lam
  blk_ext [iblk, V, idx t]

/-- A stored row is the row of the attention when the loads are the tiles of the array. -/
theorem core (c : Dev nD) (t : Fin cfg0.N) (l : Elt Ideal .f32) (q1 : Vec Ideal S256x128 .bf16) (k1 : Vec Ideal S2048x128 .bf16)
    (kc1 : Vec Ideal S256x128 .bf16) (q2 : Vec Ideal S256x128 .bf16) (k2 : Vec Ideal S2048x128 .bf16) (kc2 : Vec Ideal S256x128 .bf16)
    (v : Vec Ideal S2048x256 .bf16) (vc : Vec Ideal S256x256 .bf16) (sw : Vec Ideal S1x256 .f32)
    (r e : Fin 256) (R : Fin 2048) (hl : l = lam m c)
    (hq1 : ∀ d : Fin 128, q1 (ix2 r d) = X0_1 m c t (ix2 R ⟨d.val, by omega⟩))
    (hq2 : ∀ d : Fin 128, q2 (ix2 r d) = X0_1 m c t (ix2 R ⟨128 + d.val, by omega⟩))
    (hk1 : ∀ (i : Fin 2048) (d : Fin 128), k1 (ix2 i d) = X0_2 m c t (ix2 i ⟨d.val, by omega⟩))
    (hk2 : ∀ (i : Fin 2048) (d : Fin 128), k2 (ix2 i d) = X0_2 m c t (ix2 i ⟨128 + d.val, by omega⟩))
    (hc1 : ∀ (i : Fin 256) (d : Fin 128), kc1 (ix2 i d) = iblk m c 3 t (ix2 i ⟨d.val, by omega⟩))
    (hc2 : ∀ (i : Fin 256) (d : Fin 128), kc2 (ix2 i d) = iblk m c 3 t (ix2 i ⟨128 + d.val, by omega⟩))
    (hv : ∀ (i : Fin 2048) (e : Fin 256), v (ix2 i e) = X0_4 m c t (ix2 i e))
    (hvc : ∀ (i : Fin 256) (e : Fin 256), vc (ix2 i e) = iblk m c 5 t (ix2 i e))
    (hw : sw (ix2 0 e) = iblk m c 6 t (ix2 0 e)) :
    sub l q1 k1 kc1 q2 k2 kc2 v vc sw (ix2 r e) = kAttn (X m c) (lam m c) leadOf (W m c) (tb t) (th t) R e := by
  have s1 : sc q1 k1 r = kSc (X m c) leadOf (tb t) (th t) 0 R := funext fun i => Finset.sum_congr rfl fun d _ => by
    rw [hq1, hk1, X1_at, X2_at]; rfl
  have s2 : sc q2 k2 r = kSc (X m c) leadOf (tb t) (th t) 1 R := funext fun i => Finset.sum_congr rfl fun d _ => by
    rw [hq2, hk2, X1_at, X2_at]; simp only [← Nat.add_assoc]; rfl
  have c1 : sc q1 kc1 r = kScC (X m c) leadOf (tb t) (th t) 0 R := funext fun i => Finset.sum_congr rfl fun d _ => by
    rw [hq1, hc1, X1_at, b3_at]; rfl
  have c2 : sc q2 kc2 r = kScC (X m c) leadOf (tb t) (th t) 1 R := funext fun i => Finset.sum_congr rfl fun d _ => by
    rw [hq2, hc2, X1_at, b3_at]; simp only [← Nat.add_assoc]; rfl
  have ho : o l q1 k1 kc1 q2 k2 kc2 v vc r = kRow (X m c) (lam m c) leadOf (tb t) (th t) R := funext fun e => by
    unfold o kRow
    rw [s1, s2, c1, c2, hl]
    congr 1
    · funext i; rw [hv, X4_at]; rfl
    · funext i; rw [hvc, b5_at]; rfl
  rw [sub_at, ho, hw, b6_at]
  rfl

theorem kAttn_congr (X : Fin 9216 → Fin 6144 → EReal) (lam leadOf : EReal) (W : Fin 256 → EReal) {b b' : Fin 4} {h h' : Fin 8}
    {r r' : Fin 2048} {e e' : Fin 256} (hb : b = b') (hh : h = h') (hr : r = r') (he : e = e') :
    kAttn X lam leadOf W b h r e = kAttn X lam leadOf W b' h' r' e' := by
  subst hb hh hr he
  rfl

/-- The output array: the attention of each row, by batch, head pair, row and column. -/
theorem final (c : Dev nD) : (dats m 0 c).arrAt 7 cfg0.N = fun j : S8192x2048.Idx =>
    kAttn (X m c) (lam m c) leadOf (W m c) ⟨(j 0).val / 2048, by have := (j 0).isLt; change _ < 8192 at this; omega⟩
      ⟨(j 1).val / 256, by have := (j 1).isLt; change _ < 2048 at this; omega⟩ ⟨(j 0).val % 2048, by omega⟩ ⟨(j 1).val % 256, by omega⟩ := by
  refine (dats m 0 c).arrAt_eq_of_covers 7 _ (by decide +kernel) fun t hf y => ?_
  blk_simp
  rw [after0_7]; unfold outsAt0; frame_out
  rw [store0, store1, store2, store3, store4, store5, store6, store7]
  canon_tiles x h
  all_goals idx_vars x
  all_goals idx_vars y
  all_goals
    refine Eq.trans (core m c t _ _ _ _ _ _ _ _ _ _ x0 x1 y0 ?_ ?_ ?_ ?_ ?_ ?_ ?_ ?_ ?_ ?_) ?_
    · refine Eq.trans ?_ (b0_at m c t)
      pointwise
      blk_ext
    · intro d
      pointwise
      blk_ext
    · intro d
      pointwise
      blk_ext
    · intro i d
      pointwise
      blk_ext
    · intro i d
      pointwise
    · intro i d
      pointwise
      blk_ext
    · intro i d
      pointwise
    · intro i e
      rfl
    · intro i e
      rfl
    · rfl
    · refine kAttn_congr _ _ _ _ (Fin.ext ?_) (Fin.ext ?_) (Fin.ext ?_) (Fin.ext ?_) <;>
        simp only [(idx t).2.2.2.2.2.2.2, tb, th, Matrix.cons_val_zero, Matrix.cons_val_one] <;> omega

end Cert.KernelIdeal.Da
-- ==== Proof.DaRef.lean ====
/-
  The reference's differential attention, its composed term cut into named steps, each read at an index.
-/
module

public import proofs.«01_k».proof.Proof.Gen.ReferenceIdeal.Run
public import proofs.«01_k».proof.Proof.Attn
public import Idealize.ShloMosaic.Lib.Pointwise

@[expose] public section

set_option maxRecDepth 16384

noncomputable section

namespace Cert.ReferenceIdeal.Da

open Cert.ReferenceIdeal Cert.ReferenceIdeal.Gen Idealize.ShloMosaic Idealize.ShloMosaic.TcCoe Idealize.SL.Sem
open Cert.Attn

/-- The queries. -/
def qry (x : FVec Ideal S9216x6144 .f32) : FVec Ideal S4x2048x16x128 .f32 :=
  shapeCast _ (extractStridedSlice S8192x2048 ![0, 0] x slices_S9216x6144_S8192x2048_0_0) shapeCasts_S8192x2048_S4x2048x16x128

/-- The keys, latent rows first. -/
def keys (x : FVec Ideal S9216x6144 .f32) : FVec Ideal S4x2304x16x128 .f32 :=
  concatenate S4x2304x16x128 1 [⟨S4x2048x16x128, (shapeCast _ (extractStridedSlice S8192x2048 ![0, 2048] x slices_S9216x6144_S8192x2048_0_2048) shapeCasts_S8192x2048_S4x2048x16x128)⟩, ⟨S4x256x16x128, (shapeCast _ (extractStridedSlice S1024x2048 ![8192, 2048] x slices_S9216x6144_S1024x2048_8192_2048) shapeCasts_S1024x2048_S4x256x16x128)⟩] concatenates_S4x2048x16x128_S4x256x16x128_S4x2304x16x128_d1

/-- The values, latent rows first. -/
def vals (x : FVec Ideal S9216x6144 .f32) : FVec Ideal S4x2304x8x256 .f32 :=
  concatenate S4x2304x8x256 1 [⟨S4x2048x8x256, (shapeCast _ (extractStridedSlice S8192x2048 ![0, 4096] x slices_S9216x6144_S8192x2048_0_4096) shapeCasts_S8192x2048_S4x2048x8x256)⟩, ⟨S4x256x8x256, (shapeCast _ (extractStridedSlice S1024x2048 ![8192, 4096] x slices_S9216x6144_S1024x2048_8192_4096) shapeCasts_S1024x2048_S4x256x8x256)⟩] concatenates_S4x2048x8x256_S4x256x8x256_S4x2304x8x256_d1

/-- The scaled scores. -/
def scores (q : FVec Ideal S4x2048x16x128 .f32) (k : FVec Ideal S4x2304x16x128 .f32) : FVec Ideal S4x16x2048x2304 .f32 :=
  mulf (Host.dotGeneral dot_S4x2048x16x128_S4x2304x16x128_S4x16x2048x2304_3_3_1_1_02_02 none q k) (broadcastInDim S4x16x2048x2304 ![] bcast_S_S4x16x2048x2304 (Host.divf (constant S_ .f32 0x3F800000#32) (Host.sqrt (constant S_ .f32 0x43000000#32))))

/-- The maximum of every row of scores. -/
def rowMax (s : FVec Ideal S4x16x2048x2304 .f32) : FVec Ideal S4x16x2048x1 .f32 :=
  broadcastInDim S4x16x2048x1 ![0, 1, 2] bcast_S4x16x2048_S4x16x2048x1_0_1_2 (maximumf (broadcastInDim S4x16x2048 ![] bcast_S_S4x16x2048 (constant S_ .f32 0xFF800000#32)) (Host.reduce FloatOps.maximumf s (constant S_ .f32 0xFF800000#32) reducesTo_S4x16x2048x2304_S4x16x2048_d3 h_S_))

/-- The unnormalised softmax weights. -/
def expo (s : FVec Ideal S4x16x2048x2304 .f32) (M : FVec Ideal S4x16x2048x1 .f32) : FVec Ideal S4x16x2048x2304 .f32 :=
  Host.exp (subf s (broadcastInDim S4x16x2048x2304 ![0, 1, 2, 3] bcast_S4x16x2048x1_S4x16x2048x2304_0_1_2_3 M))

/-- The softmax weights. -/
def prob (w : FVec Ideal S4x16x2048x2304 .f32) : FVec Ideal S4x16x2048x2304 .f32 :=
  Host.divf w (broadcastInDim S4x16x2048x2304 ![0, 1, 2, 3] bcast_S4x16x2048x1_S4x16x2048x2304_0_1_2_3 (broadcastInDim S4x16x2048x1 ![0, 1, 2] bcast_S4x16x2048_S4x16x2048x1_0_1_2 (Host.reduceAdd w (constant S_ .f32 0x00000000#32) reducesTo_S4x16x2048x2304_S4x16x2048_d3 h_S_)))

/-- The lambda. -/
def lamT (a1 : FVec Ideal S4x128 .f32) : FVec Ideal S_ .f32 :=
  addf (subf (Host.exp (Host.reduceAdd (mulf (shapeCast _ (extractStridedSlice S1x128 ![0, 0] a1 slices_S4x128_S1x128_0_0) shapeCasts_S1x128_S128) (shapeCast _ (extractStridedSlice S1x128 ![1, 0] a1 slices_S4x128_S1x128_1_0) shapeCasts_S1x128_S128)) (constant S_ .f32 0x00000000#32) reducesTo_S128_S_d0 h_S_)) (Host.exp (Host.reduceAdd (mulf (shapeCast _ (extractStridedSlice S1x128 ![2, 0] a1 slices_S4x128_S1x128_2_0) shapeCasts_S1x128_S128) (shapeCast _ (extractStridedSlice S1x128 ![3, 0] a1 slices_S4x128_S1x128_3_0) shapeCasts_S1x128_S128)) (constant S_ .f32 0x00000000#32) reducesTo_S128_S_d0 h_S_))) (constant S_ .f32 0x3EF1014C#32)

/-- The difference of the two softmaxes. -/
def diff (p : FVec Ideal S4x16x2048x2304 .f32) (l : FVec Ideal S_ .f32) : FVec Ideal S4x8x2048x2304 .f32 :=
  subf (shapeCast _ (extractStridedSlice S4x8x1x2048x2304 ![0, 0, 0, 0, 0] (shapeCast _ p shapeCasts_S4x16x2048x2304_S4x8x2x2048x2304) slices_S4x8x2x2048x2304_S4x8x1x2048x2304_0_0_0_0_0) shapeCasts_S4x8x1x2048x2304_S4x8x2048x2304) (mulf (broadcastInDim S4x8x2048x2304 ![] bcast_S_S4x8x2048x2304 l) (shapeCast _ (extractStridedSlice S4x8x1x2048x2304 ![0, 0, 1, 0, 0] (shapeCast _ p shapeCasts_S4x16x2048x2304_S4x8x2x2048x2304) slices_S4x8x2x2048x2304_S4x8x1x2048x2304_0_0_1_0_0) shapeCasts_S4x8x1x2048x2304_S4x8x2048x2304))

/-- The weighted values. -/
def outT (v : FVec Ideal S4x2304x8x256 .f32) (d : FVec Ideal S4x8x2048x2304 .f32) : FVec Ideal S4x2048x8x256 .f32 :=
  transpose S4x2048x8x256 [0, 3, 1, 2] (Host.dotGeneral dot_S4x2304x8x256_S4x8x2048x2304_S4x8x256x2048_1_3_3_2_02_01 none v d) transposes_S4x8x256x2048_S4x2048x8x256_0_3_1_2

/-- The result. -/
def res (o : FVec Ideal S4x2048x8x256 .f32) (a2 : FVec Ideal S256 .f32) : FVec Ideal S8192x2048 .bf16 :=
  truncf .bf16 (shapeCast _ (mulf (mulf (mulf o (broadcastInDim S4x2048x8x256 ![0, 1, 2, 3] bcast_S4x2048x8x1_S4x2048x8x256_0_1_2_3 (Host.rsqrt (addf (Host.divf (broadcastInDim S4x2048x8x1 ![0, 1, 2] bcast_S4x2048x8_S4x2048x8x1_0_1_2 (Host.reduceAdd (mulf o o) (constant S_ .f32 0x00000000#32) reducesTo_S4x2048x8x256_S4x2048x8_d3 h_S_)) (broadcastInDim S4x2048x8x1 ![] bcast_S_S4x2048x8x1 (constant S_ .f32 0x43800000#32))) (broadcastInDim S4x2048x8x1 ![] bcast_S_S4x2048x8x1 (constant S_ .f32 0x3727C5AC#32)))))) (broadcastInDim S4x2048x8x256 ![0, 1, 2, 3] bcast_S1x1x1x256_S4x2048x8x256_0_1_2_3 (broadcastInDim S1x1x1x256 ![3] bcast_S256_S1x1x1x256_3 a2))) (broadcastInDim S4x2048x8x256 ![] bcast_S_S4x2048x8x256 (constant S_ .f32 0x3F077F5A#32))) shapeCasts_S4x2048x8x256_S8192x2048) bitsLt_bf16_f32

/-- The scores, the maxima, the weights and the row of values of the argument array. -/
def scs (x : FVec Ideal S9216x6144 .f32) : FVec Ideal S4x16x2048x2304 .f32 := scores (qry x) (keys x)
def mxs (x : FVec Ideal S9216x6144 .f32) : FVec Ideal S4x16x2048x1 .f32 := rowMax (scs x)
def prs (x : FVec Ideal S9216x6144 .f32) : FVec Ideal S4x16x2048x2304 .f32 := prob (expo (scs x) (mxs x))
def outs (x : FVec Ideal S9216x6144 .f32) (a1 : FVec Ideal S4x128 .f32) : FVec Ideal S4x2048x8x256 .f32 := outT (vals x) (diff (prs x) (lamT a1))

theorem res_eq (m : (ℓ : Loc nD τ sig) → Buf (Elt Ideal) ℓ) (c : Dev nD) : Cert.ReferenceIdeal.Value.res_main_v70 m c
    = res (outs (m ((c.tc : Thread nD τ).loc main_arg0)) (m ((c.tc : Thread nD τ).loc main_arg1))) (m ((c.tc : Thread nD τ).loc main_arg2)) := rfl

variable (x : FVec Ideal S9216x6144 .f32) (a1 : FVec Ideal S4x128 .f32) (a2 : FVec Ideal S256 .f32)

/-- The argument array by row and column. -/
def X (i : Fin 9216) (j : Fin 6144) : EReal := x (ix2 i j)

theorem X_congr {i i' : Fin 9216} {j j' : Fin 6144} (hi : i.val = i'.val) (hj : j.val = j'.val) : x (ix2 i j) = X x i' j' := by
  obtain rfl := Fin.ext hi
  obtain rfl := Fin.ext hj
  rfl

/-- The head of a pair's component. -/
def hd (h : Fin 8) (p : Fin 2) : Fin 16 := ⟨h.val * 2 + p.val, by omega⟩

theorem scores_at (q : FVec Ideal S4x2048x16x128 .f32) (k : FVec Ideal S4x2304x16x128 .f32) (b : Fin 4) (g : Fin 16) (r : Fin 2048) (i : Fin 2304) :
    scores q k (ix4 b g r i) = (∑ d : Fin 128, q (ix4 b r g d) * k (ix4 b i g d)) * scaleOf := by
  pointwise [scores, scaleOf]

theorem qry_at (b : Fin 4) (r : Fin 2048) (h : Fin 8) (p : Fin 2) (d : Fin 128) :
    qry x (ix4 b r (hd h p) d) = X x ⟨2048 * b.val + r.val, by omega⟩ ⟨256 * h.val + 128 * p.val + d.val, by omega⟩ := by
  pointwise [qry]
  exact X_congr x (by simp only []; omega) (by simp only [hd]; omega)

theorem keys_at (b : Fin 4) (i : Fin 2048) (h : Fin 8) (p : Fin 2) (d : Fin 128) :
    keys x (ix4 b ⟨i.val, by omega⟩ (hd h p) d)
      = X x ⟨2048 * b.val + i.val, by omega⟩ ⟨2048 + 256 * h.val + 128 * p.val + d.val, by omega⟩ := by
  pointwise [keys]
  exact X_congr x (by simp only []; omega) (by simp only [hd]; omega)

theorem keysC_at (b : Fin 4) (i : Fin 256) (h : Fin 8) (p : Fin 2) (d : Fin 128) :
    keys x (ix4 b ⟨2048 + i.val, by omega⟩ (hd h p) d)
      = X x ⟨8192 + 256 * b.val + i.val, by omega⟩ ⟨2048 + 256 * h.val + 128 * p.val + d.val, by omega⟩ := by
  pointwise [keys]
  exact X_congr x (by simp only []; omega) (by simp only [hd]; omega)

theorem vals_at (b : Fin 4) (i : Fin 2048) (h : Fin 8) (e : Fin 256) : vals x (ix4 b ⟨i.val, by omega⟩ h e) = vS (X x) b h e i := by
  pointwise [vals, vS]
  exact X_congr x (by simp only []; omega) (by simp only []; omega)

theorem valsC_at (b : Fin 4) (i : Fin 256) (h : Fin 8) (e : Fin 256) : vals x (ix4 b ⟨2048 + i.val, by omega⟩ h e) = vC (X x) b h e i := by
  pointwise [vals, vC]
  exact X_congr x (by simp only []; omega) (by simp only []; omega)

theorem scs_at (b : Fin 4) (h : Fin 8) (p : Fin 2) (r i : Fin 2048) :
    scs x (ix4 b (hd h p) r ⟨i.val, by omega⟩) = rSc (X x) scaleOf b h p r i := by
  rw [scs, scores_at]
  simp only [qry_at, keys_at]
  rfl

theorem scsC_at (b : Fin 4) (h : Fin 8) (p : Fin 2) (r : Fin 2048) (i : Fin 256) :
    scs x (ix4 b (hd h p) r ⟨2048 + i.val, by omega⟩) = rScC (X x) scaleOf b h p r i := by
  rw [scs, scores_at]
  simp only [qry_at, keysC_at]
  rfl

theorem expo_at (s : FVec Ideal S4x16x2048x2304 .f32) (M : FVec Ideal S4x16x2048x1 .f32) (b : Fin 4) (g : Fin 16) (r : Fin 2048) (k : Fin 2304) :
    expo s M (ix4 b g r k) = Ideal.exp (s (ix4 b g r k) - M (ix4 b g r 0)) := by
  pointwise [expo]

theorem prob_at (w : FVec Ideal S4x16x2048x2304 .f32) (b : Fin 4) (g : Fin 16) (r : Fin 2048) (k : Fin 2304) :
    prob w (ix4 b g r k) = Ideal.div (w (ix4 b g r k)) (∑ k, w (ix4 b g r k)) := by
  pointwise [prob]

theorem lamT_at : lamT a1 ix0 = lamOf fun i d => a1 (ix2 i d) := by
  pointwise [lamT, lamOf]

theorem outT_at (v : FVec Ideal S4x2304x8x256 .f32) (d : FVec Ideal S4x8x2048x2304 .f32) (b : Fin 4) (h : Fin 8) (r : Fin 2048) (e : Fin 256) :
    outT v d (ix4 b r h e) = ∑ k : Fin 2304, v (ix4 b k h e) * d (ix4 b h r k) := by
  pointwise [outT]

theorem res_at (o : FVec Ideal S4x2048x8x256 .f32) (R : Fin 8192) (C : Fin 2048) :
    res o a2 (ix2 R C) = fin (fun e => o (ix4 ⟨R.val / 2048, by omega⟩ ⟨R.val % 2048, by omega⟩ ⟨C.val / 256, by omega⟩ e))
      ⟨C.val % 256, by omega⟩ (a2 (ix1 ⟨C.val % 256, by omega⟩)) := by
  pointwise [res, fin]

end Cert.ReferenceIdeal.Da
-- ==== Proof.DaRow.lean ====
/-
  The reference's differential attention: the maxima are real, and its result is the plain row.
-/
module

public import proofs.«01_k».proof.Proof.DaRef
public import proofs.«01_k».proof.Proof.Attn
public import Idealize.ShloMosaic.Lib.Pointwise

@[expose] public section

set_option maxRecDepth 16384

noncomputable section

namespace Cert.ReferenceIdeal.Da

open Cert.ReferenceIdeal Cert.ReferenceIdeal.Gen Idealize.ShloMosaic Idealize.ShloMosaic.TcCoe Idealize.SL.Sem
open Cert.Attn

variable (x : FVec Ideal S9216x6144 .f32) (a1 : FVec Ideal S4x128 .f32) (a2 : FVec Ideal S256 .f32)

theorem keep_at (y : FVec Ideal S4x16x2048 .f32) (b : Fin 4) (g : Fin 16) (r : Fin 2048) :
    broadcastInDim S4x16x2048x1 ![0, 1, 2] bcast_S4x16x2048_S4x16x2048x1_0_1_2 y (ix4 b g r 0) = y (ix3 b g r) := by
  pointwise

theorem fold_at (s : FVec Ideal S4x16x2048x2304 .f32) (i : FVec Ideal S_ .f32) (b : Fin 4) (g : Fin 16) (r : Fin 2048) :
    Host.reduce FloatOps.maximumf s i reducesTo_S4x16x2048x2304_S4x16x2048_d3 h_S_ (ix3 b g r)
      = Finset.univ.fold max (i (Shape.Idx.first h_S_)) fun k : Fin 2304 => s (ix4 b g r k) := by
  pointwise

theorem top_at (y z : FVec Ideal S4x16x2048 .f32) (j) : maximumf y z j = max (y j) (z j) := rfl

theorem diff_at (p : FVec Ideal S4x16x2048x2304 .f32) (l : FVec Ideal S_ .f32) (b : Fin 4) (h : Fin 8) (r : Fin 2048) (k : Fin 2304) :
    diff p l (ix4 b h r k) = p (ix4 b (hd h 0) r k) - l ix0 * p (ix4 b (hd h 1) r k) := by
  have h0 : hd h 0 = ⟨h.val * 2, by omega⟩ := rfl
  have h1 : hd h 1 = ⟨h.val * 2 + 1, by omega⟩ := rfl
  rw [h0, h1]
  pointwise [diff]

/-- The reference's row of values. -/
theorem outs_at (b : Fin 4) (h : Fin 8) (r : Fin 2048) (e : Fin 256) :
    outs x a1 (ix4 b r h e)
      = rRow (X x) (lamOf fun i d => a1 (ix2 i d)) scaleOf (fun p => mxs x (ix4 b (hd h p) r 0)) b h r e := by
  have pr : ∀ p k, prs x (ix4 b (hd h p) r k)
      = rProb (scs x (ix4 b (hd h p) r k)) (mxs x (ix4 b (hd h p) r 0)) (rSc (X x) scaleOf b h p r) (rScC (X x) scaleOf b h p r) := fun p k => by
    rw [prs, prob_at, sum_rows]
    simp only [expo_at, scs_at, scsC_at]
    rfl
  rw [outs, outT_at, sum_rows]
  simp only [diff_at, pr, lamT_at, vals_at, valsC_at, scs_at, scsC_at]
  rfl

theorem init_at (j : S_.Idx) : constant (F := Ideal) S_ .f32 0xFF800000#32 j = (⊥ : EReal) := init_bot

theorem inits_at (i : FVec Ideal S_ .f32) (b : Fin 4) (g : Fin 16) (r : Fin 2048) :
    broadcastInDim S4x16x2048 ![] bcast_S_S4x16x2048 i (ix3 b g r) = i ix0 := by
  pointwise

theorem rowMax_at (s : FVec Ideal S4x16x2048x2304 .f32) (b : Fin 4) (g : Fin 16) (r : Fin 2048) :
    rowMax s (ix4 b g r 0) = max ⊥ (Finset.univ.fold max ⊥ fun k : Fin 2304 => s (ix4 b g r k)) := by
  rw [rowMax, keep_at, top_at, inits_at, fold_at, init_at, init_at]

/-- Over real queries and keys the maxima are real. -/
theorem mxs_real (hX : ∀ i (j : Fin 6144), j.val < 4096 → Rl (X x i j)) (b : Fin 4) (h : Fin 8) (p : Fin 2) (r : Fin 2048) :
    Rl (mxs x (ix4 b (hd h p) r 0)) := by
  rw [mxs, rowMax_at, max_eq_right bot_le]
  refine fold_real _ _ (fun k => ?_) Finset.univ_nonempty
  have hq : ∀ d : Fin 128, Rl (X x ⟨2048 * b.val + r.val, by omega⟩ ⟨256 * h.val + 128 * p.val + d.val, by omega⟩) := fun d =>
    hX _ _ (by simp only []; omega)
  by_cases hk : k.val < 2048
  · obtain ⟨s, _, h2⟩ := score _ (fun d : Fin 128 => X x ⟨2048 * b.val + k.val, by omega⟩ ⟨2048 + 256 * h.val + 128 * p.val + d.val, by omega⟩)
      hq fun d => hX _ _ (by simp only []; omega)
    exact ⟨_, (scs_at x b h p r ⟨k.val, hk⟩).trans h2⟩
  · obtain ⟨s, _, h2⟩ := score _
      (fun d : Fin 128 => X x ⟨8192 + 256 * b.val + (k.val - 2048), by omega⟩ ⟨2048 + 256 * h.val + 128 * p.val + d.val, by omega⟩)
      hq fun d => hX _ _ (by simp only []; omega)
    have hk' : k = ⟨2048 + (k.val - 2048), by omega⟩ := Fin.ext (by simp only []; omega)
    rw [hk']
    exact ⟨_, (scsC_at x b h p r ⟨k.val - 2048, by omega⟩).trans h2⟩

end Cert.ReferenceIdeal.Da

end
-- ==== Proof.DaClaim.lean ====
/-
  The two attention programs compute one array.
-/
module

public import proofs.«01_k».proof.Defs
public import proofs.«01_k».proof.Proof.Gen.Pre_finite
public import proofs.«01_k».proof.Proof.Gen.KernelIdeal.Value
public import proofs.«01_k».proof.Proof.DaArr
public import proofs.«01_k».proof.Proof.DaRow
public import Idealize.ShloMosaic.Lib.ReduceAll

@[expose] public section

set_option maxRecDepth 16384

noncomputable section

namespace Cert.Pre_finite.Da

open Cert.Pre_finite Idealize.ShloMosaic
open Cert.Attn

theorem lt_of (a b : EReal) (h : Ideal.cmp .olt a b = 1#1) : a < b := by
  by_contra hn
  simp [Ideal.cmp, hn] at h

theorem inf_eq : Ideal.ofBits .f32 0x7F800000#32 = ⊤ := by simp [Ideal.ofBits, Ideal.ieee]

/-- Where the precondition holds, queries and keys are real. -/
theorem real (x : FVec Ideal S9216x6144 .f32) (a1 : FVec Ideal S4x128 .f32) (a2 : FVec Ideal S256 .f32)
    (h : fn (F := Ideal) x a1 a2 = fun _ => 1#1) (i : Fin 9216) (j : Fin 6144) (hj : j.val < 4096) : Rl (x (ix2 i j)) := by
  have h1 := Host.reduce_andi_all _ _ _ _ _ (congrFun h (Shape.Idx.first (by decide))) (ix2 i ⟨j.val, hj⟩)
  have h2 := lt_of _ _ h1
  refine Rl.of_abs_lt (lt_of_lt_of_eq (lt_of_eq_of_lt ?_ h2) ?_)
  · pointwise
    rfl
  · pointwise [inf_eq]

end Cert.Pre_finite.Da

namespace Cert.Proof.Da

open Idealize.ShloMosaic Idealize.SL.Sem Cert.Attn

theorem value_eq (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (hpre : Pre_KernelIdeal_finite m)
    (c : Dev KernelIdeal.nD)
    (h0 : m' (c.tc.loc ReferenceIdeal.main_arg0) = m (c.tc.loc KernelIdeal.main_arg0))
    (h1 : m' (c.tc.loc ReferenceIdeal.main_arg1) = m (c.tc.loc KernelIdeal.main_arg1))
    (h2 : m' (c.tc.loc ReferenceIdeal.main_arg2) = m (c.tc.loc KernelIdeal.main_arg2)) :
    ReferenceIdeal.Value.res_main_v70 m' c = (KernelIdeal.Gen.dats m 0 c).arrAt 7 KernelIdeal.cfg0.N := by
  rw [ReferenceIdeal.Da.res_eq, h0, h1, h2]
  refine Eq.trans ?_ (KernelIdeal.Da.final m c).symm
  funext j
  idx_vars j
  have hX : ∀ (i : Fin 9216) (j : Fin 6144), j.val < 4096 → Rl (KernelIdeal.Da.X m c i j) := fun i j hj =>
    Cert.Pre_finite.Da.real _ _ _ (hpre c) i j hj
  refine (ReferenceIdeal.Da.res_at _ _ _ _).trans ?_
  have row : ∀ b h r e, ReferenceIdeal.Da.outs (m (c.tc.loc KernelIdeal.main_arg0)) (m (c.tc.loc KernelIdeal.main_arg1)) (ix4 b r h e)
      = kRow (KernelIdeal.Da.X m c) (KernelIdeal.Da.lam m c) leadOf b h r e := fun b h r e => by
    rw [ReferenceIdeal.Da.outs_at, KernelIdeal.Da.lam_eq,
      rows_eq (KernelIdeal.Da.X m c) hX _ _ (fun p => ReferenceIdeal.Da.mxs_real _ hX b h p r)]
    rfl
  simp only [row]
  rfl

theorem algebraic : Cert.algebraic_KernelIdeal_ReferenceIdeal_pre_finite := by
  pair_intro
  · run_from Cert.KernelIdeal.Value.run_blocks m g
  · run_from Cert.ReferenceIdeal.Value.run m' g'
    exact value_eq m m' hpre c (hagree c).1 (hagree c).2.1 (hagree c).2.2

end Cert.Proof.Da

end
-- ==== Proof.NaCtxClaim.lean ====
/-
  The context rows' attention of the neighbourhood-attention mixer: the kernel's output array and the reference's read at
  an entry, and over finite queries and keys the two are one array.
-/
module

public import proofs.«01_k».proof.Defs
public import proofs.«01_k».proof.Proof.Gen.Pre_finite13
public import proofs.«01_k».proof.Proof.Gen.Reference13Ideal.Run
public import proofs.«01_k».proof.Proof.Gen.Kernel13Ideal.Value
public import proofs.«01_k».proof.Proof.Gen.Kernel13Ideal.Points
public import proofs.«01_k».proof.Proof.DaClaim
public import proofs.«01_k».proof.Proof.Up
public import Idealize.ShloMosaic.Lib.Pipeline.ValueKit
public import Idealize.ShloMosaic.Lib.ReduceAll

@[expose] public section

set_option maxRecDepth 16384

noncomputable section

namespace Cert.NaCtx

open Idealize.ShloMosaic Idealize.SL.Sem Cert.Attn

/-- The kernel's row: base-2 exponentials, divided by their sum after the product with the values. -/
def kOut (s : Fin 256 → EReal) (N : EReal) (v : Fin 256 → EReal) : EReal :=
  (∑ i, Ideal.exp2 (s i - N) * v i) * Ideal.div 1 (∑ i, Ideal.exp2 (s i - N))

/-- The reference's row: the values times the softmax. -/
def rOut (s : Fin 256 → EReal) (M : EReal) (v : Fin 256 → EReal) : EReal :=
  ∑ i, v i * Ideal.div (Ideal.exp (s i - M)) (∑ k, Ideal.exp (s k - M))

/-- Weights that differ by a positive factor make one weighted mean. -/
theorem core (p : Fin 256 → ℝ) (hp : ∀ i, 0 < p i) (a : ℝ) (ha : 0 < a) (v : Fin 256 → EReal) :
    (∑ i, (p i : EReal) * v i) * Ideal.div 1 (∑ k, (p k : EReal))
      = ∑ i, v i * Ideal.div ((a * p i : ℝ) : EReal) (∑ k, ((a * p k : ℝ) : EReal)) := by
  have hS : 0 < ∑ k, p k := Finset.sum_pos (fun i _ => hp i) Finset.univ_nonempty
  simp only [sum_coe, ← Finset.mul_sum]
  generalize ∑ k, p k = S at *
  simp only [div_real _ _ hS.ne', div_real _ _ (mul_pos ha hS).ne', one_mul]
  rw [sum_mul_coe _ _ (inv_pos.2 hS).le]
  refine Finset.sum_congr rfl fun i _ => ?_
  rw [mul_comm (p i : EReal), mul_assoc, ← EReal.coe_mul, ← EReal.coe_mul]
  congr 2
  field_simp

theorem row (s : Fin 256 → ℝ) (M N : ℝ) (v : Fin 256 → EReal) :
    kOut (fun i => s i) N v = rOut (fun i => ((s i * Real.log 2 : ℝ) : EReal)) M v := by
  have e2 : ∀ s N : ℝ, Ideal.exp2 ((s : EReal) - (N : EReal)) = ((Real.rpow 2 (s - N) : ℝ) : EReal) := fun s N => by
    rw [← EReal.coe_sub, Ideal.exp2_coe]
  have := core (fun i => Real.rpow 2 (s i - N)) (fun i => Real.rpow_pos_of_pos (by norm_num) _)
    (Real.exp (N * Real.log 2 - M)) (Real.exp_pos _) v
  simp only [kOut, rOut, e2, exp_exp2 _ N M]
  exact this

variable (X : Fin 9216 → Fin 6144 → EReal)

/-- A context row's entry: `p` is 0 for the queries, 1 for the keys, 2 for the values. -/
def at_ (p : Fin 3) (b : Fin 4) (h : Fin 16) (r : Fin 256) (d : Fin 128) : EReal :=
  X ⟨8192 + 256 * b.val + r.val, by omega⟩ ⟨2048 * p.val + 128 * h.val + d.val, by omega⟩

/-- The kernel's and the reference's scores. -/
def kSc (b : Fin 4) (h : Fin 16) (r i : Fin 256) : EReal := ∑ d : Fin 128, at_ X 0 b h r d * leadOf * at_ X 1 b h i d
def rSc (b : Fin 4) (h : Fin 16) (r i : Fin 256) : EReal := (∑ d : Fin 128, at_ X 0 b h r d * at_ X 1 b h i d) * scaleOf

/-- What the kernel computes. -/
def kEnt (b : Fin 4) (h : Fin 16) (r : Fin 256) (e : Fin 128) : EReal :=
  kOut (kSc X b h r) (Finset.univ.fold max ⊥ (kSc X b h r)) fun i => at_ X 2 b h i e

theorem scores (hX : ∀ (i : Fin 9216) (j : Fin 6144), 8192 ≤ i.val → j.val < 4096 → Rl (X i j)) (b : Fin 4) (h : Fin 16) (r i : Fin 256) :
    ∃ s : ℝ, kSc X b h r i = (s : EReal) ∧ rSc X b h r i = ((s * Real.log 2 : ℝ) : EReal) :=
  score _ _ (fun d => hX _ _ (by simp only []; omega) (by simp; omega)) fun d => hX _ _ (by simp only []; omega) (by simp; omega)

theorem rows_eq (hX : ∀ (i : Fin 9216) (j : Fin 6144), 8192 ≤ i.val → j.val < 4096 → Rl (X i j)) (b : Fin 4) (h : Fin 16) (r : Fin 256) (e : Fin 128) :
    rOut (rSc X b h r) (Finset.univ.fold max ⊥ (rSc X b h r)) (fun i => at_ X 2 b h i e) = kEnt X b h r e := by
  choose s h1 h2 using scores X hX b h r
  obtain ⟨N, hN⟩ := fold_real Finset.univ _ (fun i => ⟨_, h1 i⟩) Finset.univ_nonempty
  obtain ⟨M, hM⟩ := fold_real Finset.univ _ (fun i => ⟨_, h2 i⟩) Finset.univ_nonempty
  unfold kEnt
  rw [hN, hM, show kSc X b h r = _ from funext h1, show rSc X b h r = _ from funext h2]
  exact (row s M N _).symm

end Cert.NaCtx

namespace Cert.Kernel13Ideal.NaCtx

open Cert.Kernel13Ideal Cert.Kernel13Ideal.Gen Idealize.ShloMosaic Idealize.ShloMosaic.TcCoe Idealize.SL.Sem
open Cert.Attn Cert.Up Cert.NaCtx

theorem oneB : Ideal.ofBits .bf16 0x3F80#16 = 1 := by
  simp [Ideal.ofBits, Ideal.ieee, ← EReal.coe_mul]
  norm_num

/-- One score. -/
def sc (q k : FVec Ideal S256x128 .bf16) (r i : Fin 256) : EReal := ∑ d : Fin 128, q (ix2 r d) * k (ix2 i d)

theorem pay_at (q k v : Vec Ideal S256x128 .bf16) (r : Fin 256) (e : Fin 128) :
    k0_pay1 (F := Ideal) q k v (ix2 r e) = kOut (sc q k r) (Finset.univ.fold max ⊥ (sc q k r)) fun i => v (ix2 i e) := by
  pointwise [k0_pay1, init_bot, oneB, one_eq]
  rfl

/-! ## The eight stores: each head's payload is one function of its loads -/

section Stores

variable (q k v : Vec Ideal S256x128 .bf16)

theorem store1 : k0_pay4 (k0_pay2 v) (k0_pay3 q k) = k0_pay1 (F := Ideal) q k v := rfl
theorem store2 : k0_pay5 q k v = k0_pay1 (F := Ideal) q k v := rfl
theorem store3 : k0_pay7 (k0_pay6 q) k v = k0_pay1 (F := Ideal) q k v := rfl
theorem store4 : k0_pay12 (k0_pay9 q k v) (k0_pay10 q k v) k0_pay11 = k0_pay1 (F := Ideal) q k v := rfl
theorem store5 : k0_pay13 q k v = k0_pay1 (F := Ideal) q k v := rfl
theorem store6 : k0_pay17 (k0_pay14 q k) (k0_pay15 v) (k0_pay16 q k) = k0_pay1 (F := Ideal) q k v := rfl
theorem store7 : k0_pay18 q k v = k0_pay1 (F := Ideal) q k v := rfl

end Stores

variable (m : (ℓ : Loc nD τ sig) → Buf (Elt Ideal) ℓ)

theorem idx : ∀ t : Fin cfg0.N, win0_0.index t = ![32 + t.val % 4, t.val / 4] ∧ win0_1.index t = ![32 + t.val % 4, 2 + t.val / 4]
    ∧ win0_2.index t = ![32 + t.val % 4, 4 + t.val / 4] ∧ win0_3.index t = ![t.val % 4, t.val / 4] :=
  (by decide +kernel : ∀ t : Fin grid0.N, _)

theorem tlt (t : Fin cfg0.N) : t.val < 8 := t.isLt

/-- The argument array by row and column. -/
def X (c : Dev nD) (i : Fin 9216) (j : Fin 6144) : EReal := m ((c : Thread nD τ).loc main_arg0) (ix2 i j)

theorem v9_at (c : Dev nD) (i : Fin 9216) (j : Fin 6144) :
    V m c main_v9 (ix2 i j) = if j.val < 2048 then X m c i j * leadOf else X m c i j := by
  entry_read
  pointwise [X, leadOf]
  split
  · rfl
  · exact congrArg (m ((c : Thread nD τ).loc main_arg0)) (congrArg (ix2 i) (Fin.ext (by simp only []; omega)))

theorem v9_q (c : Dev nD) (i : Fin 9216) (j : Fin 6144) (h : j.val < 2048) : V m c main_v9 (ix2 i j) = X m c i j * leadOf :=
  (v9_at m c i j).trans (if_pos h)

theorem v9_kv (c : Dev nD) (i : Fin 9216) (j : Fin 6144) (h : ¬ j.val < 2048) : V m c main_v9 (ix2 i j) = X m c i j :=
  (v9_at m c i j).trans (if_neg h)

/-- The batch of a point, and the head of a point's `g`-th. -/
def tb (t : Fin cfg0.N) : Fin 4 := ⟨t.val % 4, by omega⟩
def th (t : Fin cfg0.N) (g : Fin 8) : Fin 16 := ⟨8 * (t.val / 4) + g.val, by have := tlt t; omega⟩

/-- A column of a point's block, of a column of its `g`-th head. -/
def col (g : Fin 8) (d : Fin 128) : Fin 1024 := ⟨128 * g.val + d.val, by omega⟩

theorem b0_at (c : Dev nD) (t : Fin cfg0.N) (r : Fin 256) (g : Fin 8) (d : Fin 128) :
    iblk m c 0 t (ix2 r (col g d)) = at_ (X m c) 0 (tb t) (th t g) r d * leadOf := by
  refine Eq.trans ?_ (v9_q m c _ _ (by have := tlt t; show 2048 * 0 + 128 * (8 * (t.val / 4) + g.val) + d.val < 2048; omega))
  blk_ext [iblk, V, idx t, tb, th, col]

theorem b1_at (c : Dev nD) (t : Fin cfg0.N) (r : Fin 256) (g : Fin 8) (d : Fin 128) :
    iblk m c 1 t (ix2 r (col g d)) = at_ (X m c) 1 (tb t) (th t g) r d := by
  refine Eq.trans ?_ (v9_kv m c _ _ (by show ¬ 2048 * 1 + 128 * (8 * (t.val / 4) + g.val) + d.val < 2048; omega))
  blk_ext [iblk, V, idx t, tb, th, col]

theorem b2_at (c : Dev nD) (t : Fin cfg0.N) (r : Fin 256) (g : Fin 8) (d : Fin 128) :
    iblk m c 2 t (ix2 r (col g d)) = at_ (X m c) 2 (tb t) (th t g) r d := by
  refine Eq.trans ?_ (v9_kv m c _ _ (by show ¬ 2048 * 2 + 128 * (8 * (t.val / 4) + g.val) + d.val < 2048; omega))
  blk_ext [iblk, V, idx t, tb, th, col]

/-- A head's stored row is its attention when the loads are the head's columns of the blocks. -/
theorem head_at (c : Dev nD) (t : Fin cfg0.N) (g : Fin 8) (q k v : Vec Ideal S256x128 .bf16)
    (hq : ∀ r d, q (ix2 r d) = iblk m c 0 t (ix2 r (col g d))) (hk : ∀ r d, k (ix2 r d) = iblk m c 1 t (ix2 r (col g d)))
    (hv : ∀ r d, v (ix2 r d) = iblk m c 2 t (ix2 r (col g d))) (r : Fin 256) (e : Fin 128) :
    k0_pay1 (F := Ideal) q k v (ix2 r e) = kEnt (X m c) (tb t) (th t g) r e := by
  have hs : sc q k r = kSc (X m c) (tb t) (th t g) r := funext fun i => Finset.sum_congr rfl fun d _ => by
    rw [hq, hk, b0_at, b1_at]
  rw [pay_at, hs]
  unfold kEnt
  congr 1
  funext i
  rw [hv, b2_at]

theorem kEnt_congr (X : Fin 9216 → Fin 6144 → EReal) {b b' : Fin 4} {h h' : Fin 16} {r r' : Fin 256} {e e' : Fin 128}
    (hb : b.val = b'.val) (hh : h.val = h'.val) (hr : r.val = r'.val) (he : e.val = e'.val) : kEnt X b h r e = kEnt X b' h' r' e' := by
  rw [Fin.ext hb, Fin.ext hh, Fin.ext hr, Fin.ext he]

/-! ## The loads: the columns of one head -/

section Loads

variable (x : Vec Ideal S256x1024 .bf16) (r : Fin 256) (d : Fin 128)

theorem ld0 : View.ld x r0_0 (ix2 r d) = x (ix2 r (col 0 d)) := by pointwise [View.ld, col]
theorem ld1 : View.ld x r0_1 (ix2 r d) = x (ix2 r (col 1 d)) := by pointwise [View.ld, col]
theorem ld2 : View.ld x r0_2 (ix2 r d) = x (ix2 r (col 2 d)) := by pointwise [View.ld, col]
theorem ld3 : View.ld x r0_3 (ix2 r d) = x (ix2 r (col 3 d)) := by pointwise [View.ld, col]
theorem ld4 : View.ld x r0_4 (ix2 r d) = x (ix2 r (col 4 d)) := by pointwise [View.ld, col]
theorem ld5 : View.ld x r0_5 (ix2 r d) = x (ix2 r (col 5 d)) := by pointwise [View.ld, col]
theorem ld6 : View.ld x r0_6 (ix2 r d) = x (ix2 r (col 6 d)) := by pointwise [View.ld, col]
theorem ld7 : View.ld x r0_7 (ix2 r d) = x (ix2 r (col 7 d)) := by pointwise [View.ld, col]

end Loads

/-- The output array: the attention of each row, by batch, head, row and column. -/
theorem final (c : Dev nD) : (dats m 0 c).arrAt 3 cfg0.N = fun j : S1024x2048.Idx =>
    kEnt (X m c) ⟨(j 0).val / 256, by have := (j 0).isLt; change _ < 1024 at this; omega⟩
      ⟨(j 1).val / 128, by have := (j 1).isLt; change _ < 2048 at this; omega⟩ ⟨(j 0).val % 256, by omega⟩ ⟨(j 1).val % 128, by omega⟩ := by
  refine (dats m 0 c).arrAt_eq_of_covers 3 _ (by decide +kernel) fun t hf y => ?_
  blk_simp
  rw [after0_3]; unfold out0_3
  rw [store1, store2, store3, store4, store5, store6, store7]
  canon_tiles x h
  all_goals idx_vars x
  all_goals idx_vars y
  · refine (head_at m c t 7 _ _ _ (ld7 _) (ld7 _) (ld7 _) x0 x1).trans ?_
    refine kEnt_congr _ ?_ ?_ ?_ ?_ <;> simp [idx t, tb, th] <;> omega
  · refine (head_at m c t 6 _ _ _ (ld6 _) (ld6 _) (ld6 _) x0 x1).trans ?_
    refine kEnt_congr _ ?_ ?_ ?_ ?_ <;> simp [idx t, tb, th] <;> omega
  · refine (head_at m c t 5 _ _ _ (ld5 _) (ld5 _) (ld5 _) x0 x1).trans ?_
    refine kEnt_congr _ ?_ ?_ ?_ ?_ <;> simp [idx t, tb, th] <;> omega
  · refine (head_at m c t 4 _ _ _ (ld4 _) (ld4 _) (ld4 _) x0 x1).trans ?_
    refine kEnt_congr _ ?_ ?_ ?_ ?_ <;> simp [idx t, tb, th] <;> omega
  · refine (head_at m c t 3 _ _ _ (ld3 _) (ld3 _) (ld3 _) x0 x1).trans ?_
    refine kEnt_congr _ ?_ ?_ ?_ ?_ <;> simp [idx t, tb, th] <;> omega
  · refine (head_at m c t 2 _ _ _ (ld2 _) (ld2 _) (ld2 _) x0 x1).trans ?_
    refine kEnt_congr _ ?_ ?_ ?_ ?_ <;> simp [idx t, tb, th] <;> omega
  · refine (head_at m c t 1 _ _ _ (ld1 _) (ld1 _) (ld1 _) x0 x1).trans ?_
    refine kEnt_congr _ ?_ ?_ ?_ ?_ <;> simp [idx t, tb, th] <;> omega
  · refine (head_at m c t 0 _ _ _ (ld0 _) (ld0 _) (ld0 _) x0 x1).trans ?_
    refine kEnt_congr _ ?_ ?_ ?_ ?_ <;> simp [idx t, tb, th] <;> omega

end Cert.Kernel13Ideal.NaCtx

namespace Cert.Reference13Ideal.NaCtx

open Cert.Reference13Ideal Cert.Reference13Ideal.Gen Idealize.ShloMosaic Idealize.ShloMosaic.TcCoe Idealize.SL.Sem
open Cert.Attn Cert.NaCtx

/-- The queries, the keys and the values. -/
def qry (x : FVec Ideal S9216x6144 .f32) : FVec Ideal S4x256x16x128 .f32 :=
  shapeCast _ (extractStridedSlice S1024x2048 ![8192, 0] x slices_S9216x6144_S1024x2048_8192_0) shapeCasts_S1024x2048_S4x256x16x128
def keys (x : FVec Ideal S9216x6144 .f32) : FVec Ideal S4x256x16x128 .f32 :=
  shapeCast _ (extractStridedSlice S1024x2048 ![8192, 2048] x slices_S9216x6144_S1024x2048_8192_2048) shapeCasts_S1024x2048_S4x256x16x128
def vals (x : FVec Ideal S9216x6144 .f32) : FVec Ideal S4x256x16x128 .f32 :=
  shapeCast _ (extractStridedSlice S1024x2048 ![8192, 4096] x slices_S9216x6144_S1024x2048_8192_4096) shapeCasts_S1024x2048_S4x256x16x128

/-- The scaled scores. -/
def scores (q k : FVec Ideal S4x256x16x128 .f32) : FVec Ideal S4x16x256x256 .f32 :=
  mulf (Host.dotGeneral dot_S4x256x16x128_S4x256x16x128_S4x16x256x256_3_3_1_1_02_02 none q k) (broadcastInDim S4x16x256x256 ![] bcast_S_S4x16x256x256 (Host.divf (constant S_ .f32 0x3F800000#32) (Host.sqrt (constant S_ .f32 0x43000000#32))))

/-- The maximum of every row of scores. -/
def rowMax (s : FVec Ideal S4x16x256x256 .f32) : FVec Ideal S4x16x256x1 .f32 :=
  broadcastInDim S4x16x256x1 ![0, 1, 2] bcast_S4x16x256_S4x16x256x1_0_1_2 (maximumf (broadcastInDim S4x16x256 ![] bcast_S_S4x16x256 (constant S_ .f32 0xFF800000#32)) (Host.reduce FloatOps.maximumf s (constant S_ .f32 0xFF800000#32) reducesTo_S4x16x256x256_S4x16x256_d3 h_S_))

/-- The unnormalised softmax weights. -/
def expo (s : FVec Ideal S4x16x256x256 .f32) (M : FVec Ideal S4x16x256x1 .f32) : FVec Ideal S4x16x256x256 .f32 :=
  Host.exp (subf s (broadcastInDim S4x16x256x256 ![0, 1, 2, 3] bcast_S4x16x256x1_S4x16x256x256_0_1_2_3 M))

/-- The softmax weights. -/
def prob (w : FVec Ideal S4x16x256x256 .f32) : FVec Ideal S4x16x256x256 .f32 :=
  Host.divf w (broadcastInDim S4x16x256x256 ![0, 1, 2, 3] bcast_S4x16x256x1_S4x16x256x256_0_1_2_3 (broadcastInDim S4x16x256x1 ![0, 1, 2] bcast_S4x16x256_S4x16x256x1_0_1_2 (Host.reduceAdd w (constant S_ .f32 0x00000000#32) reducesTo_S4x16x256x256_S4x16x256_d3 h_S_)))

/-- The weighted values, and the result. -/
def outT (v : FVec Ideal S4x256x16x128 .f32) (p : FVec Ideal S4x16x256x256 .f32) : FVec Ideal S4x256x16x128 .f32 :=
  transpose S4x256x16x128 [0, 3, 1, 2] (Host.dotGeneral dot_S4x256x16x128_S4x16x256x256_S4x16x128x256_1_3_3_2_02_01 none v p) transposes_S4x16x128x256_S4x256x16x128_0_3_1_2
def res (o : FVec Ideal S4x256x16x128 .f32) : FVec Ideal S1024x2048 .bf16 :=
  truncf .bf16 (shapeCast _ o shapeCasts_S4x256x16x128_S1024x2048) bitsLt_bf16_f32

/-- The scores and the weighted values of the argument array. -/
def scs (x : FVec Ideal S9216x6144 .f32) : FVec Ideal S4x16x256x256 .f32 := scores (qry x) (keys x)
def outs (x : FVec Ideal S9216x6144 .f32) : FVec Ideal S4x256x16x128 .f32 := outT (vals x) (prob (expo (scs x) (rowMax (scs x))))

/-- The reference's run, its result by the named steps. -/
theorem run' (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v25) = res (outs (m ((c.tc : Thread nD τ).loc main_arg0)))
      ∧ r.2.mem ((c.tc : Thread nD τ).loc main_arg0) = m ((c.tc : Thread nD τ).loc main_arg0) :=
  Cert.Reference13Ideal.Value.run m ρ

variable (x : FVec Ideal S9216x6144 .f32)

/-- The argument array by row and column. -/
def X (i : Fin 9216) (j : Fin 6144) : EReal := x (ix2 i j)

theorem X_congr {i i' : Fin 9216} {j j' : Fin 6144} (hi : i.val = i'.val) (hj : j.val = j'.val) : x (ix2 i j) = X x i' j' := by
  obtain rfl := Fin.ext hi
  obtain rfl := Fin.ext hj
  rfl

theorem qry_at (b : Fin 4) (r : Fin 256) (h : Fin 16) (d : Fin 128) : qry x (ix4 b r h d) = at_ (X x) 0 b h r d := by
  pointwise [qry, at_]
  exact X_congr x (by simp only []; omega) (by simp; omega)

theorem keys_at (b : Fin 4) (r : Fin 256) (h : Fin 16) (d : Fin 128) : keys x (ix4 b r h d) = at_ (X x) 1 b h r d := by
  pointwise [keys, at_]
  exact X_congr x (by simp only []; omega) (by simp; omega)

theorem vals_at (b : Fin 4) (r : Fin 256) (h : Fin 16) (d : Fin 128) : vals x (ix4 b r h d) = at_ (X x) 2 b h r d := by
  pointwise [vals, at_]
  exact X_congr x (by simp only []; omega) (by simp; omega)

theorem scores_at (q k : FVec Ideal S4x256x16x128 .f32) (b : Fin 4) (h : Fin 16) (r i : Fin 256) :
    scores q k (ix4 b h r i) = (∑ d : Fin 128, q (ix4 b r h d) * k (ix4 b i h d)) * scaleOf := by
  pointwise [scores, scaleOf]

theorem scs_at (b : Fin 4) (h : Fin 16) (r i : Fin 256) : scs x (ix4 b h r i) = rSc (X x) b h r i := by
  rw [scs, scores_at]
  simp only [qry_at, keys_at]
  rfl

theorem expo_at (s : FVec Ideal S4x16x256x256 .f32) (M : FVec Ideal S4x16x256x1 .f32) (b : Fin 4) (h : Fin 16) (r k : Fin 256) :
    expo s M (ix4 b h r k) = Ideal.exp (s (ix4 b h r k) - M (ix4 b h r 0)) := by
  pointwise [expo]

theorem prob_at (w : FVec Ideal S4x16x256x256 .f32) (b : Fin 4) (h : Fin 16) (r k : Fin 256) :
    prob w (ix4 b h r k) = Ideal.div (w (ix4 b h r k)) (∑ k, w (ix4 b h r k)) := by
  pointwise [prob]

theorem outT_at (v : FVec Ideal S4x256x16x128 .f32) (p : FVec Ideal S4x16x256x256 .f32) (b : Fin 4) (h : Fin 16) (r : Fin 256) (e : Fin 128) :
    outT v p (ix4 b r h e) = ∑ k : Fin 256, v (ix4 b k h e) * p (ix4 b h r k) := by
  pointwise [outT]

theorem res_at (o : FVec Ideal S4x256x16x128 .f32) (R : Fin 1024) (C : Fin 2048) :
    res o (ix2 R C) = o (ix4 ⟨R.val / 256, by omega⟩ ⟨R.val % 256, by omega⟩ ⟨C.val / 128, by omega⟩ ⟨C.val % 128, by omega⟩) := by
  pointwise [res]

theorem keep_at (y : FVec Ideal S4x16x256 .f32) (b : Fin 4) (h : Fin 16) (r : Fin 256) :
    broadcastInDim S4x16x256x1 ![0, 1, 2] bcast_S4x16x256_S4x16x256x1_0_1_2 y (ix4 b h r 0) = y (ix3 b h r) := by
  pointwise

theorem fold_at (s : FVec Ideal S4x16x256x256 .f32) (i : FVec Ideal S_ .f32) (b : Fin 4) (h : Fin 16) (r : Fin 256) :
    Host.reduce FloatOps.maximumf s i reducesTo_S4x16x256x256_S4x16x256_d3 h_S_ (ix3 b h r)
      = Finset.univ.fold max (i (Shape.Idx.first h_S_)) fun k : Fin 256 => s (ix4 b h r k) := by
  pointwise

theorem top_at (y z : FVec Ideal S4x16x256 .f32) (j) : maximumf y z j = max (y j) (z j) := rfl

theorem init_at (j : S_.Idx) : constant (F := Ideal) S_ .f32 0xFF800000#32 j = (⊥ : EReal) := init_bot

theorem inits_at (i : FVec Ideal S_ .f32) (b : Fin 4) (h : Fin 16) (r : Fin 256) :
    broadcastInDim S4x16x256 ![] bcast_S_S4x16x256 i (ix3 b h r) = i ix0 := by
  pointwise

theorem rowMax_at (s : FVec Ideal S4x16x256x256 .f32) (b : Fin 4) (h : Fin 16) (r : Fin 256) :
    rowMax s (ix4 b h r 0) = Finset.univ.fold max ⊥ fun k : Fin 256 => s (ix4 b h r k) := by
  rw [rowMax, keep_at, top_at, inits_at, fold_at, init_at, init_at, max_eq_right bot_le]

theorem outs_at (b : Fin 4) (h : Fin 16) (r : Fin 256) (e : Fin 128) :
    outs x (ix4 b r h e)
      = rOut (rSc (X x) b h r) (Finset.univ.fold max ⊥ (rSc (X x) b h r)) fun i => at_ (X x) 2 b h i e := by
  rw [outs, outT_at]
  simp only [prob_at, expo_at, rowMax_at, scs_at, vals_at]
  rfl

end Cert.Reference13Ideal.NaCtx

namespace Cert.Pre_finite13.NaCtx

open Cert.Pre_finite13 Idealize.ShloMosaic
open Cert.Attn

/-- Where the precondition holds, the context rows' queries and keys are real. -/
theorem real (x : FVec Ideal S9216x6144 .f32) (h : fn (F := Ideal) x = fun _ => 1#1) (i : Fin 9216) (j : Fin 6144)
    (hi : 8192 ≤ i.val) (hj : j.val < 4096) : Rl (x (ix2 i j)) := by
  obtain ⟨k, rfl⟩ : ∃ k : Fin 1024, i = ⟨8192 + k.val, Nat.add_lt_add_left k.isLt 8192⟩ :=
    ⟨⟨i.val - 8192, by omega⟩, Fin.ext (by simp only []; omega)⟩
  have h1 := Host.reduce_andi_all _ _ _ _ _ (congrFun h (Shape.Idx.first (by decide))) (ix2 k ⟨j.val, hj⟩)
  have h2 := Cert.Pre_finite.Da.lt_of _ _ h1
  refine Rl.of_abs_lt (lt_of_lt_of_eq (lt_of_eq_of_lt ?_ h2) ?_)
  · pointwise
    rfl
  · pointwise [Cert.Pre_finite.Da.inf_eq]

end Cert.Pre_finite13.NaCtx

namespace Cert.Proof.NaCtx

open Idealize.ShloMosaic Idealize.SL.Sem Cert.Attn Cert.NaCtx

theorem value_eq (m : (ℓ : Loc Kernel13Ideal.nD Kernel13Ideal.τ Kernel13Ideal.sig) → Buf (Elt Ideal) ℓ)
    (hpre : Pre_Kernel13Ideal_finite13 m)
    (c : Dev Kernel13Ideal.nD) :
    Reference13Ideal.NaCtx.res (Reference13Ideal.NaCtx.outs (m (c.tc.loc Kernel13Ideal.main_arg0)))
      = (Kernel13Ideal.Gen.dats m 0 c).arrAt 3 Kernel13Ideal.cfg0.N := by
  refine Eq.trans ?_ (Kernel13Ideal.NaCtx.final m c).symm
  funext j
  idx_vars j
  have hX : ∀ (i : Fin 9216) (j : Fin 6144), 8192 ≤ i.val → j.val < 4096 → Rl (Kernel13Ideal.NaCtx.X m c i j) := fun i j hi hj =>
    Cert.Pre_finite13.NaCtx.real _ (hpre c) i j hi hj
  refine (Reference13Ideal.NaCtx.res_at _ _ _).trans ((Reference13Ideal.NaCtx.outs_at _ _ _ _ _).trans ?_)
  exact rows_eq (Kernel13Ideal.NaCtx.X m c) hX _ _ _ _

theorem algebraic : Cert.algebraic_Kernel13Ideal_Reference13Ideal_pre_finite13 := by
  pair_intro
  · run_from Cert.Kernel13Ideal.Value.run_blocks m g
  · run_from Cert.Reference13Ideal.NaCtx.run' m' g'
    exact value_eq m hpre c

end Cert.Proof.NaCtx

end
-- ==== Proof.DownBodyI.lean ====
module

public import proofs.«01_k».proof.Proof.Gen.Kernel3Ideal.Frame
public import proofs.«01_k».proof.Proof.Gen.Kernel3Ideal.Skeleton
public import Idealize.ShloMosaic.Lib.Claim
public import Idealize.ShloMosaic.Lib.VecWindow
public import Idealize.ShloMosaic.Lib.WritesUnit

@[expose] public section

set_option maxRecDepth 16384

noncomputable section

namespace Cert.Kernel3Ideal.Down

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem off1_eq (i : grid0.Coords) : k0_off1 i = ![(i 2).val, 0, 0] := by
  revert i; decide +kernel

theorem off3_eq (i : grid0.Coords) : k0_off3 i = ![(i 2).val, 0, 0] := by
  revert i; decide +kernel

theorem size0 : S1x1024x512.size 0 = 1 := rfl

/-- One slot of the carried array: the block of sixteen-byte rows at an offset, as a matrix. -/
def slotAt (o : Fin 3 → ℕ) (h : ∀ a, o a + S1x1024x512.size a ≤ S4x1024x512.size a) (hq : S1x1024x512.Squeezes S1024x512)
    (xs : Vec F S4x1024x512 .f32) : Vec F S1024x512 .f32 :=
  fun y => xs ((Rect.unit (s := S4x1024x512) o S1x1024x512.size h).emb (Shape.reshapeEquiv hq.numel_eq y))

theorem slot_write_same {κ : Kind} {sp : Space} (M : Memref sig κ sp S4x1024x512 .f32) (o : Fin 3 → ℕ)
    (h : ∀ a, o a + S1x1024x512.size a ≤ S4x1024x512.size a) (hu : ∀ a, (Rect.unit (s := S4x1024x512) o S1x1024x512.size h).stride a = 1)
    (hq : S1x1024x512.Squeezes S1024x512) (hf : ∀ a, (![0, 0] : Fin 2 → ℕ) a + S1024x512.size a ≤ S1024x512.size a)
    (f : M.view.ty.Contents (Elt F)) (w : Vec F S1024x512 .f32) :
    slotAt o h hq (M.view.read (Elt F) ((((M.slice (Rect.unit (s := S4x1024x512) o S1x1024x512.size h) hu).squeeze S1024x512 hq).access
      (Rect.unit (s := S1024x512) ![0, 0] S1024x512.size hf)).write (Elt F) f w Finset.univ)) = w := by
  funext y
  have e := View.write_emb_of_mem (v := ((M.slice (Rect.unit (s := S4x1024x512) o S1x1024x512.size h) hu).squeeze S1024x512 hq).access
      (Rect.unit (s := S1024x512) ![0, 0] S1024x512.size hf)) (Val := Elt F) f w (Finset.mem_univ y)
  have ey : (Rect.unit (s := S1024x512) ![0, 0] S1024x512.size hf).emb y = y := by
    funext a; apply Fin.ext
    show (![0, 0] : Fin 2 → ℕ) a + 1 * (y a).val = (y a).val
    fin_cases a <;> simp
  have e' := congrArg (_root_.cast (congrArg (Elt F) M.view.elt_eq)) e
  refine Eq.trans ?_ (e'.trans ?_)
  · unfold slotAt
    rw [View.read_apply]
    conv_lhs => rw [← ey]
    rfl
  · exact cast_cast _ _ _

theorem slot_write_ne {κ : Kind} {sp : Space} (M : Memref sig κ sp S4x1024x512 .f32) (o : Fin 3 → ℕ)
    (h : ∀ a, o a + S1x1024x512.size a ≤ S4x1024x512.size a) (hu : ∀ a, (Rect.unit (s := S4x1024x512) o S1x1024x512.size h).stride a = 1)
    (hq : S1x1024x512.Squeezes S1024x512) (hf : ∀ a, (![0, 0] : Fin 2 → ℕ) a + S1024x512.size a ≤ S1024x512.size a)
    (f : M.view.ty.Contents (Elt F)) (w : Vec F S1024x512 .f32) (o' : Fin 3 → ℕ)
    (h' : ∀ a, o' a + S1x1024x512.size a ≤ S4x1024x512.size a) (hne : o' 0 ≠ o 0) :
    slotAt o' h' hq (M.view.read (Elt F) ((((M.slice (Rect.unit (s := S4x1024x512) o S1x1024x512.size h) hu).squeeze S1024x512 hq).access
      (Rect.unit (s := S1024x512) ![0, 0] S1024x512.size hf)).write (Elt F) f w Finset.univ)) = slotAt o' h' hq (M.view.read (Elt F) f) := by
  funext y
  unfold slotAt
  rw [View.read_apply, View.read_apply]
  refine congrArg _ (View.write_of_not_mem (v := ((M.slice (Rect.unit (s := S4x1024x512) o S1x1024x512.size h) hu).squeeze S1024x512 hq).access
      (Rect.unit (s := S1024x512) ![0, 0] S1024x512.size hf)) (Val := Elt F) f w Finset.univ ?_)
  intro hm
  obtain ⟨z, -, hz⟩ := Finset.mem_map.mp hm
  have hz' : M.view.emb ((Rect.unit (s := S4x1024x512) o S1x1024x512.size h).emb (Shape.reshapeEquiv hq.numel_eq
      ((Rect.unit (s := S1024x512) ![0, 0] S1024x512.size hf).emb z)))
      = M.view.emb ((Rect.unit (s := S4x1024x512) o' S1x1024x512.size h').emb (Shape.reshapeEquiv hq.numel_eq y)) := hz
  have h0 := congrArg (fun x : S4x1024x512.Idx => (x 0).val) (M.view.emb.injective hz')
  have h1 : o 0 + 1 * ((Shape.reshapeEquiv hq.numel_eq ((Rect.unit (s := S1024x512) ![0, 0] S1024x512.size hf).emb z)) 0).val
      = o' 0 + 1 * ((Shape.reshapeEquiv hq.numel_eq y) 0).val := h0
  have b1 : _ < 1 := ((Shape.reshapeEquiv hq.numel_eq ((Rect.unit (s := S1024x512) ![0, 0] S1024x512.size hf).emb z)) 0).isLt
  have b2 : _ < 1 := ((Shape.reshapeEquiv hq.numel_eq y) 0).isLt
  omega

theorem off1_inb : ∀ i : grid0.Coords, ∀ a, k0_off1 i a + S1x1024x512.size a ≤ S4x1024x512.size a := by decide +kernel

theorem off4_inb : ∀ i : grid0.Coords, ∀ a, k0_off4 i a + S1x512.size a ≤ S8x512.size a := by decide +kernel

/-- The slot of the carried array a point uses. -/
def slotOf (i : grid0.Coords) (xs : Vec F S4x1024x512 .f32) : Vec F S1024x512 .f32 :=
  slotAt (k0_off1 i) (off1_inb i) squeezes_S1x1024x512_S1024x512 xs

set_option maxHeartbeats 1000000 in
/-- The body in the first half of the summed axis: it puts its product into its slot. -/
theorem run_half (c : Dev nD) (i : grid0.Coords) (h1 : k0_cond1 i = 1#1) (h2 : ¬ k0_cond2 i = 1#1) (h3 : ¬ k0_cond3 i = 1#1)
    (arg3 : Memref sig .tc .vmem S1024x4096 .bf16) (harg3 : arg3.IsWhole) (arg4 : Memref sig .tc .vmem S1x4096x512 .bf16) (harg4 : arg4.IsWhole)
    (arg5 : Memref sig .tc .vmem S1024x512 .f32) (harg5 : arg5.IsWhole) (arg6 : Memref sig .tc .vmem S8x512 .f32) (harg6 : arg6.IsWhole)
    (arg7 : Memref sig .tc .vmem S1x512 .f32) (harg7 : arg7.IsWhole) (arg8 : Memref sig .tc .vmem S8x512 .f32) (harg8 : arg8.IsWhole)
    (arg9 : Memref sig .tc .hbm S9216x2048 .bf16) (harg9 : arg9.IsWhole) (arg10 : Memref sig .tc .hbm S9216x128 .f32) (harg10 : arg10.IsWhole)
    (arg11 : Memref sig .tc .vmem S1024x512 .f32) (harg11 : arg11.IsWhole) (arg12 : Memref sig .tc .vmem S1024x512 .bf16) (harg12 : arg12.IsWhole)
    (arg13 : Memref sig .tc .vmem S1024x128 .f32) (harg13 : arg13.IsWhole) (arg14 : Memref sig .tc .vmem S4x1024x512 .f32) (harg14 : arg14.IsWhole)
    (x0 : Vec F S1024x4096 .bf16) (x1 : Vec F S1x4096x512 .bf16) (xs : Vec F S4x1024x512 .f32) (E : Set ℕ) (K : PUnit → sProp 𝕄) :
    iprop(owns (c : Thread nD τ) arg3 fullShare x0 ∗ owns (c : Thread nD τ) arg4 fullShare x1 ∗ owns (c : Thread nD τ) arg14 fullShare xs
        ∗ (iprop(owns (c : Thread nD τ) arg3 fullShare x0 ∗ owns (c : Thread nD τ) arg4 fullShare x1
            ∗ (∃ xs', ⌜slotOf i xs' = k0_pay6 x0 x1 ∧ ∀ j : grid0.Coords, (j 2).val ≠ (i 2).val → slotOf j xs' = slotOf j xs⌝
              ∗ owns (c : Thread nD τ) arg14 fullShare xs')) -∗ K ⟨⟩))
      ⊢ wp frame (wpE (defs₀ (F := F)) Variants.none c none) E (cc0_mm_res i arg3 harg3 arg4 harg4 arg5 harg5 arg6 harg6 arg7 harg7 arg8 harg8 arg9 harg9 arg10 harg10 arg11 harg11 arg12 harg12 arg13 harg13 arg14 harg14) K := by
  simp only [cc0_mm_res_eq_skeleton]; unfold cc0_mm_res_skel
  simp only [k0_part1_eq_skeleton]; unfold k0_part1_skel
  unfold owns
  iintro ⟨⟨%f0, %hf0, H0⟩, ⟨%f1, %hf1, H1⟩, ⟨%f2, %hf2, H2⟩, Hk⟩
  subst hf0 hf1 hf2
  simp only [dif_pos h1, dif_neg h2, dif_neg h3]
  letI : ClosedOff (k0_off1 i) := ⟨![(i 2).val, 0, 0], off1_eq i⟩
  sl_exec
  have hS : ∀ (o : Fin 3 → ℕ) (h : ∀ a, o a + S1x1024x512.size a ≤ S4x1024x512.size a) (hu : ∀ a, (Rect.unit (s := S4x1024x512) o S1x1024x512.size h).stride a = 1)
      (hq : S1x1024x512.Squeezes S1024x512) (r : Rect S1024x512),
      (((arg14.slice (Rect.unit (s := S4x1024x512) o S1x1024x512.size h) hu).squeeze S1024x512 hq).access r).setOn Finset.univ ⊆ arg14.view.set := fun o h hu hq r =>
    ((View.setOn_subset_set _ _).trans ((View.set_slice_subset _ _).trans
      ((subset_of_eq (Memref.set_view_squeeze _ _)).trans (View.set_slice_subset _ _))))
  iapply (wp_store (Γ := .empty) Variants.none c.tc none E (S := arg14.view.set) (f := f2) (hS _ _ _ _ _)) $$ [H2]
  · iexact H2
  iintro H2
  sl_exec
  sl_step
  iapply Hk
  isplitl [H0]
  · iexists _; isplitr; · ipureintro; rfl
    iexact H0
  isplitl [H1]
  · iexists _; isplitr; · ipureintro; rfl
    iexact H1
  iexists _; isplitr; swap
  · iexists _; isplitr; swap; · iexact H2
    ipureintro; rfl
  ipureintro
  have e0 : View.readAt (Elt F) arg3.view (Rect.unit ![0, 0] ![1024, 4096] inb_S1024x4096_S1024x4096_0_0).toLoadRect f0 = arg3.view.read (Elt F) f0 :=
    View.readAt_full arg3.view f0 inb_S1024x4096_S1024x4096_0_0
  have e1 : View.readAt (Elt F) arg4.view (Rect.unit ![0, 0, 0] ![1, 4096, 512] inb_S1x4096x512_S1x4096x512_0_0_0).toLoadRect f1 = arg4.view.read (Elt F) f1 :=
    View.readAt_full arg4.view f1 inb_S1x4096x512_S1x4096x512_0_0_0
  rw [← e0, ← e1]
  constructor
  · exact slot_write_same arg14 _ _ _ _ inb_S1024x512_S1024x512_0_0 f2 _
  · intro j hj
    refine slot_write_ne arg14 _ _ _ _ inb_S1024x512_S1024x512_0_0 f2 _ _ _ ?_
    rw [off1_eq, off1_eq]
    exact hj

/-- One row of an eight-row table: the row of the point's batch. -/
def rowOf (i : grid0.Coords) (x : Vec F S8x512 .f32) : Vec F S1x512 .f32 :=
  VecWindow.window x (k0_off4 i) S1x512.size (off4_inb i)

theorem slot_read (i : grid0.Coords) (h : ∀ a, k0_off3 i a + S1x1024x512.size a ≤ S4x1024x512.size a) (xs : Vec F S4x1024x512 .f32) :
    slotAt (k0_off3 i) h squeezes_S1x1024x512_S1024x512 xs = slotOf i xs := by
  have e : ∀ (o o' : Fin 3 → ℕ) (b b'), o = o' → slotAt o b squeezes_S1x1024x512_S1024x512 xs = slotAt o' b' squeezes_S1x1024x512_S1024x512 xs := by
    rintro o o' b b' rfl; rfl
  exact e _ _ _ _ ((off3_eq i).trans (off1_eq i).symm)

set_option maxHeartbeats 2000000 in
/-- The body in the second half of the summed axis, first column block: it completes the products and starts the sums of squares. -/
theorem run_last0 (c : Dev nD) (i : grid0.Coords) (h1 : ¬ k0_cond1 i = 1#1) (h2 : ¬ k0_cond2 i = 1#1) (h3 : k0_cond3 i = 1#1) (h4 : k0_cond4 i = 1#1) (h5 : ¬ k0_cond5 i = 1#1)
    (arg3 : Memref sig .tc .vmem S1024x4096 .bf16) (harg3 : arg3.IsWhole) (arg4 : Memref sig .tc .vmem S1x4096x512 .bf16) (harg4 : arg4.IsWhole)
    (arg5 : Memref sig .tc .vmem S1024x512 .f32) (harg5 : arg5.IsWhole) (arg6 : Memref sig .tc .vmem S8x512 .f32) (harg6 : arg6.IsWhole)
    (arg7 : Memref sig .tc .vmem S1x512 .f32) (harg7 : arg7.IsWhole) (arg8 : Memref sig .tc .vmem S8x512 .f32) (harg8 : arg8.IsWhole)
    (arg9 : Memref sig .tc .hbm S9216x2048 .bf16) (harg9 : arg9.IsWhole) (arg10 : Memref sig .tc .hbm S9216x128 .f32) (harg10 : arg10.IsWhole)
    (arg11 : Memref sig .tc .vmem S1024x512 .f32) (harg11 : arg11.IsWhole) (arg12 : Memref sig .tc .vmem S1024x512 .bf16) (harg12 : arg12.IsWhole)
    (arg13 : Memref sig .tc .vmem S1024x128 .f32) (harg13 : arg13.IsWhole) (arg14 : Memref sig .tc .vmem S4x1024x512 .f32) (harg14 : arg14.IsWhole)
    (x0 : Vec F S1024x4096 .bf16) (x1 : Vec F S1x4096x512 .bf16) (x2 : Vec F S1024x512 .f32) (x3 : Vec F S8x512 .f32) (x4 : Vec F S1x512 .f32) (x5 : Vec F S8x512 .f32)
    (xs : Vec F S4x1024x512 .f32) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
        ∗ (∃ d, owns (c : Thread nD τ) arg11 fullShare d) ∗ (∃ d, owns (c : Thread nD τ) arg12 fullShare d)
        ∗ (∃ d, owns (c : Thread nD τ) arg13 fullShare d) ∗ owns (c : Thread nD τ) arg14 fullShare xs
        ∗ (iprop(owns (c : Thread nD τ) arg3 fullShare x0 ∗ owns (c : Thread nD τ) arg4 fullShare x1 ∗ owns (c : Thread nD τ) arg5 fullShare x2
          ∗ owns (c : Thread nD τ) arg6 fullShare x3 ∗ owns (c : Thread nD τ) arg7 fullShare x4 ∗ owns (c : Thread nD τ) arg8 fullShare x5
          ∗ owns (c : Thread nD τ) arg11 fullShare (k0_pay1 (k0_pay5 x0 x1) (slotOf i xs) x2 (rowOf i x3))
          ∗ owns (c : Thread nD τ) arg12 fullShare (k0_pay2 (k0_pay5 x0 x1) (slotOf i xs) x2 (rowOf i x3) x4 (rowOf i x5))
          ∗ owns (c : Thread nD τ) arg13 fullShare (k0_pay3 (k0_pay5 x0 x1) (slotOf i xs) x2 (rowOf i x3))
          ∗ owns (c : Thread nD τ) arg14 fullShare xs) -∗ K ⟨⟩))
      ⊢ wp frame (wpE (defs₀ (F := F)) Variants.none c none) E (cc0_mm_res i arg3 harg3 arg4 harg4 arg5 harg5 arg6 harg6 arg7 harg7 arg8 harg8 arg9 harg9 arg10 harg10 arg11 harg11 arg12 harg12 arg13 harg13 arg14 harg14) K := by
  simp only [cc0_mm_res_eq_skeleton]; unfold cc0_mm_res_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, Hk⟩
  subst hf0 hf1 hf2 hf3 hf4 hf5 hf9
  simp only [dif_neg h1, dif_neg h2, dif_pos h3, dif_pos h4, dif_neg h5]
  sl_exec
  sl_step
  iapply Hk
  have e0 : View.readAt (Elt F) arg3.view (Rect.unit ![0, 0] ![1024, 4096] inb_S1024x4096_S1024x4096_0_0).toLoadRect f0 = arg3.view.read (Elt F) f0 :=
    View.readAt_full arg3.view f0 inb_S1024x4096_S1024x4096_0_0
  have e1 : View.readAt (Elt F) arg4.view (Rect.unit ![0, 0, 0] ![1, 4096, 512] inb_S1x4096x512_S1x4096x512_0_0_0).toLoadRect f1 = arg4.view.read (Elt F) f1 :=
    View.readAt_full arg4.view f1 inb_S1x4096x512_S1x4096x512_0_0_0
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  have e2 : View.readAt (Elt F) arg5.view (Rect.unit ![0, 0] ![1024, 512] inb_S1024x512_S1024x512_0_0).toLoadRect f2 = arg5.view.read (Elt F) f2 :=
    View.readAt_full arg5.view f2 inb_S1024x512_S1024x512_0_0
  have e4 : View.readAt (Elt F) arg7.view (Rect.unit ![0, 0] ![1, 512] inb_S1x512_S1x512_0_0).toLoadRect f4 = arg7.view.read (Elt F) f4 :=
    View.readAt_full arg7.view f4 inb_S1x512_S1x512_0_0
  have e9 : run_last0.sl.v38 c i h3 arg14 f9 = slotOf i (arg14.view.read (Elt F) f9) := by
    unfold run_last0.sl.v38
    exact (View.readAt_full ((arg14.slice (Rect.unit (s := S4x1024x512) (k0_off3 i) S1x1024x512.size (k0_off3_inb i h3)) (fun _ => rfl)).squeeze S1024x512 squeezes_S1x1024x512_S1024x512).view f9 inb_S1024x512_S1024x512_0_0).trans
      (Eq.trans (b := slotAt (k0_off3 i) (k0_off3_inb i h3) squeezes_S1x1024x512_S1024x512 (arg14.view.read (Elt F) f9)) rfl (slot_read i _ _))
  have e42 : run_last0.sl.v42 c i h3 arg6 f3 = rowOf i (arg6.view.read (Elt F) f3) := rfl
  have e50 : run_last0.sl.v50 c i h3 arg8 f5 = rowOf i (arg8.view.read (Elt F) f5) := rfl
  isplitl [H6]
  · iexists _; isplitr; swap; · iexact H6
    ipureintro
    refine (View.read_writes_full arg11.view f6 inb_S1024x512_S1024x512_0_0 _ _).trans ?_
    rw [e0, e1, e2, e9, e42]
  isplitl [H7]
  · iexists _; isplitr; swap; · iexact H7
    ipureintro
    refine (View.read_writes_full arg12.view f7 inb_S1024x512_S1024x512_0_0 _ _).trans ?_
    rw [e0, e1, e2, e4, e9, e42, e50]
  isplitl [H8]
  · iexists _; isplitr; swap; · iexact H8
    ipureintro
    refine (View.read_writes_full arg13.view f8 inb_S1024x128_S1024x128_0_0 _ _).trans ?_
    rw [e0, e1, e2, e9, e42]
  · iexists _; isplitr; · ipureintro; rfl
    iexact H9

set_option maxHeartbeats 2000000 in
/-- The body in the second half of the summed axis, a later column block: it adds to the sums of squares. -/
theorem run_last (c : Dev nD) (i : grid0.Coords) (h1 : ¬ k0_cond1 i = 1#1) (h2 : ¬ k0_cond2 i = 1#1) (h3 : k0_cond3 i = 1#1) (h4 : ¬ k0_cond4 i = 1#1) (h5 : k0_cond5 i = 1#1)
    (arg3 : Memref sig .tc .vmem S1024x4096 .bf16) (harg3 : arg3.IsWhole) (arg4 : Memref sig .tc .vmem S1x4096x512 .bf16) (harg4 : arg4.IsWhole)
    (arg5 : Memref sig .tc .vmem S1024x512 .f32) (harg5 : arg5.IsWhole) (arg6 : Memref sig .tc .vmem S8x512 .f32) (harg6 : arg6.IsWhole)
    (arg7 : Memref sig .tc .vmem S1x512 .f32) (harg7 : arg7.IsWhole) (arg8 : Memref sig .tc .vmem S8x512 .f32) (harg8 : arg8.IsWhole)
    (arg9 : Memref sig .tc .hbm S9216x2048 .bf16) (harg9 : arg9.IsWhole) (arg10 : Memref sig .tc .hbm S9216x128 .f32) (harg10 : arg10.IsWhole)
    (arg11 : Memref sig .tc .vmem S1024x512 .f32) (harg11 : arg11.IsWhole) (arg12 : Memref sig .tc .vmem S1024x512 .bf16) (harg12 : arg12.IsWhole)
    (arg13 : Memref sig .tc .vmem S1024x128 .f32) (harg13 : arg13.IsWhole) (arg14 : Memref sig .tc .vmem S4x1024x512 .f32) (harg14 : arg14.IsWhole)
    (x0 : Vec F S1024x4096 .bf16) (x1 : Vec F S1x4096x512 .bf16) (x2 : Vec F S1024x512 .f32) (x3 : Vec F S8x512 .f32) (x4 : Vec F S1x512 .f32) (x5 : Vec F S8x512 .f32)
    (x8 : Vec F S1024x128 .f32) (xs : Vec F S4x1024x512 .f32) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
        ∗ (∃ d, owns (c : Thread nD τ) arg11 fullShare d) ∗ (∃ d, owns (c : Thread nD τ) arg12 fullShare d)
        ∗ owns (c : Thread nD τ) arg13 fullShare x8 ∗ owns (c : Thread nD τ) arg14 fullShare xs
        ∗ (iprop(owns (c : Thread nD τ) arg3 fullShare x0 ∗ owns (c : Thread nD τ) arg4 fullShare x1 ∗ owns (c : Thread nD τ) arg5 fullShare x2
          ∗ owns (c : Thread nD τ) arg6 fullShare x3 ∗ owns (c : Thread nD τ) arg7 fullShare x4 ∗ owns (c : Thread nD τ) arg8 fullShare x5
          ∗ owns (c : Thread nD τ) arg11 fullShare (k0_pay1 (k0_pay5 x0 x1) (slotOf i xs) x2 (rowOf i x3))
          ∗ owns (c : Thread nD τ) arg12 fullShare (k0_pay2 (k0_pay5 x0 x1) (slotOf i xs) x2 (rowOf i x3) x4 (rowOf i x5))
          ∗ owns (c : Thread nD τ) arg13 fullShare (k0_pay4 (k0_pay5 x0 x1) (slotOf i xs) x2 (rowOf i x3) x8)
          ∗ owns (c : Thread nD τ) arg14 fullShare xs) -∗ K ⟨⟩))
      ⊢ wp frame (wpE (defs₀ (F := F)) Variants.none c none) E (cc0_mm_res i arg3 harg3 arg4 harg4 arg5 harg5 arg6 harg6 arg7 harg7 arg8 harg8 arg9 harg9 arg10 harg10 arg11 harg11 arg12 harg12 arg13 harg13 arg14 harg14) K := by
  simp only [cc0_mm_res_eq_skeleton]; unfold cc0_mm_res_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%f9, %hf9, H9⟩, Hk⟩
  subst hf0 hf1 hf2 hf3 hf4 hf5 hf9 hf8
  simp only [dif_neg h1, dif_neg h2, dif_pos h3, dif_neg h4, dif_pos h5]
  sl_exec
  sl_step
  iapply Hk
  have e0 : View.readAt (Elt F) arg3.view (Rect.unit ![0, 0] ![1024, 4096] inb_S1024x4096_S1024x4096_0_0).toLoadRect f0 = arg3.view.read (Elt F) f0 :=
    View.readAt_full arg3.view f0 inb_S1024x4096_S1024x4096_0_0
  have e1 : View.readAt (Elt F) arg4.view (Rect.unit ![0, 0, 0] ![1, 4096, 512] inb_S1x4096x512_S1x4096x512_0_0_0).toLoadRect f1 = arg4.view.read (Elt F) f1 :=
    View.readAt_full arg4.view f1 inb_S1x4096x512_S1x4096x512_0_0_0
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  have e2 : View.readAt (Elt F) arg5.view (Rect.unit ![0, 0] ![1024, 512] inb_S1024x512_S1024x512_0_0).toLoadRect f2 = arg5.view.read (Elt F) f2 :=
    View.readAt_full arg5.view f2 inb_S1024x512_S1024x512_0_0
  have e4 : View.readAt (Elt F) arg7.view (Rect.unit ![0, 0] ![1, 512] inb_S1x512_S1x512_0_0).toLoadRect f4 = arg7.view.read (Elt F) f4 :=
    View.readAt_full arg7.view f4 inb_S1x512_S1x512_0_0
  have e8 : View.readAt (Elt F) arg13.view (Rect.unit ![0, 0] ![1024, 128] inb_S1024x128_S1024x128_0_0).toLoadRect f8 = arg13.view.read (Elt F) f8 :=
    View.readAt_full arg13.view f8 inb_S1024x128_S1024x128_0_0
  have e9 : run_last.sl.v38 c i h3 arg14 f9 = slotOf i (arg14.view.read (Elt F) f9) := by
    unfold run_last.sl.v38
    exact (View.readAt_full ((arg14.slice (Rect.unit (s := S4x1024x512) (k0_off3 i) S1x1024x512.size (k0_off3_inb i h3)) (fun _ => rfl)).squeeze S1024x512 squeezes_S1x1024x512_S1024x512).view f9 inb_S1024x512_S1024x512_0_0).trans
      (Eq.trans (b := slotAt (k0_off3 i) (k0_off3_inb i h3) squeezes_S1x1024x512_S1024x512 (arg14.view.read (Elt F) f9)) rfl (slot_read i _ _))
  have e42 : run_last.sl.v42 c i h3 arg6 f3 = rowOf i (arg6.view.read (Elt F) f3) := rfl
  have e50 : run_last.sl.v50 c i h3 arg8 f5 = rowOf i (arg8.view.read (Elt F) f5) := rfl
  isplitl [H6]
  · iexists _; isplitr; swap; · iexact H6
    ipureintro
    refine (View.read_writes_full arg11.view f6 inb_S1024x512_S1024x512_0_0 _ _).trans ?_
    rw [e0, e1, e2, e9, e42]
  isplitl [H7]
  · iexists _; isplitr; swap; · iexact H7
    ipureintro
    refine (View.read_writes_full arg12.view f7 inb_S1024x512_S1024x512_0_0 _ _).trans ?_
    rw [e0, e1, e2, e4, e9, e42, e50]
  isplitl [H8]
  · iexists _; isplitr; swap; · iexact H8
    ipureintro
    refine (View.read_writes_full arg13.view f8 inb_S1024x128_S1024x128_0_0 _ _).trans ?_
    rw [e0, e1, e2, e9, e42, e8]
  · iexists _; isplitr; · ipureintro; rfl
    iexact H9

end Cert.Kernel3Ideal.Down

end
-- ==== Proof.DownFrameI.lean ====
module

public import proofs.«01_k».proof.Proof.DownBodyI

@[expose] public section

set_option maxRecDepth 16384

noncomputable section

namespace Cert.Kernel3Ideal.Down

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The grid -/

theorem coord2_at : ∀ t : Fin grid0.N, ((grid0.coords t) 2).val = t.val % 4 := by decide +kernel
theorem cond1_iff : ∀ t : Fin grid0.N, k0_cond1 (grid0.coords t) = 1#1 ↔ t.val % 8 < 4 := by decide +kernel
theorem cond2_not : ∀ t : Fin grid0.N, ¬ k0_cond2 (grid0.coords t) = 1#1 := by decide +kernel
theorem cond3_iff : ∀ t : Fin grid0.N, k0_cond3 (grid0.coords t) = 1#1 ↔ 4 ≤ t.val % 8 := by decide +kernel
theorem cond4_iff : ∀ t : Fin grid0.N, k0_cond4 (grid0.coords t) = 1#1 ↔ t.val % 4 = 0 := by decide +kernel
theorem cond5_iff : ∀ t : Fin grid0.N, k0_cond5 (grid0.coords t) = 1#1 ↔ t.val % 4 ≠ 0 := by decide +kernel

theorem idle_6 : ∀ t : Fin grid0.N, t.val % 8 < 4 → idle0 6 (grid0.coords t) = true := by decide +kernel
theorem idle_7 : ∀ t : Fin grid0.N, t.val % 8 < 4 → idle0 7 (grid0.coords t) = true := by decide +kernel
theorem idle_8 : ∀ t : Fin grid0.N, t.val % 8 < 4 → idle0 8 (grid0.coords t) = true := by decide +kernel
theorem live_6 : ∀ t : Fin grid0.N, 4 ≤ t.val % 8 → idle0 6 (grid0.coords t) = false := by decide +kernel
theorem live_7 : ∀ t : Fin grid0.N, 4 ≤ t.val % 8 → idle0 7 (grid0.coords t) = false := by decide +kernel
theorem live_8 : ∀ t : Fin grid0.N, 4 ≤ t.val % 8 → idle0 8 (grid0.coords t) = false := by decide +kernel
theorem hold_6 : ∀ t : Fin grid0.N, t.val % 8 < 4 → win0_6.flush t = false := by decide +kernel
theorem hold_7 : ∀ t : Fin grid0.N, t.val % 8 < 4 → win0_7.flush t = false := by decide +kernel
theorem hold_8 : ∀ t : Fin grid0.N, t.val % 8 ≠ 7 → win0_8.flush t = false := by decide +kernel

/-- The point of the first half of the summed axis for the same block. -/
def half (t : Fin cfg0.N) : Fin cfg0.N := ⟨t.val - 4, lt_of_le_of_lt (Nat.sub_le _ _) t.isLt⟩

/-- The point before. -/
def prev (t : Fin cfg0.N) : Fin cfg0.N := ⟨t.val - 1, lt_of_le_of_lt (Nat.sub_le _ _) t.isLt⟩

theorem slotOf_congr {i j : grid0.Coords} (h : (i 2).val = (j 2).val) (xs : Vec F S4x1024x512 .f32) : slotOf i xs = slotOf j xs := by
  have e : ∀ (o o' : Fin 3 → ℕ) (b b'), o = o' → slotAt o b squeezes_S1x1024x512_S1024x512 xs = slotAt o' b' squeezes_S1x1024x512_S1024x512 xs := by
    rintro o o' b b' rfl; rfl
  refine e _ _ _ _ ?_
  rw [off1_eq, off1_eq, h]

variable (m : (ℓ : Loc nD τ sig) → Buf (Elt F) ℓ) (ρ : Dev nD → PrngReg)

/-! ## What the carried array and the outputs hold -/

/-- What a point of the first half of the summed axis puts into its slot. -/
def partAt (c : Dev nD) (t : Fin cfg0.N) : Vec F S1024x512 .f32 := k0_pay6 (iblk m c 0 t) (iblk m c 1 t)

/-- The slots of the points of the first half before position `n`, of the current row of blocks, hold what those points put there. -/
def Kept (c : Dev nD) (n : ℕ) (xs : Vec F S4x1024x512 .f32) : Prop :=
  ∀ s : Fin cfg0.N, s.val < n → s.val % 8 < 4 → n ≤ 8 * (s.val / 8) + 8 → slotOf (grid0.coords s) xs = partAt m c s

/-- What a point of the second half writes to the first output: the block plus the gated product. -/
def hAt (c : Dev nD) (t : Fin cfg0.N) : Vec F S1024x512 .f32 :=
  k0_pay1 (k0_pay5 (iblk m c 0 t) (iblk m c 1 t)) (partAt m c (half t)) (iblk m c 2 t) (rowOf (grid0.coords t) (iblk m c 3 t))

/-- What it writes to the second output: the first one scaled. -/
def xAt (c : Dev nD) (t : Fin cfg0.N) : Vec F S1024x512 .bf16 :=
  k0_pay2 (k0_pay5 (iblk m c 0 t) (iblk m c 1 t)) (partAt m c (half t)) (iblk m c 2 t) (rowOf (grid0.coords t) (iblk m c 3 t))
    (iblk m c 4 t) (rowOf (grid0.coords t) (iblk m c 5 t))

/-- A point's sums of squares. -/
def sqAt (c : Dev nD) (t : Fin cfg0.N) : Vec F S1024x128 .f32 :=
  k0_pay3 (k0_pay5 (iblk m c 0 t) (iblk m c 1 t)) (partAt m c (half t)) (iblk m c 2 t) (rowOf (grid0.coords t) (iblk m c 3 t))

/-- A point's sums of squares added to the ones so far. -/
def addAt (c : Dev nD) (t : Fin cfg0.N) (x : Vec F S1024x128 .f32) : Vec F S1024x128 .f32 :=
  k0_pay4 (k0_pay5 (iblk m c 0 t) (iblk m c 1 t)) (partAt m c (half t)) (iblk m c 2 t) (rowOf (grid0.coords t) (iblk m c 3 t)) x

/-- The sums of squares after position `n`. -/
def sumTo (c : Dev nD) : ℕ → Vec F S1024x128 .f32
  | 0 => sqAt m c ⟨0, by decide⟩
  | n + 1 => if h : n + 1 < cfg0.N then (if (n + 1) % 8 ≤ 4 then sqAt m c ⟨n + 1, h⟩ else addAt m c ⟨n + 1, h⟩ (sumTo c n)) else sumTo c n

theorem sumTo_first (c : Dev nD) (t : Fin cfg0.N) (h : t.val % 8 ≤ 4) : sumTo m c t.val = sqAt m c t := by
  obtain ⟨n, hn⟩ := t
  cases n with
  | zero => rfl
  | succ n =>
    show sumTo m c (n + 1) = _
    unfold sumTo
    rw [dif_pos hn, if_pos h]

theorem sumTo_later (c : Dev nD) (t : Fin cfg0.N) (h : ¬ t.val % 8 ≤ 4) : sumTo m c t.val = addAt m c t (sumTo m c (prev t).val) := by
  obtain ⟨n, hn⟩ := t
  cases n with
  | zero => exact absurd (Nat.zero_le 4) h
  | succ n =>
    show sumTo m c (n + 1) = _
    conv_lhs => unfold sumTo
    rw [dif_pos hn, if_neg h]
    rfl

theorem kept_put (c : Dev nD) (t : Fin cfg0.N) (xs xs' : Vec F S4x1024x512 .f32) (h : Kept m c t.val xs) (ht : t.val % 8 < 4)
    (h1 : slotOf (grid0.coords t) xs' = partAt m c t)
    (h2 : ∀ j : grid0.Coords, (j 2).val ≠ ((grid0.coords t) 2).val → slotOf j xs' = slotOf j xs) : Kept m c (t.val + 1) xs' := by
  intro s hs hs8 hb
  rcases Nat.lt_or_ge s.val t.val with hlt | hge
  · rw [h2 _ (by rw [coord2_at, coord2_at]; omega)]
    exact h s hlt hs8 (by omega)
  · have e : s = t := Fin.ext (by omega)
    subst e
    exact h1

theorem kept_later (c : Dev nD) (t : Fin cfg0.N) (xs : Vec F S4x1024x512 .f32) (h : Kept m c t.val xs) (ht : 4 ≤ t.val % 8) :
    Kept m c (t.val + 1) xs := fun s hs hs8 hb => h s (by have : s.val ≠ t.val := fun e => by omega
                                                          omega) hs8 (by omega)

theorem slot_of_kept (c : Dev nD) (t : Fin cfg0.N) (xs : Vec F S4x1024x512 .f32) (h : Kept m c t.val xs) (ht : 4 ≤ t.val % 8) :
    slotOf (grid0.coords t) xs = partAt m c (half t) := by
  have hv : (half t).val = t.val - 4 := rfl
  rw [slotOf_congr (j := grid0.coords (half t)) (by rw [coord2_at, coord2_at, hv]; omega)]
  exact h (half t) (by omega) (by omega) (by omega)

/-! ## The pipeline's proof data -/

/-- The invariant: the carried table with the slots put so far, and the generator register. -/
def Phi (c : Dev nD) (n : ℕ) : sProp 𝕄 :=
  iprop(∃ xs : Vec F S4x1024x512 .f32, ⌜Kept m c n xs⌝ ∗ owns (c : Thread nD τ) (Memref.whole cc0_scratch0) fullShare xs ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => hAt m c t
    | ⟨7, _⟩ => xAt m c t
    | ⟨8, _⟩ => sumTo m c t.val
  Φ t := Phi m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = hAt m c t := by dsimp only [dats]
theorem after0_7 (c : Dev nD) (t : Fin cfg0.N) : (dats m 0 c).after 7 t = xAt m c t := by dsimp only [dats]
theorem after0_8 (c : Dev nD) (t : Fin cfg0.N) : (dats m 0 c).after 8 t = sumTo m c t.val := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- Past the first column block the third output's buffer holds the sums of squares so far. -/
theorem before0_8 (c : Dev nD) (t : Fin cfg0.N) (h : ¬ t.val % 8 ≤ 4) (d) : (dats m 0 c).before 8 t d = sumTo m c (prev t).val := by
  have hv : (prev t).val = t.val - 1 := rfl
  have hf : (cfg0.win 8).flush (prev t) = false := hold_8 (prev t) (by omega)
  have hi : cfg0.idle 8 (cfg0.grid.coords (prev t)) = false := live_8 (prev t) (by omega)
  rw [(dats m 0 c).before_of_pos 8 t (by omega) rfl d]
  show (if (cfg0.win 8).flush (prev t) then d else (dats m 0 c).left 8 (prev t) d) = _
  rw [hf, if_neg Bool.false_ne_true]
  unfold Dat.left
  rw [hi]
  rfl

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (dats m 0 c).leavesExact 6 t ∗ (dats m 0 c).leavesExact 7 t ∗ (dats m 0 c).leavesExact 8 t)

theorem leaves_live (c : Dev nD) (w : Fin cfg0.W) (t : Fin cfg0.N) (hi : cfg0.idle w (cfg0.grid.coords t) = false) :
    (dats (F := F) m 0 c).leavesExact w t = owns (c : Thread nD τ) ((cfg0.win w).stage (cfg0.slots t w)) fullShare ((dats m 0 c).after w t) := by
  unfold Dat.leavesExact; rw [hi]

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = Phi m c (t.val + 1) from rfl, show (dats m 0 c).Φ t.castSucc = Phi m c t.val from rfl,
    show (dats m 0 c).owesAt () t.succ = (dats m 0 c).owesAt () t.castSucc from rfl,
    after0_0, after0_1, after0_2, after0_3, after0_4, after0_5]
  unfold Phi
  by_cases hc : t.val % 8 < 4
  · rw [(dats m 0 c).leavesExact_idle 6 t (idle_6 t hc) (hold_6 t hc), (dats m 0 c).leavesExact_idle 7 t (idle_7 t hc) (hold_7 t hc),
      (dats m 0 c).leavesExact_idle 8 t (idle_8 t hc) (hold_8 t (by omega))]
    iintro ⟨⟨%xs, %hx, HS, Hr⟩, Ho, ⟨%d0, H0⟩, ⟨%d1, H1⟩, ⟨%d2, H2⟩, ⟨%d3, H3⟩, ⟨%d4, H4⟩, ⟨%d5, H5⟩, H6, H7, H8⟩
    iapply (run_half c (grid0.coords t) ((cond1_iff t).mpr hc) (cond2_not t) (fun h => absurd ((cond3_iff t).mp h) (by omega)) _ _ _ _ _ _ _ _ _ _ _ _ _ _ _ _ _ _ _ _ _ _ _ _ (iblk m c 0 t) (iblk m c 1 t) xs Set.univ _)
    isplitl [H0]; · iexact H0
    isplitl [H1]; · iexact H1
    isplitl [HS]; · iexact HS
    iintro ⟨H0, H1, ⟨%xs', %hx', HS⟩⟩
    isplitl [HS Hr]
    · iexists xs'; isplitr
      · ipureintro; exact kept_put m c t xs xs' hx hc hx'.1 hx'.2
      isplitl [HS]; · iexact HS
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  have hc' : 4 ≤ t.val % 8 := Nat.le_of_not_lt hc
  rw [leaves_live m c 6 t (live_6 t hc'), leaves_live m c 7 t (live_7 t hc'), leaves_live m c 8 t (live_8 t hc'), after0_6, after0_7, after0_8]
  by_cases h4 : t.val % 8 ≤ 4
  · iintro ⟨⟨%xs, %hx, HS, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    rw [sumTo_first m c t h4]
    unfold hAt xAt sqAt
    rw [← slot_of_kept m c t xs hx hc']
    iapply (run_last0 c (grid0.coords t) (fun h => hc ((cond1_iff t).mp h)) (cond2_not t) ((cond3_iff t).mpr hc') ((cond4_iff t).mpr (by omega)) (fun h => (cond5_iff t).mp h (by omega)) _ _ _ _ _ _ _ _ _ _ _ _ _ _ _ _ _ _ _ _ _ _ _ _ (iblk m c 0 t) (iblk m c 1 t) (iblk m c 2 t) (iblk m c 3 t) (iblk m c 4 t) (iblk m c 5 t) xs Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [HS]; · iexact HS
    iintro ⟨H0, H1, H2, H3, H4, H5, H6, H7, H8, HS⟩
    isplitl [HS Hr]
    · iexists xs; isplitr
      · ipureintro; exact kept_later m c t xs hx hc'
      isplitl [HS]; · iexact HS
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · simp only [before0_8 m c t h4]
    iintro ⟨⟨%xs, %hx, HS, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    rw [sumTo_later m c t h4]
    unfold hAt xAt addAt
    rw [← slot_of_kept m c t xs hx hc']
    iapply (run_last c (grid0.coords t) (fun h => hc ((cond1_iff t).mp h)) (cond2_not t) ((cond3_iff t).mpr hc') (fun h => absurd ((cond4_iff t).mp h) (by omega)) ((cond5_iff t).mpr (by omega)) _ _ _ _ _ _ _ _ _ _ _ _ _ _ _ _ _ _ _ _ _ _ _ _ (iblk m c 0 t) (iblk m c 1 t) (iblk m c 2 t) (iblk m c 3 t) (iblk m c 4 t) (iblk m c 5 t) (sumTo m c (prev t).val) xs Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexact H8
    isplitl [HS]; · iexact HS
    iintro ⟨H0, H1, H2, H3, H4, H5, H6, H7, H8, HS⟩
    isplitl [HS Hr]
    · iexists xs; isplitr
      · ipureintro; exact kept_later m c t xs hx hc'
      isplitl [HS]; · iexact HS
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

theorem phi_in (c : Dev nD) : (Pipeline.ΦA spec0 c : sProp 𝕄) ⊢ (dats m 0 c).Φ 0 := by
  show _ ⊢ Phi m c 0
  unfold Pipeline.ΦA Phi
  rw [scopedRest0_eq]
  iintro ⟨⟨%f, H⟩, Hr⟩
  iexists f
  isplitr
  · ipureintro; exact fun s hs => absurd hs (Nat.not_lt_zero _)
  isplitl [H]
  · rw [owns_whole]; iexact H
  iexact Hr

theorem phi_out (c : Dev nD) : (dats m 0 c).Φ (Fin.last cfg0.N) ⊢ (Pipeline.ΦA spec0 c : sProp 𝕄) := by
  show Phi m c _ ⊢ _
  unfold Pipeline.ΦA Phi
  rw [scopedRest0_eq]
  simp only [owns_whole]
  iintro ⟨%xs, %hx, H, Hr⟩
  isplitl [H]
  · iexists xs; iexact H
  iexact Hr

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := phi_in m) (hout := phi_out m)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_main m ρ)) ((θ_run defs _ _).mono (fun _ h => h.2) (run_main_quiescent m ρ))

end Cert.Kernel3Ideal.Down

end
-- ==== Proof.DownFrame.lean ====
module

public import proofs.«01_k».proof.Proof.DownFrameI
public import proofs.«01_k».proof.Proof.Gen.Kernel3

/-! The frame of the second MLP product: its float program is, at any carrier of floats, the program of its
ideal reading, no operation having been replaced, so the frame of the one is the frame of the other. -/

@[expose] public section

set_option maxRecDepth 65536

noncomputable section

namespace Cert.Kernel3.Down

open Cert.Kernel3.Gen Idealize.ShloMosaic Idealize.ShloMosaic.TcCoe Idealize.SL.Sem

variable {F : FTy → Type} [FloatOps F]

/-- The two tables of kernel bodies are one table. -/
theorem bodies_eq : (defs₀ : Defs nD τ sig (Elt F) Λ₀) = Cert.Kernel3Ideal.defs₀ (F := F) := by
  unfold defs₀ Cert.Kernel3Ideal.defs₀
  refine congrArg Defs.onTc ?_
  funext l x
  match l, x with
  | 0, (t, s) => rfl
  | ⟨_ + 1, h⟩, _ => exact absurd h (Nat.not_lt.2 (Nat.le_add_left _ _))

/-- So are the tables with the pipelines added. -/
theorem defs_eq : (defs : Defs nD τ sig (Elt F) (Pipeline.Sig Λ₀ (Fin 1) fun p => (pcfgs (F := F) p).Adm))
    = Cert.Kernel3Ideal.defs (F := F) :=
  congrArg (Pipeline.defs pcfgs) bodies_eq

variable (m : (ℓ : Loc nD τ sig) → Buf (Elt F) ℓ) (ρ : Dev nD → PrngReg)

/-- The arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) := by
  rw [defs_eq]
  exact Cert.Kernel3Ideal.Down.frame m ρ

end Cert.Kernel3.Down

end
-- ==== Proof.DownVal.lean ====
/-
  The down-projection kernel's output arrays, from the argument arrays.
-/
module

public import proofs.«01_k».proof.Proof.DownFrameI
public import proofs.«01_k».proof.Proof.Up
public import Idealize.ShloMosaic.Lib.Pipeline.ValueKit

@[expose] public section

set_option maxRecDepth 16384

noncomputable section

namespace Cert.Kernel3Ideal.Down

open Cert.Kernel3Ideal Cert.Kernel3Ideal.Gen Idealize.ShloMosaic Idealize.ShloMosaic.TcCoe Idealize.SL.Sem
open Cert.Attn Cert.Up

/-! ## Sums -/

theorem sum_halves (f : Fin 8192 → EReal) :
    ∑ k, f k = ∑ k : Fin 4096, f ⟨k.val, by omega⟩ + ∑ k : Fin 4096, f ⟨4096 + k.val, by omega⟩ :=
  Fin.sum_univ_add (a := 4096) (b := 4096) f

theorem sum_sixteen (f : Fin 16 → EReal) :
    ∑ q, f q = (((f 0 + f 1 + f 2 + f 3) + (f 4 + f 5 + f 6 + f 7)) + (f 8 + f 9 + f 10 + f 11)) + (f 12 + f 13 + f 14 + f 15) := by
  rw [Fin.sum_univ_castSucc, Fin.sum_univ_castSucc, Fin.sum_univ_castSucc, Fin.sum_univ_castSucc, Fin.sum_univ_castSucc, Fin.sum_univ_castSucc,
    Fin.sum_univ_castSucc, Fin.sum_univ_castSucc, Fin.sum_univ_eight]
  simp only [add_assoc]
  rfl

/-! ## The payloads -/

theorem pay5_at (x : Vec Ideal S1024x4096 .bf16) (w : Vec Ideal S1x4096x512 .bf16) (a : Fin 1024) (b : Fin 512) :
    k0_pay5 (F := Ideal) x w (ix2 a b) = ∑ k : Fin 4096, x (ix2 a k) * w (ix3 0 k b) := by
  pointwise [k0_pay5]

theorem pay6_at (x : Vec Ideal S1024x4096 .bf16) (w : Vec Ideal S1x4096x512 .bf16) (a : Fin 1024) (b : Fin 512) :
    k0_pay6 (F := Ideal) x w (ix2 a b) = ∑ k : Fin 4096, x (ix2 a k) * w (ix3 0 k b) := by
  refine Eq.trans ?_ (pay5_at x w a b)
  pointwise [k0_pay6]

theorem pay1_at (p : FVec Ideal S1024x512 .f32) (q h : Vec Ideal S1024x512 .f32) (g : Vec Ideal S1x512 .f32) (a : Fin 1024) (b : Fin 512) :
    k0_pay1 (F := Ideal) p q h g (ix2 a b) = h (ix2 a b) + g (ix2 0 b) * (q (ix2 a b) + p (ix2 a b)) := by
  pointwise [k0_pay1]

theorem pay2_at (p : FVec Ideal S1024x512 .f32) (q h : Vec Ideal S1024x512 .f32) (g n s : Vec Ideal S1x512 .f32) (a : Fin 1024) (b : Fin 512) :
    k0_pay2 (F := Ideal) p q h g n s (ix2 a b) = k0_pay1 (F := Ideal) p q h g (ix2 a b) * (n (ix2 0 b) * (1 + s (ix2 0 b))) := by
  pointwise [k0_pay2, one_eq]

theorem pay3_at (p : FVec Ideal S1024x512 .f32) (q h : Vec Ideal S1024x512 .f32) (g : Vec Ideal S1x512 .f32) (a : Fin 1024) (l : Fin 128)
    (z : Fin 512 → EReal) (hz : ∀ b, k0_pay1 (F := Ideal) p q h g (ix2 a b) = z b) :
    k0_pay3 (F := Ideal) p q h g (ix2 a l) = z ⟨l.val, by omega⟩ * z ⟨l.val, by omega⟩ + z ⟨128 + l.val, by omega⟩ * z ⟨128 + l.val, by omega⟩
      + z ⟨256 + l.val, by omega⟩ * z ⟨256 + l.val, by omega⟩ + z ⟨384 + l.val, by omega⟩ * z ⟨384 + l.val, by omega⟩ := by
  simp only [← hz]
  generalize hp : k0_pay1 (F := Ideal) p q h g = P
  pointwise [k0_pay3, hp]

theorem pay4_at (p : FVec Ideal S1024x512 .f32) (q h : Vec Ideal S1024x512 .f32) (g : Vec Ideal S1x512 .f32) (x : Vec Ideal S1024x128 .f32) (a : Fin 1024) (l : Fin 128) :
    k0_pay4 (F := Ideal) p q h g x (ix2 a l) = x (ix2 a l) + k0_pay3 (F := Ideal) p q h g (ix2 a l) := by
  pointwise [k0_pay4]

variable (m : (ℓ : Loc nD τ sig) → Buf (Elt Ideal) ℓ)

theorem idx : ∀ t : Fin cfg0.N, win0_0.index t = ![t.val / 8, t.val / 4 % 2] ∧ win0_1.index t = ![0, t.val / 4 % 2, t.val % 4]
    ∧ win0_3.index t = ![0, 20 + t.val % 4] ∧ win0_4.index t = ![0, t.val % 4] ∧ win0_5.index t = ![0, 4 + t.val % 4]
    ∧ win0_8.index t = ![t.val / 8, 0] :=
  (by decide +kernel : ∀ t : Fin grid0.N, _)

theorem idx' : ∀ t : Fin cfg0.N, 4 ≤ t.val % 8 → win0_2.index t = ![t.val / 8, t.val % 4] ∧ win0_6.index t = ![t.val / 8, t.val % 4]
    ∧ win0_7.index t = ![t.val / 8, t.val % 4] :=
  (by decide +kernel : ∀ t : Fin grid0.N, _)

theorem off4_at : ∀ t : Fin grid0.N, k0_off4 (grid0.coords t) = ![min (t.val / 16) 4, 0] := by decide +kernel

theorem tlt (t : Fin cfg0.N) : t.val < 72 := t.isLt

def X (c : Dev nD) (i : Fin 9216) (k : Fin 8192) : EReal := m ((c : Thread nD τ).loc main_arg0) (ix2 i k)
def W (c : Dev nD) (k : Fin 8192) (j : Fin 2048) : EReal := m ((c : Thread nD τ).loc main_arg1) (ix3 0 k j)
def H (c : Dev nD) (i : Fin 9216) (j : Fin 2048) : EReal := m ((c : Thread nD τ).loc main_arg2) (ix2 i j)
def G (c : Dev nD) (q : Fin 8) (k : Fin 12288) : EReal := m ((c : Thread nD τ).loc main_arg3) (ix2 q k)
def NW (c : Dev nD) (j : Fin 2048) : EReal := m ((c : Thread nD τ).loc main_arg4) (ix1 j)
def NX (c : Dev nD) (q : Fin 8) (k : Fin 12288) : EReal := m ((c : Thread nD τ).loc main_arg5) (ix2 q k)

theorem b0_at (c : Dev nD) (t : Fin cfg0.N) (a : Fin 1024) (k : Fin 4096) :
    iblk m c 0 t (ix2 a k) = X m c ⟨1024 * (t.val / 8) + a.val, by have := tlt t; omega⟩ ⟨4096 * (t.val / 4 % 2) + k.val, by omega⟩ := by
  blk_ext [iblk, V, idx t, X]

theorem b1_at (c : Dev nD) (t : Fin cfg0.N) (k : Fin 4096) (b : Fin 512) :
    iblk m c 1 t (ix3 0 k b) = W m c ⟨4096 * (t.val / 4 % 2) + k.val, by omega⟩ ⟨512 * (t.val % 4) + b.val, by omega⟩ := by
  have h : ∀ (k : Fin 8192) (j : Fin 2048), V m c main_v0 (ix3 0 k j) = W m c k j := fun k j => by
    entry_read
    pointwise [W]
  refine Eq.trans ?_ (h _ _)
  blk_ext [iblk, V, idx t]

theorem b2_at (c : Dev nD) (t : Fin cfg0.N) (ht : 4 ≤ t.val % 8) (a : Fin 1024) (b : Fin 512) :
    iblk m c 2 t (ix2 a b) = H m c ⟨1024 * (t.val / 8) + a.val, by have := tlt t; omega⟩ ⟨512 * (t.val % 4) + b.val, by omega⟩ := by
  blk_ext [iblk, V, idx' t ht, H]

theorem b3_at (c : Dev nD) (t : Fin cfg0.N) (q : Fin 8) (b : Fin 512) :
    iblk m c 3 t (ix2 q b) = G m c q ⟨512 * (20 + t.val % 4) + b.val, by omega⟩ := by
  blk_ext [iblk, V, idx t, G]

theorem b4_at (c : Dev nD) (t : Fin cfg0.N) (b : Fin 512) :
    iblk m c 4 t (ix2 0 b) = NW m c ⟨512 * (t.val % 4) + b.val, by omega⟩ := by
  have h : ∀ j : Fin 2048, V m c main_v1 (ix2 0 j) = NW m c j := fun j => by
    entry_read
    pointwise [NW]
  refine Eq.trans ?_ (h _)
  blk_ext [iblk, V, idx t]

theorem b5_at (c : Dev nD) (t : Fin cfg0.N) (q : Fin 8) (b : Fin 512) :
    iblk m c 5 t (ix2 q b) = NX m c q ⟨512 * (4 + t.val % 4) + b.val, by omega⟩ := by
  blk_ext [iblk, V, idx t, NX]

/-- The modulation row of a row of the array. -/
def mrow (R : Fin 9216) : Fin 8 := ⟨min (R.val / 2048) 4, by omega⟩

theorem row_at (t : Fin cfg0.N) (x : Vec Ideal S8x512 .f32) (q : Fin 8) (hq : min (t.val / 16) 4 = q.val) (b : Fin 512) :
    rowOf (grid0.coords t) x (ix2 0 b) = x (ix2 q b) := by
  refine congrArg x (funext fun a => Fin.ext ?_)
  show k0_off4 (grid0.coords t) a + 1 * (ix2 (0 : Fin 1) b a).val = _
  rw [off4_at]
  fin_cases a
  · show min (t.val / 16) 4 + 1 * 0 = q.val; omega
  · show 0 + 1 * b.val = b.val; omega

/-! ## The entries -/

/-- The entry of the first result. -/
def hEnt (c : Dev nD) (R : Fin 9216) (C : Fin 2048) : EReal :=
  H m c R C + G m c (mrow R) ⟨10240 + C.val, by omega⟩ * ∑ k, X m c R k * W m c k C

/-- The entry of the second result. -/
def xEnt (c : Dev nD) (R : Fin 9216) (C : Fin 2048) : EReal :=
  hEnt m c R C * (NW m c C * (1 + NX m c (mrow R) ⟨2048 + C.val, by omega⟩))

/-- The entry of the third result. -/
def sEnt (c : Dev nD) (R : Fin 9216) (l : Fin 128) : EReal :=
  ∑ q : Fin 16, hEnt m c R ⟨128 * q.val + l.val, by omega⟩ * hEnt m c R ⟨128 * q.val + l.val, by omega⟩

theorem h_at (c : Dev nD) (t : Fin cfg0.N) (ht : 4 ≤ t.val % 8) (a : Fin 1024) (b : Fin 512) :
    hAt m c t (ix2 a b) = hEnt m c ⟨1024 * (t.val / 8) + a.val, by have := tlt t; omega⟩ ⟨512 * (t.val % 4) + b.val, by omega⟩ := by
  unfold hAt partAt
  rw [pay1_at, pay5_at, pay6_at, row_at t _ (mrow ⟨1024 * (t.val / 8) + a.val, by have := tlt t; omega⟩) (by
    show _ = min ((1024 * (t.val / 8) + a.val) / 2048) 4; omega)]
  simp only [b0_at, b1_at, b2_at m c t ht, b3_at]
  unfold hEnt
  rw [sum_halves]
  have hv : (half t).val = t.val - 4 := rfl
  refine congrArg₂ (· + ·) rfl (congrArg₂ (· * ·) (congrArg _ (Fin.ext (by simp only []; omega))) (congrArg₂ (· + ·) (Finset.sum_congr rfl fun k _ => ?_) (Finset.sum_congr rfl fun k _ => ?_)))
  · refine congrArg₂ (· * ·) (congrArg₂ _ (Fin.ext ?_) (Fin.ext ?_)) (congrArg₂ _ (Fin.ext ?_) (Fin.ext ?_)) <;> simp only [hv] <;> omega
  · refine congrArg₂ (· * ·) (congrArg₂ _ rfl (Fin.ext ?_)) (congrArg₂ _ (Fin.ext ?_) rfl) <;> simp only [] <;> omega

theorem x_at (c : Dev nD) (t : Fin cfg0.N) (ht : 4 ≤ t.val % 8) (a : Fin 1024) (b : Fin 512) :
    xAt m c t (ix2 a b) = xEnt m c ⟨1024 * (t.val / 8) + a.val, by have := tlt t; omega⟩ ⟨512 * (t.val % 4) + b.val, by omega⟩ := by
  unfold xAt
  rw [pay2_at, row_at t (iblk m c 5 t) (mrow ⟨1024 * (t.val / 8) + a.val, by have := tlt t; omega⟩) (by
    show _ = min ((1024 * (t.val / 8) + a.val) / 2048) 4; omega), b4_at, b5_at]
  refine congrArg₂ (· * ·) (h_at m c t ht a b) (congrArg₂ (· * ·) rfl (congrArg (1 + ·) (congrArg _ (Fin.ext ?_))))
  simp only []; omega

/-- The squares' sum of four lanes' columns of a column block. -/
def four (c : Dev nD) (R : Fin 9216) (l : Fin 128) (j : ℕ) (hj : j < 4) : EReal :=
  hEnt m c R ⟨512 * j + l.val, by omega⟩ * hEnt m c R ⟨512 * j + l.val, by omega⟩
    + hEnt m c R ⟨512 * j + (128 + l.val), by omega⟩ * hEnt m c R ⟨512 * j + (128 + l.val), by omega⟩
    + hEnt m c R ⟨512 * j + (256 + l.val), by omega⟩ * hEnt m c R ⟨512 * j + (256 + l.val), by omega⟩
    + hEnt m c R ⟨512 * j + (384 + l.val), by omega⟩ * hEnt m c R ⟨512 * j + (384 + l.val), by omega⟩

theorem sq_at (c : Dev nD) (t : Fin cfg0.N) (ht : 4 ≤ t.val % 8) (a : Fin 1024) (l : Fin 128) :
    sqAt m c t (ix2 a l) = four m c ⟨1024 * (t.val / 8) + a.val, by have := tlt t; omega⟩ l (t.val % 4) (by omega) :=
  pay3_at _ _ _ _ a l (fun b => hEnt m c ⟨1024 * (t.val / 8) + a.val, by have := tlt t; omega⟩ ⟨512 * (t.val % 4) + b.val, by omega⟩) fun b => h_at m c t ht a b

/-- The square of a column's entry, by its lanes' column. -/
def sqr (c : Dev nD) (R : Fin 9216) (l : Fin 128) (q : Fin 16) : EReal :=
  hEnt m c R ⟨128 * q.val + l.val, by omega⟩ * hEnt m c R ⟨128 * q.val + l.val, by omega⟩

theorem four_eq (c : Dev nD) (R : Fin 9216) (l : Fin 128) (j : ℕ) (hj : j < 4) :
    four m c R l j hj = sqr m c R l ⟨4 * j, by omega⟩ + sqr m c R l ⟨4 * j + 1, by omega⟩ + sqr m c R l ⟨4 * j + 2, by omega⟩ + sqr m c R l ⟨4 * j + 3, by omega⟩ := by
  refine congrArg₂ (· + ·) (congrArg₂ (· + ·) (congrArg₂ (· + ·) ?_ ?_) ?_) ?_ <;>
    exact congrArg (fun C => hEnt m c R C * hEnt m c R C) (Fin.ext (by simp only []; omega))

theorem sEnt_eq (c : Dev nD) (R : Fin 9216) (l : Fin 128) :
    sEnt m c R l = ((four m c R l 0 (by omega) + four m c R l 1 (by omega)) + four m c R l 2 (by omega)) + four m c R l 3 (by omega) := by
  rw [four_eq, four_eq, four_eq, four_eq]
  exact sum_sixteen (sqr m c R l)

theorem four_congr (c : Dev nD) (R R' : Fin 9216) (l : Fin 128) (j j' : ℕ) (hj : j < 4) (hj' : j' < 4) (hR : R = R') (e : j = j') :
    four m c R l j hj = four m c R' l j' hj' := by subst hR e; rfl

theorem add_at (c : Dev nD) (t : Fin cfg0.N) (x : Vec Ideal S1024x128 .f32) (a : Fin 1024) (l : Fin 128) :
    addAt m c t x (ix2 a l) = x (ix2 a l) + sqAt m c t (ix2 a l) := pay4_at _ _ _ _ _ _ _

theorem s_at (c : Dev nD) (t : Fin cfg0.N) (ht : t.val % 8 = 7) (a : Fin 1024) (l : Fin 128) :
    sumTo m c t.val (ix2 a l) = sEnt m c ⟨1024 * (t.val / 8) + a.val, by have := tlt t; omega⟩ l := by
  have v1 : (prev t).val = t.val - 1 := rfl
  have v2 : (prev (prev t)).val = t.val - 1 - 1 := rfl
  have v3 : (prev (prev (prev t))).val = t.val - 1 - 1 - 1 := rfl
  rw [sumTo_later m c t (by omega), add_at, sumTo_later m c (prev t) (by omega), add_at, sumTo_later m c (prev (prev t)) (by omega), add_at,
    sumTo_first m c (prev (prev (prev t))) (by omega), sq_at m c _ (by omega), sq_at m c _ (by omega), sq_at m c _ (by omega), sq_at m c _ (by omega)]
  rw [sEnt_eq]
  refine congrArg₂ (· + ·) (congrArg₂ (· + ·) (congrArg₂ (· + ·) ?_ ?_) ?_) ?_ <;>
    exact four_congr m c _ _ l _ _ _ _ (Fin.ext (by first | done | (simp only [v1, v2, v3]; first | done | omega))) (by omega)

/-! ## The output arrays -/

theorem final6 (c : Dev nD) : (dats m 0 c).arrAt 6 cfg0.N = fun j : S9216x2048.Idx => hEnt m c (j 0) (j 1) := by
  refine (dats m 0 c).arrAt_eq_of_covers 6 _ (by decide +kernel) fun t hf y => ?_
  have ht : 4 ≤ t.val % 8 := by
    by_contra hn
    exact absurd ((hold_6 t (by omega)).symm.trans hf) Bool.false_ne_true
  blk_simp
  rw [after0_6]
  idx_vars y
  refine (h_at m c t ht _ _).trans ?_
  congr 1 <;> refine Fin.ext ?_ <;> simp [idx' t ht, mul_comm]

theorem final7 (c : Dev nD) : (dats m 0 c).arrAt 7 cfg0.N = fun j : S9216x2048.Idx => xEnt m c (j 0) (j 1) := by
  refine (dats m 0 c).arrAt_eq_of_covers 7 _ (by decide +kernel) fun t hf y => ?_
  have ht : 4 ≤ t.val % 8 := by
    by_contra hn
    exact absurd ((hold_7 t (by omega)).symm.trans hf) Bool.false_ne_true
  blk_simp
  rw [after0_7]
  idx_vars y
  refine (x_at m c t ht _ _).trans ?_
  congr 1 <;> refine Fin.ext ?_ <;> simp [idx' t ht, mul_comm]

theorem final8 (c : Dev nD) : (dats m 0 c).arrAt 8 cfg0.N = fun j : S9216x128.Idx => sEnt m c (j 0) (j 1) := by
  refine (dats m 0 c).arrAt_eq_of_covers 8 _ (by decide +kernel) fun t hf y => ?_
  have ht : t.val % 8 = 7 := (flush0_8 t).mp hf
  blk_simp
  rw [after0_8]
  idx_vars y
  refine (s_at m c t ht _ _).trans ?_
  congr 1 <;> refine Fin.ext ?_ <;> simp [idx t, mul_comm]

theorem run_blocks (g : Dev nD → PrngReg) : θ_run defs (onTc (τ := τ) (main (F := Ideal))) ⟨m, fun _ => 0, g⟩ fun r => ∀ c : Dev nD,
      r.2.mem ((c : Thread nD τ).loc main_v2_0) = (dats m 0 c).arrAt 6 cfg0.N
      ∧ r.2.mem ((c : Thread nD τ).loc main_v2_1) = (dats m 0 c).arrAt 7 cfg0.N
      ∧ r.2.mem ((c : Thread nD τ).loc main_v2_2) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h.1.1 c).1 6, (h.1.1 c).1 7, (h.1.1 c).1 8, h.2.1 c⟩)
    (θ_run_and ((θ_run defs _ _).mono (fun _ h => (⟨h, trivial⟩ : _ ∧ True)) (run_main m g)) (frame m g))

end Cert.Kernel3Ideal.Down

end
-- ==== Proof.DownClaim.lean ====
/-
  The reference's down-projection read at an entry, and the two down-projection programs compute the same arrays.
-/
module

public import proofs.«01_k».proof.Defs
public import proofs.«01_k».proof.Proof.Gen.Reference3Ideal.Run
public import proofs.«01_k».proof.Proof.DownVal

@[expose] public section

set_option maxRecDepth 16384

noncomputable section

namespace Cert.Reference3Ideal.Down

open Cert.Reference3Ideal Cert.Reference3Ideal.Gen Idealize.ShloMosaic Idealize.ShloMosaic.TcCoe Idealize.SL.Sem
open Cert.Attn Cert.Up

/-- The gate of every row. -/
def gate (M : FVec Ideal S8x12288 .f32) : FVec Ideal S9216x2048 .f32 :=
  concatenate S9216x2048 0 [⟨S8192x2048, (shapeCast _ (broadcastInDim S4x2048x2048 ![0, 1, 2] bcast_S4x1x2048_S4x2048x2048_0_1_2 (broadcastInDim S4x1x2048 ![0, 2] bcast_S4x2048_S4x1x2048_0_2 (extractStridedSlice S4x2048 ![0, 0] (extractStridedSlice S8x2048 ![0, 10240] M slices_S8x12288_S8x2048_0_10240) slices_S8x2048_S4x2048_0_0))) shapeCasts_S4x2048x2048_S8192x2048)⟩, ⟨S1024x2048, (broadcastInDim S1024x2048 ![0, 1] bcast_S1x2048_S1024x2048_0_1 (extractStridedSlice S1x2048 ![4, 0] (extractStridedSlice S8x2048 ![0, 10240] M slices_S8x12288_S8x2048_0_10240) slices_S8x2048_S1x2048_4_0))⟩] concatenates_S8192x2048_S1024x2048_S9216x2048_d0

/-- The scale of every row. -/
def scl (M : FVec Ideal S8x12288 .f32) : FVec Ideal S9216x2048 .f32 :=
  concatenate S9216x2048 0 [⟨S8192x2048, (shapeCast _ (broadcastInDim S4x2048x2048 ![0, 1, 2] bcast_S4x1x2048_S4x2048x2048_0_1_2 (broadcastInDim S4x1x2048 ![0, 2] bcast_S4x2048_S4x1x2048_0_2 (extractStridedSlice S4x2048 ![0, 0] (extractStridedSlice S8x2048 ![0, 2048] M slices_S8x12288_S8x2048_0_2048) slices_S8x2048_S4x2048_0_0))) shapeCasts_S4x2048x2048_S8192x2048)⟩, ⟨S1024x2048, (broadcastInDim S1024x2048 ![0, 1] bcast_S1x2048_S1024x2048_0_1 (extractStridedSlice S1x2048 ![4, 0] (extractStridedSlice S8x2048 ![0, 2048] M slices_S8x12288_S8x2048_0_2048) slices_S8x2048_S1x2048_4_0))⟩] concatenates_S8192x2048_S1024x2048_S9216x2048_d0

/-- The product. -/
def prod (x : FVec Ideal S9216x8192 .bf16) (w : FVec Ideal S4x8192x2048 .f32) : FVec Ideal S9216x2048 .f32 :=
  Host.dotGeneral dot_S9216x8192_S8192x2048_S9216x2048_1_0_0_1_n_n none (extf .f32 x bitsLt_bf16_f32) (shapeCast _ (extractStridedSlice S1x8192x2048 ![0, 0, 0] w slices_S4x8192x2048_S1x8192x2048_0_0_0) shapeCasts_S1x8192x2048_S8192x2048)

/-- The array with the gated product added. -/
def hNew (h y g : FVec Ideal S9216x2048 .f32) : FVec Ideal S9216x2048 .f32 := addf h (mulf g y)

/-- The array scaled. -/
def scaled (h : FVec Ideal S9216x2048 .f32) (n : FVec Ideal S2048 .f32) (s : FVec Ideal S9216x2048 .f32) : FVec Ideal S9216x2048 .bf16 :=
  truncf .bf16 (mulf h (mulf (broadcastInDim S9216x2048 ![0, 1] bcast_S1x2048_S9216x2048_0_1 (broadcastInDim S1x2048 ![1] bcast_S2048_S1x2048_1 n)) (addf (broadcastInDim S9216x2048 ![] bcast_S_S9216x2048 (constant S_ .f32 0x3F800000#32)) s))) bitsLt_bf16_f32

/-- The squares' sums. -/
def squares (h : FVec Ideal S9216x2048 .f32) : FVec Ideal S9216x128 .f32 :=
  Host.reduceAdd (shapeCast _ (mulf h h) shapeCasts_S9216x2048_S9216x16x128) (constant S_ .f32 0x00000000#32) reducesTo_S9216x16x128_S9216x128_d1 h_S_

theorem run' (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v13) = hNew (m ((c.tc : Thread nD τ).loc main_arg2)) (prod (m ((c.tc : Thread nD τ).loc main_arg0)) (m ((c.tc : Thread nD τ).loc main_arg1))) (gate (m ((c.tc : Thread nD τ).loc main_arg3)))
      ∧ r.2.mem ((c.tc : Thread nD τ).loc main_v31) = scaled (hNew (m ((c.tc : Thread nD τ).loc main_arg2)) (prod (m ((c.tc : Thread nD τ).loc main_arg0)) (m ((c.tc : Thread nD τ).loc main_arg1))) (gate (m ((c.tc : Thread nD τ).loc main_arg3)))) (m ((c.tc : Thread nD τ).loc main_arg4)) (scl (m ((c.tc : Thread nD τ).loc main_arg5)))
      ∧ r.2.mem ((c.tc : Thread nD τ).loc main_v30) = squares (hNew (m ((c.tc : Thread nD τ).loc main_arg2)) (prod (m ((c.tc : Thread nD τ).loc main_arg0)) (m ((c.tc : Thread nD τ).loc main_arg1))) (gate (m ((c.tc : Thread nD τ).loc main_arg3))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  Cert.Reference3Ideal.Value.run m ρ

theorem gate_at (M : FVec Ideal S8x12288 .f32) (R : Fin 9216) (C : Fin 2048) :
    gate M (ix2 R C) = M (ix2 (⟨min (R.val / 2048) 4, by omega⟩ : Fin 8) (⟨10240 + C.val, by omega⟩ : Fin 12288)) := by
  pointwise [gate]
  split <;> refine congrArg M ?_ <;> (congr 1; refine Fin.ext ?_; simp only []; omega)

theorem scl_at (M : FVec Ideal S8x12288 .f32) (R : Fin 9216) (C : Fin 2048) :
    scl M (ix2 R C) = M (ix2 (⟨min (R.val / 2048) 4, by omega⟩ : Fin 8) (⟨2048 + C.val, by omega⟩ : Fin 12288)) := by
  pointwise [scl]
  split <;> refine congrArg M ?_ <;> (congr 1; refine Fin.ext ?_; simp only []; omega)

theorem prod_at (x : FVec Ideal S9216x8192 .bf16) (w : FVec Ideal S4x8192x2048 .f32) (R : Fin 9216) (C : Fin 2048) :
    prod x w (ix2 R C) = ∑ k : Fin 8192, x (ix2 R k) * w (ix3 0 k C) := by
  pointwise [prod]

theorem hNew_at (h y g : FVec Ideal S9216x2048 .f32) (R : Fin 9216) (C : Fin 2048) :
    hNew h y g (ix2 R C) = h (ix2 R C) + g (ix2 R C) * y (ix2 R C) := by
  pointwise [hNew]

theorem scaled_at (h : FVec Ideal S9216x2048 .f32) (n : FVec Ideal S2048 .f32) (s : FVec Ideal S9216x2048 .f32) (R : Fin 9216) (C : Fin 2048) :
    scaled h n s (ix2 R C) = h (ix2 R C) * (n (ix1 C) * (1 + s (ix2 R C))) := by
  pointwise [scaled, one_eq]

theorem squares_at (h : FVec Ideal S9216x2048 .f32) (R : Fin 9216) (l : Fin 128) :
    squares h (ix2 R l) = ∑ q : Fin 16, h (ix2 R ⟨128 * q.val + l.val, by omega⟩) * h (ix2 R ⟨128 * q.val + l.val, by omega⟩) := by
  pointwise [squares]
  simp only [Nat.mul_comm]

end Cert.Reference3Ideal.Down

namespace Cert.Proof.Down

open Idealize.ShloMosaic Idealize.SL.Sem Cert.Attn Cert.Up

variable (m : (ℓ : Loc Kernel3Ideal.nD Kernel3Ideal.τ Kernel3Ideal.sig) → Buf (Elt Ideal) ℓ) (c : Dev Kernel3Ideal.nD)

theorem h_entry (R : Fin 9216) (C : Fin 2048) :
    Reference3Ideal.Down.hNew (m (c.tc.loc Kernel3Ideal.main_arg2)) (Reference3Ideal.Down.prod (m (c.tc.loc Kernel3Ideal.main_arg0)) (m (c.tc.loc Kernel3Ideal.main_arg1))) (Reference3Ideal.Down.gate (m (c.tc.loc Kernel3Ideal.main_arg3))) (ix2 R C) = Kernel3Ideal.Down.hEnt m c R C := by
  rw [Reference3Ideal.Down.hNew_at, Reference3Ideal.Down.gate_at, Reference3Ideal.Down.prod_at]
  rfl

theorem h_eq : Reference3Ideal.Down.hNew (m (c.tc.loc Kernel3Ideal.main_arg2)) (Reference3Ideal.Down.prod (m (c.tc.loc Kernel3Ideal.main_arg0)) (m (c.tc.loc Kernel3Ideal.main_arg1))) (Reference3Ideal.Down.gate (m (c.tc.loc Kernel3Ideal.main_arg3))) = (Kernel3Ideal.Down.dats m 0 c).arrAt 6 Kernel3Ideal.cfg0.N := by
  refine Eq.trans ?_ (Kernel3Ideal.Down.final6 m c).symm
  funext j
  idx_vars j
  exact h_entry m c _ _

theorem x_eq : Reference3Ideal.Down.scaled (Reference3Ideal.Down.hNew (m (c.tc.loc Kernel3Ideal.main_arg2)) (Reference3Ideal.Down.prod (m (c.tc.loc Kernel3Ideal.main_arg0)) (m (c.tc.loc Kernel3Ideal.main_arg1))) (Reference3Ideal.Down.gate (m (c.tc.loc Kernel3Ideal.main_arg3)))) (m (c.tc.loc Kernel3Ideal.main_arg4)) (Reference3Ideal.Down.scl (m (c.tc.loc Kernel3Ideal.main_arg5))) = (Kernel3Ideal.Down.dats m 0 c).arrAt 7 Kernel3Ideal.cfg0.N := by
  refine Eq.trans ?_ (Kernel3Ideal.Down.final7 m c).symm
  funext j
  idx_vars j
  refine (Reference3Ideal.Down.scaled_at _ _ _ _ _).trans ?_
  rw [h_entry m c, Reference3Ideal.Down.scl_at]
  rfl

theorem s_eq : Reference3Ideal.Down.squares (Reference3Ideal.Down.hNew (m (c.tc.loc Kernel3Ideal.main_arg2)) (Reference3Ideal.Down.prod (m (c.tc.loc Kernel3Ideal.main_arg0)) (m (c.tc.loc Kernel3Ideal.main_arg1))) (Reference3Ideal.Down.gate (m (c.tc.loc Kernel3Ideal.main_arg3)))) = (Kernel3Ideal.Down.dats m 0 c).arrAt 8 Kernel3Ideal.cfg0.N := by
  refine Eq.trans ?_ (Kernel3Ideal.Down.final8 m c).symm
  funext j
  idx_vars j
  refine (Reference3Ideal.Down.squares_at _ _ _).trans ?_
  simp only [h_entry m c]
  rfl

theorem algebraic : Cert.algebraic_Kernel3Ideal_Reference3Ideal := by
  pair_intro
  · run_from Cert.Kernel3Ideal.Down.run_blocks m g
  · run_from Cert.Reference3Ideal.Down.run' m' g'
    · exact h_eq m c
    · exact x_eq m c
    · exact s_eq m c

end Cert.Proof.Down

end
-- ==== Proof.UpVal.lean ====
/-
  The up-projection kernel's output array, from the argument arrays.
-/
module

public import proofs.«01_k».proof.Proof.UpFrameI
public import proofs.«01_k».proof.Proof.Up
public import Idealize.ShloMosaic.Lib.Pipeline.ValueKit

@[expose] public section

set_option maxRecDepth 16384

noncomputable section

namespace Cert.Kernel2Ideal.Up

open Cert.Kernel2Ideal Cert.Kernel2Ideal.Gen Idealize.ShloMosaic Idealize.ShloMosaic.TcCoe Idealize.SL.Sem
open Cert.Attn Cert.Up

theorem pay3_at (v : Vec Ideal S1024x128 .f32) (a : Fin 1024) : k0_pay3 (F := Ideal) v (ix2 a 0) = rOf (∑ l : Fin 128, v (ix2 a l)) := by
  rw [← rOf_mul]
  pointwise [k0_pay3]

theorem pay2_at (v : Vec Ideal S8x2048 .f32) (w : Vec Ideal S1x2048x1024 .f32) (q : Fin 8) (b : Fin 1024) :
    k0_pay2 (F := Ideal) v w (ix3 0 q b) = ∑ k : Fin 2048, v (ix2 q k) * w (ix3 0 k b) := by
  pointwise [k0_pay2]

theorem pay1_at (r : Vec Ideal S1024x1 .f32) (x : Vec Ideal S1024x2048 .bf16) (w : Vec Ideal S1x2048x1024 .f32) (s : Vec Ideal S1x1x1024 .f32) (a b : Fin 1024) :
    k0_pay1 (F := Ideal) r x w s (ix2 a b) = relu2 ((∑ k : Fin 2048, x (ix2 a k) * w (ix3 0 k b)) * r (ix2 a 0) + s (ix3 0 0 b)) := by
  pointwise [k0_pay1, relu2, one_eq, zero_eq]

variable (m : (ℓ : Loc nD τ sig) → Buf (Elt Ideal) ℓ)

theorem idx : ∀ t : Fin cfg0.N, win0_0.index t = ![t.val / 8, 0] ∧ win0_1.index t = ![t.val / 8, 0] ∧ win0_2.index t = ![0, 0]
    ∧ win0_3.index t = ![0, 0, t.val % 8] ∧ win0_4.index t = ![t.val / 8, t.val % 8] :=
  (by decide +kernel : ∀ t : Fin grid0.N, _)

theorem off2_mid : ∀ t : Fin grid0.N, k0_off2 (grid0.coords t) 1 = min (t.val / 16) 4 := by decide +kernel

theorem tlt (t : Fin cfg0.N) : t.val < 72 := t.isLt

def X (c : Dev nD) (i : Fin 9216) (k : Fin 2048) : EReal := m ((c : Thread nD τ).loc main_arg0) (ix2 i k)
def Q (c : Dev nD) (i : Fin 9216) (l : Fin 128) : EReal := m ((c : Thread nD τ).loc main_arg1) (ix2 i l)
def M (c : Dev nD) (q : Fin 8) (k : Fin 12288) : EReal := m ((c : Thread nD τ).loc main_arg2) (ix2 q k)
def W (c : Dev nD) (k : Fin 2048) (j : Fin 8192) : EReal := m ((c : Thread nD τ).loc main_arg3) (ix3 0 k j)

theorem b0_at (c : Dev nD) (t : Fin cfg0.N) (a : Fin 1024) (k : Fin 2048) :
    iblk m c 0 t (ix2 a k) = X m c ⟨1024 * (t.val / 8) + a.val, by have := tlt t; omega⟩ k := by
  blk_ext [iblk, V, idx t, X]

theorem b1_at (c : Dev nD) (t : Fin cfg0.N) (a : Fin 1024) (l : Fin 128) :
    iblk m c 1 t (ix2 a l) = Q m c ⟨1024 * (t.val / 8) + a.val, by have := tlt t; omega⟩ l := by
  blk_ext [iblk, V, idx t, Q]

theorem b2_at (c : Dev nD) (t : Fin cfg0.N) (q : Fin 8) (k : Fin 12288) : iblk m c 2 t (ix2 q k) = M m c q k := by
  blk_ext [iblk, V, idx t, M]

theorem b3_at (c : Dev nD) (t : Fin cfg0.N) (k : Fin 2048) (b : Fin 1024) :
    iblk m c 3 t (ix3 0 k b) = W m c k ⟨1024 * (t.val % 8) + b.val, by omega⟩ := by
  blk_ext [iblk, V, idx t, W]

theorem shift_at (x : Vec Ideal S8x12288 .f32) (q : Fin 8) (k : Fin 2048) : shiftCols x (ix2 q k) = x (ix2 q ⟨6144 + k.val, by omega⟩) := by
  refine congrArg x (funext fun a => Fin.ext ?_)
  show (![0, 6144] : Fin 2 → ℕ) a + 1 * (ix2 q k a).val = _
  fin_cases a
  · show 0 + 1 * q.val = q.val; omega
  · show 6144 + 1 * k.val = 6144 + k.val; omega

theorem mix_at (i : grid0.Coords) (w : Vec Ideal S1x8x1024 .f32) (q : Fin 8) (hq : k0_off2 i 1 = q.val) (b : Fin 1024) :
    mixRow i w (ix3 0 0 b) = w (ix3 0 q b) := by
  refine congrArg w (funext fun a => Fin.ext ?_)
  show (![0, k0_off2 i 1, 0] : Fin 3 → ℕ) a + 1 * (ix3 (0 : Fin 1) (0 : Fin 1) b a).val = _
  fin_cases a
  · rfl
  · show k0_off2 i 1 + 1 * 0 = q.val; omega
  · show 0 + 1 * b.val = b.val; omega

/-- The modulation row of a row of the array. -/
def mrow (R : Fin 9216) : Fin 8 := ⟨min (R.val / 2048) 4, by omega⟩

/-- The entry of the result. -/
def entry (c : Dev nD) (R : Fin 9216) (C : Fin 8192) : EReal :=
  kUp (X m c R) (fun k => M m c (mrow R) ⟨6144 + k.val, by omega⟩) (fun k => W m c k C) (∑ l, Q m c R l)

theorem out_at (c : Dev nD) (t : Fin cfg0.N) (a b : Fin 1024) :
    outAt m c t (ix2 a b) = entry m c ⟨1024 * (t.val / 8) + a.val, by have := tlt t; omega⟩ ⟨1024 * (t.val % 8) + b.val, by omega⟩ := by
  unfold outAt shAt
  rw [pay1_at, pay3_at, mix_at _ _ (mrow ⟨1024 * (t.val / 8) + a.val, by have := tlt t; omega⟩) (by
    rw [off2_mid]; show _ = min ((1024 * (t.val / 8) + a.val) / 2048) 4; omega), pay2_at]
  simp only [b0_at, b1_at, b3_at, shift_at, b2_at]
  have e : (⟨1024 * ((top t).val % 8) + b.val, by omega⟩ : Fin 8192) = ⟨1024 * (t.val % 8) + b.val, by omega⟩ :=
    Fin.ext (by show 1024 * (t.val % 8 % 8) + b.val = 1024 * (t.val % 8) + b.val; rw [Nat.mod_mod])
  rw [e]
  rfl

/-- The output array. -/
theorem final (c : Dev nD) : (dats m 0 c).arrAt 4 cfg0.N = fun j : S9216x8192.Idx => entry m c (j 0) (j 1) := by
  refine (dats m 0 c).arrAt_eq_of_covers 4 _ (by decide +kernel) fun t hf y => ?_
  blk_simp
  rw [after0_4]
  idx_vars y
  refine (out_at m c t _ _).trans ?_
  congr 1 <;> refine Fin.ext ?_ <;> simp [idx t, mul_comm]

theorem run_blocks (g : Dev nD → PrngReg) : θ_run defs (onTc (τ := τ) (main (F := Ideal))) ⟨m, fun _ => 0, g⟩ fun r => ∀ c : Dev nD,
      r.2.mem ((c : Thread nD τ).loc main_v0) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h.1.1 c).1 4, h.2.1 c⟩)
    (θ_run_and ((θ_run defs _ _).mono (fun _ h => (⟨h, trivial⟩ : _ ∧ True)) (run_main m g)) (frame m g))

end Cert.Kernel2Ideal.Up

end
-- ==== Proof.UpClaim.lean ====
/-
  The reference's up-projection read at an entry, and the two up-projection programs compute one array.
-/
module

public import proofs.«01_k».proof.Defs
public import proofs.«01_k».proof.Proof.Gen.Pre_finite2
public import proofs.«01_k».proof.Proof.Gen.Reference2Ideal.Run
public import proofs.«01_k».proof.Proof.UpVal
public import Idealize.ShloMosaic.Lib.ReduceAll

@[expose] public section

set_option maxRecDepth 16384

noncomputable section

namespace Cert.Reference2Ideal.Up

open Cert.Reference2Ideal Cert.Reference2Ideal.Gen Idealize.ShloMosaic Idealize.ShloMosaic.TcCoe Idealize.SL.Sem
open Cert.Attn Cert.Up

/-- The rows' factors. -/
def fac (q : FVec Ideal S9216x128 .f32) : FVec Ideal S9216x1 .f32 :=
  Host.rsqrt (addf (Host.divf (broadcastInDim S9216x1 ![0] bcast_S9216_S9216x1_0 (Host.reduceAdd q (constant S_ .f32 0x00000000#32) reducesTo_S9216x128_S9216_d1 h_S_)) (broadcastInDim S9216x1 ![] bcast_S_S9216x1 (constant S_ .f32 0x45000000#32))) (broadcastInDim S9216x1 ![] bcast_S_S9216x1 (constant S_ .f32 0x358637BD#32)))

/-- The shift of every row. -/
def shf (M : FVec Ideal S8x12288 .f32) : FVec Ideal S9216x2048 .f32 :=
  concatenate S9216x2048 0 [⟨S8192x2048, (shapeCast _ (broadcastInDim S4x2048x2048 ![0, 1, 2] bcast_S4x1x2048_S4x2048x2048_0_1_2 (broadcastInDim S4x1x2048 ![0, 2] bcast_S4x2048_S4x1x2048_0_2 (extractStridedSlice S4x2048 ![0, 0] (extractStridedSlice S8x2048 ![0, 6144] M slices_S8x12288_S8x2048_0_6144) slices_S8x2048_S4x2048_0_0))) shapeCasts_S4x2048x2048_S8192x2048)⟩, ⟨S1024x2048, (broadcastInDim S1024x2048 ![0, 1] bcast_S1x2048_S1024x2048_0_1 (extractStridedSlice S1x2048 ![4, 0] (extractStridedSlice S8x2048 ![0, 6144] M slices_S8x12288_S8x2048_0_6144) slices_S8x2048_S1x2048_4_0))⟩] concatenates_S8192x2048_S1024x2048_S9216x2048_d0

/-- The scaled and shifted rows. -/
def rows (x : FVec Ideal S9216x2048 .bf16) (f : FVec Ideal S9216x1 .f32) (s : FVec Ideal S9216x2048 .f32) : FVec Ideal S9216x2048 .f32 :=
  addf (mulf (extf .f32 x bitsLt_bf16_f32) (broadcastInDim S9216x2048 ![0, 1] bcast_S9216x1_S9216x2048_0_1 f)) s

/-- The product and its activation. -/
def act (a : FVec Ideal S9216x2048 .f32) (w : FVec Ideal S4x2048x8192 .f32) : FVec Ideal S9216x8192 .bf16 :=
  truncf .bf16 (mulf (maximumf (Host.dotGeneral dot_S9216x2048_S2048x8192_S9216x8192_1_0_0_1_n_n none a (shapeCast _ (extractStridedSlice S1x2048x8192 ![0, 0, 0] w slices_S4x2048x8192_S1x2048x8192_0_0_0) shapeCasts_S1x2048x8192_S2048x8192)) (broadcastInDim S9216x8192 ![] bcast_S_S9216x8192 (constant S_ .f32 0x00000000#32))) (maximumf (Host.dotGeneral dot_S9216x2048_S2048x8192_S9216x8192_1_0_0_1_n_n none a (shapeCast _ (extractStridedSlice S1x2048x8192 ![0, 0, 0] w slices_S4x2048x8192_S1x2048x8192_0_0_0) shapeCasts_S1x2048x8192_S2048x8192)) (broadcastInDim S9216x8192 ![] bcast_S_S9216x8192 (constant S_ .f32 0x00000000#32)))) bitsLt_bf16_f32

theorem run' (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v24) = act (rows (m ((c.tc : Thread nD τ).loc main_arg0)) (fac (m ((c.tc : Thread nD τ).loc main_arg1))) (shf (m ((c.tc : Thread nD τ).loc main_arg2)))) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Cert.Reference2Ideal.Value.run m ρ

theorem fac_at (q : FVec Ideal S9216x128 .f32) (R : Fin 9216) : fac q (ix2 R 0) = rOf (∑ l : Fin 128, q (ix2 R l)) := by
  pointwise [fac, rOf]

theorem shf_at (M : FVec Ideal S8x12288 .f32) (R : Fin 9216) (k : Fin 2048) :
    shf M (ix2 R k) = M (ix2 (⟨min (R.val / 2048) 4, by omega⟩ : Fin 8) (⟨6144 + k.val, by omega⟩ : Fin 12288)) := by
  pointwise [shf]
  split <;> refine congrArg M ?_ <;> (congr 1; refine Fin.ext ?_; simp only []; omega)

theorem rows_at (x : FVec Ideal S9216x2048 .bf16) (f : FVec Ideal S9216x1 .f32) (s : FVec Ideal S9216x2048 .f32) (R : Fin 9216) (k : Fin 2048) :
    rows x f s (ix2 R k) = x (ix2 R k) * f (ix2 R 0) + s (ix2 R k) := by
  pointwise [rows]

theorem act_at (a : FVec Ideal S9216x2048 .f32) (w : FVec Ideal S4x2048x8192 .f32) (R : Fin 9216) (C : Fin 8192) :
    act a w (ix2 R C) = relu2 (∑ k : Fin 2048, a (ix2 R k) * w (ix3 0 k C)) := by
  pointwise [act, relu2, zero_eq]

end Cert.Reference2Ideal.Up

namespace Cert.Pre_finite2.Up

open Cert.Pre_finite2 Idealize.ShloMosaic
open Cert.Attn

theorem lt_of (a b : EReal) (h : Ideal.cmp .olt a b = 1#1) : a < b := by
  by_contra hn
  simp [Ideal.cmp, hn] at h

theorem ge_of (a b : EReal) (h : Ideal.cmp .oge a b = 1#1) : b ≤ a := by
  by_contra hn
  simp [Ideal.cmp, hn] at h

theorem inf_eq : Ideal.ofBits .f32 0x7F800000#32 = ⊤ := by simp [Ideal.ofBits, Ideal.ieee]

/-- Where the precondition holds, the shift and the weights are real and the squares' sums not negative. -/
theorem real (x : FVec Ideal S9216x2048 .bf16) (q : FVec Ideal S9216x128 .f32) (M : FVec Ideal S8x12288 .f32) (w : FVec Ideal S4x2048x8192 .f32)
    (h : fn (F := Ideal) x q M w = fun _ => 1#1) :
    (∀ R l, 0 ≤ q (ix2 R l)) ∧ (∀ (R : Fin 9216) (k : Fin 2048), Rl (M (ix2 (⟨min (R.val / 2048) 4, by omega⟩ : Fin 8) ⟨6144 + k.val, by omega⟩)))
      ∧ ∀ k C, Rl (w (ix3 0 k C)) := by
  have h0 := congrFun h (Shape.Idx.first (by decide))
  obtain ⟨h1, h4⟩ := IntOp.andi_eq_one.mp h0
  obtain ⟨h1, h3⟩ := IntOp.andi_eq_one.mp h1
  refine ⟨fun R l => ?_, fun R k => ?_, fun k C => ?_⟩
  · have := ge_of _ _ (Host.reduce_andi_all _ _ _ _ _ h1 (ix2 R l))
    refine le_of_eq_of_le ?_ this
    pointwise [Cert.Up.zero_eq]
  · have := lt_of _ _ (Host.reduce_andi_all _ _ _ _ _ h3 (ix2 (⟨min (R.val / 2048) 4, by omega⟩ : Fin 5) k))
    refine Rl.of_abs_lt (lt_of_lt_of_eq (lt_of_eq_of_lt ?_ this) ?_)
    · pointwise
      rfl
    · pointwise [inf_eq]
  · have := lt_of _ _ (Host.reduce_andi_all _ _ _ _ _ h4 (ix2 k C))
    refine Rl.of_abs_lt (lt_of_lt_of_eq (lt_of_eq_of_lt ?_ this) ?_)
    · pointwise
      rfl
    · pointwise [inf_eq]

end Cert.Pre_finite2.Up

namespace Cert.Proof.Up

open Idealize.ShloMosaic Idealize.SL.Sem Cert.Attn Cert.Up

theorem value_eq (m : (ℓ : Loc Kernel2Ideal.nD Kernel2Ideal.τ Kernel2Ideal.sig) → Buf (Elt Ideal) ℓ) (hpre : Pre_Kernel2Ideal_finite2 m)
    (c : Dev Kernel2Ideal.nD) :
    Reference2Ideal.Up.act (Reference2Ideal.Up.rows (m (c.tc.loc Kernel2Ideal.main_arg0)) (Reference2Ideal.Up.fac (m (c.tc.loc Kernel2Ideal.main_arg1)))
        (Reference2Ideal.Up.shf (m (c.tc.loc Kernel2Ideal.main_arg2)))) (m (c.tc.loc Kernel2Ideal.main_arg3))
      = (Kernel2Ideal.Up.dats m 0 c).arrAt 4 Kernel2Ideal.cfg0.N := by
  refine Eq.trans ?_ (Kernel2Ideal.Up.final m c).symm
  obtain ⟨hq, hM, hw⟩ := Cert.Pre_finite2.Up.real _ _ _ _ (hpre c)
  funext j
  idx_vars j
  refine (Reference2Ideal.Up.act_at _ _ _ _).trans ?_
  simp only [Reference2Ideal.Up.rows_at, Reference2Ideal.Up.fac_at, Reference2Ideal.Up.shf_at]
  exact (up_eq _ _ _ _ (fun k => hM _ _) (fun k => hw _ _) (Finset.sum_nonneg fun l _ => hq _ _)).symm

theorem algebraic : Cert.algebraic_Kernel2Ideal_Reference2Ideal_pre_finite2 := by
  pair_intro
  · run_from Cert.Kernel2Ideal.Up.run_blocks m g
  · run_from Cert.Reference2Ideal.Up.run' m' g'
    exact value_eq m hpre c

end Cert.Proof.Up

end
-- ==== Proof.lean ====
/-
  The claims of all calls put together: the facts of the printed programs, the frames, and the equalities of values.
-/
module

public import proofs.«01_k».proof.Proof.Gen.Reference8Ideal.Run
public import proofs.«01_k».proof.Proof.RopeFrame
public import proofs.«01_k».proof.Proof.RopeFrameI
public import proofs.«01_k».proof.Proof.RopeClaim
public import proofs.«01_k».proof.Proof.Gen.Reference2Ideal.Run
public import proofs.«01_k».proof.Proof.UpFrame
public import proofs.«01_k».proof.Proof.Gen.Reference3Ideal.Run
public import proofs.«01_k».proof.Proof.Gen.Reference4Ideal.Run
public import proofs.«01_k».proof.Proof.Gen.Reference5Ideal.Run
public import proofs.«01_k».proof.Proof.SsmFrame
public import proofs.«01_k».proof.Proof.SsmClaim
public import proofs.«01_k».proof.Proof.NaFrame
public import proofs.«01_k».proof.Proof.NaClaim
public import proofs.«01_k».proof.Proof.Gen.Reference6Ideal.Run
public import proofs.«01_k».proof.Proof.Gen.Kernel6.Frame
public import proofs.«01_k».proof.Proof.SsoClaim
public import proofs.«01_k».proof.Proof.Gen.Reference7Ideal.Run
public import proofs.«01_k».proof.Proof.Gen.Kernel7.Frame
public import proofs.«01_k».proof.Proof.AttnOutClaim
public import proofs.«01_k».proof.Proof.Gen.Reference9Ideal.Run
public import proofs.«01_k».proof.Proof.Gen.Kernel9.Frame
public import proofs.«01_k».proof.Proof.CtxClaim
public import proofs.«01_k».proof.Proof.Gen.Reference10Ideal.Run
public import proofs.«01_k».proof.Proof.Gen.Kernel10.Frame
public import proofs.«01_k».proof.Proof.FinalNormClaim
public import proofs.«01_k».proof.Proof.Gen.Reference11Ideal.Run
public import proofs.«01_k».proof.Proof.Gen.Kernel11.Frame
public import proofs.«01_k».proof.Proof.SsmFinClaim
public import proofs.«01_k».proof.Proof.Gen.Reference12Ideal.Run
public import proofs.«01_k».proof.Proof.Gen.Kernel12.Frame
public import proofs.«01_k».proof.Proof.AdalnClaim
public import proofs.«01_k».proof.Proof.Gen.Reference13Ideal.Run
public import proofs.«01_k».proof.Proof.Gen.Kernel13.Frame
public import proofs.«01_k».proof.Proof.NaCtxClaim
public import proofs.«01_k».proof.Proof.DownFrame
public import proofs.«01_k».proof.Proof.DownClaim
public import proofs.«01_k».proof.Proof.UpClaim
public import proofs.«01_k».proof.Proof.Gen.KernelIdeal.Value
public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.DaClaim
public import Idealize.ShloMosaic.Adequacy
public import Idealize.ShloMosaic.Init

@[expose] public section

noncomputable section

namespace Cert.Proof

open Idealize.ShloMosaic Idealize.SL.Sem Cert.Kernel

/-- All claims: the facts of the programs, the frames, and the equalities. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Pre_finite.Gen.facts, Cert.Pre_finite2.Gen.facts, Cert.Pre_finite4.Gen.facts, Cert.Pre_finite5.Gen.facts, Cert.Pre_finite8.Gen.facts, Cert.Pre_finite13.Gen.facts,
  fun m ρ _ => Cert.Kernel.Gen.frame m ρ, fun m ρ _ => Cert.KernelIdeal.Gen.frame m ρ, fun m ρ _ => Cert.KernelIdeal.Gen.frame m ρ,
  fun m ρ _ => (θ_run Cert.ReferenceIdeal.defs _ _).mono (fun r h => ⟨fun c => (h c).2, sem_eq_zero_of_no_sems (by decide) r.2⟩) (Cert.ReferenceIdeal.Value.run m ρ), fun m ρ _ => (θ_run Cert.ReferenceIdeal.defs _ _).mono (fun r h => ⟨fun c => (h c).2, sem_eq_zero_of_no_sems (by decide) r.2⟩) (Cert.ReferenceIdeal.Value.run m ρ),
  fun m ρ _ => Cert.Kernel2.Up.frame m ρ, fun m ρ _ => Cert.Kernel2Ideal.Up.frame m ρ, fun m ρ _ => Cert.Kernel2Ideal.Up.frame m ρ,
  fun m ρ _ => (θ_run Cert.Reference2Ideal.defs _ _).mono (fun r h => ⟨fun c => (h c).2, sem_eq_zero_of_no_sems (by decide) r.2⟩) (Cert.Reference2Ideal.Value.run m ρ), fun m ρ _ => (θ_run Cert.Reference2Ideal.defs _ _).mono (fun r h => ⟨fun c => (h c).2, sem_eq_zero_of_no_sems (by decide) r.2⟩) (Cert.Reference2Ideal.Value.run m ρ),
  fun m ρ _ => Cert.Kernel3.Down.frame m ρ, fun m ρ _ => Cert.Kernel3Ideal.Down.frame m ρ, fun m ρ _ => (θ_run Cert.Reference3Ideal.defs _ _).mono (fun r h => ⟨fun c => (h c).2.2.2, sem_eq_zero_of_no_sems (by decide) r.2⟩) (Cert.Reference3Ideal.Value.run m ρ),
  fun m ρ _ => Cert.Kernel4.Ssm.frame m ρ, fun m ρ _ => Cert.Kernel4Ideal.Ssm.frame m ρ, fun m ρ _ => Cert.Kernel4Ideal.Ssm.frame m ρ,
  fun m ρ _ => (θ_run Cert.Reference4Ideal.defs _ _).mono (fun r h => ⟨fun c => (h c).2, sem_eq_zero_of_no_sems (by decide) r.2⟩) (Cert.Reference4Ideal.Value.run m ρ), fun m ρ _ => (θ_run Cert.Reference4Ideal.defs _ _).mono (fun r h => ⟨fun c => (h c).2, sem_eq_zero_of_no_sems (by decide) r.2⟩) (Cert.Reference4Ideal.Value.run m ρ),
  fun m ρ _ => Cert.Kernel5.Na.frame m ρ, fun m ρ _ => Cert.Kernel5Ideal.Na.frame m ρ, fun m ρ _ => Cert.Kernel5Ideal.Na.frame m ρ,
  fun m ρ _ => (θ_run Cert.Reference5Ideal.defs _ _).mono (fun r h => ⟨fun c => (h c).2, sem_eq_zero_of_no_sems (by decide) r.2⟩) (Cert.Reference5Ideal.Value.run m ρ), fun m ρ _ => (θ_run Cert.Reference5Ideal.defs _ _).mono (fun r h => ⟨fun c => (h c).2, sem_eq_zero_of_no_sems (by decide) r.2⟩) (Cert.Reference5Ideal.Value.run m ρ),
  fun m ρ _ => Cert.Kernel6.Gen.frame m ρ, fun m ρ _ => Cert.Kernel6Ideal.Gen.frame m ρ, fun m ρ _ => (θ_run Cert.Reference6Ideal.defs _ _).mono (fun r h => ⟨fun c => (h c).2.2.2, sem_eq_zero_of_no_sems (by decide) r.2⟩) (Cert.Reference6Ideal.Value.run m ρ),
  fun m ρ _ => Cert.Kernel7.Gen.frame m ρ, fun m ρ _ => Cert.Kernel7Ideal.Gen.frame m ρ, fun m ρ _ => (θ_run Cert.Reference7Ideal.defs _ _).mono (fun r h => ⟨fun c => (h c).2.2.2, sem_eq_zero_of_no_sems (by decide) r.2⟩) (Cert.Reference7Ideal.Value.run m ρ),
  fun m ρ _ => Cert.Kernel8.Rope.frame m ρ, fun m ρ _ => Cert.Kernel8Ideal.Rope.frame m ρ, fun m ρ _ => Cert.Kernel8Ideal.Rope.frame m ρ,
  fun m ρ _ => (θ_run Cert.Reference8Ideal.defs _ _).mono (fun r h => ⟨fun c => (h c).2, sem_eq_zero_of_no_sems (by decide) r.2⟩) (Cert.Reference8Ideal.Value.run m ρ), fun m ρ _ => (θ_run Cert.Reference8Ideal.defs _ _).mono (fun r h => ⟨fun c => (h c).2, sem_eq_zero_of_no_sems (by decide) r.2⟩) (Cert.Reference8Ideal.Value.run m ρ),
  fun m ρ _ => Cert.Kernel9.Gen.frame m ρ, fun m ρ _ => Cert.Kernel9Ideal.Gen.frame m ρ, fun m ρ _ => (θ_run Cert.Reference9Ideal.defs _ _).mono (fun r h => ⟨fun c => (h c).2.2.2, sem_eq_zero_of_no_sems (by decide) r.2⟩) (Cert.Reference9Ideal.Value.run m ρ),
  fun m ρ _ => Cert.Kernel10.Gen.frame m ρ, fun m ρ _ => Cert.Kernel10Ideal.Gen.frame m ρ, fun m ρ _ => (θ_run Cert.Reference10Ideal.defs _ _).mono (fun r h => ⟨fun c => (h c).2, sem_eq_zero_of_no_sems (by decide) r.2⟩) (Cert.Reference10Ideal.Value.run m ρ),
  fun m ρ _ => Cert.Kernel11.Gen.frame m ρ, fun m ρ _ => Cert.Kernel11Ideal.Gen.frame m ρ, fun m ρ _ => (θ_run Cert.Reference11Ideal.defs _ _).mono (fun r h => ⟨fun c => (h c).2, sem_eq_zero_of_no_sems (by decide) r.2⟩) (Cert.Reference11Ideal.Value.run m ρ),
  fun m ρ _ => Cert.Kernel12.Gen.frame m ρ, fun m ρ _ => Cert.Kernel12Ideal.Gen.frame m ρ, fun m ρ _ => (θ_run Cert.Reference12Ideal.defs _ _).mono (fun r h => ⟨fun c => (h c).2, sem_eq_zero_of_no_sems (by decide) r.2⟩) (Cert.Reference12Ideal.Value.run m ρ),
  fun m ρ _ => Cert.Kernel13.Gen.frame m ρ, fun m ρ _ => Cert.Kernel13Ideal.Gen.frame m ρ, fun m ρ _ => Cert.Kernel13Ideal.Gen.frame m ρ,
  fun m ρ _ => (θ_run Cert.Reference13Ideal.defs _ _).mono (fun r h => ⟨fun c => (h c).2, sem_eq_zero_of_no_sems (by decide) r.2⟩) (Cert.Reference13Ideal.Value.run m ρ), fun m ρ _ => (θ_run Cert.Reference13Ideal.defs _ _).mono (fun r h => ⟨fun c => (h c).2, sem_eq_zero_of_no_sems (by decide) r.2⟩) (Cert.Reference13Ideal.Value.run m ρ),
  trivial, Da.algebraic, trivial, Up.algebraic, trivial, Down.algebraic, trivial, Ssm.algebraic, trivial, Na.algebraic, trivial, Sso.algebraic, trivial, AttnOut.algebraic, trivial, Rope.algebraic,
  trivial, CtxOut.algebraic, trivial, FinalNorm.algebraic, trivial, SsmFin.algebraic, trivial, Adaln.algebraic, trivial, NaCtx.algebraic⟩

end Cert.Proof

end
